-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v20)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v15_0)) (v1 : (c : Dev Cert.Kernel8Ideal.nD) → Buf (Elt Ideal) ((c.tc : Thread Cert.Kernel8Ideal.nD Cert.Kernel8Ideal.τ).loc Cert.Kernel8Ideal.main_v15_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15_0) = v0 c
          ∧ r.2.mem ((c.tc : Thread Cert.Kernel8Ideal.nD Cert.Kernel8Ideal.τ).loc Cert.Kernel8Ideal.main_v15_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v34_0)) (v1 : (c : Dev Cert.Kernel10Ideal.nD) → Buf (Elt Ideal) ((c.tc : Thread Cert.Kernel10Ideal.nD Cert.Kernel10Ideal.τ).loc Cert.Kernel10Ideal.main_v34_1)) (v2 : (c : Dev Cert.Kernel10Ideal.nD) → Buf (Elt Ideal) ((c.tc : Thread Cert.Kernel10Ideal.nD Cert.Kernel10Ideal.τ).loc Cert.Kernel10Ideal.main_v34_2)) (v3 : (c : Dev Cert.Kernel10Ideal.nD) → Buf (Elt Ideal) ((c.tc : Thread Cert.Kernel10Ideal.nD Cert.Kernel10Ideal.τ).loc Cert.Kernel10Ideal.main_v34_3)) (v4 : (c : Dev Cert.Kernel10Ideal.nD) → Buf (Elt Ideal) ((c.tc : Thread Cert.Kernel10Ideal.nD Cert.Kernel10Ideal.τ).loc Cert.Kernel10Ideal.main_v34_4)) (v5 : (c : Dev Cert.Kernel10Ideal.nD) → Buf (Elt Ideal) ((c.tc : Thread Cert.Kernel10Ideal.nD Cert.Kernel10Ideal.τ).loc Cert.Kernel10Ideal.main_v34_5)) (v6 : (c : Dev Cert.Kernel10Ideal.nD) → Buf (Elt Ideal) ((c.tc : Thread Cert.Kernel10Ideal.nD Cert.Kernel10Ideal.τ).loc Cert.Kernel10Ideal.main_v34_6)) (v7 : (c : Dev Cert.Kernel10Ideal.nD) → Buf (Elt Ideal) ((c.tc : Thread Cert.Kernel10Ideal.nD Cert.Kernel10Ideal.τ).loc Cert.Kernel10Ideal.main_v34_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v34_0) = v0 c
          ∧ r.2.mem ((c.tc : Thread Cert.Kernel10Ideal.nD Cert.Kernel10Ideal.τ).loc Cert.Kernel10Ideal.main_v34_1) = v1 c
          ∧ r.2.mem ((c.tc : Thread Cert.Kernel10Ideal.nD Cert.Kernel10Ideal.τ).loc Cert.Kernel10Ideal.main_v34_2) = v2 c
          ∧ r.2.mem ((c.tc : Thread Cert.Kernel10Ideal.nD Cert.Kernel10Ideal.τ).loc Cert.Kernel10Ideal.main_v34_3) = v3 c
          ∧ r.2.mem ((c.tc : Thread Cert.Kernel10Ideal.nD Cert.Kernel10Ideal.τ).loc Cert.Kernel10Ideal.main_v34_4) = v4 c
          ∧ r.2.mem ((c.tc : Thread Cert.Kernel10Ideal.nD Cert.Kernel10Ideal.τ).loc Cert.Kernel10Ideal.main_v34_5) = v5 c
          ∧ r.2.mem ((c.tc : Thread Cert.Kernel10Ideal.nD Cert.Kernel10Ideal.τ).loc Cert.Kernel10Ideal.main_v34_6) = v6 c
          ∧ r.2.mem ((c.tc : Thread Cert.Kernel10Ideal.nD Cert.Kernel10Ideal.τ).loc Cert.Kernel10Ideal.main_v34_7) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v88) = v0 c
          ∧ r.2.mem ((c.tc : Thread Cert.Reference10Ideal.nD Cert.Reference10Ideal.τ).loc Cert.Reference10Ideal.main_v89) = v1 c
          ∧ r.2.mem ((c.tc : Thread Cert.Reference10Ideal.nD Cert.Reference10Ideal.τ).loc Cert.Reference10Ideal.main_v90) = v2 c
          ∧ r.2.mem ((c.tc : Thread Cert.Reference10Ideal.nD Cert.Reference10Ideal.τ).loc Cert.Reference10Ideal.main_v91) = v3 c
          ∧ r.2.mem ((c.tc : Thread Cert.Reference10Ideal.nD Cert.Reference10Ideal.τ).loc Cert.Reference10Ideal.main_v92) = v4 c
          ∧ r.2.mem ((c.tc : Thread Cert.Reference10Ideal.nD Cert.Reference10Ideal.τ).loc Cert.Reference10Ideal.main_v93) = v5 c
          ∧ r.2.mem ((c.tc : Thread Cert.Reference10Ideal.nD Cert.Reference10Ideal.τ).loc Cert.Reference10Ideal.main_v94) = v6 c
          ∧ r.2.mem ((c.tc : Thread Cert.Reference10Ideal.nD Cert.Reference10Ideal.τ).loc Cert.Reference10Ideal.main_v95) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2x4096x1024 : Shape := ⟨3, ![2, 4096, 1024]⟩
abbrev S_ : Shape := ⟨0, ![]⟩

class Facts : Prop where
  bcast_S_S2x4096x1024 : S_.BroadcastsInDim S2x4096x1024 (![] : Fin 0 → Fin S2x4096x1024.rank)

variable [Facts]

def fn_part1 {F : FTy → Type} [FloatOps F] (main_v2 : IVec S2x4096x1024 1) (main_v5 : IVec S2x4096x1024 1) (main_v8 : IVec S2x4096x1024 1) (main_v11 : IVec S2x4096x1024 1) (main_v14 : IVec S2x4096x1024 1) (main_v17 : IVec S2x4096x1024 1) : IVec S2x4096x1024 1 :=
  let main_v18 : IVec S2x4096x1024 1 := andi main_v2 main_v5
  let main_v19 : IVec S2x4096x1024 1 := andi main_v18 main_v8
  let main_v20 : IVec S2x4096x1024 1 := andi main_v19 main_v11
  let main_v21 : IVec S2x4096x1024 1 := andi main_v20 main_v14
  let main_v22 : IVec S2x4096x1024 1 := andi main_v21 main_v17
  main_v22

def fn {F : FTy → Type} [FloatOps F] (main_arg0 : FVec F S2x4096x1024 .f32) (main_arg1 : FVec F S2x4096x1024 .f32) (main_arg2 : FVec F S2x4096x1024 .f32) (main_arg3 : FVec F S2x4096x1024 .f32) (main_arg4 : FVec F S2x4096x1024 .f32) (main_arg5 : FVec F S2x4096x1024 .f32) : IVec S2x4096x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x4096x1024 .f32 := Host.absf main_arg1
  let main_cst_0 : FVec F S_ .f32 := constant S_ .f32 0x7F800000#32
  let main_v4 : FVec F S2x4096x1024 .f32 := broadcastInDim S2x4096x1024 ![] bcast_S_S2x4096x1024 main_cst_0
  let main_v5 : IVec S2x4096x1024 1 := cmpf .olt main_v3 main_v4
  let main_v6 : FVec F S2x4096x1024 .f32 := Host.absf main_arg2
  let main_cst_1 : FVec F S_ .f32 := constant S_ .f32 0x7F800000#32
  let main_v7 : FVec F S2x4096x1024 .f32 := broadcastInDim S2x4096x1024 ![] bcast_S_S2x4096x1024 main_cst_1
  let main_v8 : IVec S2x4096x1024 1 := cmpf .olt main_v6 main_v7
  let main_v9 : FVec F S2x4096x1024 .f32 := Host.absf main_arg3
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_v12 : FVec F S2x4096x1024 .f32 := Host.absf main_arg4
  let main_cst_3 : FVec F S_ .f32 := constant S_ .f32 0x7F800000#32
  let main_v13 : FVec F S2x4096x1024 .f32 := broadcastInDim S2x4096x1024 ![] bcast_S_S2x4096x1024 main_cst_3
  let main_v14 : IVec S2x4096x1024 1 := cmpf .olt main_v12 main_v13
  let main_v15 : FVec F S2x4096x1024 .f32 := Host.absf main_arg5
  let main_cst_4 : FVec F S_ .f32 := constant S_ .f32 0x7F800000#32
  let main_v16 : FVec F S2x4096x1024 .f32 := broadcastInDim S2x4096x1024 ![] bcast_S_S2x4096x1024 main_cst_4
  let main_v17 : IVec S2x4096x1024 1 := cmpf .olt main_v15 main_v16
  fn_part1 (F := F) main_v2 main_v5 main_v8 main_v11 main_v14 main_v17
-- ==== Pre_finite8.lean ====
abbrev S32x4x1024 : Shape := ⟨3, ![32, 4, 1024]⟩
abbrev S32x16x64x64 : Shape := ⟨4, ![32, 16, 64, 64]⟩
abbrev S_ : Shape := ⟨0, ![]⟩

class Facts : Prop where
  bcast_S_S32x4x1024 : S_.BroadcastsInDim S32x4x1024 (![] : Fin 0 → Fin S32x4x1024.rank)
  bcast_S_S32x16x64x64 : S_.BroadcastsInDim S32x16x64x64 (![] : Fin 0 → Fin S32x16x64x64.rank)

variable [Facts]

def fn_part1 {F : FTy → Type} [FloatOps F] (main_arg6 : FVec F S32x16x64x64 .f32) (main_v2 : IVec S32x4x1024 1) (main_v5 : IVec S32x4x1024 1) (main_v8 : IVec S32x4x1024 1) (main_v11 : IVec S32x4x1024 1) (main_v14 : IVec S32x4x1024 1) (main_v17 : IVec S32x4x1024 1) : IVec S32x4x1024 1 × IVec S32x16x64x64 1 :=
  let main_v18 : IVec S32x4x1024 1 := andi main_v2 main_v5
  let main_v19 : IVec S32x4x1024 1 := andi main_v18 main_v8
  let main_v20 : IVec S32x4x1024 1 := andi main_v19 main_v11
  let main_v21 : IVec S32x4x1024 1 := andi main_v20 main_v14
  let main_v22 : IVec S32x4x1024 1 := andi main_v21 main_v17
  let main_v23 : FVec F S32x16x64x64 .f32 := Host.absf main_arg6
  let main_cst_5 : FVec F S_ .f32 := constant S_ .f32 0x7F800000#32
  let main_v24 : FVec F S32x16x64x64 .f32 := broadcastInDim S32x16x64x64 ![] bcast_S_S32x16x64x64 main_cst_5
  let main_v25 : IVec S32x16x64x64 1 := cmpf .olt main_v23 main_v24
  (main_v22, main_v25)

def fn {F : FTy → Type} [FloatOps F] (main_arg0 : FVec F S32x4x1024 .f32) (main_arg1 : FVec F S32x4x1024 .f32) (main_arg2 : FVec F S32x4x1024 .f32) (main_arg3 : FVec F S32x4x1024 .f32) (main_arg4 : FVec F S32x4x1024 .f32) (main_arg5 : FVec F S32x4x1024 .f32) (main_arg6 : FVec F S32x16x64x64 .f32) : IVec S32x4x1024 1 × IVec S32x16x64x64 1 :=
  let main_v0 : FVec F S32x4x1024 .f32 := Host.absf main_arg0
  let main_cst : FVec F S_ .f32 := constant S_ .f32 0x7F800000#32
  let main_v1 : FVec F S32x4x1024 .f32 := broadcastInDim S32x4x1024 ![] bcast_S_S32x4x1024 main_cst
  let main_v2 : IVec S32x4x1024 1 := cmpf .olt main_v0 main_v1
  let main_v3 : FVec F S32x4x1024 .f32 := Host.absf main_arg1
  let main_cst_0 : FVec F S_ .f32 := constant S_ .f32 0x7F800000#32
  let main_v4 : FVec F S32x4x1024 .f32 := broadcastInDim S32x4x1024 ![] bcast_S_S32x4x1024 main_cst_0
  let main_v5 : IVec S32x4x1024 1 := cmpf .olt main_v3 main_v4
  let main_v6 : FVec F S32x4x1024 .f32 := Host.absf main_arg2
  let main_cst_1 : FVec F S_ .f32 := constant S_ .f32 0x7F800000#32
  let main_v7 : FVec F S32x4x1024 .f32 := broadcastInDim S32x4x1024 ![] bcast_S_S32x4x1024 main_cst_1
  let main_v8 : IVec S32x4x1024 1 := cmpf .olt main_v6 main_v7
  let main_v9 : FVec F S32x4x1024 .f32 := Host.absf main_arg3
  let main_cst_2 : FVec F S_ .f32 := constant S_ .f32 0x7F800000#32
  let main_v10 : FVec F S32x4x1024 .f32 := broadcastInDim S32x4x1024 ![] bcast_S_S32x4x1024 main_cst_2
  let main_v11 : IVec S32x4x1024 1 := cmpf .olt main_v9 main_v10
  let main_v12 : FVec F S32x4x1024 .f32 := Host.absf main_arg4
  let main_cst_3 : FVec F S_ .f32 := constant S_ .f32 0x7F800000#32
  let main_v13 : FVec F S32x4x1024 .f32 := broadcastInDim S32x4x1024 ![] bcast_S_S32x4x1024 main_cst_3
  let main_v14 : IVec S32x4x1024 1 := cmpf .olt main_v12 main_v13
  let main_v15 : FVec F S32x4x1024 .f32 := Host.absf main_arg5
  let main_cst_4 : FVec F S_ .f32 := constant S_ .f32 0x7F800000#32
  let main_v16 : FVec F S32x4x1024 .f32 := broadcastInDim S32x4x1024 ![] bcast_S_S32x4x1024 main_cst_4
  let main_v17 : IVec S32x4x1024 1 := cmpf .olt main_v15 main_v16
  fn_part1 (F := F) main_arg6 main_v2 main_v5 main_v8 main_v11 main_v14 main_v17
-- ==== Kernel.lean ====
abbrev S2x4096x1024 : Shape := ⟨3, ![2, 4096, 1024]⟩
abbrev S_ : Shape := ⟨0, ![]⟩
abbrev S2x8x128x128 : Shape := ⟨4, ![2, 8, 128, 128]⟩
abbrev S1x64x1024 : Shape := ⟨3, ![1, 64, 1024]⟩
abbrev S1x8x128x128 : Shape := ⟨4, ![1, 8, 128, 128]⟩
abbrev S8x128x128 : Shape := ⟨3, ![8, 128, 128]⟩
abbrev S64x1024 : Shape := ⟨2, ![64, 1024]⟩
abbrev S64x64 : Shape := ⟨2, ![64, 64]⟩
abbrev S64x3072 : Shape := ⟨2, ![64, 3072]⟩
abbrev S1x1024 : Shape := ⟨2, ![1, 1024]⟩
abbrev S128x128 : Shape := ⟨2, ![128, 128]⟩
abbrev S64x128 : Shape := ⟨2, ![64, 128]⟩
abbrev S256x128 : Shape := ⟨2, ![256, 128]⟩
abbrev S256x256 : Shape := ⟨2, ![256, 256]⟩
abbrev S128x256 : Shape := ⟨2, ![128, 256]⟩
abbrev S1x128x128 : Shape := ⟨3, ![1, 128, 128]⟩
abbrev S1x64x128 : Shape := ⟨3, ![1, 64, 128]⟩
abbrev S1x128 : Shape := ⟨2, ![1, 128]⟩

abbrev nBuf : Space → Nat
  | .hbm => 10
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S_, .f32⟩
  | .hbm, ⟨7, _⟩ => ⟨S2x8x128x128, .f32⟩
  | .hbm, ⟨8, _⟩ => ⟨S2x4096x1024, .f32⟩
  | .hbm, ⟨9, _⟩ => ⟨S2x8x128x128, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x8x128x128, .f32⟩
  | .local _ .vmem, ⟨13, _⟩ => ⟨S1x8x128x128, .f32⟩
  | .local _ .vmem, ⟨14, _⟩ => ⟨S1x64x1024, .f32⟩
  | .local _ .vmem, ⟨15, _⟩ => ⟨S1x64x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S8x128x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v1163 : BitVec 1 := Scalar.cmpi .eq arg1 c63_i32
  let v1164 : BitVec 32 := Scalar.extui v1163
  let c0_i32_334 : BitVec 32 := 0#32
  let v1165 : BitVec 1 := Scalar.cmpi .ne v1164 c0_i32_334
  v1165

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x4096x1024 : Shape := ⟨3, ![2, 4096, 1024]⟩
abbrev S2x4096x16x64 : Shape := ⟨4, ![2, 4096, 16, 64]⟩
abbrev S4096x2x16x64 : Shape := ⟨4, ![4096, 2, 16, 64]⟩
abbrev S_ : Shape := ⟨0, ![]⟩
abbrev S2x16x64x64 : Shape := ⟨4, ![2, 16, 64, 64]⟩
abbrev S1x2x16x64 : Shape := ⟨4, ![1, 2, 16, 64]⟩
abbrev S2x16x64 : Shape := ⟨3, ![2, 16, 64]⟩
abbrev S2x16x1x64 : Shape := ⟨4, ![2, 16, 1, 64]⟩
abbrev S2x16x64x1 : Shape := ⟨4, ![2, 16, 64, 1]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S2x1x2x1 : Shape := ⟨4, ![2, 1, 2, 1]⟩
abbrev S2x8x2x64x1x64 : Shape := ⟨6, ![2, 8, 2, 64, 1, 64]⟩
abbrev S2x8x2x64x2x64 : Shape := ⟨6, ![2, 8, 2, 64, 2, 64]⟩
abbrev S2x8x128x128 : Shape := ⟨4, ![2, 8, 128, 128]⟩

abbrev nBuf : Space → Nat
  | .hbm => 107
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x16x64, .f32⟩
  | .hbm, ⟨8, _⟩ => ⟨S4096x2x16x64, .f32⟩
  | .hbm, ⟨9, _⟩ => ⟨S2x4096x16x64, .f32⟩
  | .hbm, ⟨10, _⟩ => ⟨S4096x2x16x64, .f32⟩
  | .hbm, ⟨11, _⟩ => ⟨S2x4096x16x64, .f32⟩
  | .hbm, ⟨12, _⟩ => ⟨S4096x2x16x64, .f32⟩
  | .hbm, ⟨13, _⟩ => ⟨S2x4096x16x64, .f32⟩
  | .hbm, ⟨14, _⟩ => ⟨S4096x2x16x64, .f32⟩
  | .hbm, ⟨15, _⟩ => ⟨S2x4096x16x64, .f32⟩
  | .hbm, ⟨16, _⟩ => ⟨S4096x2x16x64, .f32⟩
  | .hbm, ⟨17, _⟩ => ⟨S2x4096x16x64, .f32⟩
  | .hbm, ⟨18, _⟩ => ⟨S4096x2x16x64, .f32⟩
  | .hbm, ⟨19, _⟩ => ⟨S_, .f32⟩
  | .hbm, ⟨20, _⟩ => ⟨S2x16x64x64, .f32⟩
  | .hbm, ⟨21, _⟩ => ⟨S_, .f32⟩
  | .hbm, ⟨22, _⟩ => ⟨S4096x2x16x64, .f32⟩
  | .hbm, ⟨23, _⟩ => ⟨S_, .i32⟩
  | .hbm, ⟨24, _⟩ => ⟨S4096x2x16x64, .f32⟩
  | .hbm, ⟨25, _⟩ => ⟨S4096x2x16x64, .f32⟩
  | .hbm, ⟨26, _⟩ => ⟨S4096x2x16x64, .f32⟩
  | .hbm, ⟨27, _⟩ => ⟨S4096x2x16x64, .f32⟩
  | .hbm, ⟨28, _⟩ => ⟨S4096x2x16x64, .f32⟩
  | .hbm, ⟨29, _⟩ => ⟨S4096x2x16x64, .f32⟩
  | .hbm, ⟨30, _⟩ => ⟨S_, .i32⟩
  | .hbm, ⟨31, _⟩ => ⟨S2x16x64x64, .f32⟩
  | .hbm, ⟨32, _⟩ => ⟨S4096x2x16x64, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x2x16x64, .f32⟩
  | .hbm, ⟨39, _⟩ => ⟨S2x16x64, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x2x16x64, .f32⟩
  | .hbm, ⟨44, _⟩ => ⟨S2x16x64, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x2x16x64, .f32⟩
  | .hbm, ⟨49, _⟩ => ⟨S2x16x64, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x2x16x64, .f32⟩
  | .hbm, ⟨54, _⟩ => ⟨S2x16x64, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x2x16x64, .f32⟩
  | .hbm, ⟨59, _⟩ => ⟨S2x16x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x2x16x64, .f32⟩
  | .hbm, ⟨64, _⟩ => ⟨S2x16x64, .f32⟩
  | .hbm, ⟨65, _⟩ => ⟨S2x16x64, .f32⟩
  | .hbm, ⟨66, _⟩ => ⟨S2x16x1x64, .f32⟩
  | .hbm, ⟨67, _⟩ => ⟨S2x16x64x64, .f32⟩
  | .hbm, ⟨68, _⟩ => ⟨S2x16x64x64, .f32⟩
  | .hbm, ⟨69, _⟩ => ⟨S2x16x64x1, .f32⟩
  | .hbm, ⟨70, _⟩ => ⟨S2x16x1x64, .f32⟩
  | .hbm, ⟨71, _⟩ => ⟨S2x16x64x64, .f32⟩
  | .hbm, ⟨72, _⟩ => ⟨S2x16x64x64, .f32⟩
  | .hbm, ⟨73, _⟩ => ⟨S2x16x64x64, .f32⟩
  | .hbm, ⟨74, _⟩ => ⟨S2x16x64x64, .f32⟩
  | .hbm, ⟨75, _⟩ => ⟨S2x16x64x1, .f32⟩
  | .hbm, ⟨76, _⟩ => ⟨S2x16x1x64, .f32⟩
  | .hbm, ⟨77, _⟩ => ⟨S2x16x64x64, .f32⟩
  | .hbm, ⟨78, _⟩ => ⟨S2x16x64x64, .f32⟩
  | .hbm, ⟨79, _⟩ => ⟨S2x16x64x64, .f32⟩
  | .hbm, ⟨80, _⟩ => ⟨S2x16x64x64, .f32⟩
  | .hbm, ⟨81, _⟩ => ⟨S2x16x64, .f32⟩
  | .hbm, ⟨82, _⟩ => ⟨S1x2x16x64, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S4096x2x16x64, .f32⟩
  | .hbm, ⟨87, _⟩ => ⟨S_, .i32⟩
  | .hbm, ⟨88, _⟩ => ⟨S_, .i32⟩
  | .hbm, ⟨89, _⟩ => ⟨S2x4096x16x64, .f32⟩
  | .hbm, ⟨90, _⟩ => ⟨S2x4096x1024, .f32⟩
  | .hbm, ⟨91, _⟩ => ⟨S2, .i32⟩
  | .hbm, ⟨92, _⟩ => ⟨S2x1, .i32⟩
  | .hbm, ⟨93, _⟩ => ⟨S2, .i32⟩
  | .hbm, ⟨94, _⟩ => ⟨S1x2, .i32⟩
  | .hbm, ⟨95, _⟩ => ⟨S2x2, .i32⟩
  | .hbm, ⟨96, _⟩ => ⟨S2x2, .i32⟩
  | .hbm, ⟨97, _⟩ => ⟨S2x2, .i1⟩
  | .hbm, ⟨98, _⟩ => ⟨S2x1x2x1, .i1⟩
  | .hbm, ⟨99, _⟩ => ⟨S2x8x2x64x1x64, .f32⟩
  | .hbm, ⟨100, _⟩ => ⟨S_, .f32⟩
  | .hbm, ⟨101, _⟩ => ⟨S_, .f32⟩
  | .hbm, ⟨102, _⟩ => ⟨S2x8x2x64x2x64, .i1⟩
  | .hbm, ⟨103, _⟩ => ⟨S2x8x2x64x2x64, .f32⟩
  | .hbm, ⟨104, _⟩ => ⟨S2x8x2x64x2x64, .f32⟩
  | .hbm, ⟨105, _⟩ => ⟨S2x8x2x64x2x64, .f32⟩
  | .hbm, ⟨106, _⟩ => ⟨S2x8x128x128, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_c : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev main_v15_7 : Ref sig .tc := ⟨.hbm, 31, rfl⟩
abbrev main_v15_8 : Ref sig .tc := ⟨.hbm, 32, rfl⟩
abbrev main_while0c_c_10 : Ref sig .tc := ⟨.hbm, 33, rfl⟩
abbrev main_while0c_v29 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_c_1 : Ref sig .tc := ⟨.hbm, 37, rfl⟩
abbrev main_while0b_call0_v0 : Ref sig .tc := ⟨.hbm, 38, rfl⟩
abbrev main_while0b_v29 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_c_1 : Ref sig .tc := ⟨.hbm, 42, rfl⟩
abbrev main_while0b_call1_v0 : Ref sig .tc := ⟨.hbm, 43, rfl⟩
abbrev main_while0b_v30 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_v0 : Ref sig .tc := ⟨.hbm, 48, rfl⟩
abbrev main_while0b_v31 : Ref sig .tc := ⟨.hbm, 49, rfl⟩
abbrev main_while0b_call3_c : Ref sig .tc := ⟨.hbm, 50, rfl⟩
abbrev main_while0b_call3_c_0 : Ref sig .tc := ⟨.hbm, 51, rfl⟩
abbrev main_while0b_call3_c_1 : Ref sig .tc := ⟨.hbm, 52, rfl⟩
abbrev main_while0b_call3_v0 : Ref sig .tc := ⟨.hbm, 53, rfl⟩
abbrev main_while0b_v32 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_call4_c_1 : Ref sig .tc := ⟨.hbm, 57, rfl⟩
abbrev main_while0b_call4_v0 : Ref sig .tc := ⟨.hbm, 58, rfl⟩
abbrev main_while0b_v33 : Ref sig .tc := ⟨.hbm, 59, rfl⟩
abbrev main_while0b_call5_c : Ref sig .tc := ⟨.hbm, 60, rfl⟩
abbrev main_while0b_call5_c_0 : Ref sig .tc := ⟨.hbm, 61, rfl⟩
abbrev main_while0b_call5_c_1 : Ref sig .tc := ⟨.hbm, 62, rfl⟩
abbrev main_while0b_call5_v0 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_v50 : Ref sig .tc := ⟨.hbm, 80, rfl⟩
abbrev main_while0b_v51 : Ref sig .tc := ⟨.hbm, 81, rfl⟩
abbrev main_while0b_call6_v0 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_v52 : Ref sig .tc := ⟨.hbm, 86, rfl⟩
abbrev main_while0b_c_10 : Ref sig .tc := ⟨.hbm, 87, rfl⟩
abbrev main_while0b_v53 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_cst_1 : Ref sig .tc := ⟨.hbm, 100, rfl⟩
abbrev main_call7_v0 : Ref sig .tc := ⟨.hbm, 101, rfl⟩
abbrev main_call7_v1 : Ref sig .tc := ⟨.hbm, 102, rfl⟩
abbrev main_call7_v2 : Ref sig .tc := ⟨.hbm, 103, rfl⟩
abbrev main_call7_v3 : Ref sig .tc := ⟨.hbm, 104, rfl⟩
abbrev main_v27 : Ref sig .tc := ⟨.hbm, 105, rfl⟩
abbrev main_v28 : Ref sig .tc := ⟨.hbm, 106, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S2x4096x2048 : Shape := ⟨3, ![2, 4096, 2048]⟩
abbrev S2x12288 : Shape := ⟨2, ![2, 12288]⟩
abbrev S1x2048 : Shape := ⟨2, ![1, 2048]⟩
abbrev S1x2048x8192 : Shape := ⟨3, ![1, 2048, 8192]⟩
abbrev S1x8192x2048 : Shape := ⟨3, ![1, 8192, 2048]⟩
abbrev S2x6x1x2048 : Shape := ⟨4, ![2, 6, 1, 2048]⟩
abbrev S8192x2048 : Shape := ⟨2, ![8192, 2048]⟩
abbrev S2048x8192 : Shape := ⟨2, ![2048, 8192]⟩
abbrev S512x2048 : Shape := ⟨2, ![512, 2048]⟩
abbrev S1x6x1x2048 : Shape := ⟨4, ![1, 6, 1, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S1x1x1x2048 : Shape := ⟨4, ![1, 1, 1, 2048]⟩
abbrev S512x1024 : Shape := ⟨2, ![512, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S1x2048, .f32⟩
  | .hbm, ⟨3, _⟩ => ⟨S1x2048, .f32⟩
  | .hbm, ⟨4, _⟩ => ⟨S1x2048x8192, .f32⟩
  | .hbm, ⟨5, _⟩ => ⟨S1x8192x2048, .f32⟩
  | .hbm, ⟨6, _⟩ => ⟨S2x6x1x2048, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S8192x2048, .f32⟩
  | .hbm, ⟨11, _⟩ => ⟨S8192x2048, .bf16⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x6x1x2048, .f32⟩
  | .local _ .vmem, ⟨3, _⟩ => ⟨S1x6x1x2048, .f32⟩
  | .local _ .vmem, ⟨4, _⟩ => ⟨S1x2048, .f32⟩
  | .local _ .vmem, ⟨5, _⟩ => ⟨S1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1024x2048, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x4096x2048 : Shape := ⟨3, ![2, 4096, 2048]⟩
abbrev S2x12288 : Shape := ⟨2, ![2, 12288]⟩
abbrev S1x2048 : Shape := ⟨2, ![1, 2048]⟩
abbrev S1x2048x8192 : Shape := ⟨3, ![1, 2048, 8192]⟩
abbrev S1x8192x2048 : Shape := ⟨3, ![1, 8192, 2048]⟩
abbrev S2x1x12288 : Shape := ⟨3, ![2, 1, 12288]⟩
abbrev S2x1x2048 : Shape := ⟨3, ![2, 1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x8192 : Shape := ⟨2, ![2048, 8192]⟩
abbrev S2x4096x8192 : Shape := ⟨3, ![2, 4096, 8192]⟩
abbrev S8192x2048 : Shape := ⟨2, ![8192, 2048]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S1x2048, .f32⟩
  | .hbm, ⟨3, _⟩ => ⟨S1x2048, .f32⟩
  | .hbm, ⟨4, _⟩ => ⟨S1x2048x8192, .f32⟩
  | .hbm, ⟨5, _⟩ => ⟨S1x8192x2048, .f32⟩
  | .hbm, ⟨6, _⟩ => ⟨S2x1x12288, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2048, .f32⟩
  | .hbm, ⟨14, _⟩ => ⟨S2x4096x2048, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S1x1x2048, .f32⟩
  | .hbm, ⟨28, _⟩ => ⟨S2x4096x2048, .f32⟩
  | .hbm, ⟨29, _⟩ => ⟨S2x4096x2048, .f32⟩
  | .hbm, ⟨30, _⟩ => ⟨S_, .f32⟩
  | .hbm, ⟨31, _⟩ => ⟨S2x1x2048, .f32⟩
  | .hbm, ⟨32, _⟩ => ⟨S2x1x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2048x8192, .f32⟩
  | .hbm, ⟨38, _⟩ => ⟨S2x4096x8192, .f32⟩
  | .hbm, ⟨39, _⟩ => ⟨S_, .f32⟩
  | .hbm, ⟨40, _⟩ => ⟨S2x4096x8192, .f32⟩
  | .hbm, ⟨41, _⟩ => ⟨S2x4096x8192, .f32⟩
  | .hbm, ⟨42, _⟩ => ⟨S2x4096x8192, .f32⟩
  | .hbm, ⟨43, _⟩ => ⟨S8192x2048, .f32⟩
  | .hbm, ⟨44, _⟩ => ⟨S2x4096x2048, .f32⟩
  | .hbm, ⟨45, _⟩ => ⟨S2048, .f32⟩
  | .hbm, ⟨46, _⟩ => ⟨S2x4096x2048, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S_, .f32⟩
  | .hbm, ⟨54, _⟩ => ⟨S2x4096x1, .f32⟩
  | .hbm, ⟨55, _⟩ => ⟨S2x4096x1, .f32⟩
  | .hbm, ⟨56, _⟩ => ⟨S2x4096x1, .f32⟩
  | .hbm, ⟨57, _⟩ => ⟨S2x4096x2048, .f32⟩
  | .hbm, ⟨58, _⟩ => ⟨S2x4096x2048, .f32⟩
  | .hbm, ⟨59, _⟩ => ⟨S1x1x2048, .f32⟩
  | .hbm, ⟨60, _⟩ => ⟨S2x4096x2048, .f32⟩
  | .hbm, ⟨61, _⟩ => ⟨S2x4096x2048, .f32⟩
  | .hbm, ⟨62, _⟩ => ⟨S2x4096x2048, .f32⟩
  | .hbm, ⟨63, _⟩ => ⟨S2x4096x2048, .f32⟩
  | .hbm, ⟨64, _⟩ => ⟨S2x4096x2048, .f32⟩
  | .hbm, ⟨65, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel3.lean ====
abbrev S2x4096x2048 : Shape := ⟨3, ![2, 4096, 2048]⟩
abbrev S2x12288 : Shape := ⟨2, ![2, 12288]⟩
abbrev S1x2048 : Shape := ⟨2, ![1, 2048]⟩
abbrev S1x2048x6432 : Shape := ⟨3, ![1, 2048, 6432]⟩
abbrev S2048x6432 : Shape := ⟨2, ![2048, 6432]⟩
abbrev S_ : Shape := ⟨0, ![]⟩
abbrev S2048x224 : Shape := ⟨2, ![2048, 224]⟩
abbrev S2048x6656 : Shape := ⟨2, ![2048, 6656]⟩
abbrev S8192x2048 : Shape := ⟨2, ![8192, 2048]⟩
abbrev S2x6x1x2048 : Shape := ⟨4, ![2, 6, 1, 2048]⟩
abbrev S8192x6656 : Shape := ⟨2, ![8192, 6656]⟩
abbrev S8192x3072 : Shape := ⟨2, ![8192, 3072]⟩
abbrev S1024x2048 : Shape := ⟨2, ![1024, 2048]⟩
abbrev S1x6x1x2048 : Shape := ⟨4, ![1, 6, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S1x1x1x2048 : Shape := ⟨4, ![1, 1, 1, 2048]⟩

abbrev nBuf : Space → Nat
  | .hbm => 13
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S1x2048, .f32⟩
  | .hbm, ⟨3, _⟩ => ⟨S1x2048x6432, .f32⟩
  | .hbm, ⟨4, _⟩ => ⟨S2048x6432, .f32⟩
  | .hbm, ⟨5, _⟩ => ⟨S_, .f32⟩
  | .hbm, ⟨6, _⟩ => ⟨S2048x224, .f32⟩
  | .hbm, ⟨7, _⟩ => ⟨S2048x6656, .f32⟩
  | .hbm, ⟨8, _⟩ => ⟨S2048x6656, .bf16⟩
  | .hbm, ⟨9, _⟩ => ⟨S8192x2048, .f32⟩
  | .hbm, ⟨10, _⟩ => ⟨S2x6x1x2048, .f32⟩
  | .hbm, ⟨11, _⟩ => ⟨S8192x6656, .f32⟩
  | .hbm, ⟨12, _⟩ => ⟨S8192x3072, .bf16⟩
  | .local _ .vmem, ⟨0, _⟩ => ⟨S1024x2048, .f32⟩
  | .local _ .vmem, ⟨1, _⟩ => ⟨S1024x2048, .f32⟩
  | .local _ .vmem, ⟨2, _⟩ => ⟨S1x6x1x2048, .f32⟩
  | .local _ .vmem, ⟨3, _⟩ => ⟨S1x6x1x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 13], ![false, false]⟩

def k0_cond2 (i : grid0.Coords) : BitVec 1 :=
  let arg1 : BitVec 32 := BitVec.ofNat 32 (i 1).val
  let c6_i32 : BitVec 32 := 6#32
  let v8 : BitVec 1 := Scalar.cmpi .slt arg1 c6_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2x4096x2048 : Shape := ⟨3, ![2, 4096, 2048]⟩
abbrev S2x12288 : Shape := ⟨2, ![2, 12288]⟩
abbrev S1x2048 : Shape := ⟨2, ![1, 2048]⟩
abbrev S1x2048x6432 : Shape := ⟨3, ![1, 2048, 6432]⟩
abbrev S2x1x12288 : Shape := ⟨3, ![2, 1, 12288]⟩
abbrev S2x1x2048 : Shape := ⟨3, ![2, 1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x6432 : Shape := ⟨2, ![2048, 6432]⟩
abbrev S2x4096x6432 : Shape := ⟨3, ![2, 4096, 6432]⟩
abbrev S8192x6432 : Shape := ⟨2, ![8192, 6432]⟩
abbrev S8192x1024 : Shape := ⟨2, ![8192, 1024]⟩
abbrev S8192x6656 : Shape := ⟨2, ![8192, 6656]⟩
abbrev S8192x2048 : Shape := ⟨2, ![8192, 2048]⟩
abbrev S8192x3072 : Shape := ⟨2, ![8192, 3072]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S1x2048, .f32⟩
  | .hbm, ⟨3, _⟩ => ⟨S1x2048x6432, .f32⟩
  | .hbm, ⟨4, _⟩ => ⟨S2x1x12288, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2048, .f32⟩
  | .hbm, ⟨12, _⟩ => ⟨S2x4096x2048, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1, .f32⟩
  | .hbm, ⟨23, _⟩ => ⟨S2x4096x2048, .f32⟩
  | .hbm, ⟨24, _⟩ => ⟨S2x4096x2048, .f32⟩
  | .hbm, ⟨25, _⟩ => ⟨S1x1x2048, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2048x6432, .f32⟩
  | .hbm, ⟨36, _⟩ => ⟨S2x4096x6432, .f32⟩
  | .hbm, ⟨37, _⟩ => ⟨S8192x6432, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .i32⟩
  | .hbm, ⟨43, _⟩ => ⟨S_, .f32⟩
  | .hbm, ⟨44, _⟩ => ⟨S8192x6656, .f32⟩
  | .hbm, ⟨45, _⟩ => ⟨S8192x2048, .f32⟩
  | .hbm, ⟨46, _⟩ => ⟨S8192x3072, .f32⟩
  | .hbm, ⟨47, _⟩ => ⟨S8192x3072, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel4.lean ====
abbrev S2x4096x1024 : Shape := ⟨3, ![2, 4096, 1024]⟩
abbrev S1x1024 : Shape := ⟨2, ![1, 1024]⟩
abbrev S1x2048x2048 : Shape := ⟨3, ![1, 2048, 2048]⟩
abbrev S2x4096x2048 : Shape := ⟨3, ![2, 4096, 2048]⟩
abbrev S2x12288 : Shape := ⟨2, ![2, 12288]⟩
abbrev S1x2048 : Shape := ⟨2, ![1, 2048]⟩
abbrev S1024 : Shape := ⟨1, ![1024]⟩
abbrev S_ : Shape := ⟨0, ![]⟩
abbrev S1024x1 : Shape := ⟨2, ![1024, 1]⟩
abbrev S1024x1024 : Shape := ⟨2, ![1024, 1024]⟩
abbrev S8192x1024 : Shape := ⟨2, ![8192, 1024]⟩
abbrev S2048x2048 : Shape := ⟨2, ![2048, 2048]⟩
abbrev S8192x2048 : Shape := ⟨2, ![8192, 2048]⟩
abbrev S2x6x1x2048 : Shape := ⟨4, ![2, 6, 1, 2048]⟩
abbrev S256x1024 : Shape := ⟨2, ![256, 1024]⟩
abbrev S256x2048 : Shape := ⟨2, ![256, 2048]⟩
abbrev S1x6x1x2048 : Shape := ⟨4, ![1, 6, 1, 2048]⟩
abbrev S1024x2048 : Shape := ⟨2, ![1024, 2048]⟩
abbrev S1x1x1x2048 : Shape := ⟨4, ![1, 1, 1, 2048]⟩
abbrev S256 : Shape := ⟨1, ![256]⟩
abbrev S256x1 : Shape := ⟨2, ![256, 1]⟩

abbrev nBuf : Space → Nat
  | .hbm => 44
  | .vmem => 19
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S2x4096x2048, .f32⟩
  | .hbm, ⟨8, _⟩ => ⟨S2x12288, .f32⟩
  | .hbm, ⟨9, _⟩ => ⟨S1x2048, .f32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1x1024, .i32⟩
  | .hbm, ⟨31, _⟩ => ⟨S1024x1024, .i32⟩
  | .hbm, ⟨32, _⟩ => ⟨S1024x1024, .i32⟩
  | .hbm, ⟨33, _⟩ => ⟨S1024x1024, .i1⟩
  | .hbm, ⟨34, _⟩ => ⟨S1024x1024, .bf16⟩
  | .hbm, ⟨35, _⟩ => ⟨S8192x1024, .bf16⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S2048x2048, .f32⟩
  | .hbm, ⟨40, _⟩ => ⟨S2048x2048, .bf16⟩
  | .hbm, ⟨41, _⟩ => ⟨S8192x2048, .f32⟩
  | .hbm, ⟨42, _⟩ => ⟨S2x6x1x2048, .f32⟩
  | .hbm, ⟨43, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S2048x2048, .bf16⟩
  | .local _ .vmem, ⟨12, _⟩ => ⟨S256x2048, .f32⟩
  | .local _ .vmem, ⟨13, _⟩ => ⟨S256x2048, .f32⟩
  | .local _ .vmem, ⟨14, _⟩ => ⟨S1x6x1x2048, .f32⟩
  | .local _ .vmem, ⟨15, _⟩ => ⟨S1x6x1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S2x4096x1024 : Shape := ⟨3, ![2, 4096, 1024]⟩
abbrev S1x1024 : Shape := ⟨2, ![1, 1024]⟩
abbrev S1x2048x2048 : Shape := ⟨3, ![1, 2048, 2048]⟩
abbrev S2x4096x2048 : Shape := ⟨3, ![2, 4096, 2048]⟩
abbrev S2x12288 : Shape := ⟨2, ![2, 12288]⟩
abbrev S1x2048 : Shape := ⟨2, ![1, 2048]⟩
abbrev S2x1x12288 : Shape := ⟨3, ![2, 1, 12288]⟩
abbrev S2x1x2048 : Shape := ⟨3, ![2, 1, 2048]⟩
abbrev S2x4096x16x64 : Shape := ⟨4, ![2, 4096, 16, 64]⟩
abbrev S_ : Shape := ⟨0, ![]⟩
abbrev S2x4096x16 : Shape := ⟨3, ![2, 4096, 16]⟩
abbrev S2x4096x16x1 : Shape := ⟨4, ![2, 4096, 16, 1]⟩
abbrev S1024 : Shape := ⟨1, ![1024]⟩
abbrev S1x1x1024 : Shape := ⟨3, ![1, 1, 1024]⟩
abbrev S2048x2048 : Shape := ⟨2, ![2048, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 77
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S2x4096x2048, .f32⟩
  | .hbm, ⟨8, _⟩ => ⟨S2x12288, .f32⟩
  | .hbm, ⟨9, _⟩ => ⟨S1x2048, .f32⟩
  | .hbm, ⟨10, _⟩ => ⟨S2x1x12288, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2x4096x16x64, .f32⟩
  | .hbm, ⟨18, _⟩ => ⟨S_, .f32⟩
  | .hbm, ⟨19, _⟩ => ⟨S2x4096x16, .f32⟩
  | .hbm, ⟨20, _⟩ => ⟨S2x4096x16x1, .f32⟩
  | .hbm, ⟨21, _⟩ => ⟨S_, .f32⟩
  | .hbm, ⟨22, _⟩ => ⟨S2x4096x16x1, .f32⟩
  | .hbm, ⟨23, _⟩ => ⟨S2x4096x16x1, .f32⟩
  | .hbm, ⟨24, _⟩ => ⟨S2x4096x16x64, .f32⟩
  | .hbm, ⟨25, _⟩ => ⟨S2x4096x16x64, .f32⟩
  | .hbm, ⟨26, _⟩ => ⟨S2x4096x16x64, .f32⟩
  | .hbm, ⟨27, _⟩ => ⟨S_, .f32⟩
  | .hbm, ⟨28, _⟩ => ⟨S2x4096x16, .f32⟩
  | .hbm, ⟨29, _⟩ => ⟨S2x4096x16x1, .f32⟩
  | .hbm, ⟨30, _⟩ => ⟨S_, .f32⟩
  | .hbm, ⟨31, _⟩ => ⟨S2x4096x16x1, .f32⟩
  | .hbm, ⟨32, _⟩ => ⟨S2x4096x16x1, .f32⟩
  | .hbm, ⟨33, _⟩ => ⟨S2x4096x16x64, .f32⟩
  | .hbm, ⟨34, _⟩ => ⟨S2x4096x16x64, .f32⟩
  | .hbm, ⟨35, _⟩ => ⟨S_, .f32⟩
  | .hbm, ⟨36, _⟩ => ⟨S2x4096x16x1, .f32⟩
  | .hbm, ⟨37, _⟩ => ⟨S2x4096x16x1, .f32⟩
  | .hbm, ⟨38, _⟩ => ⟨S2x4096x16x1, .f32⟩
  | .hbm, ⟨39, _⟩ => ⟨S2x4096x16x64, .f32⟩
  | .hbm, ⟨40, _⟩ => ⟨S2x4096x16x64, .f32⟩
  | .hbm, ⟨41, _⟩ => ⟨S2x4096x1024, .f32⟩
  | .hbm, ⟨42, _⟩ => ⟨S1024, .f32⟩
  | .hbm, ⟨43, _⟩ => ⟨S1x1x1024, .f32⟩
  | .hbm, ⟨44, _⟩ => ⟨S2x4096x1024, .f32⟩
  | .hbm, ⟨45, _⟩ => ⟨S2x4096x1024, .f32⟩
  | .hbm, ⟨46, _⟩ => ⟨S1024, .f32⟩
  | .hbm, ⟨47, _⟩ => ⟨S1x1x1024, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x2048, .f32⟩
  | .hbm, ⟨54, _⟩ => ⟨S2048x2048, .f32⟩
  | .hbm, ⟨55, _⟩ => ⟨S2x4096x2048, .f32⟩
  | .hbm, ⟨56, _⟩ => ⟨S2048, .f32⟩
  | .hbm, ⟨57, _⟩ => ⟨S2x4096x2048, .f32⟩
  | .hbm, ⟨58, _⟩ => ⟨S_, .f32⟩
  | .hbm, ⟨59, _⟩ => ⟨S2x4096, .f32⟩
  | .hbm, ⟨60, _⟩ => ⟨S2x4096x1, .f32⟩
  | .hbm, ⟨61, _⟩ => ⟨S_, .f32⟩
  | .hbm, ⟨62, _⟩ => ⟨S2x4096x1, .f32⟩
  | .hbm, ⟨63, _⟩ => ⟨S2x4096x1, .f32⟩
  | .hbm, ⟨64, _⟩ => ⟨S_, .f32⟩
  | .hbm, ⟨65, _⟩ => ⟨S2x4096x1, .f32⟩
  | .hbm, ⟨66, _⟩ => ⟨S2x4096x1, .f32⟩
  | .hbm, ⟨67, _⟩ => ⟨S2x4096x1, .f32⟩
  | .hbm, ⟨68, _⟩ => ⟨S2x4096x2048, .f32⟩
  | .hbm, ⟨69, _⟩ => ⟨S2x4096x2048, .f32⟩
  | .hbm, ⟨70, _⟩ => ⟨S1x1x2048, .f32⟩
  | .hbm, ⟨71, _⟩ => ⟨S2x4096x2048, .f32⟩
  | .hbm, ⟨72, _⟩ => ⟨S2x4096x2048, .f32⟩
  | .hbm, ⟨73, _⟩ => ⟨S2x4096x2048, .f32⟩
  | .hbm, ⟨74, _⟩ => ⟨S2x4096x2048, .f32⟩
  | .hbm, ⟨75, _⟩ => ⟨S2x4096x2048, .f32⟩
  | .hbm, ⟨76, _⟩ => ⟨S8192x2048, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel5.lean ====
abbrev S32x4x2048 : Shape := ⟨3, ![32, 4, 2048]⟩
abbrev S32x12288 : Shape := ⟨2, ![32, 12288]⟩
abbrev S1x2048 : Shape := ⟨2, ![1, 2048]⟩
abbrev S1x2048x8192 : Shape := ⟨3, ![1, 2048, 8192]⟩
abbrev S1x8192x2048 : Shape := ⟨3, ![1, 8192, 2048]⟩
abbrev S128x2048 : Shape := ⟨2, ![128, 2048]⟩
abbrev S32x6x2048 : Shape := ⟨3, ![32, 6, 2048]⟩
abbrev S32x4x6x2048 : Shape := ⟨4, ![32, 4, 6, 2048]⟩
abbrev S128x6x2048 : Shape := ⟨3, ![128, 6, 2048]⟩
abbrev S6x128x2048 : Shape := ⟨3, ![6, 128, 2048]⟩
abbrev S1x6x128x2048 : Shape := ⟨4, ![1, 6, 128, 2048]⟩
abbrev S2048x8192 : Shape := ⟨2, ![2048, 8192]⟩
abbrev S8192x2048 : Shape := ⟨2, ![8192, 2048]⟩
abbrev S2048x1024 : Shape := ⟨2, ![2048, 1024]⟩
abbrev S1024x2048 : Shape := ⟨2, ![1024, 2048]⟩
abbrev S128 : Shape := ⟨1, ![128]⟩
abbrev S128x1 : Shape := ⟨2, ![128, 1]⟩
abbrev S1x1x128x2048 : Shape := ⟨4, ![1, 1, 128, 2048]⟩
abbrev S128x1024 : Shape := ⟨2, ![128, 1024]⟩

abbrev nBuf : Space → Nat
  | .hbm => 17
  | .vmem => 11
  | .smem => 0
  | _ => 0

abbrev bufTy : (tb : Table) → Fin (tcTables nBuf tb) → BufTy
  | .hbm, ⟨0, _⟩ => ⟨S32x4x2048, .f32⟩
  | .hbm, ⟨1, _⟩ => ⟨S32x12288, .f32⟩
  | .hbm, ⟨2, _⟩ => ⟨S1x2048, .f32⟩
  | .hbm, ⟨3, _⟩ => ⟨S1x2048, .f32⟩
  | .hbm, ⟨4, _⟩ => ⟨S1x2048x8192, .f32⟩
  | .hbm, ⟨5, _⟩ => ⟨S1x8192x2048, .f32⟩
  | .hbm, ⟨6, _⟩ => ⟨S128x2048, .f32⟩
  | .hbm, ⟨7, _⟩ => ⟨S32x6x2048, .f32⟩
  | .hbm, ⟨8, _⟩ => ⟨S32x4x6x2048, .f32⟩
  | .hbm, ⟨9, _⟩ => ⟨S128x6x2048, .f32⟩
  | .hbm, ⟨10, _⟩ => ⟨S6x128x2048, .f32⟩
  | .hbm, ⟨11, _⟩ => ⟨S1x6x128x2048, .f32⟩
  | .hbm, ⟨12, _⟩ => ⟨S2048x8192, .f32⟩
  | .hbm, ⟨13, _⟩ => ⟨S2048x8192, .bf16⟩
  | .hbm, ⟨14, _⟩ => ⟨S8192x2048, .f32⟩
  | .hbm, ⟨15, _⟩ => ⟨S8192x2048, .bf16⟩
  | .hbm, ⟨16, _⟩ => ⟨S128x2048, .f32⟩
  | .local _ .vmem, ⟨0, _⟩ => ⟨S128x2048, .f32⟩
  | .local _ .vmem, ⟨1, _⟩ => ⟨S1x6x128x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S128x2048, .f32⟩
  | .local _ .vmem, ⟨9, _⟩ => ⟨S128x2048, .bf16⟩
  | .local _ .vmem, ⟨10, _⟩ => ⟨S128x2048, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x6x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference5Ideal.lean ====
abbrev S32x4x2048 : Shape := ⟨3, ![32, 4, 2048]⟩
abbrev S32x12288 : Shape := ⟨2, ![32, 12288]⟩
abbrev S1x2048 : Shape := ⟨2, ![1, 2048]⟩
abbrev S1x2048x8192 : Shape := ⟨3, ![1, 2048, 8192]⟩
abbrev S1x8192x2048 : Shape := ⟨3, ![1, 8192, 2048]⟩
abbrev S32x1x12288 : Shape := ⟨3, ![32, 1, 12288]⟩
abbrev S32x1x2048 : Shape := ⟨3, ![32, 1, 2048]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S2048x8192 : Shape := ⟨2, ![2048, 8192]⟩
abbrev S32x4x8192 : Shape := ⟨3, ![32, 4, 8192]⟩
abbrev S8192x2048 : Shape := ⟨2, ![8192, 2048]⟩
abbrev S128x2048 : Shape := ⟨2, ![128, 2048]⟩

abbrev nBuf : Space → Nat
  | .hbm => 66
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S32x12288, .f32⟩
  | .hbm, ⟨2, _⟩ => ⟨S1x2048, .f32⟩
  | .hbm, ⟨3, _⟩ => ⟨S1x2048, .f32⟩
  | .hbm, ⟨4, _⟩ => ⟨S1x2048x8192, .f32⟩
  | .hbm, ⟨5, _⟩ => ⟨S1x8192x2048, .f32⟩
  | .hbm, ⟨6, _⟩ => ⟨S32x1x12288, .f32⟩
  | .hbm, ⟨7, _⟩ => ⟨S32x1x2048, .f32⟩
  | .hbm, ⟨8, _⟩ => ⟨S32x1x2048, .f32⟩
  | .hbm, ⟨9, _⟩ => ⟨S32x1x2048, .f32⟩
  | .hbm, ⟨10, _⟩ => ⟨S32x1x2048, .f32⟩
  | .hbm, ⟨11, _⟩ => ⟨S32x1x2048, .f32⟩
  | .hbm, ⟨12, _⟩ => ⟨S32x1x2048, .f32⟩
  | .hbm, ⟨13, _⟩ => ⟨S2048, .f32⟩
  | .hbm, ⟨14, _⟩ => ⟨S32x4x2048, .f32⟩
  | .hbm, ⟨15, _⟩ => ⟨S_, .f32⟩
  | .hbm, ⟨16, _⟩ => ⟨S32x4, .f32⟩
  | .hbm, ⟨17, _⟩ => ⟨S32x4x1, .f32⟩
  | .hbm, ⟨18, _⟩ => ⟨S_, .f32⟩
  | .hbm, ⟨19, _⟩ => ⟨S32x4x1, .f32⟩
  | .hbm, ⟨20, _⟩ => ⟨S32x4x1, .f32⟩
  | .hbm, ⟨21, _⟩ => ⟨S_, .f32⟩
  | .hbm, ⟨22, _⟩ => ⟨S32x4x1, .f32⟩
  | .hbm, ⟨23, _⟩ => ⟨S32x4x1, .f32⟩
  | .hbm, ⟨24, _⟩ => ⟨S32x4x1, .f32⟩
  | .hbm, ⟨25, _⟩ => ⟨S32x4x2048, .f32⟩
  | .hbm, ⟨26, _⟩ => ⟨S32x4x2048, .f32⟩
  | .hbm, ⟨27, _⟩ => ⟨S1x1x2048, .f32⟩
  | .hbm, ⟨28, _⟩ => ⟨S32x4x2048, .f32⟩
  | .hbm, ⟨29, _⟩ => ⟨S32x4x2048, .f32⟩
  | .hbm, ⟨30, _⟩ => ⟨S_, .f32⟩
  | .hbm, ⟨31, _⟩ => ⟨S32x1x2048, .f32⟩
  | .hbm, ⟨32, _⟩ => ⟨S32x1x2048, .f32⟩
  | .hbm, ⟨33, _⟩ => ⟨S32x4x2048, .f32⟩
  | .hbm, ⟨34, _⟩ => ⟨S32x4x2048, .f32⟩
  | .hbm, ⟨35, _⟩ => ⟨S32x4x2048, .f32⟩
  | .hbm, ⟨36, _⟩ => ⟨S32x4x2048, .f32⟩
  | .hbm, ⟨37, _⟩ => ⟨S2048x8192, .f32⟩
  | .hbm, ⟨38, _⟩ => ⟨S32x4x8192, .f32⟩
  | .hbm, ⟨39, _⟩ => ⟨S_, .f32⟩
  | .hbm, ⟨40, _⟩ => ⟨S32x4x8192, .f32⟩
  | .hbm, ⟨41, _⟩ => ⟨S32x4x8192, .f32⟩
  | .hbm, ⟨42, _⟩ => ⟨S32x4x8192, .f32⟩
  | .hbm, ⟨43, _⟩ => ⟨S8192x2048, .f32⟩
  | .hbm, ⟨44, _⟩ => ⟨S32x4x2048, .f32⟩
  | .hbm, ⟨45, _⟩ => ⟨S2048, .f32⟩
  | .hbm, ⟨46, _⟩ => ⟨S32x4x2048, .f32⟩
  | .hbm, ⟨47, _⟩ => ⟨S_, .f32⟩
  | .hbm, ⟨48, _⟩ => ⟨S32x4, .f32⟩
  | .hbm, ⟨49, _⟩ => ⟨S32x4x1, .f32⟩
  | .hbm, ⟨50, _⟩ => ⟨S_, .f32⟩
  | .hbm, ⟨51, _⟩ => ⟨S32x4x1, .f32⟩
  | .hbm, ⟨52, _⟩ => ⟨S32x4x1, .f32⟩
  | .hbm, ⟨53, _⟩ => ⟨S_, .f32⟩
  | .hbm, ⟨54, _⟩ => ⟨S32x4x1, .f32⟩
  | .hbm, ⟨55, _⟩ => ⟨S32x4x1, .f32⟩
  | .hbm, ⟨56, _⟩ => ⟨S32x4x1, .f32⟩
  | .hbm, ⟨57, _⟩ => ⟨S32x4x2048, .f32⟩
  | .hbm, ⟨58, _⟩ => ⟨S32x4x2048, .f32⟩
  | .hbm, ⟨59, _⟩ => ⟨S1x1x2048, .f32⟩
  | .hbm, ⟨60, _⟩ => ⟨S32x4x2048, .f32⟩
  | .hbm, ⟨61, _⟩ => ⟨S32x4x2048, .f32⟩
  | .hbm, ⟨62, _⟩ => ⟨S32x4x2048, .f32⟩
  | .hbm, ⟨63, _⟩ => ⟨S32x4x2048, .f32⟩
  | .hbm, ⟨64, _⟩ => ⟨S32x4x2048, .f32⟩
  | .hbm, ⟨65, _⟩ => ⟨S128x2048, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel6.lean ====
abbrev S32x4x2048 : Shape := ⟨3, ![32, 4, 2048]⟩
abbrev S32x12288 : Shape := ⟨2, ![32, 12288]⟩
abbrev S1x2048 : Shape := ⟨2, ![1, 2048]⟩
abbrev S1x2048x6432 : Shape := ⟨3, ![1, 2048, 6432]⟩
abbrev S2048x6432 : Shape := ⟨2, ![2048, 6432]⟩
abbrev S_ : Shape := ⟨0, ![]⟩
abbrev S2048x224 : Shape := ⟨2, ![2048, 224]⟩
abbrev S2048x6656 : Shape := ⟨2, ![2048, 6656]⟩
abbrev S128x2048 : Shape := ⟨2, ![128, 2048]⟩
abbrev S32x6x2048 : Shape := ⟨3, ![32, 6, 2048]⟩
abbrev S32x4x6x2048 : Shape := ⟨4, ![32, 4, 6, 2048]⟩
abbrev S128x6x2048 : Shape := ⟨3, ![128, 6, 2048]⟩
abbrev S6x128x2048 : Shape := ⟨3, ![6, 128, 2048]⟩
abbrev S1x6x128x2048 : Shape := ⟨4, ![1, 6, 128, 2048]⟩
abbrev S128x6656 : Shape := ⟨2, ![128, 6656]⟩
abbrev S128x3072 : Shape := ⟨2, ![128, 3072]⟩
abbrev S2048x512 : Shape := ⟨2, ![2048, 512]⟩
abbrev S128x512 : Shape := ⟨2, ![128, 512]⟩
abbrev S128 : Shape := ⟨1, ![128]⟩
abbrev S128x1 : Shape := ⟨2, ![128, 1]⟩
abbrev S1x1x128x2048 : Shape := ⟨4, ![1, 1, 128, 2048]⟩

abbrev nBuf : Space → Nat
  | .hbm => 17
  | .vmem => 10
  | .smem => 0
  | _ => 0

abbrev bufTy : (tb : Table) → Fin (tcTables nBuf tb) → BufTy
  | .hbm, ⟨0, _⟩ => ⟨S32x4x2048, .f32⟩
  | .hbm, ⟨1, _⟩ => ⟨S32x12288, .f32⟩
  | .hbm, ⟨2, _⟩ => ⟨S1x2048, .f32⟩
  | .hbm, ⟨3, _⟩ => ⟨S1x2048x6432, .f32⟩
  | .hbm, ⟨4, _⟩ => ⟨S2048x6432, .f32⟩
  | .hbm, ⟨5, _⟩ => ⟨S_, .f32⟩
  | .hbm, ⟨6, _⟩ => ⟨S2048x224, .f32⟩
  | .hbm, ⟨7, _⟩ => ⟨S2048x6656, .f32⟩
  | .hbm, ⟨8, _⟩ => ⟨S2048x6656, .bf16⟩
  | .hbm, ⟨9, _⟩ => ⟨S128x2048, .f32⟩
  | .hbm, ⟨10, _⟩ => ⟨S32x6x2048, .f32⟩
  | .hbm, ⟨11, _⟩ => ⟨S32x4x6x2048, .f32⟩
  | .hbm, ⟨12, _⟩ => ⟨S128x6x2048, .f32⟩
  | .hbm, ⟨13, _⟩ => ⟨S6x128x2048, .f32⟩
  | .hbm, ⟨14, _⟩ => ⟨S1x6x128x2048, .f32⟩
  | .hbm, ⟨15, _⟩ => ⟨S128x6656, .f32⟩
  | .hbm, ⟨16, _⟩ => ⟨S128x3072, .bf16⟩
  | .local _ .vmem, ⟨0, _⟩ => ⟨S128x2048, .f32⟩
  | .local _ .vmem, ⟨1, _⟩ => ⟨S1x6x128x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S128x512, .f32⟩
  | .local _ .vmem, ⟨6, _⟩ => ⟨S128x512, .f32⟩
  | .local _ .vmem, ⟨7, _⟩ => ⟨S128x512, .bf16⟩
  | .local _ .vmem, ⟨8, _⟩ => ⟨S128x512, .bf16⟩
  | .local _ .vmem, ⟨9, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 13], ![false, false]⟩

def k0_cond2 (i : grid0.Coords) : BitVec 1 :=
  let arg1 : BitVec 32 := BitVec.ofNat 32 (i 1).val
  let c6_i32 : BitVec 32 := 6#32
  let v8 : BitVec 1 := Scalar.cmpi .slt arg1 c6_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x6x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S32x4x2048 : Shape := ⟨3, ![32, 4, 2048]⟩
abbrev S32x12288 : Shape := ⟨2, ![32, 12288]⟩
abbrev S1x2048 : Shape := ⟨2, ![1, 2048]⟩
abbrev S1x2048x6432 : Shape := ⟨3, ![1, 2048, 6432]⟩
abbrev S32x1x12288 : Shape := ⟨3, ![32, 1, 12288]⟩
abbrev S32x1x2048 : Shape := ⟨3, ![32, 1, 2048]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S2048x6432 : Shape := ⟨2, ![2048, 6432]⟩
abbrev S32x4x6432 : Shape := ⟨3, ![32, 4, 6432]⟩
abbrev S128x6432 : Shape := ⟨2, ![128, 6432]⟩
abbrev S128x1024 : Shape := ⟨2, ![128, 1024]⟩
abbrev S128x6656 : Shape := ⟨2, ![128, 6656]⟩
abbrev S128x2048 : Shape := ⟨2, ![128, 2048]⟩
abbrev S128x3072 : Shape := ⟨2, ![128, 3072]⟩

abbrev nBuf : Space → Nat
  | .hbm => 48
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S32x12288, .f32⟩
  | .hbm, ⟨2, _⟩ => ⟨S1x2048, .f32⟩
  | .hbm, ⟨3, _⟩ => ⟨S1x2048x6432, .f32⟩
  | .hbm, ⟨4, _⟩ => ⟨S32x1x12288, .f32⟩
  | .hbm, ⟨5, _⟩ => ⟨S32x1x2048, .f32⟩
  | .hbm, ⟨6, _⟩ => ⟨S32x1x2048, .f32⟩
  | .hbm, ⟨7, _⟩ => ⟨S32x1x2048, .f32⟩
  | .hbm, ⟨8, _⟩ => ⟨S32x1x2048, .f32⟩
  | .hbm, ⟨9, _⟩ => ⟨S32x1x2048, .f32⟩
  | .hbm, ⟨10, _⟩ => ⟨S32x1x2048, .f32⟩
  | .hbm, ⟨11, _⟩ => ⟨S2048, .f32⟩
  | .hbm, ⟨12, _⟩ => ⟨S32x4x2048, .f32⟩
  | .hbm, ⟨13, _⟩ => ⟨S_, .f32⟩
  | .hbm, ⟨14, _⟩ => ⟨S32x4, .f32⟩
  | .hbm, ⟨15, _⟩ => ⟨S32x4x1, .f32⟩
  | .hbm, ⟨16, _⟩ => ⟨S_, .f32⟩
  | .hbm, ⟨17, _⟩ => ⟨S32x4x1, .f32⟩
  | .hbm, ⟨18, _⟩ => ⟨S32x4x1, .f32⟩
  | .hbm, ⟨19, _⟩ => ⟨S_, .f32⟩
  | .hbm, ⟨20, _⟩ => ⟨S32x4x1, .f32⟩
  | .hbm, ⟨21, _⟩ => ⟨S32x4x1, .f32⟩
  | .hbm, ⟨22, _⟩ => ⟨S32x4x1, .f32⟩
  | .hbm, ⟨23, _⟩ => ⟨S32x4x2048, .f32⟩
  | .hbm, ⟨24, _⟩ => ⟨S32x4x2048, .f32⟩
  | .hbm, ⟨25, _⟩ => ⟨S1x1x2048, .f32⟩
  | .hbm, ⟨26, _⟩ => ⟨S32x4x2048, .f32⟩
  | .hbm, ⟨27, _⟩ => ⟨S32x4x2048, .f32⟩
  | .hbm, ⟨28, _⟩ => ⟨S_, .f32⟩
  | .hbm, ⟨29, _⟩ => ⟨S32x1x2048, .f32⟩
  | .hbm, ⟨30, _⟩ => ⟨S32x1x2048, .f32⟩
  | .hbm, ⟨31, _⟩ => ⟨S32x4x2048, .f32⟩
  | .hbm, ⟨32, _⟩ => ⟨S32x4x2048, .f32⟩
  | .hbm, ⟨33, _⟩ => ⟨S32x4x2048, .f32⟩
  | .hbm, ⟨34, _⟩ => ⟨S32x4x2048, .f32⟩
  | .hbm, ⟨35, _⟩ => ⟨S2048x6432, .f32⟩
  | .hbm, ⟨36, _⟩ => ⟨S32x4x6432, .f32⟩
  | .hbm, ⟨37, _⟩ => ⟨S128x6432, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S_, .i32⟩
  | .hbm, ⟨43, _⟩ => ⟨S_, .f32⟩
  | .hbm, ⟨44, _⟩ => ⟨S128x6656, .f32⟩
  | .hbm, ⟨45, _⟩ => ⟨S128x2048, .f32⟩
  | .hbm, ⟨46, _⟩ => ⟨S128x3072, .f32⟩
  | .hbm, ⟨47, _⟩ => ⟨S128x3072, .bf16⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel7.lean ====
abbrev S32x4x1024 : Shape := ⟨3, ![32, 4, 1024]⟩
abbrev S1x1024 : Shape := ⟨2, ![1, 1024]⟩
abbrev S1x2048x2048 : Shape := ⟨3, ![1, 2048, 2048]⟩
abbrev S32x4x2048 : Shape := ⟨3, ![32, 4, 2048]⟩
abbrev S32x12288 : Shape := ⟨2, ![32, 12288]⟩
abbrev S1x2048 : Shape := ⟨2, ![1, 2048]⟩
abbrev S1024 : Shape := ⟨1, ![1024]⟩
abbrev S_ : Shape := ⟨0, ![]⟩
abbrev S1024x1 : Shape := ⟨2, ![1024, 1]⟩
abbrev S1024x1024 : Shape := ⟨2, ![1024, 1024]⟩
abbrev S128x1024 : Shape := ⟨2, ![128, 1024]⟩
abbrev S2048x2048 : Shape := ⟨2, ![2048, 2048]⟩
abbrev S128x2048 : Shape := ⟨2, ![128, 2048]⟩
abbrev S32x6x2048 : Shape := ⟨3, ![32, 6, 2048]⟩
abbrev S32x4x6x2048 : Shape := ⟨4, ![32, 4, 6, 2048]⟩
abbrev S128x6x2048 : Shape := ⟨3, ![128, 6, 2048]⟩
abbrev S6x128x2048 : Shape := ⟨3, ![6, 128, 2048]⟩
abbrev S1x6x128x2048 : Shape := ⟨4, ![1, 6, 128, 2048]⟩
abbrev S1024x2048 : Shape := ⟨2, ![1024, 2048]⟩
abbrev S1x1x128x2048 : Shape := ⟨4, ![1, 1, 128, 2048]⟩
abbrev S128 : Shape := ⟨1, ![128]⟩
abbrev S128x1 : Shape := ⟨2, ![128, 1]⟩

abbrev nBuf : Space → Nat
  | .hbm => 48
  | .vmem => 12
  | .smem => 0
  | _ => 0

abbrev bufTy : (tb : Table) → Fin (tcTables nBuf tb) → BufTy
  | .hbm, ⟨0, _⟩ => ⟨S32x4x1024, .bf16⟩
  | .hbm, ⟨1, _⟩ => ⟨S32x4x1024, .f32⟩
  | .hbm, ⟨2, _⟩ => ⟨S32x4x1024, .f32⟩
  | .hbm, ⟨3, _⟩ => ⟨S32x4x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S32x4x2048, .f32⟩
  | .hbm, ⟨8, _⟩ => ⟨S32x12288, .f32⟩
  | .hbm, ⟨9, _⟩ => ⟨S1x2048, .f32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1x1024, .i32⟩
  | .hbm, ⟨31, _⟩ => ⟨S1024x1024, .i32⟩
  | .hbm, ⟨32, _⟩ => ⟨S1024x1024, .i32⟩
  | .hbm, ⟨33, _⟩ => ⟨S1024x1024, .i1⟩
  | .hbm, ⟨34, _⟩ => ⟨S1024x1024, .bf16⟩
  | .hbm, ⟨35, _⟩ => ⟨S128x1024, .bf16⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S2048x2048, .f32⟩
  | .hbm, ⟨40, _⟩ => ⟨S2048x2048, .bf16⟩
  | .hbm, ⟨41, _⟩ => ⟨S128x2048, .f32⟩
  | .hbm, ⟨42, _⟩ => ⟨S32x6x2048, .f32⟩
  | .hbm, ⟨43, _⟩ => ⟨S32x4x6x2048, .f32⟩
  | .hbm, ⟨44, _⟩ => ⟨S128x6x2048, .f32⟩
  | .hbm, ⟨45, _⟩ => ⟨S6x128x2048, .f32⟩
  | .hbm, ⟨46, _⟩ => ⟨S1x6x128x2048, .f32⟩
  | .hbm, ⟨47, _⟩ => ⟨S128x2048, .f32⟩
  | .local _ .vmem, ⟨0, _⟩ => ⟨S128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S2048x2048, .bf16⟩
  | .local _ .vmem, ⟨8, _⟩ => ⟨S128x2048, .f32⟩
  | .local _ .vmem, ⟨9, _⟩ => ⟨S1x6x128x2048, .f32⟩
  | .local _ .vmem, ⟨10, _⟩ => ⟨S1x2048, .f32⟩
  | .local _ .vmem, ⟨11, _⟩ => ⟨S128x2048, .f32⟩
  | _, _ => ⟨S32x4x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x6x128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference7Ideal.lean ====
abbrev S32x4x1024 : Shape := ⟨3, ![32, 4, 1024]⟩
abbrev S1x1024 : Shape := ⟨2, ![1, 1024]⟩
abbrev S1x2048x2048 : Shape := ⟨3, ![1, 2048, 2048]⟩
abbrev S32x4x2048 : Shape := ⟨3, ![32, 4, 2048]⟩
abbrev S32x12288 : Shape := ⟨2, ![32, 12288]⟩
abbrev S1x2048 : Shape := ⟨2, ![1, 2048]⟩
abbrev S32x1x12288 : Shape := ⟨3, ![32, 1, 12288]⟩
abbrev S32x1x2048 : Shape := ⟨3, ![32, 1, 2048]⟩
abbrev S32x4x16x64 : Shape := ⟨4, ![32, 4, 16, 64]⟩
abbrev S_ : Shape := ⟨0, ![]⟩
abbrev S32x4x16 : Shape := ⟨3, ![32, 4, 16]⟩
abbrev S32x4x16x1 : Shape := ⟨4, ![32, 4, 16, 1]⟩
abbrev S1024 : Shape := ⟨1, ![1024]⟩
abbrev S1x1x1024 : Shape := ⟨3, ![1, 1, 1024]⟩
abbrev S2048x2048 : Shape := ⟨2, ![2048, 2048]⟩
abbrev S2048 : Shape := ⟨1, ![2048]⟩
abbrev S32x4 : Shape := ⟨2, ![32, 4]⟩
abbrev S32x4x1 : Shape := ⟨3, ![32, 4, 1]⟩
abbrev S1x1x2048 : Shape := ⟨3, ![1, 1, 2048]⟩
abbrev S128x2048 : Shape := ⟨2, ![128, 2048]⟩

abbrev nBuf : Space → Nat
  | .hbm => 77
  | .vmem => 0
  | .smem => 0
  | _ => 0

abbrev bufTy : (tb : Table) → Fin (tcTables nBuf tb) → BufTy
  | .hbm, ⟨0, _⟩ => ⟨S32x4x1024, .bf16⟩
  | .hbm, ⟨1, _⟩ => ⟨S32x4x1024, .f32⟩
  | .hbm, ⟨2, _⟩ => ⟨S32x4x1024, .f32⟩
  | .hbm, ⟨3, _⟩ => ⟨S32x4x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S32x4x2048, .f32⟩
  | .hbm, ⟨8, _⟩ => ⟨S32x12288, .f32⟩
  | .hbm, ⟨9, _⟩ => ⟨S1x2048, .f32⟩
  | .hbm, ⟨10, _⟩ => ⟨S32x1x12288, .f32⟩
  | .hbm, ⟨11, _⟩ => ⟨S32x1x2048, .f32⟩
  | .hbm, ⟨12, _⟩ => ⟨S32x1x2048, .f32⟩
  | .hbm, ⟨13, _⟩ => ⟨S32x1x2048, .f32⟩
  | .hbm, ⟨14, _⟩ => ⟨S32x1x2048, .f32⟩
  | .hbm, ⟨15, _⟩ => ⟨S32x1x2048, .f32⟩
  | .hbm, ⟨16, _⟩ => ⟨S32x1x2048, .f32⟩
  | .hbm, ⟨17, _⟩ => ⟨S32x4x16x64, .f32⟩
  | .hbm, ⟨18, _⟩ => ⟨S_, .f32⟩
  | .hbm, ⟨19, _⟩ => ⟨S32x4x16, .f32⟩
  | .hbm, ⟨20, _⟩ => ⟨S32x4x16x1, .f32⟩
  | .hbm, ⟨21, _⟩ => ⟨S_, .f32⟩
  | .hbm, ⟨22, _⟩ => ⟨S32x4x16x1, .f32⟩
  | .hbm, ⟨23, _⟩ => ⟨S32x4x16x1, .f32⟩
  | .hbm, ⟨24, _⟩ => ⟨S32x4x16x64, .f32⟩
  | .hbm, ⟨25, _⟩ => ⟨S32x4x16x64, .f32⟩
  | .hbm, ⟨26, _⟩ => ⟨S32x4x16x64, .f32⟩
  | .hbm, ⟨27, _⟩ => ⟨S_, .f32⟩
  | .hbm, ⟨28, _⟩ => ⟨S32x4x16, .f32⟩
  | .hbm, ⟨29, _⟩ => ⟨S32x4x16x1, .f32⟩
  | .hbm, ⟨30, _⟩ => ⟨S_, .f32⟩
  | .hbm, ⟨31, _⟩ => ⟨S32x4x16x1, .f32⟩
  | .hbm, ⟨32, _⟩ => ⟨S32x4x16x1, .f32⟩
  | .hbm, ⟨33, _⟩ => ⟨S32x4x16x64, .f32⟩
  | .hbm, ⟨34, _⟩ => ⟨S32x4x16x64, .f32⟩
  | .hbm, ⟨35, _⟩ => ⟨S_, .f32⟩
  | .hbm, ⟨36, _⟩ => ⟨S32x4x16x1, .f32⟩
  | .hbm, ⟨37, _⟩ => ⟨S32x4x16x1, .f32⟩
  | .hbm, ⟨38, _⟩ => ⟨S32x4x16x1, .f32⟩
  | .hbm, ⟨39, _⟩ => ⟨S32x4x16x64, .f32⟩
  | .hbm, ⟨40, _⟩ => ⟨S32x4x16x64, .f32⟩
  | .hbm, ⟨41, _⟩ => ⟨S32x4x1024, .f32⟩
  | .hbm, ⟨42, _⟩ => ⟨S1024, .f32⟩
  | .hbm, ⟨43, _⟩ => ⟨S1x1x1024, .f32⟩
  | .hbm, ⟨44, _⟩ => ⟨S32x4x1024, .f32⟩
  | .hbm, ⟨45, _⟩ => ⟨S32x4x1024, .f32⟩
  | .hbm, ⟨46, _⟩ => ⟨S1024, .f32⟩
  | .hbm, ⟨47, _⟩ => ⟨S1x1x1024, .f32⟩
  | .hbm, ⟨48, _⟩ => ⟨S32x4x1024, .f32⟩
  | .hbm, ⟨49, _⟩ => ⟨S32x4x1024, .f32⟩
  | .hbm, ⟨50, _⟩ => ⟨S32x4x1024, .f32⟩
  | .hbm, ⟨51, _⟩ => ⟨S32x4x1024, .f32⟩
  | .hbm, ⟨52, _⟩ => ⟨S32x4x1024, .f32⟩
  | .hbm, ⟨53, _⟩ => ⟨S32x4x2048, .f32⟩
  | .hbm, ⟨54, _⟩ => ⟨S2048x2048, .f32⟩
  | .hbm, ⟨55, _⟩ => ⟨S32x4x2048, .f32⟩
  | .hbm, ⟨56, _⟩ => ⟨S2048, .f32⟩
  | .hbm, ⟨57, _⟩ => ⟨S32x4x2048, .f32⟩
  | .hbm, ⟨58, _⟩ => ⟨S_, .f32⟩
  | .hbm, ⟨59, _⟩ => ⟨S32x4, .f32⟩
  | .hbm, ⟨60, _⟩ => ⟨S32x4x1, .f32⟩
  | .hbm, ⟨61, _⟩ => ⟨S_, .f32⟩
  | .hbm, ⟨62, _⟩ => ⟨S32x4x1, .f32⟩
  | .hbm, ⟨63, _⟩ => ⟨S32x4x1, .f32⟩
  | .hbm, ⟨64, _⟩ => ⟨S_, .f32⟩
  | .hbm, ⟨65, _⟩ => ⟨S32x4x1, .f32⟩
  | .hbm, ⟨66, _⟩ => ⟨S32x4x1, .f32⟩
  | .hbm, ⟨67, _⟩ => ⟨S32x4x1, .f32⟩
  | .hbm, ⟨68, _⟩ => ⟨S32x4x2048, .f32⟩
  | .hbm, ⟨69, _⟩ => ⟨S32x4x2048, .f32⟩
  | .hbm, ⟨70, _⟩ => ⟨S1x1x2048, .f32⟩
  | .hbm, ⟨71, _⟩ => ⟨S32x4x2048, .f32⟩
  | .hbm, ⟨72, _⟩ => ⟨S32x4x2048, .f32⟩
  | .hbm, ⟨73, _⟩ => ⟨S32x4x2048, .f32⟩
  | .hbm, ⟨74, _⟩ => ⟨S32x4x2048, .f32⟩
  | .hbm, ⟨75, _⟩ => ⟨S32x4x2048, .f32⟩
  | .hbm, ⟨76, _⟩ => ⟨S128x2048, .f32⟩
  | _, _ => ⟨S32x4x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel8.lean ====
abbrev S32x4x1024 : Shape := ⟨3, ![32, 4, 1024]⟩
abbrev S32x16x64x64 : Shape := ⟨4, ![32, 16, 64, 64]⟩
abbrev S_ : Shape := ⟨0, ![]⟩
abbrev S32x8x1024 : Shape := ⟨3, ![32, 8, 1024]⟩
abbrev S32x8x2x64x64 : Shape := ⟨5, ![32, 8, 2, 64, 64]⟩
abbrev S32x8x64x64 : Shape := ⟨4, ![32, 8, 64, 64]⟩
abbrev S32x8x1x64x64 : Shape := ⟨5, ![32, 8, 1, 64, 64]⟩
abbrev S32x8x64x128 : Shape := ⟨4, ![32, 8, 64, 128]⟩
abbrev S32x8x128x128 : Shape := ⟨4, ![32, 8, 128, 128]⟩
abbrev S1x8x1024 : Shape := ⟨3, ![1, 8, 1024]⟩
abbrev S1x8x128x128 : Shape := ⟨4, ![1, 8, 128, 128]⟩
abbrev S8x128x128 : Shape := ⟨3, ![8, 128, 128]⟩
abbrev S8x1024 : Shape := ⟨2, ![8, 1024]⟩
abbrev S56x1024 : Shape := ⟨2, ![56, 1024]⟩
abbrev S64x1024 : Shape := ⟨2, ![64, 1024]⟩
abbrev S64x64 : Shape := ⟨2, ![64, 64]⟩
abbrev S64x3072 : Shape := ⟨2, ![64, 3072]⟩
abbrev S1x1024 : Shape := ⟨2, ![1, 1024]⟩
abbrev S128x128 : Shape := ⟨2, ![128, 128]⟩
abbrev S64x128 : Shape := ⟨2, ![64, 128]⟩
abbrev S256x128 : Shape := ⟨2, ![256, 128]⟩
abbrev S256x256 : Shape := ⟨2, ![256, 256]⟩
abbrev S128x256 : Shape := ⟨2, ![128, 256]⟩
abbrev S1x128x128 : Shape := ⟨3, ![1, 128, 128]⟩
abbrev S8x128 : Shape := ⟨2, ![8, 128]⟩
abbrev S1x8x128 : Shape := ⟨3, ![1, 8, 128]⟩
abbrev S1x128 : Shape := ⟨2, ![1, 128]⟩

abbrev nBuf : Space → Nat
  | .hbm => 37
  | .vmem => 19
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S32x4x1024, .f32⟩
  | .hbm, ⟨4, _⟩ => ⟨S32x4x1024, .f32⟩
  | .hbm, ⟨5, _⟩ => ⟨S32x4x1024, .f32⟩
  | .hbm, ⟨6, _⟩ => ⟨S32x16x64x64, .f32⟩
  | .hbm, ⟨7, _⟩ => ⟨S_, .i32⟩
  | .hbm, ⟨8, _⟩ => ⟨S_, .f32⟩
  | .hbm, ⟨9, _⟩ => ⟨S32x8x1024, .f32⟩
  | .hbm, ⟨10, _⟩ => ⟨S_, .i32⟩
  | .hbm, ⟨11, _⟩ => ⟨S_, .f32⟩
  | .hbm, ⟨12, _⟩ => ⟨S32x8x1024, .f32⟩
  | .hbm, ⟨13, _⟩ => ⟨S_, .i32⟩
  | .hbm, ⟨14, _⟩ => ⟨S_, .f32⟩
  | .hbm, ⟨15, _⟩ => ⟨S32x8x1024, .f32⟩
  | .hbm, ⟨16, _⟩ => ⟨S_, .i32⟩
  | .hbm, ⟨17, _⟩ => ⟨S_, .f32⟩
  | .hbm, ⟨18, _⟩ => ⟨S32x8x1024, .f32⟩
  | .hbm, ⟨19, _⟩ => ⟨S_, .i32⟩
  | .hbm, ⟨20, _⟩ => ⟨S_, .f32⟩
  | .hbm, ⟨21, _⟩ => ⟨S32x8x1024, .f32⟩
  | .hbm, ⟨22, _⟩ => ⟨S_, .i32⟩
  | .hbm, ⟨23, _⟩ => ⟨S_, .f32⟩
  | .hbm, ⟨24, _⟩ => ⟨S32x8x1024, .f32⟩
  | .hbm, ⟨25, _⟩ => ⟨S32x8x2x64x64, .f32⟩
  | .hbm, ⟨26, _⟩ => ⟨S_, .f32⟩
  | .hbm, ⟨27, _⟩ => ⟨S32x8x64x64, .f32⟩
  | .hbm, ⟨28, _⟩ => ⟨S32x8x1x64x64, .f32⟩
  | .hbm, ⟨29, _⟩ => ⟨S32x8x64x64, .f32⟩
  | .hbm, ⟨30, _⟩ => ⟨S32x8x64x128, .f32⟩
  | .hbm, ⟨31, _⟩ => ⟨S32x8x1x64x64, .f32⟩
  | .hbm, ⟨32, _⟩ => ⟨S32x8x64x64, .f32⟩
  | .hbm, ⟨33, _⟩ => ⟨S32x8x64x128, .f32⟩
  | .hbm, ⟨34, _⟩ => ⟨S32x8x128x128, .f32⟩
  | .hbm, ⟨35, _⟩ => ⟨S32x8x1024, .f32⟩
  | .hbm, ⟨36, _⟩ => ⟨S32x8x128x128, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x128x128, .f32⟩
  | .local _ .vmem, ⟨13, _⟩ => ⟨S1x8x128x128, .f32⟩
  | .local _ .vmem, ⟨14, _⟩ => ⟨S1x8x1024, .f32⟩
  | .local _ .vmem, ⟨15, _⟩ => ⟨S1x8x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S8x128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_c_3 : Ref sig .tc := ⟨.hbm, 19, rfl⟩
abbrev main_call4_v0 : Ref sig .tc := ⟨.hbm, 20, rfl⟩
abbrev main_v4 : Ref sig .tc := ⟨.hbm, 21, rfl⟩
abbrev main_c_4 : Ref sig .tc := ⟨.hbm, 22, rfl⟩
abbrev main_call5_v0 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_340 : BitVec 32 := 0#32
  let v1183 : BitVec 1 := Scalar.cmpi .eq arg1 c0_i32_340
  let v1184 : BitVec 32 := Scalar.extui v1183
  let c0_i32_341 : BitVec 32 := 0#32
  let v1185 : BitVec 1 := Scalar.cmpi .ne v1184 c0_i32_341
  v1185

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S32x4x1024 : Shape := ⟨3, ![32, 4, 1024]⟩
abbrev S32x16x64x64 : Shape := ⟨4, ![32, 16, 64, 64]⟩
abbrev S32x4x16x64 : Shape := ⟨4, ![32, 4, 16, 64]⟩
abbrev S4x32x16x64 : Shape := ⟨4, ![4, 32, 16, 64]⟩
abbrev S_ : Shape := ⟨0, ![]⟩
abbrev S1x32x16x64 : Shape := ⟨4, ![1, 32, 16, 64]⟩
abbrev S32x16x64 : Shape := ⟨3, ![32, 16, 64]⟩
abbrev S32x16x1x64 : Shape := ⟨4, ![32, 16, 1, 64]⟩
abbrev S32x16x64x1 : Shape := ⟨4, ![32, 16, 64, 1]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S32x8x1024 : Shape := ⟨3, ![32, 8, 1024]⟩
abbrev S2x1x2x1 : Shape := ⟨4, ![2, 1, 2, 1]⟩
abbrev S32x8x2x64x1x64 : Shape := ⟨6, ![32, 8, 2, 64, 1, 64]⟩
abbrev S32x8x2x64x2x64 : Shape := ⟨6, ![32, 8, 2, 64, 2, 64]⟩
abbrev S32x8x128x128 : Shape := ⟨4, ![32, 8, 128, 128]⟩

abbrev nBuf : Space → Nat
  | .hbm => 109
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S32x4x1024, .f32⟩
  | .hbm, ⟨4, _⟩ => ⟨S32x4x1024, .f32⟩
  | .hbm, ⟨5, _⟩ => ⟨S32x4x1024, .f32⟩
  | .hbm, ⟨6, _⟩ => ⟨S32x16x64x64, .f32⟩
  | .hbm, ⟨7, _⟩ => ⟨S32x4x1024, .f32⟩
  | .hbm, ⟨8, _⟩ => ⟨S32x4x16x64, .f32⟩
  | .hbm, ⟨9, _⟩ => ⟨S4x32x16x64, .f32⟩
  | .hbm, ⟨10, _⟩ => ⟨S32x4x16x64, .f32⟩
  | .hbm, ⟨11, _⟩ => ⟨S4x32x16x64, .f32⟩
  | .hbm, ⟨12, _⟩ => ⟨S32x4x16x64, .f32⟩
  | .hbm, ⟨13, _⟩ => ⟨S4x32x16x64, .f32⟩
  | .hbm, ⟨14, _⟩ => ⟨S32x4x16x64, .f32⟩
  | .hbm, ⟨15, _⟩ => ⟨S4x32x16x64, .f32⟩
  | .hbm, ⟨16, _⟩ => ⟨S32x4x16x64, .f32⟩
  | .hbm, ⟨17, _⟩ => ⟨S4x32x16x64, .f32⟩
  | .hbm, ⟨18, _⟩ => ⟨S32x4x16x64, .f32⟩
  | .hbm, ⟨19, _⟩ => ⟨S4x32x16x64, .f32⟩
  | .hbm, ⟨20, _⟩ => ⟨S_, .f32⟩
  | .hbm, ⟨21, _⟩ => ⟨S4x32x16x64, .f32⟩
  | .hbm, ⟨22, _⟩ => ⟨S_, .i32⟩
  | .hbm, ⟨23, _⟩ => ⟨S4x32x16x64, .f32⟩
  | .hbm, ⟨24, _⟩ => ⟨S4x32x16x64, .f32⟩
  | .hbm, ⟨25, _⟩ => ⟨S4x32x16x64, .f32⟩
  | .hbm, ⟨26, _⟩ => ⟨S4x32x16x64, .f32⟩
  | .hbm, ⟨27, _⟩ => ⟨S4x32x16x64, .f32⟩
  | .hbm, ⟨28, _⟩ => ⟨S4x32x16x64, .f32⟩
  | .hbm, ⟨29, _⟩ => ⟨S_, .i32⟩
  | .hbm, ⟨30, _⟩ => ⟨S32x16x64x64, .f32⟩
  | .hbm, ⟨31, _⟩ => ⟨S4x32x16x64, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x32x16x64, .f32⟩
  | .hbm, ⟨38, _⟩ => ⟨S32x16x64, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x32x16x64, .f32⟩
  | .hbm, ⟨43, _⟩ => ⟨S32x16x64, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x32x16x64, .f32⟩
  | .hbm, ⟨48, _⟩ => ⟨S32x16x64, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x32x16x64, .f32⟩
  | .hbm, ⟨53, _⟩ => ⟨S32x16x64, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x32x16x64, .f32⟩
  | .hbm, ⟨58, _⟩ => ⟨S32x16x64, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x32x16x64, .f32⟩
  | .hbm, ⟨63, _⟩ => ⟨S32x16x64, .f32⟩
  | .hbm, ⟨64, _⟩ => ⟨S32x16x64, .f32⟩
  | .hbm, ⟨65, _⟩ => ⟨S32x16x1x64, .f32⟩
  | .hbm, ⟨66, _⟩ => ⟨S32x16x64x64, .f32⟩
  | .hbm, ⟨67, _⟩ => ⟨S32x16x64x64, .f32⟩
  | .hbm, ⟨68, _⟩ => ⟨S32x16x64x1, .f32⟩
  | .hbm, ⟨69, _⟩ => ⟨S32x16x1x64, .f32⟩
  | .hbm, ⟨70, _⟩ => ⟨S32x16x64x64, .f32⟩
  | .hbm, ⟨71, _⟩ => ⟨S32x16x64x64, .f32⟩
  | .hbm, ⟨72, _⟩ => ⟨S32x16x64x64, .f32⟩
  | .hbm, ⟨73, _⟩ => ⟨S32x16x64x64, .f32⟩
  | .hbm, ⟨74, _⟩ => ⟨S32x16x64x1, .f32⟩
  | .hbm, ⟨75, _⟩ => ⟨S32x16x1x64, .f32⟩
  | .hbm, ⟨76, _⟩ => ⟨S32x16x64x64, .f32⟩
  | .hbm, ⟨77, _⟩ => ⟨S32x16x64x64, .f32⟩
  | .hbm, ⟨78, _⟩ => ⟨S32x16x64x64, .f32⟩
  | .hbm, ⟨79, _⟩ => ⟨S32x16x64x64, .f32⟩
  | .hbm, ⟨80, _⟩ => ⟨S32x16x64, .f32⟩
  | .hbm, ⟨81, _⟩ => ⟨S1x32x16x64, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S4x32x16x64, .f32⟩
  | .hbm, ⟨86, _⟩ => ⟨S_, .i32⟩
  | .hbm, ⟨87, _⟩ => ⟨S_, .i32⟩
  | .hbm, ⟨88, _⟩ => ⟨S32x4x16x64, .f32⟩
  | .hbm, ⟨89, _⟩ => ⟨S32x4x1024, .f32⟩
  | .hbm, ⟨90, _⟩ => ⟨S2, .i32⟩
  | .hbm, ⟨91, _⟩ => ⟨S2x1, .i32⟩
  | .hbm, ⟨92, _⟩ => ⟨S2, .i32⟩
  | .hbm, ⟨93, _⟩ => ⟨S1x2, .i32⟩
  | .hbm, ⟨94, _⟩ => ⟨S2x2, .i32⟩
  | .hbm, ⟨95, _⟩ => ⟨S2x2, .i32⟩
  | .hbm, ⟨96, _⟩ => ⟨S2x2, .i1⟩
  | .hbm, ⟨97, _⟩ => ⟨S_, .i32⟩
  | .hbm, ⟨98, _⟩ => ⟨S_, .f32⟩
  | .hbm, ⟨99, _⟩ => ⟨S32x8x1024, .f32⟩
  | .hbm, ⟨100, _⟩ => ⟨S2x1x2x1, .i1⟩
  | .hbm, ⟨101, _⟩ => ⟨S32x8x2x64x1x64, .f32⟩
  | .hbm, ⟨102, _⟩ => ⟨S_, .f32⟩
  | .hbm, ⟨103, _⟩ => ⟨S_, .f32⟩
  | .hbm, ⟨104, _⟩ => ⟨S32x8x2x64x2x64, .i1⟩
  | .hbm, ⟨105, _⟩ => ⟨S32x8x2x64x2x64, .f32⟩
  | .hbm, ⟨106, _⟩ => ⟨S32x8x2x64x2x64, .f32⟩
  | .hbm, ⟨107, _⟩ => ⟨S32x8x2x64x2x64, .f32⟩
  | .hbm, ⟨108, _⟩ => ⟨S32x8x128x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_c : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev main_v14_7 : Ref sig .tc := ⟨.hbm, 30, rfl⟩
abbrev main_v14_8 : Ref sig .tc := ⟨.hbm, 31, rfl⟩
abbrev main_while0c_c_10 : Ref sig .tc := ⟨.hbm, 32, rfl⟩
abbrev main_while0c_v29 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_v0 : Ref sig .tc := ⟨.hbm, 37, rfl⟩
abbrev main_while0b_v29 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_v0 : Ref sig .tc := ⟨.hbm, 42, rfl⟩
abbrev main_while0b_v30 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_v0 : Ref sig .tc := ⟨.hbm, 47, rfl⟩
abbrev main_while0b_v31 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_v0 : Ref sig .tc := ⟨.hbm, 52, rfl⟩
abbrev main_while0b_v32 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_call4_c_1 : Ref sig .tc := ⟨.hbm, 56, rfl⟩
abbrev main_while0b_call4_v0 : Ref sig .tc := ⟨.hbm, 57, rfl⟩
abbrev main_while0b_v33 : Ref sig .tc := ⟨.hbm, 58, rfl⟩
abbrev main_while0b_call5_c : Ref sig .tc := ⟨.hbm, 59, rfl⟩
abbrev main_while0b_call5_c_0 : Ref sig .tc := ⟨.hbm, 60, rfl⟩
abbrev main_while0b_call5_c_1 : Ref sig .tc := ⟨.hbm, 61, rfl⟩
abbrev main_while0b_call5_v0 : Ref sig .tc := ⟨.hbm, 62, rfl⟩
abbrev main_while0b_v34 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_v39 : Ref sig .tc := ⟨.hbm, 68, rfl⟩
abbrev main_while0b_v40 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_call6_v0 : Ref sig .tc := ⟨.hbm, 81, rfl⟩
abbrev main_while0b_call6_c : Ref sig .tc := ⟨.hbm, 82, rfl⟩
abbrev main_while0b_call6_c_0 : Ref sig .tc := ⟨.hbm, 83, rfl⟩
abbrev main_while0b_call6_c_1 : Ref sig .tc := ⟨.hbm, 84, rfl⟩
abbrev main_while0b_v52 : Ref sig .tc := ⟨.hbm, 85, rfl⟩
abbrev main_while0b_c_10 : Ref sig .tc := ⟨.hbm, 86, rfl⟩
abbrev main_while0b_v53 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_c_0 : Ref sig .tc := ⟨.hbm, 97, rfl⟩
abbrev main_call7_v0 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_cst_1 : Ref sig .tc := ⟨.hbm, 102, rfl⟩
abbrev main_call8_v0 : Ref sig .tc := ⟨.hbm, 103, rfl⟩
abbrev main_call8_v1 : Ref sig .tc := ⟨.hbm, 104, rfl⟩
abbrev main_call8_v2 : Ref sig .tc := ⟨.hbm, 105, rfl⟩
abbrev main_call8_v3 : Ref sig .tc := ⟨.hbm, 106, rfl⟩
abbrev main_v27 : Ref sig .tc := ⟨.hbm, 107, rfl⟩
abbrev main_v28 : Ref sig .tc := ⟨.hbm, 108, rfl⟩

abbrev nD : Nat := 1
abbrev τ : Topo := Topo.v7x

variable {F : FTy → Type} [FloatOps F]

abbrev main_while0_count : Scf.Loop 32 := ⟨0#32, 4#32, 1#32⟩
-- ==== Kernel9.lean ====
abbrev S2x2048 : Shape := ⟨2, ![2, 2048]⟩
abbrev S32x2048 : Shape := ⟨2, ![32, 2048]⟩
abbrev S1x2048x12288 : Shape := ⟨3, ![1, 2048, 12288]⟩
abbrev S1x12288 : Shape := ⟨2, ![1, 12288]⟩
abbrev S34x2048 : Shape := ⟨2, ![34, 2048]⟩
abbrev S_ : Shape := ⟨0, ![]⟩
abbrev S40x2048 : Shape := ⟨2, ![40, 2048]⟩
abbrev S2048x12288 : Shape := ⟨2, ![2048, 12288]⟩
abbrev S40x12288 : Shape := ⟨2, ![40, 12288]⟩
abbrev S2048x1536 : Shape := ⟨2, ![2048, 1536]⟩
abbrev S1x1536 : Shape := ⟨2, ![1, 1536]⟩
abbrev S40x1536 : Shape := ⟨2, ![40, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S34x2048, .f32⟩
  | .hbm, ⟨5, _⟩ => ⟨S_, .i32⟩
  | .hbm, ⟨6, _⟩ => ⟨S_, .f32⟩
  | .hbm, ⟨7, _⟩ => ⟨S40x2048, .f32⟩
  | .hbm, ⟨8, _⟩ => ⟨S2048x12288, .f32⟩
  | .hbm, ⟨9, _⟩ => ⟨S40x12288, .f32⟩
  | .local _ .vmem, ⟨0, _⟩ => ⟨S40x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S40x1536, .f32⟩
  | .local _ .vmem, ⟨6, _⟩ => ⟨S40x1536, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S2x2048 : Shape := ⟨2, ![2, 2048]⟩
abbrev S32x2048 : Shape := ⟨2, ![32, 2048]⟩
abbrev S1x2048x12288 : Shape := ⟨3, ![1, 2048, 12288]⟩
abbrev S1x12288 : Shape := ⟨2, ![1, 12288]⟩
abbrev S34x2048 : Shape := ⟨2, ![34, 2048]⟩
abbrev S_ : Shape := ⟨0, ![]⟩
abbrev S40x2048 : Shape := ⟨2, ![40, 2048]⟩
abbrev S2048x12288 : Shape := ⟨2, ![2048, 12288]⟩
abbrev S40x12288 : Shape := ⟨2, ![40, 12288]⟩
abbrev S12288 : Shape := ⟨1, ![12288]⟩

abbrev nBuf : Space → Nat
  | .hbm => 23
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S34x2048, .f32⟩
  | .hbm, ⟨5, _⟩ => ⟨S_, .i32⟩
  | .hbm, ⟨6, _⟩ => ⟨S_, .f32⟩
  | .hbm, ⟨7, _⟩ => ⟨S40x2048, .f32⟩
  | .hbm, ⟨8, _⟩ => ⟨S40x2048, .f32⟩
  | .hbm, ⟨9, _⟩ => ⟨S40x2048, .f32⟩
  | .hbm, ⟨10, _⟩ => ⟨S_, .f32⟩
  | .hbm, ⟨11, _⟩ => ⟨S40x2048, .f32⟩
  | .hbm, ⟨12, _⟩ => ⟨S40x2048, .f32⟩
  | .hbm, ⟨13, _⟩ => ⟨S_, .f32⟩
  | .hbm, ⟨14, _⟩ => ⟨S40x2048, .f32⟩
  | .hbm, ⟨15, _⟩ => ⟨S40x2048, .f32⟩
  | .hbm, ⟨16, _⟩ => ⟨S40x2048, .f32⟩
  | .hbm, ⟨17, _⟩ => ⟨S2048x12288, .f32⟩
  | .hbm, ⟨18, _⟩ => ⟨S40x12288, .f32⟩
  | .hbm, ⟨19, _⟩ => ⟨S12288, .f32⟩
  | .hbm, ⟨20, _⟩ => ⟨S1x12288, .f32⟩
  | .hbm, ⟨21, _⟩ => ⟨S40x12288, .f32⟩
  | .hbm, ⟨22, _⟩ => ⟨S40x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_call1_cst : Ref sig .tc := ⟨.hbm, 10, rfl⟩
abbrev main_call1_v2 : Ref sig .tc := ⟨.hbm, 11, rfl⟩
abbrev main_call1_v3 : Ref sig .tc := ⟨.hbm, 12, rfl⟩
abbrev main_call1_cst_0 : Ref sig .tc := ⟨.hbm, 13, rfl⟩
abbrev main_call1_v4 : Ref sig .tc := ⟨.hbm, 14, rfl⟩
abbrev main_call1_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩

abbrev nD : Nat := 1
abbrev τ : Topo := Topo.v7x

variable {F : FTy → Type} [FloatOps F]
-- ==== Kernel10.lean ====
abbrev S32x4x3360 : Shape := ⟨3, ![32, 4, 3360]⟩
abbrev S1x32x3360 : Shape := ⟨3, ![1, 32, 3360]⟩
abbrev S1x3360 : Shape := ⟨2, ![1, 3360]⟩
abbrev S1x1024 : Shape := ⟨2, ![1, 1024]⟩
abbrev S1x64x1024 : Shape := ⟨3, ![1, 64, 1024]⟩
abbrev S1x160x1024 : Shape := ⟨3, ![1, 160, 1024]⟩
abbrev S1x16x64 : Shape := ⟨3, ![1, 16, 64]⟩
abbrev S_ : Shape := ⟨0, ![]⟩
abbrev S128x2048 : Shape := ⟨2, ![128, 2048]⟩
abbrev S64x1024 : Shape := ⟨2, ![64, 1024]⟩
abbrev S1 : Shape := ⟨1, ![1]⟩
abbrev S2 : Shape := ⟨1, ![2]⟩
abbrev S160x1024 : Shape := ⟨2, ![160, 1024]⟩
abbrev S384x1024 : Shape := ⟨2, ![384, 1024]⟩
abbrev S1024 : Shape := ⟨1, ![1024]⟩
abbrev S1024x1 : Shape := ⟨2, ![1024, 1]⟩
abbrev S1024x1024 : Shape := ⟨2, ![1024, 1024]⟩
abbrev S1x3584 : Shape := ⟨2, ![1, 3584]⟩
abbrev S128x3360 : Shape := ⟨2, ![128, 3360]⟩
abbrev S128x3584 : Shape := ⟨2, ![128, 3584]⟩
abbrev S32x4x3584 : Shape := ⟨3, ![32, 4, 3584]⟩
abbrev S32x3360 : Shape := ⟨2, ![32, 3360]⟩
abbrev S32x3584 : Shape := ⟨2, ![32, 3584]⟩
abbrev S32x1x3584 : Shape := ⟨3, ![32, 1, 3584]⟩
abbrev S32x3x3584 : Shape := ⟨3, ![32, 3, 3584]⟩
abbrev S128x1024 : Shape := ⟨2, ![128, 1024]⟩
abbrev S128x128 : Shape := ⟨2, ![128, 128]⟩
abbrev S128x384 : Shape := ⟨2, ![128, 384]⟩

abbrev nBuf : Space → Nat
  | .hbm => 83
  | .vmem => 19
  | .smem => 0
  | _ => 0

abbrev bufTy : (tb : Table) → Fin (tcTables nBuf tb) → BufTy
  | .hbm, ⟨0, _⟩ => ⟨S32x4x3360, .f32⟩
  | .hbm, ⟨1, _⟩ => ⟨S1x32x3360, .f32⟩
  | .hbm, ⟨2, _⟩ => ⟨S1x3360, .f32⟩
  | .hbm, ⟨3, _⟩ => ⟨S1x1024, .f32⟩
  | .hbm, ⟨4, _⟩ => ⟨S1x64x1024, .f32⟩
  | .hbm, ⟨5, _⟩ => ⟨S1x1024, .f32⟩
  | .hbm, ⟨6, _⟩ => ⟨S1x64x1024, .f32⟩
  | .hbm, ⟨7, _⟩ => ⟨S1x160x1024, .f32⟩
  | .hbm, ⟨8, _⟩ => ⟨S1x1024, .f32⟩
  | .hbm, ⟨9, _⟩ => ⟨S1x1024, .f32⟩
  | .hbm, ⟨10, _⟩ => ⟨S1x16x64, .f32⟩
  | .hbm, ⟨11, _⟩ => ⟨S_, .f32⟩
  | .hbm, ⟨12, _⟩ => ⟨S128x2048, .f32⟩
  | .hbm, ⟨13, _⟩ => ⟨S64x1024, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x2048, .f32⟩
  | .hbm, ⟨20, _⟩ => ⟨S64x1024, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S128x2048, .f32⟩
  | .hbm, ⟨27, _⟩ => ⟨S128x2048, .bf16⟩
  | .hbm, ⟨28, _⟩ => ⟨S160x1024, .f32⟩
  | .hbm, ⟨29, _⟩ => ⟨S_, .i32⟩
  | .hbm, ⟨30, _⟩ => ⟨S_, .f32⟩
  | .hbm, ⟨31, _⟩ => ⟨S384x1024, .f32⟩
  | .hbm, ⟨32, _⟩ => ⟨S384x1024, .bf16⟩
  | .hbm, ⟨33, _⟩ => ⟨S1024, .i32⟩
  | .hbm, ⟨34, _⟩ => ⟨S_, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S1x1024, .i32⟩
  | .hbm, ⟨54, _⟩ => ⟨S1024x1024, .i32⟩
  | .hbm, ⟨55, _⟩ => ⟨S1024x1024, .i32⟩
  | .hbm, ⟨56, _⟩ => ⟨S1024x1024, .i1⟩
  | .hbm, ⟨57, _⟩ => ⟨S1024x1024, .bf16⟩
  | .hbm, ⟨58, _⟩ => ⟨S_, .i32⟩
  | .hbm, ⟨59, _⟩ => ⟨S_, .f32⟩
  | .hbm, ⟨60, _⟩ => ⟨S1x3584, .f32⟩
  | .hbm, ⟨61, _⟩ => ⟨S1x1024, .f32⟩
  | .hbm, ⟨62, _⟩ => ⟨S128x3360, .f32⟩
  | .hbm, ⟨63, _⟩ => ⟨S_, .i32⟩
  | .hbm, ⟨64, _⟩ => ⟨S_, .f32⟩
  | .hbm, ⟨65, _⟩ => ⟨S128x3584, .f32⟩
  | .hbm, ⟨66, _⟩ => ⟨S32x4x3584, .f32⟩
  | .hbm, ⟨67, _⟩ => ⟨S32x3360, .f32⟩
  | .hbm, ⟨68, _⟩ => ⟨S_, .i32⟩
  | .hbm, ⟨69, _⟩ => ⟨S_, .f32⟩
  | .hbm, ⟨70, _⟩ => ⟨S32x3584, .f32⟩
  | .hbm, ⟨71, _⟩ => ⟨S32x1x3584, .f32⟩
  | .hbm, ⟨72, _⟩ => ⟨S32x3x3584, .f32⟩
  | .hbm, ⟨73, _⟩ => ⟨S32x4x3584, .f32⟩
  | .hbm, ⟨74, _⟩ => ⟨S128x3584, .f32⟩
  | .hbm, ⟨75, _⟩ => ⟨S128x1024, .f32⟩
  | .hbm, ⟨76, _⟩ => ⟨S128x1024, .f32⟩
  | .hbm, ⟨77, _⟩ => ⟨S128x1024, .f32⟩
  | .hbm, ⟨78, _⟩ => ⟨S128x1024, .f32⟩
  | .hbm, ⟨79, _⟩ => ⟨S128x1024, .f32⟩
  | .hbm, ⟨80, _⟩ => ⟨S128x1024, .f32⟩
  | .hbm, ⟨81, _⟩ => ⟨S128x1024, .f32⟩
  | .hbm, ⟨82, _⟩ => ⟨S128x1024, .f32⟩
  | .local _ .vmem, ⟨0, _⟩ => ⟨S128x3584, .f32⟩
  | .local _ .vmem, ⟨1, _⟩ => ⟨S128x3584, .f32⟩
  | .local _ .vmem, ⟨2, _⟩ => ⟨S1x3584, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S128x2048, .bf16⟩
  | .local _ .vmem, ⟨9, _⟩ => ⟨S384x1024, .bf16⟩
  | .local _ .vmem, ⟨10, _⟩ => ⟨S1024x1024, .bf16⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | _, _ => ⟨S32x4x3360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_call0_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_5 : Ref sig .tc := ⟨.hbm, 58, rfl⟩
abbrev main_call2_v0 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_6 : Ref sig .tc := ⟨.hbm, 63, rfl⟩
abbrev main_call3_v0 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_c_7 : Ref sig .tc := ⟨.hbm, 68, rfl⟩
abbrev main_call4_v0 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34_0 : Ref sig .tc := ⟨.hbm, 75, rfl⟩
abbrev main_v34_1 : Ref sig .tc := ⟨.hbm, 76, rfl⟩
abbrev main_v34_2 : Ref sig .tc := ⟨.hbm, 77, rfl⟩
abbrev main_v34_3 : Ref sig .tc := ⟨.hbm, 78, rfl⟩
abbrev main_v34_4 : Ref sig .tc := ⟨.hbm, 79, rfl⟩
abbrev main_v34_5 : Ref sig .tc := ⟨.hbm, 80, rfl⟩
abbrev main_v34_6 : Ref sig .tc := ⟨.hbm, 81, rfl⟩
abbrev main_v34_7 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference10Ideal.lean ====
abbrev S32x4x3360 : Shape := ⟨3, ![32, 4, 3360]⟩
abbrev S1x32x3360 : Shape := ⟨3, ![1, 32, 3360]⟩
abbrev S1x3360 : Shape := ⟨2, ![1, 3360]⟩
abbrev S1x1024 : Shape := ⟨2, ![1, 1024]⟩
abbrev S1x64x1024 : Shape := ⟨3, ![1, 64, 1024]⟩
abbrev S1x160x1024 : Shape := ⟨3, ![1, 160, 1024]⟩
abbrev S1x16x64 : Shape := ⟨3, ![1, 16, 64]⟩
abbrev S32x3360 : Shape := ⟨2, ![32, 3360]⟩
abbrev S32x1x3360 : Shape := ⟨3, ![32, 1, 3360]⟩
abbrev S32x3x3360 : Shape := ⟨3, ![32, 3, 3360]⟩
abbrev S3360 : Shape := ⟨1, ![3360]⟩
abbrev S1x1x3360 : Shape := ⟨3, ![1, 1, 3360]⟩
abbrev S32x4x1024 : Shape := ⟨3, ![32, 4, 1024]⟩
abbrev S32x4x64 : Shape := ⟨3, ![32, 4, 64]⟩
abbrev S32x4x160 : Shape := ⟨3, ![32, 4, 160]⟩
abbrev S1024 : Shape := ⟨1, ![1024]⟩
abbrev S64x1024 : Shape := ⟨2, ![64, 1024]⟩
abbrev S1x1x1024 : Shape := ⟨3, ![1, 1, 1024]⟩
abbrev S_ : Shape := ⟨0, ![]⟩
abbrev S160x1024 : Shape := ⟨2, ![160, 1024]⟩
abbrev S32x4x16x64 : Shape := ⟨4, ![32, 4, 16, 64]⟩
abbrev S16x64 : Shape := ⟨2, ![16, 64]⟩
abbrev S1x1x16x64 : Shape := ⟨4, ![1, 1, 16, 64]⟩
abbrev S32x4x16 : Shape := ⟨3, ![32, 4, 16]⟩
abbrev S32x4x16x1 : Shape := ⟨4, ![32, 4, 16, 1]⟩
abbrev S128x1024 : Shape := ⟨2, ![128, 1024]⟩

abbrev nBuf : Space → Nat
  | .hbm => 130
  | .vmem => 0
  | .smem => 0
  | _ => 0

abbrev hbmTy0_0 (i : Nat) : BufTy := match i % 128 with
  | 0 => ⟨S32x4x3360, .f32⟩
  | 1 => ⟨S1x32x3360, .f32⟩
  | 2 => ⟨S1x3360, .f32⟩
  | 3 => ⟨S1x1024, .f32⟩
  | 4 => ⟨S1x64x1024, .f32⟩
  | 5 => ⟨S1x1024, .f32⟩
  | 6 => ⟨S1x64x1024, .f32⟩
  | 7 => ⟨S1x160x1024, .f32⟩
  | 8 => ⟨S1x1024, .f32⟩
  | 9 => ⟨S1x1024, .f32⟩
  | 10 => ⟨S1x16x64, .f32⟩
  | 11 => ⟨S32x3360, .f32⟩
  | 12 => ⟨S32x1x3360, .f32⟩
  | 13 => ⟨S32x3x3360, .f32⟩
  | 14 => ⟨S32x4x3360, .f32⟩
  | 15 => ⟨S3360, .f32⟩
  | 16 => ⟨S32x4x3360, .f32⟩
  | 17 => ⟨S1x1x3360, .f32⟩
  | 18 => ⟨S32x4x3360, .f32⟩
  | 19 => ⟨S32x4x3360, .f32⟩
  | 20 => ⟨S32x4x3360, .f32⟩
  | 21 => ⟨S32x4x1024, .f32⟩
  | 22 => ⟨S32x4x1024, .f32⟩
  | 23 => ⟨S32x4x1024, .f32⟩
  | 24 => ⟨S32x4x64, .f32⟩
  | 25 => ⟨S32x4x64, .f32⟩
  | 26 => ⟨S32x4x160, .f32⟩
  | 27 => ⟨S1024, .f32⟩
  | 28 => ⟨S32x4x64, .f32⟩
  | 29 => ⟨S64x1024, .f32⟩
  | 30 => ⟨S32x4x1024, .f32⟩
  | 31 => ⟨S1x1x1024, .f32⟩
  | 32 => ⟨S32x4x1024, .f32⟩
  | 33 => ⟨S32x4x1024, .f32⟩
  | 34 => ⟨S32x4x1024, .f32⟩
  | 35 => ⟨S_, .f32⟩
  | 36 => ⟨S32x4x1024, .f32⟩
  | 37 => ⟨S32x4x1024, .f32⟩
  | 38 => ⟨S32x4x1024, .f32⟩
  | 39 => ⟨S32x4x1024, .f32⟩
  | 40 => ⟨S32x4x1024, .i1⟩
  | 41 => ⟨S32x4x1024, .f32⟩
  | 42 => ⟨S32x4x1024, .f32⟩
  | 43 => ⟨S32x4x1024, .f32⟩
  | 44 => ⟨S32x4x1024, .f32⟩
  | 45 => ⟨S32x4x1024, .f32⟩
  | 46 => ⟨S32x4x1024, .f32⟩
  | 47 => ⟨S32x4x1024, .f32⟩
  | 48 => ⟨S32x4x1024, .f32⟩
  | 49 => ⟨S32x4x1024, .f32⟩
  | 50 => ⟨S_, .f32⟩
  | 51 => ⟨S32x4x1024, .f32⟩
  | 52 => ⟨S32x4x1024, .f32⟩
  | 53 => ⟨S1024, .f32⟩
  | 54 => ⟨S64x1024, .f32⟩
  | 55 => ⟨S32x4x1024, .f32⟩
  | 56 => ⟨S1x1x1024, .f32⟩
  | 57 => ⟨S32x4x1024, .f32⟩
  | 58 => ⟨S32x4x1024, .f32⟩
  | 59 => ⟨S32x4x1024, .f32⟩
  | 60 => ⟨S32x4x1024, .f32⟩
  | 61 => ⟨S_, .f32⟩
  | 62 => ⟨S32x4x1024, .f32⟩
  | 63 => ⟨S32x4x1024, .f32⟩
  | 64 => ⟨S_, .f32⟩
  | 65 => ⟨S32x4x1024, .f32⟩
  | 66 => ⟨S32x4x1024, .f32⟩
  | 67 => ⟨S32x4x160, .f32⟩
  | 68 => ⟨S32x4x160, .f32⟩
  | 69 => ⟨S_, .f32⟩
  | 70 => ⟨S32x4x160, .f32⟩
  | 71 => ⟨S32x4x160, .f32⟩
  | 72 => ⟨S_, .f32⟩
  | 73 => ⟨S32x4x160, .f32⟩
  | 74 => ⟨S32x4x160, .f32⟩
  | 75 => ⟨S160x1024, .f32⟩
  | 76 => ⟨S32x4x1024, .f32⟩
  | 77 => ⟨S32x4x16x64, .f32⟩
  | 78 => ⟨S32x4x16x64, .f32⟩
  | 79 => ⟨S32x4x16x64, .f32⟩
  | 80 => ⟨S32x4x16x64, .f32⟩
  | 81 => ⟨S1024, .f32⟩
  | 82 => ⟨S16x64, .f32⟩
  | 83 => ⟨S1x1x16x64, .f32⟩
  | 84 => ⟨S32x4x16x64, .f32⟩
  | 85 => ⟨S32x4x16x64, .f32⟩
  | 86 => ⟨S32x4x16x64, .f32⟩
  | 87 => ⟨S_, .f32⟩
  | 88 => ⟨S32x4x16, .f32⟩
  | 89 => ⟨S32x4x16x1, .f32⟩
  | 90 => ⟨S32x4x16x1, .f32⟩
  | 91 => ⟨S_, .f32⟩
  | 92 => ⟨S32x4x16x1, .f32⟩
  | 93 => ⟨S32x4x16x1, .f32⟩
  | 94 => ⟨S32x4x16x64, .f32⟩
  | 95 => ⟨S32x4x16x64, .f32⟩
  | 96 => ⟨S_, .f32⟩
  | 97 => ⟨S32x4x16x64, .f32⟩
  | 98 => ⟨S32x4x16x64, .f32⟩
  | 99 => ⟨S1024, .f32⟩
  | 100 => ⟨S16x64, .f32⟩
  | 101 => ⟨S1x1x16x64, .f32⟩
  | 102 => ⟨S32x4x16x64, .f32⟩
  | 103 => ⟨S32x4x16x64, .f32⟩
  | 104 => ⟨S_, .f32⟩
  | 105 => ⟨S32x4x16x64, .f32⟩
  | 106 => ⟨S32x4x16x64, .f32⟩
  | 107 => ⟨S32x4x16x64, .f32⟩
  | 108 => ⟨S32x4x16x64, .f32⟩
  | 109 => ⟨S16x64, .f32⟩
  | 110 => ⟨S1x1x16x64, .f32⟩
  | 111 => ⟨S32x4x16x64, .f32⟩
  | 112 => ⟨S32x4x16x64, .f32⟩
  | 113 => ⟨S_, .f32⟩
  | 114 => ⟨S32x4x16, .f32⟩
  | 115 => ⟨S32x4x16x1, .f32⟩
  | 116 => ⟨S32x4x16x64, .f32⟩
  | 117 => ⟨S32x4x16x64, .f32⟩
  | 118 => ⟨S32x4x1024, .f32⟩
  | 119 => ⟨S32x4x1024, .f32⟩
  | 120 => ⟨S32x4x16x64, .f32⟩
  | 121 => ⟨S32x4x16x64, .f32⟩
  | 122 => ⟨S128x1024, .f32⟩
  | 123 => ⟨S128x1024, .f32⟩
  | 124 => ⟨S128x1024, .f32⟩
  | 125 => ⟨S128x1024, .f32⟩
  | 126 => ⟨S128x1024, .f32⟩
  | 127 => ⟨S128x1024, .f32⟩
  | _ => ⟨S32x4x3360, .f32⟩

abbrev hbmTy0_1 (i : Nat) : BufTy := match i % 128 with
  | 0 => ⟨S128x1024, .f32⟩
  | 1 => ⟨S128x1024, .f32⟩
  | _ => ⟨S32x4x3360, .f32⟩

abbrev hbmTy (i : Nat) : BufTy := match i / 128 with
  | 0 => hbmTy0_0 i
  | 1 => hbmTy0_1 i
  | _ => ⟨S32x4x3360, .f32⟩

abbrev bufTy : (tb : Table) → Fin (tcTables nBuf tb) → BufTy
  | .hbm, ⟨i, _⟩ => hbmTy i
  | _, _ => ⟨S32x4x3360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v24 : Ref sig .tc := ⟨.hbm, 48, rfl⟩
abbrev main_v25 : Ref sig .tc := ⟨.hbm, 49, rfl⟩
abbrev main_cst : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_0 : Ref sig .tc := ⟨.hbm, 61, rfl⟩
abbrev main_v36 : Ref sig .tc := ⟨.hbm, 62, rfl⟩
abbrev main_v37 : Ref sig .tc := ⟨.hbm, 63, rfl⟩
abbrev main_cst_1 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_2 : Ref sig .tc := ⟨.hbm, 69, rfl⟩
abbrev main_v42 : Ref sig .tc := ⟨.hbm, 70, rfl⟩
abbrev main_v43 : Ref sig .tc := ⟨.hbm, 71, rfl⟩
abbrev main_cst_3 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_4 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_5 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_7 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]
-- ==== Proof.FfnBlocks.lean ====
/- The tiled MLP's input blocks and grid points, read at coordinates over the argument arrays. -/
module

public import proofs.«01_k».proof.Proof.Gen.Kernel2Ideal.Value
public import Idealize.ShloMosaic.Lib.Pointwise
public import Idealize.ShloMosaic.Lib.Tactic
public import Idealize.ShloMosaic.Lib.Claim
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen

variable (m : (ℓ : Loc nD τ sig) → Buf (Elt Ideal) ℓ)

abbrev argX (c : Dev nD) : FVec Ideal S2x4096x2048 .f32 := m ((c : Thread nD τ).loc main_arg0)
abbrev argM (c : Dev nD) : FVec Ideal S2x12288 .f32 := m ((c : Thread nD τ).loc main_arg1)
abbrev argG (c : Dev nD) : FVec Ideal S1x2048 .f32 := m ((c : Thread nD τ).loc main_arg2)
abbrev argP (c : Dev nD) : FVec Ideal S1x2048 .f32 := m ((c : Thread nD τ).loc main_arg3)
abbrev argU (c : Dev nD) : FVec Ideal S1x2048x8192 .f32 := m ((c : Thread nD τ).loc main_arg4)
abbrev argD (c : Dev nD) : FVec Ideal S1x8192x2048 .f32 := m ((c : Thread nD τ).loc main_arg5)

theorem idx0 : ∀ t : Fin cfg0.N, win0_0.index t = ![t.val / 8, 0] := (by decide +kernel : ∀ t : Fin grid0.N, _)
theorem idx1 : ∀ t : Fin cfg0.N, win0_1.index t = ![t.val / 64, 0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, t.val % 8] := (by decide +kernel : ∀ t : Fin grid0.N, _)
theorem idx5 : ∀ t : Fin cfg0.N, win0_5.index t = ![t.val % 8, 0] := (by decide +kernel : ∀ t : Fin grid0.N, _)
theorem idx6 : ∀ t : Fin cfg0.N, win0_6.index t = ![t.val / 8, 0] := (by decide +kernel : ∀ t : Fin grid0.N, _)

theorem lt128 (t : Fin cfg0.N) : t.val < 128 := lt_of_lt_of_eq t.isLt N_0

theorem blkX (c : Dev nD) (t : Fin cfg0.N) (r : Fin 512) (l : Fin 2048) :
    (iblk m c 0 t : FVec Ideal S512x2048 .f32) (ix2 r l)
      = argX m c (ix3 ⟨t.val / 64, by have := lt128 t; omega⟩ ⟨512 * (t.val / 8 % 8) + r.val, by omega⟩ l) := by
  blk_simp [iblk, idx0]
  entry_read
  pointwise
  blk_ext [idx0 t]

theorem blkM (c : Dev nD) (t : Fin cfg0.N) (k : Fin 6) (l : Fin 2048) :
    (iblk m c 1 t : FVec Ideal S1x6x1x2048 .f32) (ix4 0 k 0 l)
      = argM m c (ix2 ⟨t.val / 64, by have := lt128 t; omega⟩ ⟨2048 * k.val + l.val, by omega⟩) := by
  blk_simp [iblk, idx1]
  entry_read
  pointwise
  blk_ext [idx1 t]

theorem blkG (c : Dev nD) (t : Fin cfg0.N) (l : Fin 2048) :
    (iblk m c 2 t : FVec Ideal S1x2048 .f32) (ix2 0 l) = argG m c (ix2 0 l) := by
  blk_ext [iblk, V, idx2 t]

theorem blkU (c : Dev nD) (t : Fin cfg0.N) (d : Fin 2048) (k : Fin 1024) :
    (iblk m c 4 t : FVec Ideal S2048x1024 .bf16) (ix2 d k)
      = argU m c (ix3 0 d ⟨1024 * (t.val % 8) + k.val, by omega⟩) := by
  blk_simp [iblk, idx4]
  entry_read
  pointwise
  blk_ext [idx4 t]

theorem blkP (c : Dev nD) (t : Fin cfg0.N) (l : Fin 2048) :
    (iblk m c 3 t : FVec Ideal S1x2048 .f32) (ix2 0 l) = argP m c (ix2 0 l) := by
  blk_ext [iblk, V, idx3 t]

theorem blkD (c : Dev nD) (t : Fin cfg0.N) (k : Fin 1024) (l : Fin 2048) :
    (iblk m c 5 t : FVec Ideal S1024x2048 .bf16) (ix2 k l)
      = argD m c (ix3 0 ⟨1024 * (t.val % 8) + k.val, by omega⟩ l) := by
  blk_simp [iblk, idx5]
  entry_read
  pointwise
  blk_ext [idx5 t]

end Cert.Kernel2Ideal.Hand

end
-- ==== Proof.FfnMath.lean ====
/- The MLP branch over plain coordinates: what one row of the residual stream becomes, and that the reference computes it. -/
module

public import proofs.«01_k».proof.Proof.Gen.Reference2Ideal.Run
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Mlp

abbrev Rows := FVec Ideal (⟨3, ![2, 4096, 2048]⟩ : Shape) .f32
abbrev Mods := FVec Ideal (⟨2, ![2, 12288]⟩ : Shape) .f32
abbrev Gain := FVec Ideal (⟨2, ![1, 2048]⟩ : Shape) .f32
abbrev Up := FVec Ideal (⟨3, ![1, 2048, 8192]⟩ : Shape) .f32
abbrev Down := FVec Ideal (⟨3, ![1, 8192, 2048]⟩ : Shape) .f32

/-- A row over its root mean square, times a gain. -/
def rms (x g : Fin 2048 → EReal) (l : Fin 2048) : EReal :=
  x l * Ideal.rsqrt (Ideal.div (∑ e, x e * x e) (Ideal.ofBits FTy.f32 1157627904#32) + Ideal.ofBits FTy.f32 897988541#32) * g l

/-- The normalised, modulated row. -/
def hid (X : Rows) (M : Mods) (g : Gain) (b : Fin 2) (s : Fin 4096) (l : Fin 2048) : EReal :=
  rms (fun e => X (ix3 b s e)) (fun e => g (ix2 0 e)) l * (1 + M (ix2 b ⟨8192 + l.val, by omega⟩)) + M (ix2 b ⟨6144 + l.val, by omega⟩)

/-- The squared rectified hidden unit. -/
def mid (X : Rows) (M : Mods) (g : Gain) (U : Up) (b : Fin 2) (s : Fin 4096) (k : Fin 8192) : EReal :=
  max (∑ d, hid X M g b s d * U (ix3 0 d k)) 0 * max (∑ d, hid X M g b s d * U (ix3 0 d k)) 0

def ff (X : Rows) (M : Mods) (g : Gain) (U : Up) (D : Down) (b : Fin 2) (s : Fin 4096) (l : Fin 2048) : EReal :=
  ∑ k : Fin 8192, mid X M g U b s k * D (ix3 0 k l)

/-- The row after the branch: the residual plus the gated, normalised MLP. -/
def out (X : Rows) (M : Mods) (g p : Gain) (U : Up) (D : Down) (b : Fin 2) (s : Fin 4096) (l : Fin 2048) : EReal :=
  X (ix3 b s l) + M (ix2 b ⟨10240 + l.val, by omega⟩) * rms (ff X M g U D b s) (fun e => p (ix2 0 e)) l

end Cert.Mlp

namespace Cert.Reference2Ideal.Hand

open Cert.Reference2Ideal Cert.Reference2Ideal.Gen

/-- The normalised, modulated rows, as the reference computes them. -/
def refH (X : FVec Ideal S2x4096x2048 .f32) (M : FVec Ideal S2x12288 .f32) (g : FVec Ideal S1x2048 .f32) : FVec Ideal S2x4096x2048 .f32 :=
  addf (mulf (mulf (mulf X (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf X X) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 (shapeCast _ g shapeCasts_S1x2048_S2048))))
    (broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 0, 8192] (broadcastInDim S2x1x12288 ![0, 2] bcast_S2x12288_S2x1x12288_0_2 M) slices_S2x1x12288_S2x1x2048_0_0_8192))))
    (broadcastInDim S2x4096x2048 ![0, 1, 2] bcast_S2x1x2048_S2x4096x2048_0_1_2 (extractStridedSlice S2x1x2048 ![0, 0, 6144] (broadcastInDim S2x1x12288 ![0, 2] bcast_S2x12288_S2x1x12288_0_2 M) slices_S2x1x12288_S2x1x2048_0_0_6144))

/-- The MLP of rows `H`, as the reference computes it. -/
def refF (H : FVec Ideal S2x4096x2048 .f32) (U : FVec Ideal S1x2048x8192 .f32) (D : FVec Ideal S1x8192x2048 .f32) : FVec Ideal S2x4096x2048 .f32 :=
  Host.dotGeneral dot_S2x4096x8192_S8192x2048_S2x4096x2048_2_0_01_1_n_n none
    (mulf (maximumf (Host.dotGeneral dot_S2x4096x2048_S2048x8192_S2x4096x8192_2_0_01_1_n_n none H (shapeCast _ U shapeCasts_S1x2048x8192_S2048x8192)) (broadcastInDim S2x4096x8192 ![] bcast_S_S2x4096x8192 (constant S_ .f32 0x00000000#32)))
      (maximumf (Host.dotGeneral dot_S2x4096x2048_S2048x8192_S2x4096x8192_2_0_01_1_n_n none H (shapeCast _ U shapeCasts_S1x2048x8192_S2048x8192)) (broadcastInDim S2x4096x8192 ![] bcast_S_S2x4096x8192 (constant S_ .f32 0x00000000#32))))
    (shapeCast _ D shapeCasts_S1x8192x2048_S8192x2048)

/-- The residual plus the gated, normalised rows `f`, as the reference computes it. -/
def refOut (X f : FVec Ideal S2x4096x2048 .f32) (M : FVec Ideal S2x12288 .f32) (p : FVec Ideal S1x2048 .f32) : FVec Ideal S8192x2048 .f32 :=
  shapeCast _ (addf X (mulf (broadcastInDim S2x4096x2048 ![0, 1, 2] bcast_S2x1x2048_S2x4096x2048_0_1_2 (extractStridedSlice S2x1x2048 ![0, 0, 10240] (broadcastInDim S2x1x12288 ![0, 2] bcast_S2x12288_S2x1x12288_0_2 M) slices_S2x1x12288_S2x1x2048_0_0_10240))
    (mulf (mulf f (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf f f) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
      (broadcastInDim S2x4096x2048 ![0, 1, 2] bcast_S1x1x2048_S2x4096x2048_0_1_2 (broadcastInDim S1x1x2048 ![2] bcast_S2048_S1x1x2048_2 (shapeCast _ p shapeCasts_S1x2048_S2048)))))) shapeCasts_S2x4096x2048_S8192x2048

variable (X : FVec Ideal S2x4096x2048 .f32) (M : FVec Ideal S2x12288 .f32) (g p : FVec Ideal S1x2048 .f32) (U : FVec Ideal S1x2048x8192 .f32) (D : FVec Ideal S1x8192x2048 .f32)

theorem refH_at (b : Fin 2) (s : Fin 4096) (l : Fin 2048) : refH X M g (ix3 b s l) = Mlp.hid X M g b s l := by
  pointwise [refH, Mlp.hid, Mlp.rms]

theorem refF_at (b : Fin 2) (s : Fin 4096) (l : Fin 2048) : refF (refH X M g) U D (ix3 b s l) = Mlp.ff X M g U D b s l := by
  pointwise [refF, Mlp.ff, Mlp.mid, refH_at]

theorem refOut_at (R : Fin 8192) (l : Fin 2048) :
    refOut X (refF (refH X M g) U D) M p (ix2 R l) = Mlp.out X M g p U D ⟨R.val / 4096, by omega⟩ ⟨R.val % 4096, by omega⟩ l := by
  pointwise [refOut, Mlp.out, Mlp.rms, refF_at]

theorem res_eq (m : (ℓ : Loc nD τ sig) → Buf (Elt Ideal) ℓ) (c : Dev nD) :
    Value.res_main_v50 m c = refOut (m ((c.tc : Thread nD τ).loc main_arg0)) (refF (refH (m ((c.tc : Thread nD τ).loc main_arg0)) (m ((c.tc : Thread nD τ).loc main_arg1)) (m ((c.tc : Thread nD τ).loc main_arg2)))
      (m ((c.tc : Thread nD τ).loc main_arg4)) (m ((c.tc : Thread nD τ).loc main_arg5))) (m ((c.tc : Thread nD τ).loc main_arg1)) (m ((c.tc : Thread nD τ).loc main_arg3)) := rfl

end Cert.Reference2Ideal.Hand

end
-- ==== Proof.FfnCases.lean ====
/- What the tiled MLP leaves at each grid point: the normalised rows, the running sum over tiles, the output block. -/
module

public import proofs.«01_k».proof.Proof.FfnBlocks
public import proofs.«01_k».proof.Proof.FfnMath
public import Idealize.ShloMosaic.Lib.Pipeline.ReadBack

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen Cert.Mlp

theorem pay1_at (x : FVec Ideal S512x2048 .f32) (g : FVec Ideal S1x2048 .f32) (a b : FVec Ideal S1x1x1x2048 .f32)
    (r : Fin 512) (l : Fin 2048) : k0_pay1 (F := Ideal) x g a b (ix2 r l)
      = rms (fun e => x (ix2 r e)) (fun e => g (ix2 0 e)) l * (1 + a (ix4 0 0 0 l)) + b (ix4 0 0 0 l) := by
  pointwise [k0_pay1, rms]

theorem pay2_at (r : Fin 512) (l : Fin 2048) : k0_pay2 (F := Ideal) (ix2 r l) = 0 := by
  pointwise [k0_pay2]

theorem pay3_at (h : FVec Ideal S512x2048 .bf16) (u : FVec Ideal S2048x1024 .bf16) (acc : FVec Ideal S512x2048 .f32) (d : FVec Ideal S1024x2048 .bf16)
    (r : Fin 512) (l : Fin 2048) : k0_pay3 (F := Ideal) h u acc d (ix2 r l)
      = acc (ix2 r l) + ∑ x : Fin 1024, max (∑ e : Fin 2048, h (ix2 r e) * u (ix2 e x)) 0 * max (∑ e : Fin 2048, h (ix2 r e) * u (ix2 e x)) 0 * d (ix2 x l) := by
  pointwise [k0_pay3]

theorem pay4_at (x : FVec Ideal S512x2048 .f32) (a : FVec Ideal S1x1x1x2048 .f32) (acc : FVec Ideal S512x2048 .f32) (g : FVec Ideal S1x2048 .f32)
    (r : Fin 512) (l : Fin 2048) : k0_pay4 (F := Ideal) x a acc g (ix2 r l)
      = x (ix2 r l) + a (ix4 0 0 0 l) * rms (fun e => acc (ix2 r e)) (fun e => g (ix2 0 e)) l := by
  pointwise [k0_pay4, rms]

variable (m : (ℓ : Loc nD τ sig) → Buf (Elt Ideal) ℓ)

/-- The batch and the sequence position of row `r` of the block of point `n`. -/
abbrev bOf (n : ℕ) : Fin 2 := ⟨n / 64 % 2, by omega⟩
abbrev sOf (n : ℕ) (r : Fin 512) : Fin 4096 := ⟨512 * (n / 8 % 8) + r.val, by omega⟩

abbrev rowsAt (c : Dev nD) (n : ℕ) (hn : n < cfg0.N) : FVec Ideal S512x2048 .bf16 := (outsAt0 m c n hn).2.1
abbrev accsAt (c : Dev nD) (n : ℕ) (hn : n < cfg0.N) : FVec Ideal S512x2048 .f32 := (outsAt0 m c n hn).2.2

/-- The loads of one of the six modulation rows. -/
theorem ldM (c : Dev nD) (t : Fin cfg0.N) (l : Fin 2048) :
    (View.ld (iblk m c 1 t) (Rect.unit ![0, 3, 0, 0] ![1, 1, 1, 2048] inb_S1x6x1x2048_S1x1x1x2048_0_3_0_0) : FVec Ideal S1x1x1x2048 .f32) (ix4 0 0 0 l)
      = argM m c (ix2 (bOf t.val) ⟨6144 + l.val, by omega⟩)
    ∧ (View.ld (iblk m c 1 t) (Rect.unit ![0, 4, 0, 0] ![1, 1, 1, 2048] inb_S1x6x1x2048_S1x1x1x2048_0_4_0_0) : FVec Ideal S1x1x1x2048 .f32) (ix4 0 0 0 l)
      = argM m c (ix2 (bOf t.val) ⟨8192 + l.val, by omega⟩)
    ∧ (View.ld (iblk m c 1 t) (Rect.unit ![0, 5, 0, 0] ![1, 1, 1, 2048] inb_S1x6x1x2048_S1x1x1x2048_0_5_0_0) : FVec Ideal S1x1x1x2048 .f32) (ix4 0 0 0 l)
      = argM m c (ix2 (bOf t.val) ⟨10240 + l.val, by omega⟩) := by
  have := lt128 t
  have hb : bOf t.val = ⟨t.val / 64, by omega⟩ := Fin.ext (by simp; omega)
  rw [hb]
  refine ⟨?_, ?_, ?_⟩
  · refine Eq.trans ?_ (blkM m c t 3 l)
    pointwise
  · refine Eq.trans ?_ (blkM m c t 4 l)
    pointwise
  · refine Eq.trans ?_ (blkM m c t 5 l)
    pointwise

/-- The rows of the residual stream at a point. -/
theorem blkX' (c : Dev nD) (t : Fin cfg0.N) (r : Fin 512) (l : Fin 2048) :
    (iblk m c 0 t : FVec Ideal S512x2048 .f32) (ix2 r l) = argX m c (ix3 (bOf t.val) (sOf t.val r) l) := by
  have := lt128 t
  have hb : bOf t.val = ⟨t.val / 64, by omega⟩ := Fin.ext (by simp; omega)
  rw [hb]
  exact blkX m c t r l

theorem rows_A (c : Dev nD) (t : Fin cfg0.N) (h0 : t.val % 8 = 0) (r : Fin 512) (l : Fin 2048) :
    rowsAt m c t.val t.isLt (ix2 r l) = hid (argX m c) (argM m c) (argG m c) (bOf t.val) (sOf t.val r) l := by
  unfold rowsAt
  rw [outsAt0_A m c t h0 (by omega)]; dsimp only
  frame_out
  refine (pay1_at _ _ _ _ r l).trans ?_
  rw [(ldM m c t l).1, (ldM m c t l).2.1, hid]
  simp only [blkX', blkG]

theorem rows_S (c : Dev nD) (t : Fin cfg0.N) (h0 : t.val % 8 ≠ 0) (r : Fin 512) (l : Fin 2048) :
    rowsAt m c t.val t.isLt (ix2 r l) = rowsAt m c (t.val - 1) (by omega) (ix2 r l) := by
  by_cases h1 : t.val % 8 = 7
  · unfold rowsAt
    rw [outsAt0_C m c t h0 h1]; simp only [sout0_C_0]
  · unfold rowsAt
    rw [outsAt0_B m c t h0 h1]; simp only [sout0_B_0]

theorem acc_A (c : Dev nD) (t : Fin cfg0.N) (h0 : t.val % 8 = 0) :
    accsAt m c t.val t.isLt = k0_pay3 (rowsAt m c t.val t.isLt) (iblk m c 4 t) (k0_pay2 (F := Ideal)) (iblk m c 5 t) := by
  unfold accsAt rowsAt
  rw [outsAt0_A m c t h0 (by omega)]; dsimp only
  frame_out

theorem acc_S (c : Dev nD) (t : Fin cfg0.N) (h0 : t.val % 8 ≠ 0) :
    accsAt m c t.val t.isLt = k0_pay3 (rowsAt m c (t.val - 1) (by omega)) (iblk m c 4 t) (accsAt m c (t.val - 1) (by omega)) (iblk m c 5 t) := by
  by_cases h1 : t.val % 8 = 7
  · unfold accsAt rowsAt
    rw [outsAt0_C m c t h0 h1]; dsimp only
    frame_out
    rw [read_unread_whole, read_unread_whole]
  · unfold accsAt rowsAt
    rw [outsAt0_B m c t h0 h1]; dsimp only
    frame_out
    rw [read_unread_whole, read_unread_whole]

theorem out_C (c : Dev nD) (t : Fin cfg0.N) (h1 : t.val % 8 = 7) (r : Fin 512) (l : Fin 2048) :
    ((outsAt0 m c t.val t.isLt).1 : FVec Ideal S512x2048 .f32) (ix2 r l)
      = argX m c (ix3 (bOf t.val) (sOf t.val r) l) + argM m c (ix2 (bOf t.val) ⟨10240 + l.val, by omega⟩)
        * rms (fun e => accsAt m c t.val t.isLt (ix2 r e)) (fun e => argP m c (ix2 0 e)) l := by
  unfold accsAt
  rw [outsAt0_C m c t (by omega) h1]; dsimp only
  frame_out
  refine (pay4_at _ _ _ _ r l).trans ?_
  rw [(ldM m c t l).2.2, blkX']
  simp only [blkP]

end Cert.Kernel2Ideal.Hand

end
-- ==== Proof.FfnValue.lean ====
/- The tiled MLP's result array is the reference's. -/
module

public import proofs.«01_k».proof.Proof.FfnCases

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen Cert.Mlp

variable (m : (ℓ : Loc nD τ sig) → Buf (Elt Ideal) ℓ)

/-- The rows kept from tile to tile are the normalised rows of the block's own eight points. -/
theorem rows_at (c : Dev nD) (r : Fin 512) (l : Fin 2048) : ∀ (n : ℕ) (hn : n < cfg0.N),
    rowsAt m c n hn (ix2 r l) = hid (argX m c) (argM m c) (argG m c) (bOf n) (sOf n r) l := by
  intro n
  induction n with
  | zero => intro hn; exact rows_A m c ⟨0, hn⟩ rfl r l
  | succ n ih =>
    intro hn
    by_cases h0 : (n + 1) % 8 = 0
    · exact rows_A m c ⟨n + 1, hn⟩ h0 r l
    · have hb : bOf (n + 1) = bOf n := Fin.ext (by simp; omega)
      have hs : sOf (n + 1) r = sOf n r := Fin.ext (by simp; omega)
      rw [hb, hs]
      exact (rows_S m c ⟨n + 1, hn⟩ h0 r l).trans (ih (by omega))

/-- The tile of hidden units that point `n` adds. -/
def tile (c : Dev nD) (n : ℕ) (r : Fin 512) (l : Fin 2048) : EReal :=
  ∑ x : Fin 1024, mid (argX m c) (argM m c) (argG m c) (argU m c) (bOf n) (sOf n r) ⟨1024 * (n % 8) + x.val, by omega⟩
    * argD m c (ix3 0 ⟨1024 * (n % 8) + x.val, by omega⟩ l)

/-- One accumulation adds the point's tile. -/
theorem step_at (c : Dev nD) (t : Fin cfg0.N) (h acc : FVec Ideal S512x2048 .f32) (r : Fin 512) (l : Fin 2048)
    (hh : ∀ e, h (ix2 r e) = hid (argX m c) (argM m c) (argG m c) (bOf t.val) (sOf t.val r) e) :
    k0_pay3 (F := Ideal) h (iblk m c 4 t) acc (iblk m c 5 t) (ix2 r l) = acc (ix2 r l) + tile m c t.val r l := by
  refine (pay3_at _ _ _ _ r l).trans ?_
  simp only [tile, mid, hh, blkU, blkD]

theorem accs_at (c : Dev nD) (t : Fin cfg0.N) (r : Fin 512) (l : Fin 2048) :
    accsAt m c t.val t.isLt (ix2 r l) = 0 + ∑ k ∈ Finset.range (t.val % 8 + 1), tile m c (8 * (t.val / 8) + k) r l := by
  refine Pipeline.eq_sum_of_reset_step_apply (fun n h (_ : Unit) => accsAt m c n h (ix2 r l)) 8 (fun _ => (0 : EReal)) (fun n _ => tile m c n r l)
    (fun t h0 _ => ?_) (fun t h0 _ => ?_) t ()
  · refine (congrFun (acc_A m c t h0) (ix2 r l)).trans ((step_at m c t _ _ r l fun e => rows_at m c r e t.val t.isLt).trans ?_)
    rw [pay2_at]
  · have hb : bOf (t.val - 1) = bOf t.val := Fin.ext (by simp; omega)
    have hs : sOf (t.val - 1) r = sOf t.val r := Fin.ext (by simp; omega)
    exact (congrFun (acc_S m c t h0) (ix2 r l)).trans (step_at m c t _ _ r l fun e => by
      rw [← hb, ← hs]; exact rows_at m c r e (t.val - 1) _)

/-- After the block's last tile the accumulator is the whole MLP of the row. -/
theorem accs_last (c : Dev nD) (t : Fin cfg0.N) (h1 : t.val % 8 = 7) (r : Fin 512) (l : Fin 2048) :
    accsAt m c t.val t.isLt (ix2 r l)
      = ff (argX m c) (argM m c) (argG m c) (argU m c) (argD m c) (bOf t.val) (sOf t.val r) l := by
  rw [accs_at, h1, zero_add, Finset.sum_range, ff]
  refine Fin.sum_mul_add_congr fun s k hl => ?_
  have hb : bOf (8 * (t.val / 8) + s.val) = bOf t.val := Fin.ext (by simp; omega)
  have hs : sOf (8 * (t.val / 8) + s.val) r = sOf t.val r := Fin.ext (by simp; omega)
  have hk : (⟨1024 * ((8 * (t.val / 8) + s.val) % 8) + k.val, by omega⟩ : Fin 8192) = ⟨s.val * 1024 + k.val, hl⟩ := Fin.ext (by simp; omega)
  rw [hb, hs, hk]

/-- The result array, by coordinates. -/
def res (c : Dev nD) : FVec Ideal S8192x2048 .f32 :=
  Cert.Reference2Ideal.Hand.refOut (argX m c) (Cert.Reference2Ideal.Hand.refF (Cert.Reference2Ideal.Hand.refH (argX m c) (argM m c) (argG m c)) (argU m c) (argD m c)) (argM m c) (argP m c)

theorem final (c : Dev nD) : Value.G6 m c = res m c := by
  refine (Value.final6 m c).symm.trans ((dats m 0 c).arrAt_eq_of_covers 6 _ (by decide +kernel) fun t hf y => ?_)
  have h1 := (flush0_6 t).mp hf
  blk_simp
  rw [after0_6]
  idx_vars y
  have ht := lt128 t
  have hi : ((win0_6.blk t).view.emb (ix2 y0 y1) : S8192x2048.Idx) = ix2 ⟨512 * (t.val / 8) + y0.val, by omega⟩ y1 := by
    blk_ext [idx6 t]
  refine (out_C m c t h1 y0 y1).trans (Eq.trans ?_ (congrArg (res m c) hi).symm)
  refine Eq.trans ?_ (Cert.Reference2Ideal.Hand.refOut_at _ _ _ _ _ _ _ y1).symm
  have hb : (⟨(512 * (t.val / 8) + y0.val) / 4096, by omega⟩ : Fin 2) = bOf t.val := Fin.ext (by simp; omega)
  have hs : (⟨(512 * (t.val / 8) + y0.val) % 4096, by omega⟩ : Fin 4096) = sOf t.val y0 := Fin.ext (by simp; omega)
  simp only [accs_last m c t h1, out, hb, hs]

end Cert.Kernel2Ideal.Hand

end
-- ==== Proof.FfnClaim.lean ====
/- The tiled MLP and its reference end with equal results. -/
module

public import proofs.«01_k».proof.Defs
public import proofs.«01_k».proof.Proof.FfnValue

@[expose] public section

set_option maxRecDepth 16384

noncomputable section

open Idealize.ShloMosaic Idealize.ShloMosaic.TcCoe Idealize.SL.Sem

namespace Cert.Proof

theorem mlp_equal : Cert.algebraic_Kernel2Ideal_Reference2Ideal (hKernel2Ideal := Cert.Kernel2Ideal.Gen.facts) (hReference2Ideal := Cert.Reference2Ideal.Gen.facts) := by
  pair_intro
  · run_from Cert.Kernel2Ideal.Value.run m g
  · run_from Cert.Reference2Ideal.Value.run m' g'
    refine (Cert.Reference2Ideal.Hand.res_eq m' c).trans (Eq.trans ?_ (Cert.Kernel2Ideal.Hand.final m c).symm)
    obtain ⟨h0, h1, h2, h3, h4, h5⟩ := hagree c
    rw [h0, h1, h2, h3, h4, h5]
    rfl

end Cert.Proof

end
-- ==== Proof.WkvReal.lean ====
/- The recurrence of one pair of heads over the reals, and its chunked closed form. -/
module

public import Mathlib.Data.Matrix.Mul
public import Mathlib.Data.Matrix.Basic
public import Mathlib.Analysis.SpecialFunctions.Exp
public import Mathlib.Algebra.BigOperators.Fin
public import Mathlib.Tactic.Ring
public import Mathlib.Tactic.NoncommRing

@[expose] public section

noncomputable section

namespace Cert.Wkv

open Finset Real

/-- The square matrices of a pair's 128 lanes. -/
abbrev Sq := Matrix (Fin 128) (Fin 128) ℝ

/-- Two lanes (or stacked rows) belong to the same head. -/
abbrev Same (i j : Fin 128) : Prop := i.val / 64 = j.val / 64

variable (w r k v a b : ℕ → Fin 128 → ℝ) (S : Sq)

/-- The state of a pair after some steps: decay, then the delta-rule write inside each head's block. -/
def state : ℕ → Sq
  | 0 => S
  | t + 1 => fun d l => state t d l * exp (w t l) + if Same d l then (∑ e, state t d e * a t e) * b t l + v t d * k t l else 0

/-- What the state holds at the removal key of a step. -/
def held (t : ℕ) (d : Fin 128) : ℝ := ∑ e, state w k v a b S t d e * a t e

/-- What a step reads out of the state it leaves. -/
def readout (t : ℕ) (d : Fin 128) : ℝ := ∑ e, state w k v a b S (t + 1) d e * r t e

/-- The summed log-decays of the first steps. -/
def cum (t : ℕ) (l : Fin 128) : ℝ := ∑ s ∈ range t, w s l

/-- Rows scaled by the decay gathered up to step `t + e`. -/
def grown (e : ℕ) (x : ℕ → Fin 128 → ℝ) (t : ℕ) (l : Fin 128) : ℝ := x t l * exp (cum w (t + e) l)

/-- Rows with the decay gathered so far divided out. -/
def shrunk (x : ℕ → Fin 128 → ℝ) (t : ℕ) (l : Fin 128) : ℝ := x t l * exp (0 - cum w (t + 1) l)

/-- Rows scaled by the decay from their step to the chunk's end. -/
def toEnd (x : ℕ → Fin 128 → ℝ) (t : ℕ) (l : Fin 128) : ℝ := x t l * exp (cum w 64 l - cum w (t + 1) l)

/-- Two copies of 64 rows, each keeping its own head's lanes. -/
def stk (x : ℕ → Fin 128 → ℝ) : Sq := fun i l => if Same i l then x (i.val % 64) l else 0

/-- Masked products of stacked rows with repeated ones. -/
def attn (e : ℕ) (x z : ℕ → Fin 128 → ℝ) : Sq :=
  fun i j => if Same i j ∧ j.val < i.val + e then ∑ l, stk x i l * z (j.val % 64) l else 0

theorem state_shift (n : ℕ) : ∀ t, state (fun t => w (n + t)) (fun t => k (n + t)) (fun t => v (n + t)) (fun t => a (n + t)) (fun t => b (n + t)) (state w k v a b S n) t = state w k v a b S (n + t)
  | 0 => rfl
  | t + 1 => by
    show _ = state w k v a b S ((n + t) + 1)
    funext d l
    simp only [state, state_shift n t]

theorem state_off (h : ∀ d l, ¬ Same d l → S d l = 0) : ∀ t d l, ¬ Same d l → state w k v a b S t d l = 0
  | 0, d, l, hn => h d l hn
  | t + 1, d, l, hn => by simp only [state, state_off h t d l hn, if_neg hn]; simp

theorem state_closed (t : ℕ) (d l : Fin 128) :
    state w k v a b S t d l = exp (cum w t l) * (S d l + if Same d l then ∑ s ∈ range t, (held w k v a b S s d * shrunk w b s l + v s d * shrunk w k s l) else 0) := by
  induction t with
  | zero => simp [state, cum]
  | succ t ih =>
    have hc : exp (cum w (t + 1) l) = exp (cum w t l) * exp (w t l) := by
      rw [← exp_add]; simp only [cum, sum_range_succ]
    have hi : exp (cum w (t + 1) l) * exp (0 - cum w (t + 1) l) = 1 := by rw [← exp_add]; simp
    show state w k v a b S t d l * exp (w t l) + _ = _
    rw [ih]
    by_cases hs : Same d l
    · simp only [if_pos hs, sum_range_succ, mul_add]
      show _ + (held w k v a b S t d * b t l + v t d * k t l) = _
      have e1 : exp (cum w (t + 1) l) * (held w k v a b S t d * shrunk w b t l) = held w k v a b S t d * b t l := by
        unfold shrunk
        linear_combination (held w k v a b S t d * b t l) * hi
      have e2 : exp (cum w (t + 1) l) * (v t d * shrunk w k t l) = v t d * k t l := by
        unfold shrunk
        linear_combination (v t d * k t l) * hi
      rw [e1, e2, hc]; ring
    · simp only [if_neg hs, add_zero]
      rw [hc]; ring

/-- A sum over the stacked rows of one head is a sum over the steps. -/
theorem sum_stk (d : Fin 128) (f : ℕ → ℝ) : (∑ i : Fin 128, if Same i d then f (i.val % 64) else 0) = ∑ s ∈ range 64, f s := by
  have h : (∑ i : Fin 128, if Same i d then f (i.val % 64) else 0) = ∑ i ∈ range (64 + 64), if i / 64 = d.val / 64 then f (i % 64) else 0 :=
    Fin.sum_univ_eq_sum_range (fun i => if i / 64 = d.val / 64 then f (i % 64) else 0) 128
  rw [h, sum_range_add]
  have h1 : ∀ s ∈ range 64, (if s / 64 = d.val / 64 then f (s % 64) else 0) = if d.val / 64 = 0 then f s else 0 := fun s hs => by
    have := mem_range.mp hs
    rw [Nat.div_eq_of_lt this, Nat.mod_eq_of_lt this]; simp only [eq_comm]
  have h2 : ∀ s ∈ range 64, (if (64 + s) / 64 = d.val / 64 then f ((64 + s) % 64) else 0) = if d.val / 64 = 0 then 0 else f s := fun s hs => by
    have := mem_range.mp hs
    have e1 : (64 + s) / 64 = 1 := by omega
    have e2 : (64 + s) % 64 = s := by omega
    rw [e1, e2]
    have hd : d.val / 64 = 0 ∨ d.val / 64 = 1 := by omega
    rcases hd with hd | hd <;> simp [hd]
  rw [sum_congr rfl h1, sum_congr rfl h2]
  by_cases hd : d.val / 64 = 0 <;> simp [hd]

theorem attn_mul (e : ℕ) (he : e ≤ 1) (x z y : ℕ → Fin 128 → ℝ) (i d : Fin 128) :
    (attn e x z * stk y) i d = if Same i d then ∑ s ∈ range (i.val % 64 + e), (∑ l, (if Same d l then x (i.val % 64) l else 0) * z s l) * y s d else 0 := by
  rw [Matrix.mul_apply]
  by_cases hs : Same i d
  · rw [if_pos hs]
    have h : ∀ j : Fin 128, attn e x z i j * stk y j d = if Same j d then (if j.val % 64 < i.val % 64 + e then (∑ l, (if Same d l then x (i.val % 64) l else 0) * z (j.val % 64) l) * y (j.val % 64) d else 0) else 0 := fun j => by
      unfold attn stk
      by_cases hj : Same j d
      · have hij : Same i j := hs.trans hj.symm
        have hlt : j.val < i.val + e ↔ j.val % 64 < i.val % 64 + e := by unfold Same at hij; omega
        have hl : ∀ l : Fin 128, Same i l ↔ Same d l := fun l => ⟨fun h => hs.symm.trans h, fun h => hs.trans h⟩
        have hdj : Same d j := hj.symm
        simp only [if_pos hj, hl, hlt]
        by_cases hq : j.val % 64 < i.val % 64 + e
        · rw [if_pos ⟨hdj, hq⟩, if_pos hq]
        · rw [if_neg (fun h => hq h.2), if_neg hq, zero_mul]
      · simp only [if_neg hj, mul_zero]
    rw [sum_congr rfl fun j _ => h j, sum_stk d (fun s => if s < i.val % 64 + e then (∑ l, (if Same d l then x (i.val % 64) l else 0) * z s l) * y s d else 0)]
    have hsub : range (i.val % 64 + e) ⊆ range 64 := range_subset_range.mpr (by omega)
    rw [← sum_subset hsub fun s _ hs => if_neg (by simpa using hs)]
    exact sum_congr rfl fun s hs => if_pos (mem_range.mp hs)
  · rw [if_neg hs]
    refine sum_eq_zero fun j _ => ?_
    unfold attn stk
    by_cases hj : Same j d
    · rw [if_neg (fun h => hs (h.1.trans hj)), zero_mul]
    · rw [if_neg hj, mul_zero]

/-- Rows against the closed form of the state, split into the old state and the writes since. -/
theorem row_split (h : ∀ d l, ¬ Same d l → S d l = 0) (e : ℕ) (he : e ≤ 1) (x : ℕ → Fin 128 → ℝ) :
    (stk fun t d => ∑ l, state w k v a b S (t + e) d l * x t l)
      = stk (grown w e x) * S.transpose + attn e (grown w e x) (shrunk w b) * stk (held w k v a b S) + attn e (grown w e x) (shrunk w k) * stk v := by
  ext i d
  rw [Matrix.add_apply, Matrix.add_apply, attn_mul e he, attn_mul e he, Matrix.mul_apply]
  by_cases hs : Same i d
  · have hl : ∀ l : Fin 128, Same i l ↔ Same d l := fun l => ⟨fun h => hs.symm.trans h, fun h => hs.trans h⟩
    rw [if_pos hs, if_pos hs]
    unfold stk
    simp only [if_pos hs, hl, Matrix.transpose_apply]
    rw [add_assoc, ← sum_add_distrib]
    have h1 : ∀ s, ((∑ l, (if Same d l then grown w e x (i.val % 64) l else 0) * shrunk w b s l) * held w k v a b S s d
        + (∑ l, (if Same d l then grown w e x (i.val % 64) l else 0) * shrunk w k s l) * v s d)
        = ∑ l, (if Same d l then grown w e x (i.val % 64) l else 0) * (held w k v a b S s d * shrunk w b s l + v s d * shrunk w k s l) := fun s => by
      rw [sum_mul, sum_mul, ← sum_add_distrib]
      exact sum_congr rfl fun l _ => by ring
    simp only [h1]
    rw [sum_comm, ← sum_add_distrib]
    refine sum_congr rfl fun l _ => ?_
    rw [state_closed, ← mul_sum]
    by_cases hd : Same d l
    · simp only [if_pos hd]; unfold grown; ring
    · simp only [if_neg hd, h d l hd]; ring
  · unfold stk
    rw [if_neg hs, if_neg hs, if_neg hs, add_zero, add_zero]
    refine (sum_eq_zero fun l _ => ?_).symm
    by_cases hl : Same i l
    · rw [Matrix.transpose_apply, h d l (fun hd => hs (hl.trans hd.symm)), mul_zero]
    · rw [if_neg hl, zero_mul]

/-- One doubling of the truncated geometric series: the power squared, the partial sum extended by it. -/
def doubled (q : Sq × Sq) : Sq × Sq := (q.1 * q.1, q.2 + q.2 * (q.1 * q.1))

theorem doubled_spec (L : Sq) (n : ℕ) : (doubled^[n] (L, 1 + L)).1 = L ^ 2 ^ n ∧ (doubled^[n] (L, 1 + L)).2 * (1 - L) = 1 - L ^ 2 ^ (n + 1) := by
  induction n with
  | zero => refine ⟨by simp, ?_⟩; show (1 + L) * (1 - L) = _; rw [zero_add, pow_one, pow_two]; noncomm_ring
  | succ n ih =>
    rw [Function.iterate_succ_apply']
    have hp : L ^ 2 ^ n * L ^ 2 ^ n = L ^ 2 ^ (n + 1) := by rw [← pow_add]; congr 1; rw [pow_succ]; omega
    refine ⟨by simp only [doubled, ih.1, hp], ?_⟩
    simp only [doubled, ih.1, hp]
    have hc : L ^ 2 ^ (n + 1) * (1 - L) = (1 - L) * L ^ 2 ^ (n + 1) := by
      rw [mul_sub, sub_mul, mul_one, one_mul, ← pow_succ, ← pow_succ']
    have hq : L ^ 2 ^ (n + 1) * L ^ 2 ^ (n + 1) = L ^ 2 ^ (n + 1 + 1) := by rw [← pow_add]; congr 1; rw [pow_succ _ (n + 1)]; omega
    rw [add_mul, mul_assoc, hc, ← mul_assoc, ih.2, sub_mul, one_mul, hq]
    abel

theorem attn_pow (x z : ℕ → Fin 128 → ℝ) : ∀ (n : ℕ) (i j : Fin 128), (attn 0 x z ^ n) i j ≠ 0 → Same i j ∧ j.val + n ≤ i.val
  | 0, i, j, h => by
    by_cases hij : i = j
    · subst hij; exact ⟨rfl, le_refl _⟩
    · exact absurd (by rw [pow_zero]; exact Matrix.one_apply_ne hij) h
  | n + 1, i, j, h => by
    rw [pow_succ, Matrix.mul_apply] at h
    obtain ⟨e, -, he⟩ := exists_ne_zero_of_sum_ne_zero h
    have h1 := attn_pow x z n i e (left_ne_zero_of_mul he)
    have h2 : Same e j ∧ j.val < e.val + 0 := by
      by_contra hn
      exact right_ne_zero_of_mul he (if_neg hn)
    exact ⟨h1.1.trans h2.1, by omega⟩

/-- The strictly lower blocks have no 64th power, so the doubled series inverts. -/
theorem inverse (x z : ℕ → Fin 128 → ℝ) : (doubled^[5] (attn 0 x z, 1 + attn 0 x z)).2 * (1 - attn 0 x z) = 1 := by
  rw [(doubled_spec _ 5).2]
  have : attn 0 x z ^ 2 ^ (5 + 1) = 0 := by
    ext i j
    by_contra h
    have := attn_pow x z _ i j h
    unfold Same at this; omega
  rw [this, sub_zero]

/-- The stacked held values, as the kernel solves for them. -/
def solved : Sq :=
  (doubled^[5] (attn 0 (grown w 0 a) (shrunk w b), 1 + attn 0 (grown w 0 a) (shrunk w b))).2 * stk (grown w 0 a) * S.transpose
    + (doubled^[5] (attn 0 (grown w 0 a) (shrunk w b), 1 + attn 0 (grown w 0 a) (shrunk w b))).2 * (attn 0 (grown w 0 a) (shrunk w k) * stk v)

theorem solved_eq (h : ∀ d l, ¬ Same d l → S d l = 0) : solved w k v a b S = stk (held w k v a b S) := by
  unfold solved
  have e := row_split w k v a b S h 0 (by omega) a
  have e' : stk (grown w 0 a) * S.transpose + attn 0 (grown w 0 a) (shrunk w k) * stk v = (1 - attn 0 (grown w 0 a) (shrunk w b)) * stk (held w k v a b S) := by
    rw [sub_mul, one_mul]
    exact eq_sub_of_add_eq ((add_right_comm _ _ _).trans e.symm)
  rw [mul_assoc, ← mul_add, e', ← mul_assoc, inverse, one_mul]

/-- The stacked readouts, as the kernel forms them. -/
def rows : Sq :=
  stk (grown w 1 r) * S.transpose + attn 1 (grown w 1 r) (shrunk w b) * solved w k v a b S + attn 1 (grown w 1 r) (shrunk w k) * stk v

theorem rows_eq (h : ∀ d l, ¬ Same d l → S d l = 0) : rows w r k v a b S = stk (readout w r k v a b S) := by
  unfold rows
  rw [solved_eq w k v a b S h, ← row_split w k v a b S h 1 (le_refl _) r]
  rfl

/-- Adding the two copies of the stacked readouts gives the readouts. -/
theorem rows_fold (h : ∀ d l, ¬ Same d l → S d l = 0) (t : Fin 64) (d : Fin 128) :
    rows w r k v a b S ⟨t.val, by omega⟩ d + rows w r k v a b S ⟨64 + t.val, by omega⟩ d = readout w r k v a b S t.val d := by
  rw [rows_eq w r k v a b S h]
  unfold stk Same
  have e1 : t.val / 64 = 0 := by omega
  have e2 : (64 + t.val) / 64 = 1 := by omega
  have e3 : t.val % 64 = t.val := by omega
  have e4 : (64 + t.val) % 64 = t.val := by omega
  have hd : d.val / 64 = 0 ∨ d.val / 64 = 1 := by omega
  dsimp only
  rw [e1, e2, e3, e4]
  rcases hd with hd | hd <;> simp [hd]

theorem stk_tr (x y : ℕ → Fin 128 → ℝ) (d l : Fin 128) : (∑ j, stk x j d * stk y j l) = if Same d l then ∑ s ∈ range 64, x s d * y s l else 0 := by
  by_cases hs : Same d l
  · rw [if_pos hs, ← sum_stk d fun s => x s d * y s l]
    refine sum_congr rfl fun j _ => ?_
    unfold stk
    by_cases hj : Same j d
    · rw [if_pos hj, if_pos hj, if_pos (hj.trans hs)]
    · rw [if_neg hj, if_neg hj, zero_mul]
  · rw [if_neg hs]
    refine sum_eq_zero fun j _ => ?_
    unfold stk
    by_cases hj : Same j d
    · rw [if_neg (fun h : Same j l => hs (hj.symm.trans h)), mul_zero]
    · rw [if_neg hj, zero_mul]

/-- The chunk's last state, as the kernel forms it. -/
theorem state_end (h : ∀ d l, ¬ Same d l → S d l = 0) (d l : Fin 128) :
    S d l * exp (cum w 64 l) + ((∑ j, solved w k v a b S j d * stk (toEnd w b) j l) + ∑ j, stk v j d * stk (toEnd w k) j l) = state w k v a b S 64 d l := by
  rw [solved_eq w k v a b S h, stk_tr, stk_tr, state_closed]
  have e : ∀ (x : ℕ → Fin 128 → ℝ) s, toEnd w x s l = exp (cum w 64 l) * shrunk w x s l := fun x s => by
    unfold toEnd shrunk
    have : exp (cum w 64 l - cum w (s + 1) l) = exp (cum w 64 l) * exp (0 - cum w (s + 1) l) := by rw [← exp_add]; congr 1; ring
    rw [this]; ring
  by_cases hs : Same d l
  · simp only [if_pos hs, e]
    rw [← sum_add_distrib, mul_add, mul_comm, mul_sum]
    congr 1
    exact sum_congr rfl fun s _ => by ring
  · simp only [if_neg hs]; ring

end Cert.Wkv

end
-- ==== Proof.WkvPair.lean ====
/- One pair of heads of one chunk, as the kernel's body computes it from the pair's cut rows. -/
module

public import proofs.«01_k».proof.Proof.Gen.KernelIdeal.Value
public import proofs.«01_k».proof.Proof.WkvReal
public import Idealize.ShloMosaic.Lib.Pointwise
public import Idealize.ShloMosaic.Lib.Tactic
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Hand

open Cert.KernelIdeal Cert.KernelIdeal.Gen

abbrev Half := FVec Ideal S64x128 .f32
abbrev Full := FVec Ideal S128x128 .f32

/-- The masks of the stacked rows. -/
abbrev strictM : IVec S128x128 1 := k0_pay26 (iota .tc S128x128 32 [0] iota_S128x128_d0_w32) (iota .tc S128x128 32 [1] iota_S128x128_d1_w32) k0_pay22 64#32 k0_pay23 k0_pay24
abbrev inclM : IVec S128x128 1 := k0_pay27 (iota .tc S128x128 32 [0] iota_S128x128_d0_w32) (iota .tc S128x128 32 [1] iota_S128x128_d1_w32) k0_pay22 64#32 k0_pay23 k0_pay24
abbrev eyeM : Full := k0_pay28 (iota .tc S128x128 32 [0] iota_S128x128_d0_w32) (iota .tc S128x128 32 [1] iota_S128x128_d1_w32)

def zHalf : Half := broadcast S64x128 (Scalar.ofBits .f32 0x00000000#32)
def zFull : Full := broadcast S128x128 (Scalar.ofBits .f32 0x00000000#32)

/-- Two copies of 64 rows, the first keeping the first head's lanes, the second the second's. -/
def stackV (x : Half) : Full :=
  concatenate S128x128 0 [⟨S64x128, select k0_pay29 x zHalf⟩, ⟨S64x128, select k0_pay29 zHalf x⟩] concatenates_S64x128_S64x128_S128x128_d0

def twiceV (x : Half) : Full := concatenate S128x128 0 [⟨S64x128, x⟩, ⟨S64x128, x⟩] concatenates_S64x128_S64x128_S128x128_d0

def joinV (x y : Full) : FVec Ideal S256x128 .f32 := concatenate S256x128 0 [⟨S128x128, x⟩, ⟨S128x128, y⟩] concatenates_S128x128_S128x128_S256x128_d0

def mulV (x y : Full) : Full :=
  matmul dot_S128x128_S128x128_S128x128_1_0_0_1_n_n none (truncf .bf16 x bitsLt_bf16_f32) (truncf .bf16 y bitsLt_bf16_f32) (constant S128x128 .f32 0x00000000#32)

/-- The rows of removal keys and readout keys against the rows of writes, all pairings at once. -/
def gramV (a r b k : Half) : FVec Ideal S256x256 .f32 :=
  matmul dot_S256x128_S256x128_S256x256_1_1_0_0_n_n none (truncf .bf16 (joinV (stackV a) (stackV r)) bitsLt_bf16_f32) (truncf .bf16 (joinV (twiceV b) (twiceV k)) bitsLt_bf16_f32) (constant S256x256 .f32 0x00000000#32)

def gABV (a r b k : Half) : Full := select strictM (extractStridedSlice S128x128 ![0, 0] (gramV a r b k) slices_S256x256_o0_0_S128x128) zFull
def gAKV (a r b k : Half) : Full := select strictM (extractStridedSlice S128x128 ![0, 128] (gramV a r b k) slices_S256x256_o0_128_S128x128) zFull
def gRBV (a r b k : Half) : Full := select inclM (extractStridedSlice S128x128 ![128, 0] (gramV a r b k) slices_S256x256_o128_0_S128x128) zFull
def gRKV (a r b k : Half) : Full := select inclM (extractStridedSlice S128x128 ![128, 128] (gramV a r b k) slices_S256x256_o128_128_S128x128) zFull

/-- One doubling of the truncated series. -/
def doubleV (q : Full × Full) : Full × Full := (mulV q.1 q.1, addf q.2 (mulV q.2 (mulV q.1 q.1)))

def invV (a r b k : Half) : Full := (doubleV (doubleV (doubleV (doubleV (doubleV (gABV a r b k, addf eyeM (gABV a r b k))))))).2

def onV (a r b k v : Half) : FVec Ideal S256x128 .f32 :=
  matmul dot_S256x128_S128x128_S256x128_1_0_0_1_n_n none (truncf .bf16 (joinV (gAKV a r b k) (gRKV a r b k)) bitsLt_bf16_f32) (truncf .bf16 (stackV v) bitsLt_bf16_f32) (constant S256x128 .f32 0x00000000#32)

def solveV (a r b k v : Half) : FVec Ideal S128x256 .f32 :=
  matmul dot_S128x128_S128x256_S128x256_1_0_0_1_n_n none (truncf .bf16 (invV a r b k) bitsLt_bf16_f32)
    (truncf .bf16 (concatenate S128x256 1 [⟨S128x128, stackV a⟩, ⟨S128x128, extractStridedSlice S128x128 ![0, 0] (onV a r b k v) slices_S256x128_o0_0_S128x128⟩] concatenates_S128x128_S128x128_S128x256_d1) bitsLt_bf16_f32)
    (constant S128x256 .f32 0x00000000#32)

def pastV (a r b k v : Half) (s : Full) : FVec Ideal S256x128 .f32 :=
  matmul dot_S256x128_S128x128_S256x128_1_1_0_0_n_n none
    (truncf .bf16 (joinV (extractStridedSlice S128x128 ![0, 0] (solveV a r b k v) slices_S128x256_o0_0_S128x128) (stackV r)) bitsLt_bf16_f32)
    (truncf .bf16 s bitsLt_bf16_f32) (constant S256x128 .f32 0x00000000#32)

def heldV (a r b k v : Half) (s : Full) : Full :=
  addf (extractStridedSlice S128x128 ![0, 0] (pastV a r b k v s) slices_S256x128_o0_0_S128x128) (extractStridedSlice S128x128 ![0, 128] (solveV a r b k v) slices_S128x256_o0_128_S128x128)

def rowsV (a r b k v : Half) (s : Full) : Full :=
  addf (addf (extractStridedSlice S128x128 ![128, 0] (pastV a r b k v s) slices_S256x128_o128_0_S128x128) (mulV (gRBV a r b k) (heldV a r b k v s)))
    (extractStridedSlice S128x128 ![128, 0] (onV a r b k v) slices_S256x128_o128_0_S128x128)

/-- The pair's readouts. -/
def outV (a r b k v : Half) (s : Full) : FVec Ideal S1x64x128 .f32 :=
  shapeCast S1x64x128 (addf (extractStridedSlice S64x128 ![0, 0] (rowsV a r b k v s) slices_S128x128_o0_0_S64x128) (extractStridedSlice S64x128 ![64, 0] (rowsV a r b k v s) slices_S128x128_o64_0_S64x128)) shapeCasts_S64x128_S1x64x128

/-- The pair's next state. -/
def nextV (a r b k v bh kh : Half) (w : FVec Ideal S1x128 .f32) (s : Full) : FVec Ideal S1x128x128 .f32 :=
  shapeCast S1x128x128 (addf (mulf s (broadcastTo S128x128 w broadcasts_S1x128_S128x128))
    (matmul dot_S256x128_S256x128_S128x128_0_0_1_1_n_n none (truncf .bf16 (joinV (heldV a r b k v s) (stackV v)) bitsLt_bf16_f32) (truncf .bf16 (joinV (stackV bh) (stackV kh)) bitsLt_bf16_f32) (constant S128x128 .f32 0x00000000#32))) shapeCasts_S128x128_S1x128x128

theorem cutFits : ∀ p : Fin 8, S64x1024.Slices ![0, 128 * p.val] S64x128 := by decide
theorem cutFits1 : ∀ p : Fin 8, S1x1024.Slices ![0, 128 * p.val] S1x128 := by decide
theorem pairIn : ∀ (p : Fin 8) (a : Fin 3), (![p.val, 0, 0] : Fin 3 → Nat) a + S1x128x128.size a ≤ S8x128x128.size a := by decide

/-- A pair's lanes of a chunk's rows, and its block of the carried states. -/
def cutV (p : Fin 8) (x : FVec Ideal S64x1024 .f32) : Half := extractStridedSlice S64x128 ![0, 128 * p.val] x (cutFits p)
def cutV1 (p : Fin 8) (x : FVec Ideal S1x1024 .f32) : FVec Ideal S1x128 .f32 := extractStridedSlice S1x128 ![0, 128 * p.val] x (cutFits1 p)
def oldV (p : Fin 8) (s : Vec Ideal S8x128x128 .f32) : Full := shapeCast S128x128 (View.ld s (Rect.unit ![p.val, 0, 0] S1x128x128.size (pairIn p))) shapeCasts_S1x128x128_S128x128

section
variable (x0 x1 x2 x3 x4 x5 : Vec Ideal S1x64x1024 .f32) (s : Vec Ideal S8x128x128 .f32) (p : Fin 8)

abbrev aV : Half := cutV p (k0_pay15 (k0_pay4 x1) (k0_pay7 x4) (k0_pay9 x1) (k0_pay10 x1))
abbrev rV : Half := cutV p (k0_pay16 (k0_pay3 x0) (k0_pay9 x1) (k0_pay10 x1))
abbrev bV : Half := cutV p (k0_pay17 (k0_pay8 x5) (k0_pay9 x1) (k0_pay10 x1))
abbrev kV : Half := cutV p (k0_pay18 (k0_pay5 x2) (k0_pay9 x1) (k0_pay10 x1))
abbrev bEV : Half := cutV p (k0_pay19 (k0_pay8 x5) (k0_pay9 x1) (k0_pay10 x1))
abbrev kEV : Half := cutV p (k0_pay20 (k0_pay5 x2) (k0_pay9 x1) (k0_pay10 x1))
abbrev wV : FVec Ideal S1x128 .f32 := cutV1 p (k0_pay21 (k0_pay9 x1) (k0_pay10 x1))

/-- A chunk's readouts and next state of one pair. -/
def pairOut : FVec Ideal S1x64x128 .f32 := outV (aV x1 x4 p) (rV x0 x1 p) (bV x1 x5 p) (kV x1 x2 p) (cutV p (k0_pay6 x3)) (oldV p s)
def pairNext : FVec Ideal S1x128x128 .f32 := nextV (aV x1 x4 p) (rV x0 x1 p) (bV x1 x5 p) (kV x1 x2 p) (cutV p (k0_pay6 x3)) (bEV x1 x5 p) (kEV x1 x2 p) (wV x1 p) (oldV p s)

end

end Cert.KernelIdeal.Hand

end
-- ==== Proof.WkvMask.lean ====
/- The kernel's masks over the stacked rows, read at an entry. -/
module

public import proofs.«01_k».proof.Proof.WkvPair
public import Idealize.ShloMosaic.Lib.WordCmp

@[expose] public section

set_option maxRecDepth 16384

noncomputable section

open Idealize.ShloMosaic Idealize.ShloMosaic.TcCoe Idealize.SL.Sem

namespace Cert.KernelIdeal.Hand

open Cert.KernelIdeal Cert.KernelIdeal.Gen Cert.Wkv

/-- The column iota. -/
abbrev colI : IVec S128x128 32 := iota .tc S128x128 32 [1] iota_S128x128_d1_w32

theorem rowHead (i j : Fin 128) : k0_pay22 (ix2 i j) = BitVec.ofNat 32 (i.val / 64) := by
  have e : k0_pay22 (ix2 i j) = k0_pay22 (ix2 i 0) := by pointwise [k0_pay22]
  rw [e]
  exact (by decide +kernel : ∀ i : Fin 128, k0_pay22 (ix2 i 0) = BitVec.ofNat 32 (i.val / 64)) i

theorem colHead (v : IVec S128x128 32) (i j : Fin 128) :
    k0_pay25 colI v 64#32 k0_pay23 k0_pay24 (ix2 i j) = k0_pay25 colI (broadcast S128x128 (v (ix2 i j))) 64#32 k0_pay23 k0_pay24 (ix2 0 j) := by
  pointwise [k0_pay25, k0_pay23, k0_pay24, colI]

theorem headEq : ∀ (d : Fin 2) (j : Fin 128), k0_pay25 colI (broadcast S128x128 (BitVec.ofNat 32 d.val)) 64#32 k0_pay23 k0_pay24 (ix2 0 j) = if d.val = j.val / 64 then 1#1 else 0#1 := by
  decide +kernel

theorem sameM_at (i j : Fin 128) : k0_pay25 colI k0_pay22 64#32 k0_pay23 k0_pay24 (ix2 i j) = if Same i j then 1#1 else 0#1 := by
  rw [colHead, rowHead]
  exact headEq ⟨i.val / 64, by omega⟩ j

theorem lt_at (i j : Fin 128) : IntOp.cmpi .slt (BitVec.ofNat 32 j.val) (BitVec.ofNat 32 i.val) = if j.val < i.val then 1#1 else 0#1 := by
  rw [WordCmp.cmpi_slt_ofNat (by have := j.isLt; omega) (by have := i.isLt; omega)]
  by_cases h : j.val < i.val <;> simp [h]

theorem le_at (i j : Fin 128) : IntOp.cmpi .sle (BitVec.ofNat 32 j.val) (BitVec.ofNat 32 i.val) = if j.val < i.val + 1 then 1#1 else 0#1 := by
  rw [WordCmp.cmpi_sle_ofNat (by have := j.isLt; omega) (by have := i.isLt; omega)]
  by_cases h : j.val ≤ i.val <;> simp [h, Nat.lt_succ_iff]

theorem and_ite (p q : Prop) [Decidable p] [Decidable q] : IntOp.andi (if p then 1#1 else 0#1) (if q then 1#1 else 0#1) = if p ∧ q then 1#1 else 0#1 := by
  by_cases hp : p <;> by_cases hq : q <;> simp [hp, hq, IntOp.andi]

theorem strictM_at (i j : Fin 128) : strictM (ix2 i j) = if Same i j ∧ j.val < i.val then 1#1 else 0#1 := by
  have h := sameM_at i j
  unfold strictM k0_pay26
  pointwise []
  rw [← and_ite, ← h, ← lt_at]

theorem inclM_at (i j : Fin 128) : inclM (ix2 i j) = if Same i j ∧ j.val < i.val + 1 then 1#1 else 0#1 := by
  have h := sameM_at i j
  unfold inclM k0_pay27
  pointwise []
  rw [← and_ite, ← h, ← le_at]

theorem halfM_at : ∀ (t : Fin 64) (l : Fin 128), k0_pay29 (ix2 t l) = if l.val < 64 then 1#1 else 0#1 := by
  intro t l
  have e : k0_pay29 (ix2 t l) = k0_pay29 (ix2 0 l) := by pointwise [k0_pay29]
  rw [e]
  exact (by decide +kernel : ∀ l : Fin 128, k0_pay29 (ix2 0 l) = if l.val < 64 then 1#1 else 0#1) l

theorem eyeM_at (i j : Fin 128) : eyeM (ix2 i j) = (((1 : Sq) i j : ℝ) : EReal) := by
  pointwise [eyeM, k0_pay28]
  rw [WordCmp.cmpi_eq_ofNat (by have := i.isLt; omega) (by have := j.isLt; omega)]
  by_cases h : i = j
  · subst h; rw [Matrix.one_apply_eq]; simp [Scalar.select]
  · have h' : ¬i.val = j.val := fun e => h (Fin.ext e)
    rw [Matrix.one_apply_ne h]; simp [h', Scalar.select]

end Cert.KernelIdeal.Hand

end
-- ==== Proof.WkvLift.lean ====
/- The pair's arithmetic at entries that are real numbers: each step is the matrix step of the closed form. -/
module

public import proofs.«01_k».proof.Proof.WkvMask

@[expose] public section

set_option maxRecDepth 16384

noncomputable section

open Idealize.ShloMosaic Idealize.ShloMosaic.TcCoe Idealize.SL.Sem

namespace Cert.KernelIdeal.Hand

open Cert.KernelIdeal Cert.KernelIdeal.Gen Cert.Wkv

theorem coe_sum {ι : Type} (s : Finset ι) (f : ι → ℝ) : ((∑ i ∈ s, f i : ℝ) : EReal) = ∑ i ∈ s, (f i : EReal) := by
  classical
  induction s using Finset.induction_on with
  | empty => simp
  | insert a s h e => rw [Finset.sum_insert h, Finset.sum_insert h, EReal.coe_add, e]

/-- A square block, or 64 rows, of real entries. -/
abbrev IsF (x : Full) (X : Sq) : Prop := ∀ i j : Fin 128, x (ix2 i j) = ((X i j : ℝ) : EReal)
abbrev IsH (x : Half) (X : ℕ → Fin 128 → ℝ) : Prop := ∀ (t : Fin 64) (l : Fin 128), x (ix2 t l) = ((X t.val l : ℝ) : EReal)

theorem sel1 {α : Type} (p : Prop) [Decidable p] (x y : α) : Scalar.select (if p then 1#1 else 0#1) x y = if p then x else y := by
  by_cases h : p <;> simp [h, Scalar.select]

theorem stack_is {x : Half} {X : ℕ → Fin 128 → ℝ} (h : IsH x X) : IsF (stackV x) (stk X) := by
  intro i l
  have hi := i.isLt
  have hl := l.isLt
  unfold stk
  pointwise [stackV, zHalf]
  by_cases hh : i.val < 64
  · rw [dif_pos hh, halfM_at, sel1, h]
    by_cases hq : l.val < 64
    · rw [if_pos hq, if_pos (by show i.val / 64 = l.val / 64; omega)]
      have e : i.val % 64 = i.val := by omega
      rw [e]
    · rw [if_neg hq, if_neg (by show ¬i.val / 64 = l.val / 64; omega), EReal.coe_zero]
  · rw [dif_neg hh, halfM_at, sel1, h]
    by_cases hq : l.val < 64
    · rw [if_pos hq, if_neg (by show ¬i.val / 64 = l.val / 64; omega), EReal.coe_zero]
    · rw [if_neg hq]
      show ((X (i.val - 64) l : ℝ) : EReal) = _
      rw [if_pos (by show i.val / 64 = l.val / 64; omega)]
      have e : i.val % 64 = i.val - 64 := by omega
      rw [e]

theorem twice_at (x : Half) (i l : Fin 128) : twiceV x (ix2 i l) = x (ix2 (⟨i.val % 64, by omega⟩ : Fin 64) l) := by
  have hi := i.isLt
  pointwise [twiceV]
  by_cases hh : i.val < 64
  · rw [dif_pos hh]
    congr 2
    exact Fin.ext (by show i.val = i.val % 64; omega)
  · rw [dif_neg hh]
    congr 2
    exact Fin.ext (by show i.val - 64 = i.val % 64; omega)

theorem dot_is (n : ℕ) (f g : Fin n → EReal) (F G : Fin n → ℝ) (hf : ∀ k, f k = ((F k : ℝ) : EReal)) (hg : ∀ k, g k = ((G k : ℝ) : EReal)) :
    ∑ k, f k * g k = ((∑ k, F k * G k : ℝ) : EReal) := by
  rw [coe_sum]
  exact Finset.sum_congr rfl fun k _ => by rw [hf, hg, EReal.coe_mul]

theorem mul_is {x y : Full} {X Y : Sq} (hx : IsF x X) (hy : IsF y Y) : IsF (mulV x y) (X * Y) := by
  intro i j
  rw [Matrix.mul_apply]
  pointwise [mulV]
  exact dot_is _ _ _ _ _ (fun k => hx i k) (fun k => hy k j)

/-- The lower and upper half of the 256 joined rows. -/
abbrev lo (i : Fin 128) : Fin 256 := ⟨i.val, by omega⟩
abbrev hi (i : Fin 128) : Fin 256 := ⟨128 + i.val, by omega⟩

theorem join_lo (x y : Full) (i l : Fin 128) : joinV x y (ix2 (lo i) l) = x (ix2 i l) := by
  have h : (lo i).val < 128 := i.isLt
  pointwise [joinV]

theorem join_hi (x y : Full) (i l : Fin 128) : joinV x y (ix2 (hi i) l) = y (ix2 i l) := by
  have h : ¬(hi i).val < 128 := by show ¬128 + i.val < 128; omega
  pointwise [joinV]

theorem gram_at (a r b k : Half) (i j : Fin 256) : gramV a r b k (ix2 i j) = ∑ l : Fin 128, joinV (stackV a) (stackV r) (ix2 i l) * joinV (twiceV b) (twiceV k) (ix2 j l) := by
  pointwise [gramV]

section
variable {a r b k v : Half} {A R B K V : ℕ → Fin 128 → ℝ} (ha : IsH a A) (hr : IsH r R) (hb : IsH b B) (hk : IsH k K) (hv : IsH v V)

include ha hb in
theorem gAB_is : IsF (gABV a r b k) (attn 0 A B) := by
  intro i j
  have e : gABV a r b k (ix2 i j) = Scalar.select (strictM (ix2 i j)) (gramV a r b k (ix2 (lo i) (lo j))) 0 := by pointwise [gABV, zFull]
  rw [e, strictM_at, sel1, gram_at]
  unfold attn
  by_cases q : Same i j ∧ j.val < i.val
  · rw [if_pos q, if_pos (by simpa using q)]
    exact dot_is _ _ _ _ _ (fun l => (join_lo _ _ i l).trans (stack_is ha i l)) (fun l => ((join_lo _ _ j l).trans (twice_at b j l)).trans (hb _ l))
  · rw [if_neg q, if_neg (by simpa using q), EReal.coe_zero]

include ha hk in
theorem gAK_is : IsF (gAKV a r b k) (attn 0 A K) := by
  intro i j
  have e : gAKV a r b k (ix2 i j) = Scalar.select (strictM (ix2 i j)) (gramV a r b k (ix2 (lo i) (hi j))) 0 := by pointwise [gAKV, zFull]
  rw [e, strictM_at, sel1, gram_at]
  unfold attn
  by_cases q : Same i j ∧ j.val < i.val
  · rw [if_pos q, if_pos (by simpa using q)]
    exact dot_is _ _ _ _ _ (fun l => (join_lo _ _ i l).trans (stack_is ha i l)) (fun l => ((join_hi _ _ j l).trans (twice_at k j l)).trans (hk _ l))
  · rw [if_neg q, if_neg (by simpa using q), EReal.coe_zero]

include hr hb in
theorem gRB_is : IsF (gRBV a r b k) (attn 1 R B) := by
  intro i j
  have e : gRBV a r b k (ix2 i j) = Scalar.select (inclM (ix2 i j)) (gramV a r b k (ix2 (hi i) (lo j))) 0 := by pointwise [gRBV, zFull]
  rw [e, inclM_at, sel1, gram_at]
  unfold attn
  by_cases q : Same i j ∧ j.val < i.val + 1
  · rw [if_pos q, if_pos q]
    exact dot_is _ _ _ _ _ (fun l => (join_hi _ _ i l).trans (stack_is hr i l)) (fun l => ((join_lo _ _ j l).trans (twice_at b j l)).trans (hb _ l))
  · rw [if_neg q, if_neg q, EReal.coe_zero]

include hr hk in
theorem gRK_is : IsF (gRKV a r b k) (attn 1 R K) := by
  intro i j
  have e : gRKV a r b k (ix2 i j) = Scalar.select (inclM (ix2 i j)) (gramV a r b k (ix2 (hi i) (hi j))) 0 := by pointwise [gRKV, zFull]
  rw [e, inclM_at, sel1, gram_at]
  unfold attn
  by_cases q : Same i j ∧ j.val < i.val + 1
  · rw [if_pos q, if_pos q]
    exact dot_is _ _ _ _ _ (fun l => (join_hi _ _ i l).trans (stack_is hr i l)) (fun l => ((join_hi _ _ j l).trans (twice_at k j l)).trans (hk _ l))
  · rw [if_neg q, if_neg q, EReal.coe_zero]

theorem add_is {x y : Full} {X Y : Sq} (hx : IsF x X) (hy : IsF y Y) : IsF (addf x y) (X + Y) := by
  intro i j
  pointwise []
  rw [hx, hy, ← EReal.coe_add]
  rfl

theorem double_is {q : Full × Full} {Q : Sq × Sq} (h1 : IsF q.1 Q.1) (h2 : IsF q.2 Q.2) : IsF (doubleV q).1 (doubled Q).1 ∧ IsF (doubleV q).2 (doubled Q).2 :=
  ⟨mul_is h1 h1, add_is h2 (mul_is h2 (mul_is h1 h1))⟩

include ha hb in
theorem inv_is : IsF (invV a r b k) (doubled^[5] (attn 0 A B, 1 + attn 0 A B)).2 := by
  have g := gAB_is (r := r) (k := k) ha hb
  have d0 : IsF (gABV a r b k, addf eyeM (gABV a r b k)).1 (attn 0 A B, 1 + attn 0 A B).1 ∧ IsF (gABV a r b k, addf eyeM (gABV a r b k)).2 (attn 0 A B, 1 + attn 0 A B).2 :=
    ⟨g, add_is eyeM_at g⟩
  have d1 := double_is d0.1 d0.2
  have d2 := double_is d1.1 d1.2
  have d3 := double_is d2.1 d2.2
  have d4 := double_is d3.1 d3.2
  exact (double_is d4.1 d4.2).2

include ha hk hv in
theorem onLo_is (i j : Fin 128) : onV a r b k v (ix2 (lo i) j) = (((attn 0 A K * stk V : Sq) i j : ℝ) : EReal) := by
  have e : onV a r b k v (ix2 (lo i) j) = ∑ l : Fin 128, joinV (gAKV a r b k) (gRKV a r b k) (ix2 (lo i) l) * stackV v (ix2 l j) := by pointwise [onV]
  rw [e, Matrix.mul_apply]
  exact dot_is _ _ _ _ _ (fun l => (join_lo _ _ i l).trans (gAK_is ha hk i l)) (fun l => stack_is hv l j)

include hr hk hv in
theorem onHi_is (i j : Fin 128) : onV a r b k v (ix2 (hi i) j) = (((attn 1 R K * stk V : Sq) i j : ℝ) : EReal) := by
  have e : onV a r b k v (ix2 (hi i) j) = ∑ l : Fin 128, joinV (gAKV a r b k) (gRKV a r b k) (ix2 (hi i) l) * stackV v (ix2 l j) := by pointwise [onV]
  rw [e, Matrix.mul_apply]
  exact dot_is _ _ _ _ _ (fun l => (join_hi _ _ i l).trans (gRK_is hr hk i l)) (fun l => stack_is hv l j)

end

end Cert.KernelIdeal.Hand

end
-- ==== Proof.WkvChunk.lean ====
/- A chunk of one pair at real entries: its readouts and its next state are the recurrence's. -/
module

public import proofs.«01_k».proof.Proof.WkvLift

@[expose] public section

set_option maxRecDepth 16384

noncomputable section

open Idealize.ShloMosaic Idealize.ShloMosaic.TcCoe Idealize.SL.Sem

namespace Cert.KernelIdeal.Hand

open Cert.KernelIdeal Cert.KernelIdeal.Gen Cert.Wkv

theorem slice_lo {X : FVec Ideal S128x256 .f32} (i j : Fin 128) : extractStridedSlice S128x128 ![0, 0] X slices_S128x256_o0_0_S128x128 (ix2 i j) = X (ix2 i (lo j)) := by pointwise []
theorem slice_hi {X : FVec Ideal S128x256 .f32} (i j : Fin 128) : extractStridedSlice S128x128 ![0, 128] X slices_S128x256_o0_128_S128x128 (ix2 i j) = X (ix2 i (hi j)) := by pointwise []
theorem rows_lo {X : FVec Ideal S256x128 .f32} (i j : Fin 128) : extractStridedSlice S128x128 ![0, 0] X slices_S256x128_o0_0_S128x128 (ix2 i j) = X (ix2 (lo i) j) := by pointwise []
theorem rows_hi {X : FVec Ideal S256x128 .f32} (i j : Fin 128) : extractStridedSlice S128x128 ![128, 0] X slices_S256x128_o128_0_S128x128 (ix2 i j) = X (ix2 (hi i) j) := by pointwise []

section
variable {w r0 k0 a0 b0 : ℕ → Fin 128 → ℝ} {a r b k v bh kh : Half} {V : ℕ → Fin 128 → ℝ} {wd : FVec Ideal S1x128 .f32} {s : Full} {S : Sq}
  (ha : IsH a (grown w 0 a0)) (hr : IsH r (grown w 1 r0)) (hb : IsH b (shrunk w b0)) (hk : IsH k (shrunk w k0)) (hv : IsH v V)
  (hbh : IsH bh (toEnd w b0)) (hkh : IsH kh (toEnd w k0)) (hw : ∀ l : Fin 128, wd (ix2 0 l) = ((Real.exp (cum w 64 l) : ℝ) : EReal)) (hs : IsF s S)
  (off : ∀ d l, ¬Same d l → S d l = 0)

/-- The truncated series. -/
abbrev inv (w a0 b0 : ℕ → Fin 128 → ℝ) : Sq := (doubled^[5] (attn 0 (grown w 0 a0) (shrunk w b0), 1 + attn 0 (grown w 0 a0) (shrunk w b0))).2

include ha hb in
theorem solveLo_is (i j : Fin 128) : solveV a r b k v (ix2 i (lo j)) = (((inv w a0 b0 * stk (grown w 0 a0) : Sq) i j : ℝ) : EReal) := by
  have e : solveV a r b k v (ix2 i (lo j)) = ∑ l : Fin 128, invV a r b k (ix2 i l) * stackV a (ix2 l j) := by
    have h : (lo j).val < 128 := j.isLt
    pointwise [solveV]
  rw [e, Matrix.mul_apply]
  exact dot_is _ _ _ _ _ (fun l => inv_is ha hb i l) (fun l => stack_is ha l j)

include ha hb hk hv in
theorem solveHi_is (i j : Fin 128) : solveV a r b k v (ix2 i (hi j)) = (((inv w a0 b0 * (attn 0 (grown w 0 a0) (shrunk w k0) * stk V) : Sq) i j : ℝ) : EReal) := by
  have e : solveV a r b k v (ix2 i (hi j)) = ∑ l : Fin 128, invV a r b k (ix2 i l) * onV a r b k v (ix2 (lo l) j) := by
    have h : ¬(hi j).val < 128 := by show ¬128 + j.val < 128; omega
    pointwise [solveV]
  rw [e, Matrix.mul_apply]
  exact dot_is _ _ _ _ _ (fun l => inv_is ha hb i l) (fun l => onLo_is ha hk hv l j)

include ha hb hs in
theorem pastLo_is (i j : Fin 128) : pastV a r b k v s (ix2 (lo i) j) = (((inv w a0 b0 * stk (grown w 0 a0) * S.transpose : Sq) i j : ℝ) : EReal) := by
  have e : pastV a r b k v s (ix2 (lo i) j) = ∑ l : Fin 128, joinV (extractStridedSlice S128x128 ![0, 0] (solveV a r b k v) slices_S128x256_o0_0_S128x128) (stackV r) (ix2 (lo i) l) * s (ix2 j l) := by
    pointwise [pastV]
  rw [e, Matrix.mul_apply]
  exact dot_is _ _ _ _ _ (fun l => ((join_lo _ _ i l).trans (slice_lo i l)).trans (solveLo_is ha hb i l)) (fun l => hs j l)

include hr hs in
theorem pastHi_is (i j : Fin 128) : pastV a r b k v s (ix2 (hi i) j) = (((stk (grown w 1 r0) * S.transpose : Sq) i j : ℝ) : EReal) := by
  have e : pastV a r b k v s (ix2 (hi i) j) = ∑ l : Fin 128, joinV (extractStridedSlice S128x128 ![0, 0] (solveV a r b k v) slices_S128x256_o0_0_S128x128) (stackV r) (ix2 (hi i) l) * s (ix2 j l) := by
    pointwise [pastV]
  rw [e, Matrix.mul_apply]
  exact dot_is _ _ _ _ _ (fun l => (join_hi _ _ i l).trans (stack_is hr i l)) (fun l => hs j l)

include ha hb hk hv hs in
theorem held_is : IsF (heldV a r b k v s) (solved w k0 V a0 b0 S) :=
  add_is (fun i j => (rows_lo i j).trans (pastLo_is ha hb hs i j)) (fun i j => (slice_hi i j).trans (solveHi_is ha hb hk hv i j))

include ha hr hb hk hv hs in
theorem rows_is : IsF (rowsV a r b k v s) (rows w r0 k0 V a0 b0 S) :=
  add_is (add_is (fun i j => (rows_hi i j).trans (pastHi_is hr hs i j)) (mul_is (gRB_is hr hb) (held_is ha hb hk hv hs)))
    (fun i j => (rows_hi i j).trans (onHi_is hr hk hv i j))

include ha hr hb hk hv hs off in
theorem out_is (t : Fin 64) (d : Fin 128) : outV a r b k v s (ix3 0 t d) = ((readout w r0 k0 V a0 b0 S t.val d : ℝ) : EReal) := by
  have h := rows_is ha hr hb hk hv hs
  have e : outV a r b k v s (ix3 0 t d) = rowsV a r b k v s (ix2 (⟨t.val, by omega⟩ : Fin 128) d) + rowsV a r b k v s (ix2 (⟨64 + t.val, by omega⟩ : Fin 128) d) := by
    pointwise [outV]
  rw [e, h, h, ← EReal.coe_add, rows_fold _ _ _ _ _ _ _ off]

include ha hb hk hv hbh hkh hw hs off in
theorem next_is (d l : Fin 128) : nextV a r b k v bh kh wd s (ix3 0 d l) = ((state w k0 V a0 b0 S 64 d l : ℝ) : EReal) := by
  have h := held_is (r := r) ha hb hk hv hs
  have e : nextV a r b k v bh kh wd s (ix3 0 d l) = s (ix2 d l) * wd (ix2 0 l) + ∑ j : Fin 256, joinV (heldV a r b k v s) (stackV v) (ix2 j d) * joinV (stackV bh) (stackV kh) (ix2 j l) := by
    pointwise [nextV]
  have e2 : ∑ j : Fin 256, joinV (heldV a r b k v s) (stackV v) (ix2 j d) * joinV (stackV bh) (stackV kh) (ix2 j l)
      = (∑ j : Fin 128, joinV (heldV a r b k v s) (stackV v) (ix2 (lo j) d) * joinV (stackV bh) (stackV kh) (ix2 (lo j) l))
        + ∑ j : Fin 128, joinV (heldV a r b k v s) (stackV v) (ix2 (hi j) d) * joinV (stackV bh) (stackV kh) (ix2 (hi j) l) :=
    Fin.sum_univ_add (a := 128) (b := 128) fun j : Fin 256 => joinV (heldV a r b k v s) (stackV v) (ix2 j d) * joinV (stackV bh) (stackV kh) (ix2 j l)
  rw [e, e2, hs, hw, ← EReal.coe_mul,
    dot_is _ _ _ _ _ (fun j => (join_lo _ _ j d).trans (h j d)) (fun j => (join_lo _ _ j l).trans (stack_is hbh j l)),
    dot_is _ _ _ _ _ (fun j => (join_hi _ _ j d).trans (stack_is hv j d)) (fun j => (join_hi _ _ j l).trans (stack_is hkh j l)),
    ← EReal.coe_add, ← EReal.coe_add, state_end _ _ _ _ _ _ off]

end

end Cert.KernelIdeal.Hand

end
-- ==== Proof.WkvCases.lean ====
module

public import proofs.«01_k».proof.Proof.WkvPair

@[expose] public section

set_option maxRecDepth 16384

noncomputable section

open Idealize.ShloMosaic Idealize.ShloMosaic.TcCoe Idealize.SL.Sem

namespace Cert.KernelIdeal.Hand

open Cert.KernelIdeal Cert.KernelIdeal.Gen Cert.KernelIdeal.Value

variable (m : (ℓ : Loc nD τ sig) → Buf (Elt Ideal) ℓ)

/-- The carried states after a chunk, pair by pair. -/
def nextS (x0 x1 x2 x3 x4 x5 : Vec Ideal S1x64x1024 .f32) (s : Vec Ideal S8x128x128 .f32) : Vec Ideal S8x128x128 .f32 :=
  fun y => pairNext x0 x1 x2 x3 x4 x5 s (y 0) (ix3 0 (y 1) (y 2))

def outS (x0 x1 x2 x3 x4 x5 : Vec Ideal S1x64x1024 .f32) (s : Vec Ideal S8x128x128 .f32) : Vec Ideal S1x64x1024 .f32 :=
  fun y => pairOut x0 x1 x2 x3 x4 x5 s ⟨(y 2).val / 128, by have h : (y 2).val < 1024 := (y 2).isLt; omega⟩
    (ix3 0 (y 1) ⟨(y 2).val % 128, by omega⟩)

theorem outS_at (x0 x1 x2 x3 x4 x5 : Vec Ideal S1x64x1024 .f32) (s : Vec Ideal S8x128x128 .f32) (p : Fin 8) (y : S1x64x1024.Idx) (x : S1x64x128.Idx)
    (h1 : (y 1).val = (x 1).val) (h2 : (y 2).val = 128 * p.val + (x 2).val) :
    outS x0 x1 x2 x3 x4 x5 s y = pairOut x0 x1 x2 x3 x4 x5 s p x := by
  have l2 : (x 2).val < 128 := (x 2).isLt
  have e0 : (⟨(y 2).val / 128, by have h : (y 2).val < 1024 := (y 2).isLt; omega⟩ : Fin 8) = p := Fin.ext (by show (y 2).val / 128 = p.val; omega)
  have e1 : (ix3 0 (y 1) ⟨(y 2).val % 128, by omega⟩ : S1x64x128.Idx) = x := by
    funext a
    fin_cases a
    · exact Fin.ext (by have h : (x 0).val < 1 := (x 0).isLt; show 0 = (x 0).val; omega)
    · exact Fin.ext h1
    · exact Fin.ext (by show (y 2).val % 128 = (x 2).val; omega)
  unfold outS
  rw [e0, e1]

theorem nextS_at (x0 x1 x2 x3 x4 x5 : Vec Ideal S1x64x1024 .f32) (s : Vec Ideal S8x128x128 .f32) (p : Fin 8) (y : S8x128x128.Idx) (x : S1x128x128.Idx)
    (h0 : (y 0).val = p.val) (h1 : (y 1).val = (x 1).val) (h2 : (y 2).val = (x 2).val) :
    nextS x0 x1 x2 x3 x4 x5 s y = pairNext x0 x1 x2 x3 x4 x5 s p x := by
  have e0 : y 0 = p := Fin.ext h0
  have e1 : (ix3 0 (y 1) (y 2) : S1x128x128.Idx) = x := by
    funext a
    fin_cases a
    · exact Fin.ext (by have h : (x 0).val < 1 := (x 0).isLt; show 0 = (x 0).val; omega)
    · exact Fin.ext h1
    · exact Fin.ext h2
  unfold nextS
  rw [e0, e1]

theorem scr_B (c) (t : Fin cfg0.N) (h0 : ¬t.val % 64 = 0) (h1 : ¬t.val % 64 = 63) :
    (outsAt0 m c t.val t.isLt).2.2 = nextS (iblk m c 0 t) (iblk m c 1 t) (iblk m c 2 t) (iblk m c 3 t) (iblk m c 4 t) (iblk m c 5 t) (outsAt0 m c (t.val - 1) (by omega)).2.2 := by
  rw [outsAt0_B m c t h0 h1]; dsimp only; frame_out; simp only [read_unread_whole]; funext y; canon_tiles x h
  case piece0 => exact ((nextS_at _ _ _ _ _ _ _ 7 y x (by simp; omega) (by simp; omega) (by simp; omega)).trans rfl).symm
  case piece1 => exact ((nextS_at _ _ _ _ _ _ _ 6 y x (by simp; omega) (by simp; omega) (by simp; omega)).trans rfl).symm
  case piece2 => exact ((nextS_at _ _ _ _ _ _ _ 5 y x (by simp; omega) (by simp; omega) (by simp; omega)).trans rfl).symm
  case piece3 => exact ((nextS_at _ _ _ _ _ _ _ 4 y x (by simp; omega) (by simp; omega) (by simp; omega)).trans rfl).symm
  case piece4 => exact ((nextS_at _ _ _ _ _ _ _ 3 y x (by simp; omega) (by simp; omega) (by simp; omega)).trans rfl).symm
  case piece5 => exact ((nextS_at _ _ _ _ _ _ _ 2 y x (by simp; omega) (by simp; omega) (by simp; omega)).trans rfl).symm
  case piece6 => exact ((nextS_at _ _ _ _ _ _ _ 1 y x (by simp; omega) (by simp; omega) (by simp; omega)).trans rfl).symm
  case piece7 => exact ((nextS_at _ _ _ _ _ _ _ 0 y x (by simp; omega) (by simp; omega) (by simp; omega)).trans rfl).symm

theorem y_B (c) (t : Fin cfg0.N) (h0 : ¬t.val % 64 = 0) (h1 : ¬t.val % 64 = 63) :
    (outsAt0 m c t.val t.isLt).1 = outS (iblk m c 0 t) (iblk m c 1 t) (iblk m c 2 t) (iblk m c 3 t) (iblk m c 4 t) (iblk m c 5 t) (outsAt0 m c (t.val - 1) (by omega)).2.2 := by
  rw [outsAt0_B m c t h0 h1]; dsimp only; frame_out; simp only [read_unread_whole]; funext y; canon_tiles x h
  case piece0 => exact ((outS_at _ _ _ _ _ _ _ 7 y x (by simp; omega) (by simp; omega)).trans rfl).symm
  case piece1 => exact ((outS_at _ _ _ _ _ _ _ 6 y x (by simp; omega) (by simp; omega)).trans rfl).symm
  case piece2 => exact ((outS_at _ _ _ _ _ _ _ 5 y x (by simp; omega) (by simp; omega)).trans rfl).symm
  case piece3 => exact ((outS_at _ _ _ _ _ _ _ 4 y x (by simp; omega) (by simp; omega)).trans rfl).symm
  case piece4 => exact ((outS_at _ _ _ _ _ _ _ 3 y x (by simp; omega) (by simp; omega)).trans rfl).symm
  case piece5 => exact ((outS_at _ _ _ _ _ _ _ 2 y x (by simp; omega) (by simp; omega)).trans rfl).symm
  case piece6 => exact ((outS_at _ _ _ _ _ _ _ 1 y x (by simp; omega) (by simp; omega)).trans rfl).symm
  case piece7 => exact ((outS_at _ _ _ _ _ _ _ 0 y x (by simp; omega) (by simp; omega)).trans rfl).symm

theorem scr_C (c) (t : Fin cfg0.N) (h0 : ¬t.val % 64 = 0) (h1 : t.val % 64 = 63) :
    (outsAt0 m c t.val t.isLt).2.2 = nextS (iblk m c 0 t) (iblk m c 1 t) (iblk m c 2 t) (iblk m c 3 t) (iblk m c 4 t) (iblk m c 5 t) (outsAt0 m c (t.val - 1) (by omega)).2.2 := by
  rw [outsAt0_C m c t h0 h1]; dsimp only; frame_out; simp only [read_unread_whole]; funext y; canon_tiles x h
  case piece0 => exact ((nextS_at _ _ _ _ _ _ _ 7 y x (by simp; omega) (by simp; omega) (by simp; omega)).trans rfl).symm
  case piece1 => exact ((nextS_at _ _ _ _ _ _ _ 6 y x (by simp; omega) (by simp; omega) (by simp; omega)).trans rfl).symm
  case piece2 => exact ((nextS_at _ _ _ _ _ _ _ 5 y x (by simp; omega) (by simp; omega) (by simp; omega)).trans rfl).symm
  case piece3 => exact ((nextS_at _ _ _ _ _ _ _ 4 y x (by simp; omega) (by simp; omega) (by simp; omega)).trans rfl).symm
  case piece4 => exact ((nextS_at _ _ _ _ _ _ _ 3 y x (by simp; omega) (by simp; omega) (by simp; omega)).trans rfl).symm
  case piece5 => exact ((nextS_at _ _ _ _ _ _ _ 2 y x (by simp; omega) (by simp; omega) (by simp; omega)).trans rfl).symm
  case piece6 => exact ((nextS_at _ _ _ _ _ _ _ 1 y x (by simp; omega) (by simp; omega) (by simp; omega)).trans rfl).symm
  case piece7 => exact ((nextS_at _ _ _ _ _ _ _ 0 y x (by simp; omega) (by simp; omega) (by simp; omega)).trans rfl).symm

theorem y_C (c) (t : Fin cfg0.N) (h0 : ¬t.val % 64 = 0) (h1 : t.val % 64 = 63) :
    (outsAt0 m c t.val t.isLt).1 = outS (iblk m c 0 t) (iblk m c 1 t) (iblk m c 2 t) (iblk m c 3 t) (iblk m c 4 t) (iblk m c 5 t) (outsAt0 m c (t.val - 1) (by omega)).2.2 := by
  rw [outsAt0_C m c t h0 h1]; dsimp only; frame_out; simp only [read_unread_whole]; funext y; canon_tiles x h
  case piece0 => exact ((outS_at _ _ _ _ _ _ _ 7 y x (by simp; omega) (by simp; omega)).trans rfl).symm
  case piece1 => exact ((outS_at _ _ _ _ _ _ _ 6 y x (by simp; omega) (by simp; omega)).trans rfl).symm
  case piece2 => exact ((outS_at _ _ _ _ _ _ _ 5 y x (by simp; omega) (by simp; omega)).trans rfl).symm
  case piece3 => exact ((outS_at _ _ _ _ _ _ _ 4 y x (by simp; omega) (by simp; omega)).trans rfl).symm
  case piece4 => exact ((outS_at _ _ _ _ _ _ _ 3 y x (by simp; omega) (by simp; omega)).trans rfl).symm
  case piece5 => exact ((outS_at _ _ _ _ _ _ _ 2 y x (by simp; omega) (by simp; omega)).trans rfl).symm
  case piece6 => exact ((outS_at _ _ _ _ _ _ _ 1 y x (by simp; omega) (by simp; omega)).trans rfl).symm
  case piece7 => exact ((outS_at _ _ _ _ _ _ _ 0 y x (by simp; omega) (by simp; omega)).trans rfl).symm

theorem fill_read (z : Vec Ideal S8x128x128 .f32) (r : Rect S8x128x128) :
    (View.whole cc0_scratch0).readCov [⟨Rect.unit ![0, 0, 0] ![8, 128, 128] inb_S8x128x128_S8x128x128_0_0_0, z⟩] r.toLoadRect = View.ld z r :=
  View.readCov_fill (View.whole cc0_scratch0) (s := S8x128x128) (off := ![0, 0, 0]) inb_S8x128x128_S8x128x128_0_0_0 z [] r (by intro a; fin_cases a <;> rfl)

theorem emb0 (k : ℕ) (inb : ∀ a, (![k, 0, 0] : Fin 3 → ℕ) a + (![1, 128, 128] : Fin 3 → ℕ) a ≤ S8x128x128.size a) (x : S1x128x128.Idx) :
    ((Rect.unit (s := S8x128x128) ![k, 0, 0] ![1, 128, 128] inb).emb x 0).val = k := by
  have h : (x 0).val < 1 := (x 0).isLt
  show k + 1 * (x 0).val = k
  omega

theorem emb1 (k : ℕ) (inb : ∀ a, (![k, 0, 0] : Fin 3 → ℕ) a + (![1, 128, 128] : Fin 3 → ℕ) a ≤ S8x128x128.size a) (x : S1x128x128.Idx) :
    ((Rect.unit (s := S8x128x128) ![k, 0, 0] ![1, 128, 128] inb).emb x 1).val = (x 1).val := by
  show 0 + 1 * (x 1).val = (x 1).val
  omega

theorem emb2 (k : ℕ) (inb : ∀ a, (![k, 0, 0] : Fin 3 → ℕ) a + (![1, 128, 128] : Fin 3 → ℕ) a ≤ S8x128x128.size a) (x : S1x128x128.Idx) :
    ((Rect.unit (s := S8x128x128) ![k, 0, 0] ![1, 128, 128] inb).emb x 2).val = (x 2).val := by
  show 0 + 1 * (x 2).val = (x 2).val
  omega

theorem over_fill (G z : Vec Ideal S8x128x128 .f32) (w0 w1 w2 w3 w4 w5 w6 w7 : Vec Ideal S1x128x128 .f32)
    (h0 : ∀ (x : S1x128x128.Idx) (y : S8x128x128.Idx), (y 0).val = 0 → (y 1).val = (x 1).val → (y 2).val = (x 2).val → w0 x = G y)
    (h1 : ∀ (x : S1x128x128.Idx) (y : S8x128x128.Idx), (y 0).val = 1 → (y 1).val = (x 1).val → (y 2).val = (x 2).val → w1 x = G y)
    (h2 : ∀ (x : S1x128x128.Idx) (y : S8x128x128.Idx), (y 0).val = 2 → (y 1).val = (x 1).val → (y 2).val = (x 2).val → w2 x = G y)
    (h3 : ∀ (x : S1x128x128.Idx) (y : S8x128x128.Idx), (y 0).val = 3 → (y 1).val = (x 1).val → (y 2).val = (x 2).val → w3 x = G y)
    (h4 : ∀ (x : S1x128x128.Idx) (y : S8x128x128.Idx), (y 0).val = 4 → (y 1).val = (x 1).val → (y 2).val = (x 2).val → w4 x = G y)
    (h5 : ∀ (x : S1x128x128.Idx) (y : S8x128x128.Idx), (y 0).val = 5 → (y 1).val = (x 1).val → (y 2).val = (x 2).val → w5 x = G y)
    (h6 : ∀ (x : S1x128x128.Idx) (y : S8x128x128.Idx), (y 0).val = 6 → (y 1).val = (x 1).val → (y 2).val = (x 2).val → w6 x = G y)
    (h7 : ∀ (x : S1x128x128.Idx) (y : S8x128x128.Idx), (y 0).val = 7 → (y 1).val = (x 1).val → (y 2).val = (x 2).val → w7 x = G y) :
    View.canon (Val := Elt Ideal) (s := S8x128x128) (e := .f32) [⟨Rect.unit ![7, 0, 0] ![1, 128, 128] inb_S8x128x128_S1x128x128_7_0_0, w7⟩, ⟨Rect.unit ![6, 0, 0] ![1, 128, 128] inb_S8x128x128_S1x128x128_6_0_0, w6⟩, ⟨Rect.unit ![5, 0, 0] ![1, 128, 128] inb_S8x128x128_S1x128x128_5_0_0, w5⟩, ⟨Rect.unit ![4, 0, 0] ![1, 128, 128] inb_S8x128x128_S1x128x128_4_0_0, w4⟩, ⟨Rect.unit ![3, 0, 0] ![1, 128, 128] inb_S8x128x128_S1x128x128_3_0_0, w3⟩, ⟨Rect.unit ![2, 0, 0] ![1, 128, 128] inb_S8x128x128_S1x128x128_2_0_0, w2⟩, ⟨Rect.unit ![1, 0, 0] ![1, 128, 128] inb_S8x128x128_S1x128x128_1_0_0, w1⟩, ⟨Rect.unit ![0, 0, 0] ![1, 128, 128] inb_S8x128x128_S1x128x128_0_0_0, w0⟩, ⟨Rect.unit ![0, 0, 0] ![8, 128, 128] inb_S8x128x128_S8x128x128_0_0_0, z⟩] = G := by
  funext y
  refine View.canon_append_of_piecesOf G [⟨Rect.unit ![0, 0, 0] ![8, 128, 128] inb_S8x128x128_S8x128x128_0_0_0, z⟩] [⟨Rect.unit ![7, 0, 0] ![1, 128, 128] inb_S8x128x128_S1x128x128_7_0_0, w7⟩, ⟨Rect.unit ![6, 0, 0] ![1, 128, 128] inb_S8x128x128_S1x128x128_6_0_0, w6⟩, ⟨Rect.unit ![5, 0, 0] ![1, 128, 128] inb_S8x128x128_S1x128x128_5_0_0, w5⟩, ⟨Rect.unit ![4, 0, 0] ![1, 128, 128] inb_S8x128x128_S1x128x128_4_0_0, w4⟩, ⟨Rect.unit ![3, 0, 0] ![1, 128, 128] inb_S8x128x128_S1x128x128_3_0_0, w3⟩, ⟨Rect.unit ![2, 0, 0] ![1, 128, 128] inb_S8x128x128_S1x128x128_2_0_0, w2⟩, ⟨Rect.unit ![1, 0, 0] ![1, 128, 128] inb_S8x128x128_S1x128x128_1_0_0, w1⟩, ⟨Rect.unit ![0, 0, 0] ![1, 128, 128] inb_S8x128x128_S1x128x128_0_0_0, w0⟩]
    ⟨fun x => h7 x _ (emb0 7 inb_S8x128x128_S1x128x128_7_0_0 x) (emb1 7 inb_S8x128x128_S1x128x128_7_0_0 x) (emb2 7 inb_S8x128x128_S1x128x128_7_0_0 x), fun x => h6 x _ (emb0 6 inb_S8x128x128_S1x128x128_6_0_0 x) (emb1 6 inb_S8x128x128_S1x128x128_6_0_0 x) (emb2 6 inb_S8x128x128_S1x128x128_6_0_0 x), fun x => h5 x _ (emb0 5 inb_S8x128x128_S1x128x128_5_0_0 x) (emb1 5 inb_S8x128x128_S1x128x128_5_0_0 x) (emb2 5 inb_S8x128x128_S1x128x128_5_0_0 x), fun x => h4 x _ (emb0 4 inb_S8x128x128_S1x128x128_4_0_0 x) (emb1 4 inb_S8x128x128_S1x128x128_4_0_0 x) (emb2 4 inb_S8x128x128_S1x128x128_4_0_0 x), fun x => h3 x _ (emb0 3 inb_S8x128x128_S1x128x128_3_0_0 x) (emb1 3 inb_S8x128x128_S1x128x128_3_0_0 x) (emb2 3 inb_S8x128x128_S1x128x128_3_0_0 x), fun x => h2 x _ (emb0 2 inb_S8x128x128_S1x128x128_2_0_0 x) (emb1 2 inb_S8x128x128_S1x128x128_2_0_0 x) (emb2 2 inb_S8x128x128_S1x128x128_2_0_0 x), fun x => h1 x _ (emb0 1 inb_S8x128x128_S1x128x128_1_0_0 x) (emb1 1 inb_S8x128x128_S1x128x128_1_0_0 x) (emb2 1 inb_S8x128x128_S1x128x128_1_0_0 x), fun x => h0 x _ (emb0 0 inb_S8x128x128_S1x128x128_0_0_0 x) (emb1 0 inb_S8x128x128_S1x128x128_0_0_0 x) (emb2 0 inb_S8x128x128_S1x128x128_0_0_0 x), trivial⟩ y ?_
  have l0 : (y 0).val < 8 := (y 0).isLt
  have l1 : (y 1).val < 128 := (y 1).isLt
  have l2 : (y 2).val < 128 := (y 2).isLt
  have key : ∀ (k : ℕ) (inb : ∀ a, (![k, 0, 0] : Fin 3 → ℕ) a + (![1, 128, 128] : Fin 3 → ℕ) a ≤ S8x128x128.size a), (y 0).val = k →
      y ∈ (Rect.unit (s := S8x128x128) ![k, 0, 0] ![1, 128, 128] inb).set := by
    intro k inb e
    rw [Rect.mem_set_unit]
    intro a
    fin_cases a
    · exact ⟨by show k ≤ (y 0).val; omega, by show (y 0).val < k + 1; omega⟩
    · exact ⟨Nat.zero_le _, by show (y 1).val < 0 + 128; omega⟩
    · exact ⟨Nat.zero_le _, by show (y 2).val < 0 + 128; omega⟩
  have cs : (y 0).val = 0 ∨ (y 0).val = 1 ∨ (y 0).val = 2 ∨ (y 0).val = 3 ∨ (y 0).val = 4 ∨ (y 0).val = 5 ∨ (y 0).val = 6 ∨ (y 0).val = 7 := by omega
  rcases cs with e | e | e | e | e | e | e | e
  · exact ⟨⟨Rect.unit ![0, 0, 0] ![1, 128, 128] inb_S8x128x128_S1x128x128_0_0_0, w0⟩, by simp, key 0 inb_S8x128x128_S1x128x128_0_0_0 e⟩
  · exact ⟨⟨Rect.unit ![1, 0, 0] ![1, 128, 128] inb_S8x128x128_S1x128x128_1_0_0, w1⟩, by simp, key 1 inb_S8x128x128_S1x128x128_1_0_0 e⟩
  · exact ⟨⟨Rect.unit ![2, 0, 0] ![1, 128, 128] inb_S8x128x128_S1x128x128_2_0_0, w2⟩, by simp, key 2 inb_S8x128x128_S1x128x128_2_0_0 e⟩
  · exact ⟨⟨Rect.unit ![3, 0, 0] ![1, 128, 128] inb_S8x128x128_S1x128x128_3_0_0, w3⟩, by simp, key 3 inb_S8x128x128_S1x128x128_3_0_0 e⟩
  · exact ⟨⟨Rect.unit ![4, 0, 0] ![1, 128, 128] inb_S8x128x128_S1x128x128_4_0_0, w4⟩, by simp, key 4 inb_S8x128x128_S1x128x128_4_0_0 e⟩
  · exact ⟨⟨Rect.unit ![5, 0, 0] ![1, 128, 128] inb_S8x128x128_S1x128x128_5_0_0, w5⟩, by simp, key 5 inb_S8x128x128_S1x128x128_5_0_0 e⟩
  · exact ⟨⟨Rect.unit ![6, 0, 0] ![1, 128, 128] inb_S8x128x128_S1x128x128_6_0_0, w6⟩, by simp, key 6 inb_S8x128x128_S1x128x128_6_0_0 e⟩
  · exact ⟨⟨Rect.unit ![7, 0, 0] ![1, 128, 128] inb_S8x128x128_S1x128x128_7_0_0, w7⟩, by simp, key 7 inb_S8x128x128_S1x128x128_7_0_0 e⟩

theorem scr_A (c) (t : Fin cfg0.N) (h0 : t.val % 64 = 0) :
    (outsAt0 m c t.val t.isLt).2.2 = nextS (iblk m c 0 t) (iblk m c 1 t) (iblk m c 2 t) (iblk m c 3 t) (iblk m c 4 t) (iblk m c 5 t) (k0_pay2 (iblk m c 6 t)) := by
  rw [outsAt0_A m c t h0 (by omega)]; dsimp only; frame_out
  refine over_fill _ _ _ _ _ _ _ _ _ _ ?_ ?_ ?_ ?_ ?_ ?_ ?_ ?_
  · intro x y e0 e1 e2; rw [fill_read]; exact ((nextS_at _ _ _ _ _ _ _ 0 y x e0 e1 e2).trans rfl).symm
  · intro x y e0 e1 e2; rw [fill_read]; exact ((nextS_at _ _ _ _ _ _ _ 1 y x e0 e1 e2).trans rfl).symm
  · intro x y e0 e1 e2; rw [fill_read]; exact ((nextS_at _ _ _ _ _ _ _ 2 y x e0 e1 e2).trans rfl).symm
  · intro x y e0 e1 e2; rw [fill_read]; exact ((nextS_at _ _ _ _ _ _ _ 3 y x e0 e1 e2).trans rfl).symm
  · intro x y e0 e1 e2; rw [fill_read]; exact ((nextS_at _ _ _ _ _ _ _ 4 y x e0 e1 e2).trans rfl).symm
  · intro x y e0 e1 e2; rw [fill_read]; exact ((nextS_at _ _ _ _ _ _ _ 5 y x e0 e1 e2).trans rfl).symm
  · intro x y e0 e1 e2; rw [fill_read]; exact ((nextS_at _ _ _ _ _ _ _ 6 y x e0 e1 e2).trans rfl).symm
  · intro x y e0 e1 e2; rw [fill_read]; exact ((nextS_at _ _ _ _ _ _ _ 7 y x e0 e1 e2).trans rfl).symm

theorem y_A (c) (t : Fin cfg0.N) (h0 : t.val % 64 = 0) :
    (outsAt0 m c t.val t.isLt).1 = outS (iblk m c 0 t) (iblk m c 1 t) (iblk m c 2 t) (iblk m c 3 t) (iblk m c 4 t) (iblk m c 5 t) (k0_pay2 (iblk m c 6 t)) := by
  rw [outsAt0_A m c t h0 (by omega)]; dsimp only; frame_out; funext y; canon_tiles x h
  case piece0 => rw [fill_read]; exact ((outS_at _ _ _ _ _ _ _ 7 y x (by simp; omega) (by simp; omega)).trans rfl).symm
  case piece1 => rw [fill_read]; exact ((outS_at _ _ _ _ _ _ _ 6 y x (by simp; omega) (by simp; omega)).trans rfl).symm
  case piece2 => rw [fill_read]; exact ((outS_at _ _ _ _ _ _ _ 5 y x (by simp; omega) (by simp; omega)).trans rfl).symm
  case piece3 => rw [fill_read]; exact ((outS_at _ _ _ _ _ _ _ 4 y x (by simp; omega) (by simp; omega)).trans rfl).symm
  case piece4 => rw [fill_read]; exact ((outS_at _ _ _ _ _ _ _ 3 y x (by simp; omega) (by simp; omega)).trans rfl).symm
  case piece5 => rw [fill_read]; exact ((outS_at _ _ _ _ _ _ _ 2 y x (by simp; omega) (by simp; omega)).trans rfl).symm
  case piece6 => rw [fill_read]; exact ((outS_at _ _ _ _ _ _ _ 1 y x (by simp; omega) (by simp; omega)).trans rfl).symm
  case piece7 => rw [fill_read]; exact ((outS_at _ _ _ _ _ _ _ 0 y x (by simp; omega) (by simp; omega)).trans rfl).symm

theorem sout_C (c) (t : Fin cfg0.N) (h0 : ¬t.val % 64 = 0) (h1 : t.val % 64 = 63) :
    (outsAt0 m c t.val t.isLt).2.1 = k0_pay1 (outsAt0 m c t.val t.isLt).2.2 := by
  rw [outsAt0_C m c t h0 h1]; dsimp only; frame_out
  refine congrArg k0_pay1 ?_
  rw [View.readCov_eq_canon']
  funext j
  refine congrArg (View.canon _) ?_
  funext a
  fin_cases a <;> exact Fin.ext (by show 0 + 1 * _ = _; omega)

end Cert.KernelIdeal.Hand

end
-- ==== Proof.WkvScale.lean ====
/- A chunk's summed log-decays and the rows scaled by them, at entries that are real numbers. -/
module

public import proofs.«01_k».proof.Proof.WkvChunk
public import proofs.«01_k».proof.Proof.WkvCases

@[expose] public section

set_option maxRecDepth 16384

noncomputable section

open Idealize.ShloMosaic Idealize.ShloMosaic.TcCoe Idealize.SL.Sem

namespace Cert.KernelIdeal.Hand

open Cert.KernelIdeal Cert.KernelIdeal.Gen Cert.Wkv

/-- A block of 64 rows of real entries. -/
abbrev IsB (x : Vec Ideal S1x64x1024 .f32) (X : ℕ → Fin 1024 → ℝ) : Prop := ∀ (t : Fin 64) (l : Fin 1024), x (ix3 0 t l) = ((X t.val l : ℝ) : EReal)

theorem le64_at (i j : Fin 64) : IntOp.cmpi .sle (BitVec.ofNat 32 j.val) (BitVec.ofNat 32 i.val) = if j.val < i.val + 1 then 1#1 else 0#1 := by
  rw [WordCmp.cmpi_sle_ofNat (by have := j.isLt; omega) (by have := i.isLt; omega)]
  by_cases h : j.val ≤ i.val <;> simp [h, Nat.lt_succ_iff]

theorem prefix_sum (g : ℕ → ℝ) (t : Fin 64) : ∑ s : Fin 64, (if s.val < t.val + 1 then g s.val else 0) = ∑ s ∈ Finset.range (t.val + 1), g s := by
  rw [Fin.sum_univ_eq_sum_range (fun s => if s < t.val + 1 then g s else 0) 64, ← Finset.sum_filter]
  refine Finset.sum_congr ?_ fun _ _ => rfl
  ext s
  have := t.isLt
  simp only [Finset.mem_filter, Finset.mem_range]
  omega

/-- Summed rows of the running log-decays of all lanes. -/
abbrev cums (W : ℕ → Fin 1024 → ℝ) (t : ℕ) (l : Fin 1024) : ℝ := ∑ s ∈ Finset.range t, W s l

section
variable {x : Vec Ideal S1x64x1024 .f32} {W : ℕ → Fin 1024 → ℝ} (h : IsB x W)

theorem row_at (x : Vec Ideal S1x64x1024 .f32) (t : Fin 64) (l : Fin 1024) : k0_pay4 (F := Ideal) x (ix2 t l) = x (ix3 0 t l) := by pointwise [k0_pay4]

theorem zero_of (y : ℝ) : ((y : ℝ) : EReal) - (y : EReal) = 0 := by rw [← EReal.coe_sub, sub_self, EReal.coe_zero]

include h in
theorem part0 (t : Fin 64) (l : Fin 1024) : k0_pay9 x (ix2 t (⟨l.val, by omega⟩ : Fin 3072)) = ((cums W (t.val + 1) l : ℝ) : EReal) := by
  have q : (⟨l.val, by omega⟩ : Fin 3072).val < 1024 := l.isLt
  pointwise [k0_pay9]
  show _ = ((∑ s ∈ Finset.range (t.val + 1), W s l : ℝ) : EReal)
  rw [← prefix_sum, coe_sum]
  refine Finset.sum_congr rfl fun s _ => ?_
  rw [le64_at, sel1]
  by_cases hs : s.val < t.val + 1
  · rw [if_pos hs, if_pos hs]
    exact (row_at x s l).trans (h s l)
  · rw [if_neg hs, if_neg hs, EReal.coe_zero]

include h in
theorem part1 (t : Fin 64) (l : Fin 1024) : k0_pay9 x (ix2 t (⟨1024 + l.val, by omega⟩ : Fin 3072)) = 0 := by
  have q : ¬(⟨1024 + l.val, by omega⟩ : Fin 3072).val < 1024 := by show ¬1024 + l.val < 1024; omega
  have q1 : (⟨1024 + l.val, by omega⟩ : Fin 3072).val - 1024 < 1024 := by show 1024 + l.val - 1024 < 1024; omega
  pointwise [k0_pay9]
  refine Finset.sum_eq_zero fun s _ => ?_
  rw [le64_at, sel1, row_at, h, zero_of, ite_self]

include h in
theorem part2 (t : Fin 64) (l : Fin 1024) : k0_pay9 x (ix2 t (⟨2048 + l.val, by omega⟩ : Fin 3072)) = 0 := by
  have q : ¬(⟨2048 + l.val, by omega⟩ : Fin 3072).val < 1024 := by show ¬2048 + l.val < 1024; omega
  have q1 : ¬(⟨2048 + l.val, by omega⟩ : Fin 3072).val - 1024 < 1024 := by show ¬2048 + l.val - 1024 < 1024; omega
  pointwise [k0_pay9]
  refine Finset.sum_eq_zero fun s _ => ?_
  rw [le64_at, sel1, dif_neg (show ¬2048 + l.val < 1024 by omega), dif_neg (show ¬2048 + l.val - 1024 < 1024 by omega), row_at, h, zero_of, sub_zero, ite_self]

include h in
theorem cums_at (t : Fin 64) (l : Fin 1024) : k0_pay11 (k0_pay9 x) (k0_pay10 x) (ix2 t l) = ((cums W (t.val + 1) l : ℝ) : EReal) := by
  have e : k0_pay11 (k0_pay9 x) (k0_pay10 x) (ix2 t l)
      = k0_pay9 x (ix2 t (⟨l.val, by omega⟩ : Fin 3072)) + k0_pay9 x (ix2 t (⟨1024 + l.val, by omega⟩ : Fin 3072)) + k0_pay9 x (ix2 t (⟨2048 + l.val, by omega⟩ : Fin 3072)) := by
    pointwise [k0_pay11, k0_pay10]
  rw [e, part0 h, part1 h, part2 h, add_zero, add_zero]

include h in
theorem tot_at (l : Fin 1024) : k0_pay12 (k0_pay9 x) (k0_pay10 x) (ix2 0 l) = ((cums W 64 l : ℝ) : EReal) := by
  have e : k0_pay12 (k0_pay9 x) (k0_pay10 x) (ix2 0 l) = k0_pay11 (k0_pay9 x) (k0_pay10 x) (ix2 (63 : Fin 64) l) := by pointwise [k0_pay12]
  rw [e, cums_at h]
  rfl

end

/-- Lane `l` of pair `p`, and the pair's lanes of rows. -/
abbrev lane (p : Fin 8) (l : Fin 128) : Fin 1024 := ⟨128 * p.val + l.val, by omega⟩
abbrev pairOf (p : Fin 8) (X : ℕ → Fin 1024 → ℝ) : ℕ → Fin 128 → ℝ := fun t l => X t (lane p l)

theorem cut_at (p : Fin 8) (x : FVec Ideal S64x1024 .f32) (t : Fin 64) (l : Fin 128) : cutV p x (ix2 t l) = x (ix2 t (lane p l)) := by
  pointwise [cutV]

theorem cut1_at (p : Fin 8) (x : FVec Ideal S1x1024 .f32) (l : Fin 128) : cutV1 p x (ix2 0 l) = x (ix2 0 (lane p l)) := by
  pointwise [cutV1]

section
variable {x0 x1 x2 x3 x4 x5 : Vec Ideal S1x64x1024 .f32} {R W K V A B : ℕ → Fin 1024 → ℝ} (p : Fin 8)
  (h0 : IsB x0 R) (h1 : IsB x1 W) (h2 : IsB x2 K) (h3 : IsB x3 V) (h4 : IsB x4 A) (h5 : IsB x5 B)

include h1 h4 in
theorem aV_is : IsH (aV x1 x4 p) (grown (pairOf p W) 0 (pairOf p A)) := by
  intro t l
  have e : aV x1 x4 p (ix2 t l) = x4 (ix3 0 t (lane p l)) * Ideal.exp (k0_pay11 (k0_pay9 x1) (k0_pay10 x1) (ix2 t (lane p l)) - x1 (ix3 0 t (lane p l))) := by
    rw [aV, cut_at]
    pointwise [k0_pay15, k0_pay4, k0_pay7]
  rw [e, cums_at h1, h1, h4, ← EReal.coe_sub, Ideal.exp_coe, ← EReal.coe_mul]
  unfold grown cum
  rw [show cums W (t.val + 1) (lane p l) - W t.val (lane p l) = cums W (t.val + 0) (lane p l) by simp only [cums, Finset.sum_range_succ, add_zero]; ring]

include h0 h1 in
theorem rV_is : IsH (rV x0 x1 p) (grown (pairOf p W) 1 (pairOf p R)) := by
  intro t l
  have e : rV x0 x1 p (ix2 t l) = x0 (ix3 0 t (lane p l)) * Ideal.exp (k0_pay11 (k0_pay9 x1) (k0_pay10 x1) (ix2 t (lane p l))) := by
    rw [rV, cut_at]
    pointwise [k0_pay16, k0_pay3]
  rw [e, cums_at h1, h0, Ideal.exp_coe, ← EReal.coe_mul]
  rfl

include h1 h5 in
theorem bV_is : IsH (bV x1 x5 p) (shrunk (pairOf p W) (pairOf p B)) := by
  intro t l
  have e : bV x1 x5 p (ix2 t l) = x5 (ix3 0 t (lane p l)) * Ideal.exp (0 - k0_pay11 (k0_pay9 x1) (k0_pay10 x1) (ix2 t (lane p l))) := by
    rw [bV, cut_at]
    pointwise [k0_pay17, k0_pay13, k0_pay8]
  rw [e, cums_at h1, h5, ← EReal.coe_zero, ← EReal.coe_sub, Ideal.exp_coe, ← EReal.coe_mul]
  rfl

include h1 h2 in
theorem kV_is : IsH (kV x1 x2 p) (shrunk (pairOf p W) (pairOf p K)) := by
  intro t l
  have e : kV x1 x2 p (ix2 t l) = x2 (ix3 0 t (lane p l)) * Ideal.exp (0 - k0_pay11 (k0_pay9 x1) (k0_pay10 x1) (ix2 t (lane p l))) := by
    rw [kV, cut_at]
    pointwise [k0_pay18, k0_pay13, k0_pay5]
  rw [e, cums_at h1, h2, ← EReal.coe_zero, ← EReal.coe_sub, Ideal.exp_coe, ← EReal.coe_mul]
  rfl

include h1 h5 in
theorem bEV_is : IsH (bEV x1 x5 p) (toEnd (pairOf p W) (pairOf p B)) := by
  intro t l
  have e : bEV x1 x5 p (ix2 t l) = x5 (ix3 0 t (lane p l)) * Ideal.exp (k0_pay12 (k0_pay9 x1) (k0_pay10 x1) (ix2 0 (lane p l)) - k0_pay11 (k0_pay9 x1) (k0_pay10 x1) (ix2 t (lane p l))) := by
    rw [bEV, cut_at]
    pointwise [k0_pay19, k0_pay14, k0_pay8]
  rw [e, cums_at h1, tot_at h1, h5, ← EReal.coe_sub, Ideal.exp_coe, ← EReal.coe_mul]
  rfl

include h1 h2 in
theorem kEV_is : IsH (kEV x1 x2 p) (toEnd (pairOf p W) (pairOf p K)) := by
  intro t l
  have e : kEV x1 x2 p (ix2 t l) = x2 (ix3 0 t (lane p l)) * Ideal.exp (k0_pay12 (k0_pay9 x1) (k0_pay10 x1) (ix2 0 (lane p l)) - k0_pay11 (k0_pay9 x1) (k0_pay10 x1) (ix2 t (lane p l))) := by
    rw [kEV, cut_at]
    pointwise [k0_pay20, k0_pay14, k0_pay5]
  rw [e, cums_at h1, tot_at h1, h2, ← EReal.coe_sub, Ideal.exp_coe, ← EReal.coe_mul]
  rfl

include h3 in
theorem vV_is : IsH (cutV p (k0_pay6 x3)) (pairOf p V) := by
  intro t l
  rw [cut_at]
  have e : k0_pay6 (F := Ideal) x3 (ix2 t (lane p l)) = x3 (ix3 0 t (lane p l)) := by pointwise [k0_pay6]
  rw [e, h3]

include h1 in
theorem wV_is (l : Fin 128) : wV x1 p (ix2 0 l) = ((Real.exp (cum (pairOf p W) 64 l) : ℝ) : EReal) := by
  have e : wV x1 p (ix2 0 l) = Ideal.exp (k0_pay12 (k0_pay9 x1) (k0_pay10 x1) (ix2 0 (lane p l))) := by
    rw [wV, cut1_at]
    pointwise [k0_pay21]
  rw [e, tot_at h1, Ideal.exp_coe]
  rfl

theorem oldV_at (s : Vec Ideal S8x128x128 .f32) (d l : Fin 128) : oldV p s (ix2 d l) = s (ix3 p d l) := by
  have e : ∀ z : Vec Ideal S1x128x128 .f32, shapeCast S128x128 z shapeCasts_S1x128x128_S128x128 (ix2 d l) = z (ix3 0 d l) := by
    intro z
    pointwise []
  refine (e _).trans (congrArg s ?_)
  funext a
  fin_cases a
  · exact Fin.ext (by show p.val + 1 * 0 = p.val; omega)
  · exact Fin.ext (by show 0 + 1 * d.val = d.val; omega)
  · exact Fin.ext (by show 0 + 1 * l.val = l.val; omega)

end

/-- Carried states of real entries, one square block per pair. -/
abbrev IsC (s : Vec Ideal S8x128x128 .f32) (S : Fin 8 → Sq) : Prop := ∀ (p : Fin 8) (d l : Fin 128), s (ix3 p d l) = ((S p d l : ℝ) : EReal)

section
variable {x0 x1 x2 x3 x4 x5 : Vec Ideal S1x64x1024 .f32} {R W K V A B : ℕ → Fin 1024 → ℝ} {s : Vec Ideal S8x128x128 .f32} {S : Fin 8 → Sq}
  (h0 : IsB x0 R) (h1 : IsB x1 W) (h2 : IsB x2 K) (h3 : IsB x3 V) (h4 : IsB x4 A) (h5 : IsB x5 B) (hs : IsC s S) (off : ∀ p d l, ¬Same d l → S p d l = 0)

include h0 h1 h2 h3 h4 h5 hs off

/-- A chunk's next states. -/
theorem nextS_is : IsC (nextS x0 x1 x2 x3 x4 x5 s) fun p => state (pairOf p W) (pairOf p K) (pairOf p V) (pairOf p A) (pairOf p B) (S p) 64 :=
  fun p d l => next_is (aV_is p h1 h4) (bV_is p h1 h5) (kV_is p h1 h2) (vV_is p h3) (bEV_is p h1 h5) (kEV_is p h1 h2) (wV_is p h1)
    (fun d l => (oldV_at p s d l).trans (hs p d l)) (off p) d l

/-- A chunk's readouts. -/
theorem outS_is (p : Fin 8) (t : Fin 64) (d : Fin 128) :
    outS x0 x1 x2 x3 x4 x5 s (ix3 0 t (lane p d)) = ((readout (pairOf p W) (pairOf p R) (pairOf p K) (pairOf p V) (pairOf p A) (pairOf p B) (S p) t.val d : ℝ) : EReal) :=
  (outS_at x0 x1 x2 x3 x4 x5 s p (ix3 0 t (lane p d)) (ix3 0 t d) rfl rfl).trans
    (out_is (aV_is p h1 h4) (rV_is p h0 h1) (bV_is p h1 h5) (kV_is p h1 h2) (vV_is p h3) (fun d l => (oldV_at p s d l).trans (hs p d l)) (off p) t d)

end

end Cert.KernelIdeal.Hand

end
-- ==== Proof.WkvRun.lean ====
/- The kernel's run at arguments of real entries: the carried states follow the recurrence from chunk to chunk. -/
module

public import proofs.«01_k».proof.Proof.WkvScale

@[expose] public section

set_option maxRecDepth 16384

noncomputable section

open Idealize.ShloMosaic Idealize.ShloMosaic.TcCoe Idealize.SL.Sem

namespace Cert.KernelIdeal.Hand

open Cert.KernelIdeal Cert.KernelIdeal.Gen Cert.Wkv

variable (m : (ℓ : Loc nD τ sig) → Buf (Elt Ideal) ℓ) (c : Dev nD)

theorem lt128 (t : Fin cfg0.N) : t.val < 128 := t.isLt

theorem idx0 : ∀ t : Fin cfg0.N, win0_0.index t = ![t.val / 64, t.val % 64, 0] := (by decide +kernel : ∀ t : Fin grid0.N, _)
theorem idx1 : ∀ t : Fin cfg0.N, win0_1.index t = ![t.val / 64, t.val % 64, 0] := (by decide +kernel : ∀ t : Fin grid0.N, _)
theorem idx2 : ∀ t : Fin cfg0.N, win0_2.index t = ![t.val / 64, t.val % 64, 0] := (by decide +kernel : ∀ t : Fin grid0.N, _)
theorem idx3 : ∀ t : Fin cfg0.N, win0_3.index t = ![t.val / 64, t.val % 64, 0] := (by decide +kernel : ∀ t : Fin grid0.N, _)
theorem idx4 : ∀ t : Fin cfg0.N, win0_4.index t = ![t.val / 64, t.val % 64, 0] := (by decide +kernel : ∀ t : Fin grid0.N, _)
theorem idx5 : ∀ t : Fin cfg0.N, win0_5.index t = ![t.val / 64, t.val % 64, 0] := (by decide +kernel : ∀ t : Fin grid0.N, _)
theorem idx7 : ∀ t : Fin cfg0.N, win0_7.index t = ![t.val / 64, t.val % 64, 0] := (by decide +kernel : ∀ t : Fin grid0.N, _)
theorem idx8 : ∀ t : Fin cfg0.N, win0_8.index t = ![t.val / 64, 0, 0, 0] := (by decide +kernel : ∀ t : Fin grid0.N, _)

/-- An argument of real entries. -/
abbrev IsA (x : FVec Ideal S2x4096x1024 .f32) (X : ℕ → ℕ → Fin 1024 → ℝ) : Prop := ∀ (q : Fin 2) (t : Fin 4096) (l : Fin 1024), x (ix3 q t l) = ((X q.val t.val l : ℝ) : EReal)

variable {R W K V A B : ℕ → ℕ → Fin 1024 → ℝ}
  (h0 : IsA (m ((c : Thread nD τ).loc main_arg0)) R) (h1 : IsA (m ((c : Thread nD τ).loc main_arg1)) W) (h2 : IsA (m ((c : Thread nD τ).loc main_arg2)) K)
  (h3 : IsA (m ((c : Thread nD τ).loc main_arg3)) V) (h4 : IsA (m ((c : Thread nD τ).loc main_arg4)) A) (h5 : IsA (m ((c : Thread nD τ).loc main_arg5)) B)

/-- A chunk's rows of a sequence. -/
abbrev chunk (t : ℕ) (X : ℕ → ℕ → Fin 1024 → ℝ) : ℕ → Fin 1024 → ℝ := fun s => X (t / 64) (64 * (t % 64) + s)

include h0 in
theorem blk0 (t : Fin cfg0.N) : IsB (iblk m c 0 t) (chunk t.val R) := by
  intro s l
  have ht := lt128 t
  refine Eq.trans ?_ (h0 ⟨t.val / 64, by omega⟩ ⟨64 * (t.val % 64) + s.val, by omega⟩ l)
  blk_ext [iblk, Gen.V, idx0 t]

include h1 in
theorem blk1 (t : Fin cfg0.N) : IsB (iblk m c 1 t) (chunk t.val W) := by
  intro s l
  have ht := lt128 t
  refine Eq.trans ?_ (h1 ⟨t.val / 64, by omega⟩ ⟨64 * (t.val % 64) + s.val, by omega⟩ l)
  blk_ext [iblk, Gen.V, idx1 t]

include h2 in
theorem blk2 (t : Fin cfg0.N) : IsB (iblk m c 2 t) (chunk t.val K) := by
  intro s l
  have ht := lt128 t
  refine Eq.trans ?_ (h2 ⟨t.val / 64, by omega⟩ ⟨64 * (t.val % 64) + s.val, by omega⟩ l)
  blk_ext [iblk, Gen.V, idx2 t]

include h3 in
theorem blk3 (t : Fin cfg0.N) : IsB (iblk m c 3 t) (chunk t.val V) := by
  intro s l
  have ht := lt128 t
  refine Eq.trans ?_ (h3 ⟨t.val / 64, by omega⟩ ⟨64 * (t.val % 64) + s.val, by omega⟩ l)
  blk_ext [iblk, Gen.V, idx3 t]

include h4 in
theorem blk4 (t : Fin cfg0.N) : IsB (iblk m c 4 t) (chunk t.val A) := by
  intro s l
  have ht := lt128 t
  refine Eq.trans ?_ (h4 ⟨t.val / 64, by omega⟩ ⟨64 * (t.val % 64) + s.val, by omega⟩ l)
  blk_ext [iblk, Gen.V, idx4 t]

include h5 in
theorem blk5 (t : Fin cfg0.N) : IsB (iblk m c 5 t) (chunk t.val B) := by
  intro s l
  have ht := lt128 t
  refine Eq.trans ?_ (h5 ⟨t.val / 64, by omega⟩ ⟨64 * (t.val % 64) + s.val, by omega⟩ l)
  blk_ext [iblk, Gen.V, idx5 t]

/-- The states a sequence starts from. -/
theorem start (t : Fin cfg0.N) : IsC (k0_pay2 (iblk m c 6 t)) fun _ => 0 := by
  intro p d l
  have e : ∀ z : Vec Ideal S1x8x128x128 .f32, k0_pay2 z (ix3 p d l) = z (ix4 0 p d l) := by
    intro z
    pointwise [k0_pay2]
  refine (e _).trans ?_
  blk_simp [iblk]
  entry_read
  pointwise
  rfl

/-- The states of sequence `q` after `n` steps, and its readouts. -/
abbrev st (W K V A B : ℕ → ℕ → Fin 1024 → ℝ) (q n : ℕ) (p : Fin 8) : Sq :=
  state (pairOf p (W q)) (pairOf p (K q)) (pairOf p (V q)) (pairOf p (A q)) (pairOf p (B q)) 0 n
abbrev ro (R W K V A B : ℕ → ℕ → Fin 1024 → ℝ) (q n : ℕ) (p : Fin 8) (d : Fin 128) : ℝ :=
  readout (pairOf p (W q)) (pairOf p (R q)) (pairOf p (K q)) (pairOf p (V q)) (pairOf p (A q)) (pairOf p (B q)) 0 n d

theorem st_off (q n : ℕ) (p : Fin 8) (d l : Fin 128) (h : ¬Same d l) : st W K V A B q n p d l = 0 :=
  state_off _ _ _ _ _ _ (fun _ _ _ => rfl) n d l h

section
include h1 h2 h3 h4 h5

/-- One chunk more. -/
theorem chunk_step (t : Fin cfg0.N) (s : Vec Ideal S8x128x128 .f32) (hs : IsC s (st W K V A B (t.val / 64) (64 * (t.val % 64)))) :
    IsC (nextS (iblk m c 0 t) (iblk m c 1 t) (iblk m c 2 t) (iblk m c 3 t) (iblk m c 4 t) (iblk m c 5 t) s) (st W K V A B (t.val / 64) (64 * (t.val % 64) + 64)) := by
  intro p d l
  refine (next_is (aV_is p (blk1 m c h1 t) (blk4 m c h4 t)) (bV_is p (blk1 m c h1 t) (blk5 m c h5 t)) (kV_is p (blk1 m c h1 t) (blk2 m c h2 t)) (vV_is p (blk3 m c h3 t)) (bEV_is p (blk1 m c h1 t) (blk5 m c h5 t)) (kEV_is p (blk1 m c h1 t) (blk2 m c h2 t)) (wV_is p (blk1 m c h1 t))
    (fun d l => (oldV_at p s d l).trans (hs p d l)) (st_off _ _ p) d l).trans ?_
  exact congrArg (fun z : Sq => ((z d l : ℝ) : EReal)) (state_shift (pairOf p (W (t.val / 64))) (pairOf p (K (t.val / 64))) (pairOf p (V (t.val / 64))) (pairOf p (A (t.val / 64))) (pairOf p (B (t.val / 64))) 0 (64 * (t.val % 64)) 64)

theorem scratch : ∀ (n : ℕ) (h : n < cfg0.N), IsC (outsAt0 m c n h).2.2 (st W K V A B (n / 64) (64 * (n % 64) + 64)) := by
  intro n
  induction n with
  | zero =>
    intro h
    exact (scr_A m c ⟨0, h⟩ rfl) ▸ chunk_step m c h1 h2 h3 h4 h5 ⟨0, h⟩ _ (start m c ⟨0, h⟩)
  | succ n ih =>
    intro h
    by_cases e0 : (n + 1) % 64 = 0
    · have z : 64 * ((n + 1) % 64) = 0 := by omega
      have b := chunk_step m c h1 h2 h3 h4 h5 ⟨n + 1, h⟩ _ (by rw [z]; exact start m c ⟨n + 1, h⟩)
      rw [← scr_A m c ⟨n + 1, h⟩ e0] at b
      exact b
    · have i := ih (by omega)
      have z : 64 * ((n + 1) % 64) = 64 * (n % 64) + 64 := by omega
      have z2 : (n + 1) / 64 = n / 64 := by omega
      have b := chunk_step m c h1 h2 h3 h4 h5 ⟨n + 1, h⟩ (outsAt0 m c n (by omega)).2.2 (by rw [z, z2]; exact i)
      by_cases e1 : (n + 1) % 64 = 63
      · rw [show (outsAt0 m c (n + 1) h).2.2 = _ from scr_C m c ⟨n + 1, h⟩ e0 e1]
        exact b
      · rw [show (outsAt0 m c (n + 1) h).2.2 = _ from scr_B m c ⟨n + 1, h⟩ e0 e1]
        exact b

include h0

theorem chunk_out (t : Fin cfg0.N) (s : Vec Ideal S8x128x128 .f32) (hs : IsC s (st W K V A B (t.val / 64) (64 * (t.val % 64)))) (p : Fin 8) (i : Fin 64) (d : Fin 128) :
    outS (iblk m c 0 t) (iblk m c 1 t) (iblk m c 2 t) (iblk m c 3 t) (iblk m c 4 t) (iblk m c 5 t) s (ix3 0 i (lane p d)) = ((ro R W K V A B (t.val / 64) (64 * (t.val % 64) + i.val) p d : ℝ) : EReal) := by
  refine (outS_is (blk0 m c h0 t) (blk1 m c h1 t) (blk2 m c h2 t) (blk3 m c h3 t) (blk4 m c h4 t) (blk5 m c h5 t) hs (st_off _ _) p i d).trans ?_
  unfold ro readout
  have e := state_shift (pairOf p (W (t.val / 64))) (pairOf p (K (t.val / 64))) (pairOf p (V (t.val / 64))) (pairOf p (A (t.val / 64))) (pairOf p (B (t.val / 64))) 0 (64 * (t.val % 64)) (i.val + 1)
  exact congrArg (fun z : Sq => ((∑ e, z d e * R (t.val / 64) (64 * (t.val % 64) + i.val) (lane p e) : ℝ) : EReal)) e

theorem outs (t : Fin cfg0.N) (p : Fin 8) (i : Fin 64) (d : Fin 128) :
    (outsAt0 m c t.val t.isLt).1 (ix3 0 i (lane p d)) = ((ro R W K V A B (t.val / 64) (64 * (t.val % 64) + i.val) p d : ℝ) : EReal) := by
  by_cases e0 : t.val % 64 = 0
  · rw [y_A m c t e0]
    refine chunk_out m c h0 h1 h2 h3 h4 h5 t _ ?_ p i d
    have z : 64 * (t.val % 64) = 0 := by omega
    rw [z]
    exact start m c t
  · have z : 64 * (t.val % 64) = 64 * ((t.val - 1) % 64) + 64 := by omega
    have z2 : t.val / 64 = (t.val - 1) / 64 := by omega
    have ht := lt128 t
    have b := chunk_out m c h0 h1 h2 h3 h4 h5 t (outsAt0 m c (t.val - 1) (by omega)).2.2 (by rw [z, z2]; exact scratch m c h1 h2 h3 h4 h5 (t.val - 1) (by omega)) p i d
    by_cases e1 : t.val % 64 = 63
    · rw [y_C m c t e0 e1]
      exact b
    · rw [y_B m c t e0 e1]
      exact b

end

/-- The two result arrays, by coordinates. -/
def resY (R W K V A B : ℕ → ℕ → Fin 1024 → ℝ) : FVec Ideal S2x4096x1024 .f32 := fun y =>
  ((ro R W K V A B (y 0).val (y 1).val ⟨(y 2).val / 128, by have h : (y 2).val < 1024 := (y 2).isLt; omega⟩ ⟨(y 2).val % 128, by omega⟩ : ℝ) : EReal)
def resS (W K V A B : ℕ → ℕ → Fin 1024 → ℝ) : FVec Ideal S2x8x128x128 .f32 := fun y => ((st W K V A B (y 0).val 4096 (y 1) (y 2) (y 3) : ℝ) : EReal)

include h0 h1 h2 h3 h4 h5

theorem finalY : Value.G7 m c = resY R W K V A B := by
  refine (Value.final7 m c).symm.trans ((dats m 0 c).arrAt_eq_of_covers 7 _ (by decide +kernel) fun t hf y => ?_)
  blk_simp
  rw [after0_7]
  idx_vars y
  have ht := lt128 t
  have hi : ((win0_7.blk t).view.emb (ix3 y0 y1 y2) : S2x4096x1024.Idx) = ix3 ⟨t.val / 64, by omega⟩ ⟨64 * (t.val % 64) + y1.val, by omega⟩ y2 := by
    blk_ext [idx7 t]
  have hy : (ix3 y0 y1 y2 : S1x64x1024.Idx) = ix3 0 y1 (lane ⟨y2.val / 128, by omega⟩ ⟨y2.val % 128, by omega⟩) := by
    funext a
    fin_cases a
    · exact Fin.ext (by show y0.val = 0; omega)
    · rfl
    · exact Fin.ext (by show y2.val = 128 * (y2.val / 128) + y2.val % 128; omega)
  refine Eq.trans ?_ (congrArg (resY R W K V A B) hi).symm
  refine Eq.trans (congrArg _ hy) ?_
  exact outs m c h0 h1 h2 h3 h4 h5 t _ y1 _

omit h0 in
theorem finalS : Value.G8 m c = resS W K V A B := by
  refine (Value.final8 m c).symm.trans ((dats m 0 c).arrAt_eq_of_covers 8 _ (by decide +kernel) fun t hf y => ?_)
  have e := (flush0_8 t).mp hf
  blk_simp
  rw [after0_8]
  idx_vars y
  have ht := lt128 t
  have hi : ((win0_8.blk t).view.emb (ix4 y0 y1 y2 y3) : S2x8x128x128.Idx) = ix4 ⟨t.val / 64, by omega⟩ y1 y2 y3 := by
    blk_ext [idx8 t]
  have hp : ∀ z : Vec Ideal S8x128x128 .f32, k0_pay1 z (ix4 y0 y1 y2 y3) = z (ix3 y1 y2 y3) := by
    intro z
    pointwise [k0_pay1]
  refine Eq.trans ?_ (congrArg (resS W K V A B) hi).symm
  refine (congrFun (sout_C m c t (by omega) e) _).trans ((hp _).trans ((scratch m c h1 h2 h3 h4 h5 t.val t.isLt y1 y2 y3).trans ?_))
  rw [e]
  rfl

end Cert.KernelIdeal.Hand

end
-- ==== Proof.WkvRef.lean ====
/- The reference's recurrence at arguments of real entries. -/
module

public import proofs.«01_k».proof.Proof.Gen.ReferenceIdeal.Run
public import proofs.«01_k».proof.Proof.WkvRun
public import Idealize.ShloMosaic.Lib.DynamicIndex
public import Idealize.ShloMosaic.Lib.WordCmp
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.ShloMosaic.StableHlo Idealize.SL.Sem

namespace Cert.ReferenceIdeal.Hand

open Cert.ReferenceIdeal Cert.ReferenceIdeal.Gen Cert.ReferenceIdeal.Value Cert.Wkv

open Cert.KernelIdeal.Hand (coe_sum dot_is lane pairOf st ro st_off IsA)

/-- Where step `n` reads and writes the step-major arrays. -/
def startAt (n : (⟨S_, .i32⟩ : BufTy).Contents (Elt Ideal)) : Fin 4 → Int := (fun j => (((![n, constantI S_ 32 0#32, constantI S_ 32 0#32, constantI S_ 32 0#32] : Fin 4 → (⟨S_, .i32⟩ : BufTy).Contents (Elt Ideal))) j (Shape.Idx.first h_S_)).toInt)

def rowOf (x : FVec Ideal S4096x2x16x64 .f32) (n : (⟨S_, .i32⟩ : BufTy).Contents (Elt Ideal)) : FVec Ideal S2x16x64 .f32 :=
  shapeCast S2x16x64 (Host.dynamicSlice S1x2x16x64 x (startAt n) sliceFits_S4096x2x16x64_S1x2x16x64) shapeCasts_S1x2x16x64_S2x16x64

/-- The delta-rule step on all heads. -/
def nextOf (s : FVec Ideal S2x16x64x64 .f32) (w k v a b : FVec Ideal S2x16x64 .f32) : FVec Ideal S2x16x64x64 .f32 :=
  addf (addf (mulf s (broadcastInDim S2x16x64x64 ![0, 1, 2, 3] bcast_S2x16x1x64_S2x16x64x64_0_1_2_3 (broadcastInDim S2x16x1x64 ![0, 1, 3] bcast_S2x16x64_S2x16x1x64_0_1_3 w))) (mulf (broadcastInDim S2x16x64x64 ![0, 1, 2, 3] bcast_S2x16x64x1_S2x16x64x64_0_1_2_3 (broadcastInDim S2x16x64x1 ![0, 1, 2] bcast_S2x16x64_S2x16x64x1_0_1_2 (Host.dotGeneral dot_S2x16x64x64_S2x16x64_S2x16x64_3_2_2_n_01_01 none s a))) (broadcastInDim S2x16x64x64 ![0, 1, 2, 3] bcast_S2x16x1x64_S2x16x64x64_0_1_2_3 (broadcastInDim S2x16x1x64 ![0, 1, 3] bcast_S2x16x64_S2x16x1x64_0_1_3 b)))) (mulf (broadcastInDim S2x16x64x64 ![0, 1, 2, 3] bcast_S2x16x64x1_S2x16x64x64_0_1_2_3 (broadcastInDim S2x16x64x1 ![0, 1, 2] bcast_S2x16x64_S2x16x64x1_0_1_2 v)) (broadcastInDim S2x16x64x64 ![0, 1, 2, 3] bcast_S2x16x1x64_S2x16x64x64_0_1_2_3 (broadcastInDim S2x16x1x64 ![0, 1, 3] bcast_S2x16x64_S2x16x1x64_0_1_3 k)))

/-- A step's readout, put in its place. -/
def putOf (y : FVec Ideal S4096x2x16x64 .f32) (n : (⟨S_, .i32⟩ : BufTy).Contents (Elt Ideal)) (s : FVec Ideal S2x16x64x64 .f32) (r : FVec Ideal S2x16x64 .f32) : FVec Ideal S4096x2x16x64 .f32 :=
  Host.dynamicUpdateSlice y (broadcastInDim S1x2x16x64 ![1, 2, 3] bcast_S2x16x64_S1x2x16x64_1_2_3 (Host.dotGeneral dot_S2x16x64x64_S2x16x64_S2x16x64_3_2_2_n_01_01 none s r)) (startAt n) updateFits_S4096x2x16x64_S1x2x16x64

theorem startAt_eq (n : ℕ) (hn : n < 4096) (a : Fin 4) : startAt (fun _ => BitVec.ofNat 32 n) a = (((![n, 0, 0, 0] : Fin 4 → ℕ) a : ℕ) : Int) := by
  fin_cases a
  · exact toInt_ofNat_of_lt (by omega)
  · rfl
  · rfl
  · rfl

theorem fits (n : ℕ) (hn : n < 4096) : S4096x2x16x64.Slices ![n, 0, 0, 0] S1x2x16x64 :=
  ⟨rfl, by
    intro a
    fin_cases a
    · show n + 1 ≤ 4096; omega
    · exact le_refl _
    · exact le_refl _
    · exact le_refl _⟩

theorem rowOf_at (x : FVec Ideal S4096x2x16x64 .f32) (n : ℕ) (hn : n < 4096) (q : Fin 2) (h : Fin 16) (i : Fin 64) :
    rowOf x (fun _ => BitVec.ofNat 32 n) (ix3 q h i) = x (ix4 ⟨n, hn⟩ q h i) := by
  unfold rowOf
  rw [Host.dynamicSlice_eq_extractStridedSlice S1x2x16x64 x _ ![n, 0, 0, 0] _ (fits n hn) (startAt_eq n hn)]
  pointwise []

theorem nextOf_at (s : FVec Ideal S2x16x64x64 .f32) (w k v a b : FVec Ideal S2x16x64 .f32) (q : Fin 2) (h : Fin 16) (i j : Fin 64) :
    nextOf s w k v a b (ix4 q h i j) = s (ix4 q h i j) * w (ix3 q h j) + (∑ e : Fin 64, s (ix4 q h i e) * a (ix3 q h e)) * b (ix3 q h j) + v (ix3 q h i) * k (ix3 q h j) := by
  pointwise [nextOf]

theorem putOf_at (y : FVec Ideal S4096x2x16x64 .f32) (n : ℕ) (hn : n < 4096) (s : FVec Ideal S2x16x64x64 .f32) (r : FVec Ideal S2x16x64 .f32) (t : Fin 4096) (q : Fin 2) (h : Fin 16) (i : Fin 64) :
    putOf y (fun _ => BitVec.ofNat 32 n) s r (ix4 t q h i) = if t.val = n then ∑ e : Fin 64, s (ix4 q h i e) * r (ix3 q h e) else y (ix4 t q h i) := by
  have e : ∀ a, Host.clampedStart S4096x2x16x64 S1x2x16x64 updateFits_S4096x2x16x64_S1x2x16x64.1 (startAt (fun _ => BitVec.ofNat 32 n)) a = (![n, 0, 0, 0] : Fin 4 → ℕ) a :=
    fun a => Host.clampedStart_of_le _ _ a _ (startAt_eq n hn a) ((fits n hn).2 a)
  unfold putOf
  rw [Host.dynamicUpdateSlice_eq_updateSlice _ _ _ _ ![n, 0, 0, 0] e (fits n hn)]
  pointwise []
  exact if_congr (by omega) rfl rfl

section
variable (V : Valuation τ sig (Elt Ideal))

abbrev stateB : FVec Ideal S2x16x64x64 .f32 := V (Proc.devRef .tc main_v15_7)
abbrev ysB : FVec Ideal S4096x2x16x64 .f32 := V (Proc.devRef .tc main_v15_8)
abbrev ctrB : (⟨S_, .i32⟩ : BufTy).Contents (Elt Ideal) := V (Proc.devRef .tc main_v15_6)
abbrev rB : FVec Ideal S4096x2x16x64 .f32 := V (Proc.devRef .tc main_v15_0)
abbrev wB : FVec Ideal S4096x2x16x64 .f32 := V (Proc.devRef .tc main_v15_1)
abbrev kB : FVec Ideal S4096x2x16x64 .f32 := V (Proc.devRef .tc main_v15_2)
abbrev vB : FVec Ideal S4096x2x16x64 .f32 := V (Proc.devRef .tc main_v15_3)
abbrev aB : FVec Ideal S4096x2x16x64 .f32 := V (Proc.devRef .tc main_v15_4)
abbrev bB : FVec Ideal S4096x2x16x64 .f32 := V (Proc.devRef .tc main_v15_5)

theorem step_state : stateB (STEP V) = nextOf (stateB V) (rowOf (wB V) (ctrB V)) (rowOf (kB V) (ctrB V)) (rowOf (vB V) (ctrB V)) (rowOf (aB V) (ctrB V)) (rowOf (bB V) (ctrB V)) :=
  (STEP_main_v15_7 V).trans rfl

theorem step_ys : ysB (STEP V) = putOf (ysB V) (ctrB V) (stateB (STEP V)) (rowOf (rB V) (ctrB V)) := by
  rw [step_state]
  exact (STEP_main_v15_8 V).trans rfl

theorem step_ctr (n : ℕ) (h : ctrB V = fun _ => BitVec.ofNat 32 n) : ctrB (STEP V) = fun _ => BitVec.ofNat 32 (n + 1) := by
  refine (STEP_main_v15_6 V).trans ?_
  show addi (ctrB V) _ = _
  rw [h]
  funext j
  exact (BitVec.ofNat_add n 1).symm

end

/-! The heads of 64 channels in their pairs of 128 lanes. -/

abbrev hd (h : Fin 16) : Fin 8 := ⟨h.val / 2, by omega⟩
abbrev row (h : Fin 16) (i : Fin 64) : Fin 128 := ⟨64 * (h.val % 2) + i.val, by omega⟩

theorem same_row (h : Fin 16) (i j : Fin 64) : Same (row h i) (row h j) := by
  show (64 * (h.val % 2) + i.val) / 64 = (64 * (h.val % 2) + j.val) / 64
  omega

theorem sum_row (h : Fin 16) (i : Fin 64) (f : Fin 128 → ℝ) (hf : ∀ e, ¬Same (row h i) e → f e = 0) : ∑ e : Fin 64, f (row h e) = ∑ e, f e := by
  refine Finset.sum_of_injOn (row h) ?_ ?_ ?_ fun _ _ => rfl
  · intro x _ y _ e
    have := congrArg Fin.val e
    apply Fin.ext
    simp only at this
    omega
  · intro x _
    exact Finset.mem_coe.mpr (Finset.mem_univ _)
  · intro e _ hn
    refine hf e fun hs => hn ?_
    have hs' : (64 * (h.val % 2) + i.val) / 64 = e.val / 64 := hs
    refine ⟨⟨e.val % 64, by omega⟩, Finset.mem_coe.mpr (Finset.mem_univ _), Fin.ext ?_⟩
    show 64 * (h.val % 2) + e.val % 64 = e.val
    omega

/-- A step-major array holds these reals. -/
abbrev IsT (x : FVec Ideal S4096x2x16x64 .f32) (X : ℕ → ℕ → Fin 1024 → ℝ) : Prop :=
  ∀ (t : Fin 4096) (q : Fin 2) (h : Fin 16) (i : Fin 64), x (ix4 t q h i) = ((X q.val t.val (lane (hd h) (row h i)) : ℝ) : EReal)

/-- What holds before step `n`. -/
structure Holds (R W K V A B : ℕ → ℕ → Fin 1024 → ℝ) (n : ℕ) (U : Valuation τ sig (Elt Ideal)) : Prop where
  r : IsT (rB U) R
  w : IsT (wB U) fun q t l => Real.exp (W q t l)
  k : IsT (kB U) K
  v : IsT (vB U) V
  a : IsT (aB U) A
  b : IsT (bB U) B
  ctr : ctrB U = fun _ => BitVec.ofNat 32 n
  s : ∀ (q : Fin 2) (h : Fin 16) (i j : Fin 64), stateB U (ix4 q h i j) = ((st W K V A B q.val n (hd h) (row h i) (row h j) : ℝ) : EReal)
  y : ∀ (t : Fin 4096) (q : Fin 2) (h : Fin 16) (i : Fin 64), t.val < n → ysB U (ix4 t q h i) = ((ro R W K V A B q.val t.val (hd h) (row h i) : ℝ) : EReal)

variable {R W K V A B : ℕ → ℕ → Fin 1024 → ℝ}

theorem holds_step (n : ℕ) (hn : n < 4096) (U : Valuation τ sig (Elt Ideal)) (H : Holds R W K V A B n U) : Holds R W K V A B (n + 1) (STEP U) := by
  have hs : ∀ (q : Fin 2) (h : Fin 16) (i j : Fin 64), stateB (STEP U) (ix4 q h i j) = ((st W K V A B q.val (n + 1) (hd h) (row h i) (row h j) : ℝ) : EReal) := by
    intro q h i j
    rw [step_state, H.ctr, nextOf_at, rowOf_at _ n hn, rowOf_at _ n hn, rowOf_at _ n hn, rowOf_at _ n hn, H.w, H.b, H.v, H.k, H.s,
      dot_is 64 _ _ _ _ (fun e => H.s q h i e) (fun e => (rowOf_at _ n hn q h e).trans (H.a ⟨n, hn⟩ q h e)),
      ← EReal.coe_mul, ← EReal.coe_mul, ← EReal.coe_mul, ← EReal.coe_add, ← EReal.coe_add]
    congr 1
    show _ = st W K V A B q.val n (hd h) (row h i) (row h j) * Real.exp _ + if Same (row h i) (row h j) then _ else 0
    rw [if_pos (same_row h i j), ← sum_row h i _ fun e he => (congrArg (· * _) (st_off q.val n (hd h) _ e he)).trans (zero_mul _), add_assoc]
  refine ⟨?_, ?_, ?_, ?_, ?_, ?_, step_ctr U n H.ctr, hs, ?_⟩
  · exact fun t q h i => (congrFun (STEP_main_v15_0 U) _).trans (H.r t q h i)
  · exact fun t q h i => (congrFun (STEP_main_v15_1 U) _).trans (H.w t q h i)
  · exact fun t q h i => (congrFun (STEP_main_v15_2 U) _).trans (H.k t q h i)
  · exact fun t q h i => (congrFun (STEP_main_v15_3 U) _).trans (H.v t q h i)
  · exact fun t q h i => (congrFun (STEP_main_v15_4 U) _).trans (H.a t q h i)
  · exact fun t q h i => (congrFun (STEP_main_v15_5 U) _).trans (H.b t q h i)
  · intro t q h i ht
    rw [step_ys, H.ctr, putOf_at _ n hn]
    split_ifs with e
    · rw [dot_is 64 _ _ _ _ (fun e => hs q h i e) (fun e => (rowOf_at _ n hn q h e).trans (H.r ⟨n, hn⟩ q h e)),
        sum_row h i (fun e => st W K V A B q.val (n + 1) (hd h) (row h i) e * R q.val n (lane (hd h) e)) fun e he => (congrArg (· * _) (st_off q.val (n + 1) (hd h) _ e he)).trans (zero_mul _), e]
      rfl
    · exact H.y t q h i (by omega)

theorem holds_iterate (U : Valuation τ sig (Elt Ideal)) (H : Holds R W K V A B 0 U) : ∀ n, n ≤ 4096 → Holds R W K V A B n (STEP^[n] U)
  | 0, _ => H
  | n + 1, h => by
    rw [Function.iterate_succ_apply']
    exact holds_step n (by omega) _ (holds_iterate U H n (by omega))

/-! What leaves the loop. -/

theorem outY_at (U : Valuation τ sig (Elt Ideal)) (q : Fin 2) (t : Fin 4096) (l : Fin 1024) :
    out_main_v17 U (ix3 q t l) = ysB U (ix4 t q ⟨l.val / 64, by omega⟩ ⟨l.val % 64, by omega⟩) := by
  show _ = U (Proc.devRef .tc main_v15_8) _
  pointwise [out_main_v17]

theorem outS_at (U : Valuation τ sig (Elt Ideal)) (q : Fin 2) (p : Fin 8) (d l : Fin 128) :
    out_main_v28 U (ix4 q p d l) = if d.val / 64 = l.val / 64 then stateB U (ix4 q ⟨p.val * 2 + d.val / 64, by omega⟩ ⟨d.val % 64, by omega⟩ ⟨l.val % 64, by omega⟩) else 0 := by
  show _ = if _ then U (Proc.devRef .tc main_v15_7) _ else _
  pointwise [out_main_v28]
  rw [WordCmp.cmpi_eq_ofNat (by have := d.isLt; omega) (by have := l.isLt; omega)]
  by_cases h : d.val / 64 = l.val / 64
  · rw [if_pos h, decide_eq_true h]; rfl
  · rw [if_neg h, decide_eq_false h]; exact Ideal.ofBits_zero_f32

/-! The loop's entry. -/

def stepMajor (x : FVec Ideal S2x4096x1024 .f32) : FVec Ideal S4096x2x16x64 .f32 :=
  transpose S4096x2x16x64 [1, 0, 2, 3] (shapeCast S2x4096x16x64 x shapeCasts_S2x4096x1024_S2x4096x16x64) transposes_S2x4096x16x64_S4096x2x16x64_1_0_2_3

theorem stepMajor_at (x : FVec Ideal S2x4096x1024 .f32) (t : Fin 4096) (q : Fin 2) (h : Fin 16) (i : Fin 64) :
    stepMajor x (ix4 t q h i) = x (ix3 q t (lane (hd h) (row h i))) := by
  have e : lane (hd h) (row h i) = ⟨h.val * 64 + i.val, by omega⟩ := Fin.ext (by show 128 * (h.val / 2) + (64 * (h.val % 2) + i.val) = h.val * 64 + i.val; omega)
  rw [e]
  pointwise [stepMajor]

section
variable (m : (ℓ : Loc nD τ sig) → Buf (Elt Ideal) ℓ) (c : Dev nD)

abbrev entry : Valuation τ sig (Elt Ideal) := entryContents preI m c

theorem entry_r : rB (entry m c) = stepMajor (m ((c.tc : Thread nD τ).loc main_arg0)) := by
  simp only [entryContents, afterL_cons, afterL_nil]
  after_reads_simp
  rfl

theorem entry_w : wB (entry m c) = stepMajor (Host.exp (m ((c.tc : Thread nD τ).loc main_arg1))) := by
  simp only [entryContents, afterL_cons, afterL_nil]
  after_reads_simp
  rfl

theorem entry_k : kB (entry m c) = stepMajor (m ((c.tc : Thread nD τ).loc main_arg2)) := by
  simp only [entryContents, afterL_cons, afterL_nil]
  after_reads_simp
  rfl

theorem entry_v : vB (entry m c) = stepMajor (m ((c.tc : Thread nD τ).loc main_arg3)) := by
  simp only [entryContents, afterL_cons, afterL_nil]
  after_reads_simp
  rfl

theorem entry_a : aB (entry m c) = stepMajor (m ((c.tc : Thread nD τ).loc main_arg4)) := by
  simp only [entryContents, afterL_cons, afterL_nil]
  after_reads_simp
  rfl

theorem entry_b : bB (entry m c) = stepMajor (m ((c.tc : Thread nD τ).loc main_arg5)) := by
  simp only [entryContents, afterL_cons, afterL_nil]
  after_reads_simp
  rfl

theorem entry_state : stateB (entry m c) = broadcastInDim S2x16x64x64 ![] bcast_S_S2x16x64x64 (constant S_ .f32 0x00000000#32) := by
  simp only [entryContents, afterL_cons, afterL_nil]
  after_reads_simp
  rfl

variable (h0 : IsA (m ((c.tc : Thread nD τ).loc main_arg0)) R) (h1 : IsA (m ((c.tc : Thread nD τ).loc main_arg1)) W) (h2 : IsA (m ((c.tc : Thread nD τ).loc main_arg2)) K)
  (h3 : IsA (m ((c.tc : Thread nD τ).loc main_arg3)) V) (h4 : IsA (m ((c.tc : Thread nD τ).loc main_arg4)) A) (h5 : IsA (m ((c.tc : Thread nD τ).loc main_arg5)) B)

include h0 h1 h2 h3 h4 h5

theorem holds_entry : Holds R W K V A B 0 (entry m c) := by
  refine ⟨?_, ?_, ?_, ?_, ?_, ?_, ctr_entry m c, ?_, fun t q h i ht => absurd ht (Nat.not_lt_zero _)⟩
  · exact fun t q h i => by rw [entry_r, stepMajor_at]; exact h0 q t _
  · exact fun t q h i => by
      rw [entry_w, stepMajor_at]
      show Ideal.exp (m ((c.tc : Thread nD τ).loc main_arg1) (ix3 q t _)) = _
      rw [h1 q t _, Ideal.exp_coe]
  · exact fun t q h i => by rw [entry_k, stepMajor_at]; exact h2 q t _
  · exact fun t q h i => by rw [entry_v, stepMajor_at]; exact h3 q t _
  · exact fun t q h i => by rw [entry_a, stepMajor_at]; exact h4 q t _
  · exact fun t q h i => by rw [entry_b, stepMajor_at]; exact h5 q t _
  · intro q h i j
    rw [entry_state]
    exact Ideal.ofBits_zero_f32

theorem holds_end : Holds R W K V A B 4096 (STEP^[4096] (entry m c)) :=
  holds_iterate _ (holds_entry m c h0 h1 h2 h3 h4 h5) 4096 (le_refl _)

theorem refY : out_main_v17 (STEP^[4096] (entry m c)) = Cert.KernelIdeal.Hand.resY R W K V A B := by
  funext y
  obtain ⟨q, t, l, rfl⟩ : ∃ (q : Fin 2) (t : Fin 4096) (l : Fin 1024), y = ix3 q t l := ⟨y 0, y 1, y 2, (ix3_eta y).symm⟩
  rw [outY_at, (holds_end m c h0 h1 h2 h3 h4 h5).y _ _ _ _ t.isLt]
  show _ = ((ro R W K V A B q.val t.val ⟨l.val / 128, _⟩ ⟨l.val % 128, _⟩ : ℝ) : EReal)
  congr 2
  · exact Fin.ext (by show l.val / 64 / 2 = l.val / 128; omega)
  · exact Fin.ext (by show 64 * (l.val / 64 % 2) + l.val % 64 = l.val % 128; omega)

theorem refS : out_main_v28 (STEP^[4096] (entry m c)) = Cert.KernelIdeal.Hand.resS W K V A B := by
  funext y
  obtain ⟨q, p, d, l, rfl⟩ : ∃ (q : Fin 2) (p : Fin 8) (d l : Fin 128), y = ix4 q p d l := ⟨y 0, y 1, y 2, y 3, (ix4_eta y).symm⟩
  rw [outS_at]
  show _ = ((st W K V A B q.val 4096 p d l : ℝ) : EReal)
  split_ifs with hs
  · rw [(holds_end m c h0 h1 h2 h3 h4 h5).s]
    have e1 : hd ⟨p.val * 2 + d.val / 64, by omega⟩ = p := Fin.ext (by show (p.val * 2 + d.val / 64) / 2 = p.val; omega)
    have e2 : row ⟨p.val * 2 + d.val / 64, by omega⟩ ⟨d.val % 64, by omega⟩ = d := Fin.ext (by show 64 * ((p.val * 2 + d.val / 64) % 2) + d.val % 64 = d.val; omega)
    have e3 : row ⟨p.val * 2 + d.val / 64, by omega⟩ ⟨l.val % 64, by omega⟩ = l := Fin.ext (by show 64 * ((p.val * 2 + d.val / 64) % 2) + l.val % 64 = l.val; omega)
    rw [e1, e2, e3]
  · rw [st_off q.val 4096 p d l hs]
    rfl

end

end Cert.ReferenceIdeal.Hand

end
-- ==== Proof.WkvClaim.lean ====
/- At finite arguments the chunked recurrence and its reference end with equal results. -/
module

public import proofs.«01_k».proof.Defs
public import proofs.«01_k».proof.Proof.WkvRef

@[expose] public section

set_option maxRecDepth 16384

noncomputable section

open Idealize.ShloMosaic Idealize.ShloMosaic.TcCoe Idealize.SL.Sem

namespace Cert.Proof

open Cert.KernelIdeal.Hand (IsA)

abbrev Arg := FVec Ideal Cert.KernelIdeal.S2x4096x1024 .f32

/-- The reals of an array, zero outside it. -/
def reals (x : Arg) (q t : ℕ) (l : Fin 1024) : ℝ :=
  if h : q < 2 ∧ t < 4096 then (x (ix3 ⟨q, h.1⟩ ⟨t, h.2⟩ l)).toReal else 0

def belowInf (x : EReal) : BitVec 1 := FloatOps.cmpf (F := Ideal) (φ := .f32) .olt (max x (-x)) (Ideal.ofBits .f32 0x7F800000#32)

theorem inf_top : Ideal.ofBits .f32 0x7F800000#32 = ⊤ := by simp [Ideal.ofBits, Ideal.ieee]

theorem real_of (x : EReal) (h : belowInf x = 1#1) : ((x.toReal : ℝ) : EReal) = x := by
  have hl : max x (-x) < ⊤ := by
    by_contra hn
    have : belowInf x = BitVec.ofBool (decide (max x (-x) < Ideal.ofBits .f32 0x7F800000#32)) := rfl
    rw [this, inf_top, decide_eq_false hn] at h
    exact absurd h (by decide)
  refine EReal.coe_toReal ?_ ?_
  · rintro rfl
    simp at hl
  · rintro rfl
    simp at hl

theorem isA_of (x : Arg) (h : ∀ y, belowInf (x y) = 1#1) : IsA x (reals x) := by
  intro q t l
  rw [reals, dif_pos ⟨q.isLt, t.isLt⟩]
  exact (real_of _ (h _)).symm

theorem and_one (a b : BitVec 1) (h : a &&& b = 1#1) : a = 1#1 ∧ b = 1#1 := by
  revert a b
  decide

variable [Cert.Pre_finite.Facts]

theorem isA_all (x0 x1 x2 x3 x4 x5 : Arg) (h : Cert.Pre_finite.fn (F := Ideal) x0 x1 x2 x3 x4 x5 = fun _ => 1#1) :
    IsA x0 (reals x0) ∧ IsA x1 (reals x1) ∧ IsA x2 (reals x2) ∧ IsA x3 (reals x3) ∧ IsA x4 (reals x4) ∧ IsA x5 (reals x5) := by
  have hy : ∀ y, belowInf (x0 y) &&& belowInf (x1 y) &&& belowInf (x2 y) &&& belowInf (x3 y) &&& belowInf (x4 y) &&& belowInf (x5 y) = 1#1 := fun y => congrFun h y
  have h5 := fun y => and_one _ _ (hy y)
  have h4 := fun y => and_one _ _ (h5 y).1
  have h3 := fun y => and_one _ _ (h4 y).1
  have h2 := fun y => and_one _ _ (h3 y).1
  have h1 := fun y => and_one _ _ (h2 y).1
  exact ⟨isA_of x0 fun y => (h1 y).1, isA_of x1 fun y => (h1 y).2, isA_of x2 fun y => (h2 y).2, isA_of x3 fun y => (h3 y).2, isA_of x4 fun y => (h4 y).2, isA_of x5 fun y => (h5 y).2⟩

theorem wkv_equal : Cert.algebraic_KernelIdeal_ReferenceIdeal_pre_finite (hKernelIdeal := Cert.KernelIdeal.Gen.facts) (hReferenceIdeal := Cert.ReferenceIdeal.Gen.facts) := by
  pair_intro
  · run_from Cert.KernelIdeal.Value.run m g
  · refine θ_run_mono (Cert.ReferenceIdeal.Value.run m' g') fun r h c => ?_
    obtain ⟨e0, e1, e2, e3, e4, e5⟩ := hagree c
    obtain ⟨k0, k1, k2, k3, k4, k5⟩ := isA_all _ _ _ _ _ _ (hpre c)
    refine ⟨(h c).1.trans ?_, (h c).2.1.trans ?_, (h c).2.2⟩
    · refine Eq.trans ?_ (Cert.KernelIdeal.Hand.finalY m c k0 k1 k2 k3 k4 k5).symm
      exact Cert.ReferenceIdeal.Hand.refY m' c (e0 ▸ k0) (e1 ▸ k1) (e2 ▸ k2) (e3 ▸ k3) (e4 ▸ k4) (e5 ▸ k5)
    · refine Eq.trans ?_ (Cert.KernelIdeal.Hand.finalS m c k1 k2 k3 k4 k5).symm
      exact Cert.ReferenceIdeal.Hand.refS m' c (e0 ▸ k0) (e1 ▸ k1) (e2 ▸ k2) (e3 ▸ k3) (e4 ▸ k4) (e5 ▸ k5)

end Cert.Proof

end
-- ==== Proof.InprojBody.lean ====
/- One step of the tiled input projection, on any staging buffers: which buffers it stores and what it leaves in them. -/
module

public import proofs.«01_k».proof.Proof.Gen.Kernel3Ideal.Frame
public import proofs.«01_k».proof.Proof.Gen.Kernel3Ideal.Skeleton
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The first column tile of a row of blocks: where the rows are normalised. -/
abbrev first (i : grid0.Coords) : Prop := (Scalar.cmpi .ne (Scalar.extui (Scalar.cmpi .eq (BitVec.ofNat 32 (i 1).val) 0#32)) 0#32) = 1#1

/-- The normalised and modulated rows of a block of the input. -/
abbrev rowsOf (x : Vec F S1024x2048 .f32) (md : Vec F S1x6x1x2048 .f32) (g : Vec F S1x2048 .f32) : Vec F S1024x2048 .bf16 :=
  k0_pay1 x g (View.ld md (Rect.unit (s := S1x6x1x2048) ![0, 1, 0, 0] S1x1x1x2048.size inb_S1x6x1x2048_S1x1x1x2048_0_1_0_0))
    (View.ld md (Rect.unit (s := S1x6x1x2048) ![0, 0, 0, 0] S1x1x1x2048.size inb_S1x6x1x2048_S1x1x1x2048_0_0_0_0))

/-- A buffer stored whole holds what was stored last. -/
theorem read_last {sp : Space} {S : Shape} {e : EltTy} (v : View sig .tc sp S e) (f : v.ty.Contents (Elt F)) {off : Fin S.rank → ℕ}
    (inb : ∀ a, off a + S.size a ≤ S.size a) (w : S.Idx → Elt F e) (L : List (View.Piece (Elt F) S e)) (h : ∀ a, off a = 0) :
    v.read (Elt F) (v.writes (Elt F) f ((⟨Rect.unit off S.size inb, w⟩ : View.Piece (Elt F) S e) :: L)) = w := by
  have h' := View.eq_zero_of_forall h
  refine (View.read_writes_of_cover_last v f v v.junk _ L L fun y => ?_).trans ?_
  · subst h'; show y ∈ (Rect.whole S).set; rw [Rect.set_whole]; exact Finset.mem_univ y
  · rw [View.read_writes_junk_eq_canon, View.canon_cons_unit_lit inb w L h]

variable (c : Dev nD) (i : grid0.Coords)
  (arg2 : Memref sig .tc .vmem S1024x2048 .f32) (h2 : arg2.IsWhole) (arg3 : Memref sig .tc .vmem S1x6x1x2048 .f32) (h3 : arg3.IsWhole)
  (arg4 : Memref sig .tc .vmem S1x2048 .f32) (h4 : arg4.IsWhole) (arg5 : Memref sig .tc .vmem S2048x512 .bf16) (h5 : arg5.IsWhole)
  (arg6 : Memref sig .tc .vmem S1024x512 .f32) (h6 : arg6.IsWhole) (arg7 : Memref sig .tc .vmem S1024x512 .bf16) (h7 : arg7.IsWhole)
  (arg8 : Memref sig .tc .vmem S1024x2048 .bf16) (h8 : arg8.IsWhole)
  (x : Vec F S1024x2048 .f32) (md : Vec F S1x6x1x2048 .f32) (g : Vec F S1x2048 .f32) (w : Vec F S2048x512 .bf16)
  (h : Vec F S1024x2048 .bf16) (o : Vec F S1024x512 .bf16)

set_option maxHeartbeats 1000000 in
/-- The first column tile: the rows are normalised into the scratch, and both results are stored. -/
theorem body_first (hc0 : first i) (hc1 : k0_cond2 i = 1#1) (E : Set ℕ) (K : PUnit → sProp 𝕄) :
    iprop(owns (c : Thread nD τ) arg2 fullShare x ∗ owns (c : Thread nD τ) arg3 fullShare md ∗ owns (c : Thread nD τ) arg4 fullShare g ∗ owns (c : Thread nD τ) arg5 fullShare w
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare md ∗ owns (c : Thread nD τ) arg4 fullShare g ∗ owns (c : Thread nD τ) arg5 fullShare w
            ∗ owns (c : Thread nD τ) arg6 fullShare (k0_pay2 (rowsOf x md g) w) ∗ owns (c : Thread nD τ) arg7 fullShare (k0_pay3 i (k0_pay2 (rowsOf x md g) w)) ∗ owns (c : Thread nD τ) arg8 fullShare (rowsOf x md g)) -∗ K ⟨⟩))
      ⊢ wp frame (wpE (defs₀ (F := F)) Variants.none c none) E (cc0_in_proj i arg2 h2 arg3 h3 arg4 h4 arg5 h5 arg6 h6 arg7 h7 arg8 h8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := h2.eq_unread hf0; obtain rfl := h3.eq_unread hf1; obtain rfl := h4.eq_unread hf2; obtain rfl := h5.eq_unread hf3
  sl_exec (disch := first | sl_exact hc0 | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    refine (read_last _ _ _ _ _ (by decide)).trans ?_
    frame_out
  isplitl [H5]
  · iexists _; isplitr
    swap; · iexact H5
    ipureintro
    refine (read_last _ _ _ _ _ (by decide)).trans ?_
    frame_out
  iexists _; isplitr
  swap; · iexact HS
  ipureintro
  refine (read_last _ _ _ _ _ (by decide)).trans ?_
  frame_out

set_option maxHeartbeats 1000000 in
/-- A later column tile of the first six: the rows are in the scratch; both results are stored. -/
theorem body_mid (hc0 : ¬first i) (hc1 : k0_cond2 i = 1#1) (E : Set ℕ) (K : PUnit → sProp 𝕄) :
    iprop(owns (c : Thread nD τ) arg2 fullShare x ∗ owns (c : Thread nD τ) arg3 fullShare md ∗ owns (c : Thread nD τ) arg4 fullShare g ∗ owns (c : Thread nD τ) arg5 fullShare w
        ∗ (∃ d, owns (c : Thread nD τ) arg6 fullShare d) ∗ (∃ d, owns (c : Thread nD τ) arg7 fullShare d) ∗ owns (c : Thread nD τ) arg8 fullShare h
        ∗ (iprop(owns (c : Thread nD τ) arg2 fullShare x ∗ owns (c : Thread nD τ) arg3 fullShare md ∗ owns (c : Thread nD τ) arg4 fullShare g ∗ owns (c : Thread nD τ) arg5 fullShare w
            ∗ owns (c : Thread nD τ) arg6 fullShare (k0_pay2 h w) ∗ owns (c : Thread nD τ) arg7 fullShare (k0_pay3 i (k0_pay2 h w)) ∗ owns (c : Thread nD τ) arg8 fullShare h) -∗ K ⟨⟩))
      ⊢ wp frame (wpE (defs₀ (F := F)) Variants.none c none) E (cc0_in_proj i arg2 h2 arg3 h3 arg4 h4 arg5 h5 arg6 h6 arg7 h7 arg8 h8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  obtain rfl := h2.eq_unread hf0; obtain rfl := h3.eq_unread hf1; obtain rfl := h4.eq_unread hf2; obtain rfl := h5.eq_unread hf3; obtain rfl := h8.eq_unread hfs
  sl_exec (disch := first | sl_exact hc0 | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    refine (read_last _ _ _ _ _ (by decide)).trans ?_
    frame_out
  isplitl [H5]
  · iexists _; isplitr
    swap; · iexact H5
    ipureintro
    refine (read_last _ _ _ _ _ (by decide)).trans ?_
    frame_out
  iexists _; isplitr; · ipureintro; exact h8.read_unread _
  iexact HS

set_option maxHeartbeats 1000000 in
/-- A column tile past the sixth: only the first result is stored, the second result's buffer is as it was. -/
theorem body_rest (hc0 : ¬first i) (hc1 : ¬k0_cond2 i = 1#1) (E : Set ℕ) (K : PUnit → sProp 𝕄) :
    iprop(owns (c : Thread nD τ) arg2 fullShare x ∗ owns (c : Thread nD τ) arg3 fullShare md ∗ owns (c : Thread nD τ) arg4 fullShare g ∗ owns (c : Thread nD τ) arg5 fullShare w
        ∗ (∃ d, owns (c : Thread nD τ) arg6 fullShare d) ∗ owns (c : Thread nD τ) arg7 fullShare o ∗ owns (c : Thread nD τ) arg8 fullShare h
        ∗ (iprop(owns (c : Thread nD τ) arg2 fullShare x ∗ owns (c : Thread nD τ) arg3 fullShare md ∗ owns (c : Thread nD τ) arg4 fullShare g ∗ owns (c : Thread nD τ) arg5 fullShare w
            ∗ owns (c : Thread nD τ) arg6 fullShare (k0_pay2 h w) ∗ owns (c : Thread nD τ) arg7 fullShare o ∗ owns (c : Thread nD τ) arg8 fullShare h) -∗ K ⟨⟩))
      ⊢ wp frame (wpE (defs₀ (F := F)) Variants.none c none) E (cc0_in_proj i arg2 h2 arg3 h3 arg4 h4 arg5 h5 arg6 h6 arg7 h7 arg8 h8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := h2.eq_unread hf0; obtain rfl := h3.eq_unread hf1; obtain rfl := h4.eq_unread hf2; obtain rfl := h5.eq_unread hf3; obtain rfl := h7.eq_unread hf5; obtain rfl := h8.eq_unread hfs
  sl_exec (disch := first | sl_exact hc0 | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    refine (read_last _ _ _ _ _ (by decide)).trans ?_
    frame_out
  isplitl [H5]
  · iexists _; isplitr; · ipureintro; exact h7.read_unread _
    iexact H5
  iexists _; isplitr; · ipureintro; exact h8.read_unread _
  iexact HS

end Cert.Kernel3Ideal.Hand

end
-- ==== Proof.InprojRun.lean ====
/- The tiled input projection over its whole grid: what each point leaves in every buffer, and the run of the program. -/
module

public import proofs.«01_k».proof.Proof.InprojBody

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points do what -/

theorem first_iff : ∀ t : Fin cfg0.N, first (grid0.coords t) ↔ t.val % 13 = 0 :=
  (fun t => by
    have ht : t.val < 104 := Nat.lt_of_lt_of_eq t.isLt N_0
    have e1 : (grid0.coords t 1).val = t.val / 1 % 13 := Pipeline.Grid.coords_val t 1 (by decide) rfl
    simp only [first, e1]
    word_cmp
   : ∀ t : Fin grid0.N, first (grid0.coords t) ↔ t.val % 13 = 0)

theorem six_iff : ∀ t : Fin cfg0.N, k0_cond2 (grid0.coords t) = 1#1 ↔ t.val % 13 < 6 :=
  (fun t => by
    have ht : t.val < 104 := Nat.lt_of_lt_of_eq t.isLt N_0
    have e1 : (grid0.coords t 1).val = t.val / 1 % 13 := Pipeline.Grid.coords_val t 1 (by decide) rfl
    simp only [k0_cond2, e1]
    word_cmp
   : ∀ t : Fin grid0.N, k0_cond2 (grid0.coords t) = 1#1 ↔ t.val % 13 < 6)

theorem idle5 (t : Fin cfg0.N) (h : ¬t.val % 13 < 6) : cfg0.idle 5 (grid0.coords t) = true := by
  show (!(k0_cond2 (grid0.coords t) == 1#1)) = true
  have := mt (six_iff t).mp h
  simp [this]

theorem live5 (t : Fin cfg0.N) (h : t.val % 13 < 6) : cfg0.idle 5 (grid0.coords t) = false := by
  show (!(k0_cond2 (grid0.coords t) == 1#1)) = false
  simp [(six_iff t).mpr h]

theorem flush5 : ∀ t : Fin cfg0.N, (cfg0.win 5).flush t = true ↔ (t.val % 13 < 5 ∨ t.val % 13 = 12) := by decide +kernel

theorem fetch5 : ∀ t : Fin cfg0.N, (cfg0.win 5).fetch t = false := by decide +kernel

/-! ## What each point leaves -/

/-- The first point of the row of blocks of point `t`, and the last point up to `t` that stores the second result. -/
abbrev rowStart (t : Fin cfg0.N) : Fin cfg0.N := ⟨t.val - t.val % 13, Nat.lt_of_le_of_lt (Nat.sub_le _ _) t.isLt⟩
abbrev lastSix (t : Fin cfg0.N) : Fin cfg0.N := ⟨t.val - (t.val % 13 - 5), Nat.lt_of_le_of_lt (Nat.sub_le _ _) t.isLt⟩

/-- The scratch after point `t`: the normalised rows of the row's block. -/
def rowsAt (c : Dev nD) (t : Fin cfg0.N) : Vec F S1024x2048 .bf16 :=
  rowsOf (iblk m c 0 (rowStart t)) (iblk m c 1 (rowStart t)) (iblk m c 2 (rowStart t))

/-- The first result's block at point `t`, and the second's. -/
def projAt (c : Dev nD) (t : Fin cfg0.N) : Vec F S1024x512 .f32 := k0_pay2 (rowsAt m c t) (iblk m c 3 t)
def narrowAt (c : Dev nD) (t : Fin cfg0.N) : Vec F S1024x512 .bf16 := k0_pay3 (grid0.coords t) (projAt m c t)

theorem rowsAt_first (c : Dev nD) (t : Fin cfg0.N) (h : t.val % 13 = 0) :
    rowsAt m c t = rowsOf (iblk m c 0 t) (iblk m c 1 t) (iblk m c 2 t) := by
  have : rowStart t = t := Fin.ext (by simp [h])
  rw [rowsAt, this]

theorem rowsAt_next (c : Dev nD) (t : Fin cfg0.N) (h : t.val % 13 ≠ 0) :
    rowsAt m c ⟨t.val - 1, Nat.lt_of_le_of_lt (Nat.sub_le _ _) t.isLt⟩ = rowsAt m c t := by
  have : rowStart ⟨t.val - 1, Nat.lt_of_le_of_lt (Nat.sub_le _ _) t.isLt⟩ = rowStart t := Fin.ext (by simp only; omega)
  rw [rowsAt, this, rowsAt]

/-! ## The pipeline's data -/

abbrev ms0 (t : Fin cfg0.N) : Memref sig .tc .vmem S1024x2048 .f32 := win0_0.stage (cfg0.slots t 0)
abbrev ms1 (t : Fin cfg0.N) : Memref sig .tc .vmem S1x6x1x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S2048x512 .bf16 := win0_3.stage (cfg0.slots t 3)
abbrev ms4 (t : Fin cfg0.N) : Memref sig .tc .vmem S1024x512 .f32 := win0_4.stage (cfg0.slots t 4)
abbrev ms5 (t : Fin cfg0.N) : Memref sig .tc .vmem S1024x512 .bf16 := win0_5.stage (cfg0.slots t 5)
abbrev scM : Memref sig .tc .vmem S1024x2048 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything; after point `n` the rows of `n`'s block. -/
def Inv (c : Dev nD) : (n : ℕ) → n ≤ cfg0.N → sProp 𝕄
  | 0, _ => Pipeline.ΦA spec0 c
  | n + 1, hn => iprop(owns (c : Thread nD τ) scM fullShare (rowsAt m c ⟨n, hn⟩) ∗ (∃ r, prngReg c r))

theorem Inv_zero (c : Dev nD) (n : ℕ) (h : n ≤ cfg0.N) (hz : n = 0) : Inv m c n h = Pipeline.ΦA spec0 c := by subst hz; rfl

theorem Inv_succ (c : Dev nD) (n : ℕ) (hn : n < cfg0.N) :
    Inv m c (n + 1) hn = iprop(owns (c : Thread nD τ) scM fullShare (rowsAt m c ⟨n, hn⟩) ∗ (∃ r, prngReg c r)) := rfl

theorem Inv_pos (c : Dev nD) (n : ℕ) (h : n ≤ cfg0.N) (hz : n ≠ 0) :
    Inv m c n h = iprop(owns (c : Thread nD τ) scM fullShare (rowsAt m c ⟨n - 1, by omega⟩) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => projAt m c t
    | ⟨5, _⟩ => narrowAt m c (lastSix t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = projAt m c t := by dsimp only [dats]
theorem after5 (c : Dev nD) (t : Fin cfg0.N) : (dats m 0 c).after 5 t = narrowAt m c (lastSix t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Past the sixth column tile the second result's buffer still holds the sixth tile's block. -/
theorem before5 (c : Dev nD) : ∀ (k : ℕ) (t : Fin cfg0.N), t.val % 13 = 6 + k → ∀ d,
    (dats m 0 c).before 5 t d = narrowAt m c (lastSix t)
  | k, t, hk, d => by
    have hlt : t.val - 1 < cfg0.N := Nat.lt_of_le_of_lt (Nat.sub_le _ _) t.isLt
    have hfl : (cfg0.win 5).flush ⟨t.val - 1, hlt⟩ = false := by
      rw [← Bool.not_eq_true, flush5]; simp only; omega
    have hs : lastSix ⟨t.val - 1, hlt⟩ = lastSix t := Fin.ext (by simp only; omega)
    rw [Dat.before_of_pos _ 5 t (by omega) (fetch5 t), hfl, if_neg Bool.false_ne_true]
    unfold Dat.left
    cases k with
    | zero =>
      rw [live5 ⟨t.val - 1, hlt⟩ (by simp only; omega)]
      show (dats m 0 c).after 5 ⟨t.val - 1, hlt⟩ = _
      rw [after5, hs]
    | succ k =>
      rw [idle5 ⟨t.val - 1, hlt⟩ (by simp only; omega)]
      show (dats m 0 c).before 5 ⟨t.val - 1, hlt⟩ d = _
      rw [before5 c k ⟨t.val - 1, hlt⟩ (by simp only; omega) d, hs]

theorem leaves5_rest (c : Dev nD) (t : Fin cfg0.N) (h : ¬t.val % 13 < 6) :
    (owns (c : Thread nD τ) (ms5 t) fullShare (narrowAt m c (lastSix t)) : sProp 𝕄) ⊢ (dats m 0 c).leavesExact 5 t := by
  have hb := before5 m c (t.val % 13 - 6) t (by omega)
  cases hf : (cfg0.win 5).flush t with
  | false =>
    rw [Dat.leavesExact_idle (dats m 0 c) 5 t (idle5 t h) hf]
    simp only [hb]
    iintro H
    iexists fun _ => default
    iexact H
  | true =>
    rw [show (dats m 0 c).leavesExact 5 t = owns (c : Thread nD τ) (ms5 t) fullShare ((dats m 0 c).after 5 t) from by
      unfold Dat.leavesExact; rw [idle5 t h, hf], after5]

theorem leaves5_six (c : Dev nD) (t : Fin cfg0.N) (h : t.val % 13 < 6) :
    (dats m 0 c).leavesExact 5 t = owns (c : Thread nD τ) (ms5 t) fullShare (narrowAt m c t) := by
  rw [show (dats m 0 c).leavesExact 5 t = owns (c : Thread nD τ) (ms5 t) fullShare ((dats m 0 c).after 5 t) from by
    unfold Dat.leavesExact; rw [live5 t h], after5]
  rw [show lastSix t = t from Fin.ext (by simp only; omega)]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Inv m c (t.val + 1) t.isLt from rfl, Inv_succ]
  rw [show (dats m 0 c).leavesExact 0 t = owns (c : Thread nD τ) (ms0 t) fullShare ((dats m 0 c).after 0 t) from rfl, after0,
    show (dats m 0 c).leavesExact 1 t = owns (c : Thread nD τ) (ms1 t) fullShare ((dats m 0 c).after 1 t) from rfl, after1,
    show (dats m 0 c).leavesExact 2 t = owns (c : Thread nD τ) (ms2 t) fullShare ((dats m 0 c).after 2 t) from rfl, after2,
    show (dats m 0 c).leavesExact 3 t = owns (c : Thread nD τ) (ms3 t) fullShare ((dats m 0 c).after 3 t) from rfl, after3,
    show (dats m 0 c).leavesExact 4 t = owns (c : Thread nD τ) (ms4 t) fullShare ((dats m 0 c).after 4 t) from rfl, after4]
  have hin : Inv m c t.val (Nat.le_of_lt t.isLt) ⊢ Pipeline.ΦA spec0 c := by
    by_cases hz : t.val = 0
    · rw [Inv_zero m c _ _ hz]
    · rw [Inv_pos m c _ _ hz, PhiA_eq]
      iintro ⟨HS, Hg⟩
      isplitl [HS]; · iexists _; iexact HS
      iexact Hg
  rw [Inv_castSucc m c t]
  by_cases h0 : t.val % 13 = 0
  · rw [leaves5_six m c t (by omega)]
    unfold narrowAt projAt
    rw [show (⟨t.val, t.isLt⟩ : Fin cfg0.N) = t from rfl, rowsAt_first m c t h0]
    rw [PhiA_eq] at hin
    refine BIBase.Entails.trans (sep_mono_left hin) ?_
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ (iblk m c 0 t) (iblk m c 1 t) (iblk m c 2 t) (iblk m c 3 t) ((first_iff t).mpr h0) ((six_iff t).mpr (by omega)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Inv_pos m c _ _ (by omega), rowsAt_next m c t h0]
    rw [show (⟨t.val, t.isLt⟩ : Fin cfg0.N) = t from rfl]
    by_cases h1 : t.val % 13 < 6
    · rw [leaves5_six m c t h1]
      unfold narrowAt projAt
      iintro ⟨⟨HS, Hg⟩, Ho, ⟨%d0, H0⟩, ⟨%d1, H1⟩, ⟨%d2, H2⟩, ⟨%d3, H3⟩, ⟨%d4, H4⟩, ⟨%d5, H5⟩⟩
      iapply (body_mid c (grid0.coords t) _ _ _ _ _ _ _ _ _ _ _ _ _ _ (iblk m c 0 t) (iblk m c 1 t) (iblk m c 2 t) (iblk m c 3 t) (rowsAt m c t) (fun h => h0 ((first_iff t).mp h)) ((six_iff t).mpr h1) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hb := before5 m c (t.val % 13 - 6) t (by omega)
      simp only [hb]
      unfold projAt
      iintro ⟨⟨HS, Hg⟩, Ho, ⟨%d0, H0⟩, ⟨%d1, H1⟩, ⟨%d2, H2⟩, ⟨%d3, H3⟩, ⟨%d4, H4⟩, ⟨%d5, H5⟩⟩
      iapply (body_rest c (grid0.coords t) _ _ _ _ _ _ _ _ _ _ _ _ _ _ (iblk m c 0 t) (iblk m c 1 t) (iblk m c 2 t) (iblk m c 3 t) (rowsAt m c t) (narrowAt m c (lastSix t)) (fun h => h0 ((first_iff t).mp h)) (fun h => h1 ((six_iff t).mp h)) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iapply (leaves5_rest m c t h1)
      iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  have hN : cfg0.N = 104 := N_0
  rw [show (dats m 0 c).Φ (Fin.last cfg0.N) = Inv m c cfg0.N (Nat.le_refl _) from rfl, Inv_pos m c _ _ (by omega), PhiA_eq]
  iintro ⟨HS, Hg⟩
  isplitl [HS]; · iexists _; iexact HS
  iexact Hg

set_option backward.isDefEq.respectTransparency.types false in
/-- Every fair run ends, with the arrays at what the points wrote back and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every fair run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel3Ideal.Hand

end
-- ==== Proof.InprojFrame.lean ====
/- The compiled projection's frame: its program is the same text, so the run serves it too. -/
module

public import proofs.«01_k».proof.Proof.InprojRun
public import proofs.«01_k».proof.Proof.Gen.Kernel3.Launch

@[expose] public section

noncomputable section

open Idealize.ShloMosaic Idealize.ShloMosaic.TcCoe Idealize.SL.Sem

namespace Cert.Kernel3.Hand

open Cert.Kernel3 Cert.Kernel3.Gen

variable {F : FTy → Type} [FloatOps F]

/-- The two programs' kernels and calls are the same. -/
theorem same_kernels : defs₀ (F := F) = Cert.Kernel3Ideal.defs₀ := by
  unfold defs₀ Cert.Kernel3Ideal.defs₀
  refine congrArg Defs.onTc ?_
  funext l a
  match l, a with
  | 0, (t, s) => rfl

theorem same_calls : defs (F := F) = Cert.Kernel3Ideal.defs := by
  show Pipeline.defs pcfgs defs₀ = _
  rw [same_kernels]; rfl

variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [same_calls]
  exact Cert.Kernel3Ideal.Hand.frame (F := F) m ρ

end Cert.Kernel3.Hand

end
-- ==== Proof.InprojMath.lean ====
/- The input projection of the reference, entry by entry: the normalised, modulated rows and their products with the weight columns. -/
module

public import proofs.«01_k».proof.Proof.Gen.Reference3Ideal.Run
public import proofs.«01_k».proof.Proof.FfnMath

@[expose] public section

set_option maxRecDepth 16384

noncomputable section

open Idealize.ShloMosaic Idealize.ShloMosaic.TcCoe Idealize.SL.Sem

namespace Cert.Inproj

open Cert.Mlp (Rows Mods Gain rms)

abbrev Weight := FVec Ideal (⟨3, ![1, 2048, 6432]⟩ : Shape) .f32

/-- The normalised, modulated row that enters the projection. -/
def hid (X : Rows) (M : Mods) (g : Gain) (b : Fin 2) (s : Fin 4096) (l : Fin 2048) : EReal :=
  rms (fun e => X (ix3 b s e)) (fun e => g (ix2 0 e)) l * (1 + M (ix2 b ⟨2048 + l.val, by omega⟩)) + M (ix2 b ⟨l.val, by omega⟩)

/-- A projected entry. -/
def proj (X : Rows) (M : Mods) (g : Gain) (W : Weight) (R : Fin 8192) (n : Fin 6432) : EReal :=
  ∑ e : Fin 2048, hid X M g ⟨R.val / 4096, by omega⟩ ⟨R.val % 4096, by omega⟩ e * W (ix3 0 e n)

/-- The projected entry with its columns continued by zeros. -/
def padded (X : Rows) (M : Mods) (g : Gain) (W : Weight) (R : Fin 8192) (n : Fin 6656) : EReal :=
  if h : n.val < 6432 then proj X M g W R ⟨n.val, h⟩ else 0

/-- The first 3072 columns, the queries' third scaled. -/
def scaled (X : Rows) (M : Mods) (g : Gain) (W : Weight) (R : Fin 8192) (n : Fin 3072) : EReal :=
  if n.val < 1024 then proj X M g W R ⟨n.val, by omega⟩ * Ideal.ofBits FTy.f32 0x3E38AA3B#32 else proj X M g W R ⟨n.val, by omega⟩

end Cert.Inproj

namespace Cert.Reference3Ideal.Hand

open Cert.Reference3Ideal Cert.Reference3Ideal.Gen

/-- The normalised, modulated rows, as the reference computes them. -/
def refH (X : FVec Ideal S2x4096x2048 .f32) (M : FVec Ideal S2x12288 .f32) (g : FVec Ideal S1x2048 .f32) : FVec Ideal S2x4096x2048 .f32 :=
  addf (mulf (mulf (mulf X (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf X X) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 (shapeCast _ g shapeCasts_S1x2048_S2048))))
    (broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 0, 2048] (broadcastInDim S2x1x12288 ![0, 2] bcast_S2x12288_S2x1x12288_0_2 M) slices_S2x1x12288_S2x1x2048_0_0_2048))))
    (broadcastInDim S2x4096x2048 ![0, 1, 2] bcast_S2x1x2048_S2x4096x2048_0_1_2 (extractStridedSlice S2x1x2048 ![0, 0, 0] (broadcastInDim S2x1x12288 ![0, 2] bcast_S2x12288_S2x1x12288_0_2 M) slices_S2x1x12288_S2x1x2048_0_0_0))

/-- The projected rows, the first result and the second, as the reference computes them. -/
def refP (H : FVec Ideal S2x4096x2048 .f32) (W : FVec Ideal S1x2048x6432 .f32) : FVec Ideal S8192x6432 .f32 :=
  shapeCast _ (Host.dotGeneral dot_S2x4096x2048_S2048x6432_S2x4096x6432_2_0_01_1_n_n none H (shapeCast _ W shapeCasts_S1x2048x6432_S2048x6432)) shapeCasts_S2x4096x6432_S8192x6432

def refPad (P : FVec Ideal S8192x6432 .f32) : FVec Ideal S8192x6656 .f32 :=
  pad S8192x6656 ![0, 0] ![0, 224] ![0, 0] P (sitofp .f32 (constantI S_ 32 0#32)) pads_S8192x6432_S8192x6656_000_02240 h_S_

def refN (P : FVec Ideal S8192x6432 .f32) : FVec Ideal S8192x3072 .bf16 :=
  truncf .bf16 (concatenate S8192x3072 1 [⟨S8192x1024, (mulf (extractStridedSlice S8192x1024 ![0, 0] P slices_S8192x6432_S8192x1024_0_0) (broadcastInDim S8192x1024 ![] bcast_S_S8192x1024 (constant S_ .f32 0x3E38AA3B#32)))⟩, ⟨S8192x2048, (extractStridedSlice S8192x2048 ![0, 1024] P slices_S8192x6432_S8192x2048_0_1024)⟩] concatenates_S8192x1024_S8192x2048_S8192x3072_d1) bitsLt_bf16_f32

variable (X : FVec Ideal S2x4096x2048 .f32) (M : FVec Ideal S2x12288 .f32) (g : FVec Ideal S1x2048 .f32) (W : FVec Ideal S1x2048x6432 .f32)

theorem refH_at (b : Fin 2) (s : Fin 4096) (l : Fin 2048) : refH X M g (ix3 b s l) = Inproj.hid X M g b s l := by
  pointwise [refH, Inproj.hid, Mlp.rms]

theorem refP_at (R : Fin 8192) (n : Fin 6432) : refP (refH X M g) W (ix2 R n) = Inproj.proj X M g W R n := by
  pointwise [refP, Inproj.proj, refH_at]

theorem refPad_at (R : Fin 8192) (n : Fin 6656) : refPad (refP (refH X M g) W) (ix2 R n) = Inproj.padded X M g W R n := by
  pointwise [refPad, Inproj.padded, refP_at]
  have h0 : (FloatOps.sitofp FTy.f32 0#32 : Ideal FTy.f32) = (0 : EReal) := by
    show (((BitVec.toInt 0#32 : ℤ) : ℝ) : EReal) = 0
    simp
  rw [h0]

theorem refN_at (R : Fin 8192) (n : Fin 3072) : refN (refP (refH X M g) W) (ix2 R n) = Inproj.scaled X M g W R n := by
  pointwise [refN, Inproj.scaled, refP_at]
  by_cases h : n.val < 1024
  · rw [dif_pos h, if_pos h]
  · rw [dif_neg h, if_neg h]
    exact congrArg _ (Fin.ext (by simp only; omega))

end Cert.Reference3Ideal.Hand

end
-- ==== Proof.InprojValue.lean ====
/- What the tiled input projection leaves in its two results, read at coordinates over the argument arrays. -/
module

public import proofs.«01_k».proof.Proof.InprojRun
public import proofs.«01_k».proof.Proof.InprojMath
public import Idealize.ShloMosaic.Lib.Pipeline.Value
public import Idealize.ShloMosaic.Lib.StableHlo.RunRead

@[expose] public section

set_option maxRecDepth 16384

noncomputable section

open Idealize.ShloMosaic Idealize.ShloMosaic.TcCoe Idealize.SL.Sem

namespace Cert.Kernel3Ideal.Hand

open Cert.Kernel3Ideal Cert.Kernel3Ideal.Gen Cert.Inproj
open Cert.Mlp (rms)

variable (m : (ℓ : Loc nD τ sig) → Buf (Elt Ideal) ℓ)

abbrev argX (c : Dev nD) : FVec Ideal S2x4096x2048 .f32 := m ((c : Thread nD τ).loc main_arg0)
abbrev argM (c : Dev nD) : FVec Ideal S2x12288 .f32 := m ((c : Thread nD τ).loc main_arg1)
abbrev argG (c : Dev nD) : FVec Ideal S1x2048 .f32 := m ((c : Thread nD τ).loc main_arg2)
abbrev argW (c : Dev nD) : FVec Ideal S1x2048x6432 .f32 := m ((c : Thread nD τ).loc main_arg3)

theorem idx0 : ∀ t : Fin cfg0.N, win0_0.index t = ![t.val / 13, 0] := (by decide +kernel : ∀ t : Fin grid0.N, _)
theorem idx1 : ∀ t : Fin cfg0.N, win0_1.index t = ![t.val / 52, 0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 13] := (by decide +kernel : ∀ t : Fin grid0.N, _)
theorem idx4 : ∀ t : Fin cfg0.N, win0_4.index t = ![t.val / 13, t.val % 13] := (by decide +kernel : ∀ t : Fin grid0.N, _)
theorem idx5 : ∀ t : Fin cfg0.N, win0_5.index t = ![t.val / 13, (lastSix t).val % 13] := (by decide +kernel : ∀ t : Fin grid0.N, _)

theorem lt104 (t : Fin cfg0.N) : t.val < 104 := lt_of_lt_of_eq t.isLt N_0

/-- The batch and the sequence position of row `r` of the block of point `n`. -/
abbrev bOf (n : ℕ) : Fin 2 := ⟨n / 52 % 2, by omega⟩
abbrev sOf (n : ℕ) (r : Fin 1024) : Fin 4096 := ⟨1024 * (n / 13 % 4) + r.val, by omega⟩

theorem blkX (c : Dev nD) (t : Fin cfg0.N) (r : Fin 1024) (l : Fin 2048) :
    (iblk m c 0 t : FVec Ideal S1024x2048 .f32) (ix2 r l) = argX m c (ix3 (bOf t.val) (sOf t.val r) l) := by
  have := lt104 t
  have hb : bOf t.val = ⟨t.val / 52, by omega⟩ := Fin.ext (by simp; omega)
  rw [hb]
  blk_simp [iblk, idx0]
  entry_read
  pointwise
  blk_ext [idx0 t]

theorem blkM (c : Dev nD) (t : Fin cfg0.N) (k : Fin 6) (l : Fin 2048) :
    (iblk m c 1 t : FVec Ideal S1x6x1x2048 .f32) (ix4 0 k 0 l) = argM m c (ix2 (bOf t.val) ⟨2048 * k.val + l.val, by omega⟩) := by
  have := lt104 t
  have hb : bOf t.val = ⟨t.val / 52, by omega⟩ := Fin.ext (by simp; omega)
  rw [hb]
  blk_simp [iblk, idx1]
  entry_read
  pointwise
  blk_ext [idx1 t]

theorem blkG (c : Dev nD) (t : Fin cfg0.N) (l : Fin 2048) :
    (iblk m c 2 t : FVec Ideal S1x2048 .f32) (ix2 0 l) = argG m c (ix2 0 l) := by
  blk_ext [iblk, V, idx2 t]

/-- A tile of the weights, its columns past the last continued by zeros. -/
theorem blkW (c : Dev nD) (t : Fin cfg0.N) (d : Fin 2048) (k : Fin 512) :
    (iblk m c 3 t : FVec Ideal S2048x512 .bf16) (ix2 d k)
      = if h : 512 * (t.val % 13) + k.val < 6432 then argW m c (ix3 0 d ⟨512 * (t.val % 13) + k.val, h⟩) else 0 := by
  blk_simp [iblk, idx3]
  entry_read
  pointwise
  have he : ((View.whole main_v3).slice (win0_3.rect t)).emb (ix2 d k) = ix2 d ⟨512 * (t.val % 13) + k.val, by omega⟩ := by
    blk_ext [idx3 t]
  rw [he]
  rfl

theorem pay1_at (x : FVec Ideal S1024x2048 .f32) (g : FVec Ideal S1x2048 .f32) (a b : FVec Ideal S1x1x1x2048 .f32)
    (r : Fin 1024) (l : Fin 2048) : k0_pay1 (F := Ideal) x g a b (ix2 r l)
      = rms (fun e => x (ix2 r e)) (fun e => g (ix2 0 e)) l * (1 + a (ix4 0 0 0 l)) + b (ix4 0 0 0 l) := by
  pointwise [k0_pay1, rms]

theorem pay2_at (h : FVec Ideal S1024x2048 .bf16) (w : FVec Ideal S2048x512 .bf16) (r : Fin 1024) (k : Fin 512) :
    k0_pay2 (F := Ideal) h w (ix2 r k) = ∑ e : Fin 2048, h (ix2 r e) * w (ix2 e k) := by
  pointwise [k0_pay2]

theorem pay3_at (t : Fin cfg0.N) (p : FVec Ideal S1024x512 .f32) (r : Fin 1024) (k : Fin 512) :
    k0_pay3 (F := Ideal) (grid0.coords t) p (ix2 r k)
      = if t.val % 13 < 2 then p (ix2 r k) * Ideal.ofBits FTy.f32 0x3E38AA3B#32 else p (ix2 r k) := by
  have ht := lt104 t
  have e1 : (grid0.coords t 1).val = t.val / 1 % 13 := Pipeline.Grid.coords_val t 1 (by decide) rfl
  pointwise [k0_pay3, e1]
  by_cases h : t.val % 13 < 2
  · rw [if_pos h, show Scalar.cmpi CmpIPredicate.slt (BitVec.ofNat 32 (t.val % 13)) 2#32 = 1#1 by word_cmp]
    rfl
  · rw [if_neg h, show Scalar.cmpi CmpIPredicate.slt (BitVec.ofNat 32 (t.val % 13)) 2#32 = 0#1 by word_cmp]
    exact mul_one _

/-- The loads of one of the six modulation rows. -/
theorem ldM (c : Dev nD) (t : Fin cfg0.N) (l : Fin 2048) :
    (View.ld (iblk m c 1 t) (Rect.unit ![0, 1, 0, 0] ![1, 1, 1, 2048] inb_S1x6x1x2048_S1x1x1x2048_0_1_0_0) : FVec Ideal S1x1x1x2048 .f32) (ix4 0 0 0 l)
      = argM m c (ix2 (bOf t.val) ⟨2048 + l.val, by omega⟩)
    ∧ (View.ld (iblk m c 1 t) (Rect.unit ![0, 0, 0, 0] ![1, 1, 1, 2048] inb_S1x6x1x2048_S1x1x1x2048_0_0_0_0) : FVec Ideal S1x1x1x2048 .f32) (ix4 0 0 0 l)
      = argM m c (ix2 (bOf t.val) ⟨l.val, by omega⟩) := by
  refine ⟨?_, ?_⟩
  · refine Eq.trans ?_ (blkM m c t 1 l)
    pointwise
  · refine Eq.trans ?_ ((blkM m c t 0 l).trans ?_)
    · pointwise
    · exact congrArg (fun e => argM m c (ix2 (bOf t.val) e)) (Fin.ext (by simp))

theorem rows_at (c : Dev nD) (t : Fin cfg0.N) (r : Fin 1024) (l : Fin 2048) :
    (rowsAt m c t : FVec Ideal S1024x2048 .bf16) (ix2 r l) = hid (argX m c) (argM m c) (argG m c) (bOf t.val) (sOf t.val r) l := by
  have hb : bOf (rowStart t).val = bOf t.val := Fin.ext (by simp only; omega)
  have hs : sOf (rowStart t).val r = sOf t.val r := Fin.ext (by simp only; omega)
  unfold rowsAt
  refine (pay1_at _ _ _ _ r l).trans ?_
  rw [(ldM m c (rowStart t) l).1, (ldM m c (rowStart t) l).2, hid]
  simp only [blkX, blkG, hb, hs]

/-- The row of the array that row `r` of the block of point `t` is. -/
abbrev rOf (t : Fin cfg0.N) (r : Fin 1024) : Fin 8192 := ⟨1024 * (t.val / 13) + r.val, by have := lt104 t; omega⟩

theorem proj_at (c : Dev nD) (t : Fin cfg0.N) (r : Fin 1024) (k : Fin 512) :
    (projAt m c t : FVec Ideal S1024x512 .f32) (ix2 r k)
      = padded (argX m c) (argM m c) (argG m c) (argW m c) (rOf t r) ⟨512 * (t.val % 13) + k.val, by omega⟩ := by
  have ht := lt104 t
  have hb : (⟨(rOf t r).val / 4096, by omega⟩ : Fin 2) = bOf t.val := Fin.ext (by simp only; omega)
  have hs : (⟨(rOf t r).val % 4096, by omega⟩ : Fin 4096) = sOf t.val r := Fin.ext (by simp only; omega)
  unfold projAt
  refine (pay2_at _ _ r k).trans ?_
  unfold padded
  by_cases h : 512 * (t.val % 13) + k.val < 6432
  · rw [dif_pos h, proj, hb, hs]
    exact Finset.sum_congr rfl fun e _ => by rw [rows_at, blkW, dif_pos h]
  · rw [dif_neg h]
    exact Finset.sum_eq_zero fun e _ => by rw [blkW, dif_neg h, mul_zero]

theorem narrow_at (c : Dev nD) (t : Fin cfg0.N) (h : t.val % 13 < 6) (r : Fin 1024) (k : Fin 512) :
    (narrowAt m c t : FVec Ideal S1024x512 .bf16) (ix2 r k)
      = scaled (argX m c) (argM m c) (argG m c) (argW m c) (rOf t r) ⟨512 * (t.val % 13) + k.val, by omega⟩ := by
  unfold narrowAt
  refine (pay3_at t _ r k).trans ?_
  rw [proj_at, padded, dif_pos (by simp only; omega), scaled]
  refine if_congr ?_ rfl rfl
  simp only; omega

/-- The first result's array, at coordinates. -/
abbrev projArr (c : Dev nD) : FVec Ideal S8192x6656 .f32 := fun y => padded (argX m c) (argM m c) (argG m c) (argW m c) (y 0) (y 1)

/-- The second result's array, at coordinates. -/
abbrev narrowArr (c : Dev nD) : FVec Ideal S8192x3072 .bf16 := fun y => scaled (argX m c) (argM m c) (argG m c) (argW m c) (y 0) (y 1)

theorem final4 (c : Dev nD) : (dats m 0 c).arrAt 4 cfg0.N = projArr m c := by
  refine (dats m 0 c).arrAt_eq_of_covers 4 _ (by decide +kernel) fun t _ y => ?_
  rw [after4]
  idx_vars y
  have he : ((win0_4.blk t).view.emb (ix2 y0 y1) : S8192x6656.Idx) = ix2 (rOf t y0) ⟨512 * (t.val % 13) + y1.val, by omega⟩ := by
    blk_ext [idx4 t]
  exact (proj_at m c t y0 y1).trans (congrArg (projArr m c) he).symm

theorem final5 (c : Dev nD) : (dats m 0 c).arrAt 5 cfg0.N = narrowArr m c := by
  refine (dats m 0 c).arrAt_eq_of_covers 5 _ (by decide +kernel) fun t _ y => ?_
  rw [after5]
  idx_vars y
  have he : ((win0_5.blk t).view.emb (ix2 y0 y1) : S8192x3072.Idx)
      = ix2 (rOf (lastSix t) y0) ⟨512 * ((lastSix t).val % 13) + y1.val, by simp only; omega⟩ := by
    have hr : t.val / 13 = (lastSix t).val / 13 := by simp only; omega
    have h5 := idx5 t
    rw [hr] at h5
    blk_ext [h5]
  exact (narrow_at m c (lastSix t) (by simp only; omega) y0 y1).trans (congrArg (narrowArr m c) he).symm

end Cert.Kernel3Ideal.Hand

end
-- ==== Proof.InprojClaim.lean ====
/- The tiled input projection and its reference end with equal results. -/
module

public import proofs.«01_k».proof.Defs
public import proofs.«01_k».proof.Proof.InprojValue
public import proofs.«01_k».proof.Proof.Gen.Reference3Ideal.Run
public import Idealize.ShloMosaic.Lib.Claim

@[expose] public section

set_option maxRecDepth 16384

noncomputable section

open Idealize.ShloMosaic Idealize.ShloMosaic.TcCoe Idealize.SL.Sem

namespace Cert.Proof

open Cert.Reference3Ideal.Hand

theorem inproj_equal : Cert.algebraic_Kernel3Ideal_Reference3Ideal (hKernel3Ideal := Cert.Kernel3Ideal.Gen.facts) (hReference3Ideal := Cert.Reference3Ideal.Gen.facts) := by
  intro m g m' g' _ hagree
  refine ⟨Cert.Kernel3Ideal.Hand.projArr m, Cert.Kernel3Ideal.Hand.narrowArr m, ?_, ?_⟩
  · refine θ_run_mono (θ_run_and (Cert.Kernel3Ideal.Hand.run_main m g) (Cert.Kernel3Ideal.Hand.frame m g)) fun r h c => ⟨?_, ?_, h.2.1 c⟩
    · exact ((h.1 c).1 4).trans (Cert.Kernel3Ideal.Hand.final4 m c)
    · exact ((h.1 c).1 5).trans (Cert.Kernel3Ideal.Hand.final5 m c)
  · refine θ_run_mono (Cert.Reference3Ideal.Value.run m' g') fun r h c => ⟨(h c).1.trans ?_, (h c).2.1.trans ?_, (h c).2.2⟩
    all_goals
      obtain ⟨h0, h1, h2, h3⟩ := hagree c
      rw [h0, h1, h2, h3]
      funext y
      idx_vars y
    · exact refPad_at _ _ _ _ y0 y1
    · exact refN_at _ _ _ _ y0 y1

end Cert.Proof

end
-- ==== Proof.OutprojMath.lean ====
/- The output projection over plain coordinates: what one row of the residual stream becomes, and that the reference computes it. -/
module

public import proofs.«01_k».proof.Proof.FfnMath
public import proofs.«01_k».proof.Proof.Gen.Reference4Ideal.Run

@[expose] public section

set_option maxRecDepth 16384

noncomputable section

open Idealize.ShloMosaic Idealize.ShloMosaic.TcCoe Idealize.SL.Sem

namespace Cert.Outproj

open Cert.Mlp (rms)

/-- The mean over the 64 lanes of the head that lane `l` is of. -/
def mean (y : Fin 1024 → EReal) (l : Fin 1024) : EReal :=
  Ideal.div (∑ j : Fin 64, y ⟨64 * (l.val / 64) + j.val, by omega⟩) (Ideal.ofBits FTy.f32 0x42800000#32)

def cen (y : Fin 1024 → EReal) (l : Fin 1024) : EReal := y l - mean y l

/-- The readout normalised head by head. -/
def ln (y : Fin 1024 → EReal) (l : Fin 1024) : EReal :=
  cen y l * Ideal.rsqrt (mean (fun e => cen y e * cen y e) l + Ideal.ofBits FTy.f32 0x3A27C5AC#32)

/-- The recurrence's row: normalised, with gain, offset and bonus, gated. -/
def row (y g b lg lb : Fin 1024 → EReal) (l : Fin 1024) : EReal := (ln y l * lg l + lb l + b l) * g l

/-- The two halves of a row times the two halves of the weights. -/
def mix (a r : Fin 1024 → EReal) (W : Fin 2048 → Fin 2048 → EReal) (n : Fin 2048) : EReal :=
  ∑ e : Fin 1024, a e * W ⟨e.val, by omega⟩ n + ∑ e : Fin 1024, r e * W ⟨1024 + e.val, by omega⟩ n

abbrev Half (φ : FTy) := FVec Ideal (⟨3, ![2, 4096, 1024]⟩ : Shape) φ
abbrev Lanes := FVec Ideal (⟨2, ![1, 1024]⟩ : Shape) .f32
abbrev Square := FVec Ideal (⟨3, ![1, 2048, 2048]⟩ : Shape) .f32

/-- The mixed row of sequence `b` at position `s`. -/
def mixed (A : Half .bf16) (Y G B : Half .f32) (lg lb : Lanes) (W : Square) (b : Fin 2) (s : Fin 4096) : Fin 2048 → EReal :=
  mix (fun e => A (ix3 b s e)) (row (fun e => Y (ix3 b s e)) (fun e => G (ix3 b s e)) (fun e => B (ix3 b s e)) (fun e => lg (ix2 0 e)) (fun e => lb (ix2 0 e)))
    (fun e n => W (ix3 0 e n))

/-- The residual stream after the mixer. -/
def out (A : Half .bf16) (Y G B : Half .f32) (lg lb : Lanes) (W : Square) (X : Mlp.Rows) (M : Mlp.Mods) (p : Mlp.Gain) (b : Fin 2) (s : Fin 4096) (l : Fin 2048) : EReal :=
  X (ix3 b s l) + M (ix2 b ⟨4096 + l.val, by omega⟩) * rms (mixed A Y G B lg lb W b s) (fun e => p (ix2 0 e)) l

end Cert.Outproj

namespace Cert.Reference4Ideal.Hand

open Cert.Reference4Ideal Cert.Reference4Ideal.Gen

/-- The mean over each head, as the reference computes it. -/
def refMean (y : FVec Ideal S2x4096x16x64 .f32) : FVec Ideal S2x4096x16x1 .f32 :=
  Host.divf (broadcastInDim S2x4096x16x1 ![0, 1, 2] bcast_S2x4096x16_S2x4096x16x1_0_1_2 (Host.reduceAdd y (constant S_ .f32 0x00000000#32) reducesTo_S2x4096x16x64_S2x4096x16_d3 h_S_)) (broadcastInDim S2x4096x16x1 ![] bcast_S_S2x4096x16x1 (constant S_ .f32 0x42800000#32))

def refCen (Y : FVec Ideal S2x4096x1024 .f32) : FVec Ideal S2x4096x16x64 .f32 :=
  subf (shapeCast _ Y shapeCasts_S2x4096x1024_S2x4096x16x64) (broadcastInDim S2x4096x16x64 ![0, 1, 2, 3] bcast_S2x4096x16x1_S2x4096x16x64_0_1_2_3 (refMean (shapeCast _ Y shapeCasts_S2x4096x1024_S2x4096x16x64)))

def refLn (c : FVec Ideal S2x4096x16x64 .f32) : FVec Ideal S2x4096x1024 .f32 :=
  shapeCast _ (mulf c (broadcastInDim S2x4096x16x64 ![0, 1, 2, 3] bcast_S2x4096x16x1_S2x4096x16x64_0_1_2_3 (Host.rsqrt (addf (refMean (mulf c c)) (broadcastInDim S2x4096x16x1 ![] bcast_S_S2x4096x16x1 (constant S_ .f32 0x3A27C5AC#32)))))) shapeCasts_S2x4096x16x64_S2x4096x1024

def refRow (n G B : FVec Ideal S2x4096x1024 .f32) (lg lb : FVec Ideal S1x1024 .f32) : FVec Ideal S2x4096x1024 .f32 :=
  mulf (addf (addf (mulf n (broadcastInDim S2x4096x1024 ![0, 1, 2] bcast_S1x1x1024_S2x4096x1024_0_1_2 (broadcastInDim S1x1x1024 ![2] bcast_S1024_S1x1x1024_2 (shapeCast _ lg shapeCasts_S1x1024_S1024))))
    (broadcastInDim S2x4096x1024 ![0, 1, 2] bcast_S1x1x1024_S2x4096x1024_0_1_2 (broadcastInDim S1x1x1024 ![2] bcast_S1024_S1x1x1024_2 (shapeCast _ lb shapeCasts_S1x1024_S1024)))) B) G

def refMix (A : FVec Ideal S2x4096x1024 .bf16) (r : FVec Ideal S2x4096x1024 .f32) (W : FVec Ideal S1x2048x2048 .f32) : FVec Ideal S2x4096x2048 .f32 :=
  Host.dotGeneral dot_S2x4096x2048_S2048x2048_S2x4096x2048_2_0_01_1_n_n none
    (concatenate S2x4096x2048 2 [⟨S2x4096x1024, (extf .f32 A bitsLt_bf16_f32)⟩, ⟨S2x4096x1024, r⟩] concatenates_S2x4096x1024_S2x4096x1024_S2x4096x2048_d2)
    (shapeCast _ W shapeCasts_S1x2048x2048_S2048x2048)

/-- The residual plus the gated, normalised rows `f`, as the reference computes it. -/
def refOut (X f : FVec Ideal S2x4096x2048 .f32) (M : FVec Ideal S2x12288 .f32) (p : FVec Ideal S1x2048 .f32) : FVec Ideal S8192x2048 .f32 :=
  shapeCast _ (addf X (mulf (broadcastInDim S2x4096x2048 ![0, 1, 2] bcast_S2x1x2048_S2x4096x2048_0_1_2 (extractStridedSlice S2x1x2048 ![0, 0, 4096] (broadcastInDim S2x1x12288 ![0, 2] bcast_S2x12288_S2x1x12288_0_2 M) slices_S2x1x12288_S2x1x2048_0_0_4096))
    (mulf (mulf f (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf f f) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
      (broadcastInDim S2x4096x2048 ![0, 1, 2] bcast_S1x1x2048_S2x4096x2048_0_1_2 (broadcastInDim S1x1x2048 ![2] bcast_S2048_S1x1x2048_2 (shapeCast _ p shapeCasts_S1x2048_S2048)))))) shapeCasts_S2x4096x2048_S8192x2048

variable (A : FVec Ideal S2x4096x1024 .bf16) (Y G B : FVec Ideal S2x4096x1024 .f32) (lg lb : FVec Ideal S1x1024 .f32) (W : FVec Ideal S1x2048x2048 .f32)
  (X : FVec Ideal S2x4096x2048 .f32) (M : FVec Ideal S2x12288 .f32) (p : FVec Ideal S1x2048 .f32)

theorem refCen_at (b : Fin 2) (s : Fin 4096) (h : Fin 16) (j : Fin 64) :
    refCen Y (ix4 b s h j) = Outproj.cen (fun e => Y (ix3 b s e)) ⟨64 * h.val + j.val, by omega⟩ := by
  pointwise [refCen, refMean, Outproj.cen, Outproj.mean]
  have e (x : Fin 64) : (⟨h.val * 64 + x.val, by omega⟩ : Fin 1024) = ⟨64 * h.val + x.val, by omega⟩ := Fin.ext (by simp only; omega)
  have q : (64 * h.val + j.val) / 64 = h.val := by omega
  simp only [e, q]

theorem refLn_at (b : Fin 2) (s : Fin 4096) (l : Fin 1024) :
    refLn (refCen Y) (ix3 b s l) = Outproj.ln (fun e => Y (ix3 b s e)) l := by
  pointwise [refLn, refMean, Outproj.ln, Outproj.mean, refCen_at]
  have e : (⟨64 * (l.val / 64) + l.val % 64, by omega⟩ : Fin 1024) = l := Fin.ext (by simp only; omega)
  rw [e]

theorem refRow_at (b : Fin 2) (s : Fin 4096) (l : Fin 1024) :
    refRow (refLn (refCen Y)) G B lg lb (ix3 b s l)
      = Outproj.row (fun e => Y (ix3 b s e)) (fun e => G (ix3 b s e)) (fun e => B (ix3 b s e)) (fun e => lg (ix2 0 e)) (fun e => lb (ix2 0 e)) l := by
  pointwise [refRow, Outproj.row, refLn_at]

theorem refMix_at (b : Fin 2) (s : Fin 4096) (n : Fin 2048) :
    refMix A (refRow (refLn (refCen Y)) G B lg lb) W (ix3 b s n) = Outproj.mixed A Y G B lg lb W b s n := by
  pointwise [refMix, Outproj.mixed, Outproj.mix, refRow_at]

theorem refOut_at (R : Fin 8192) (l : Fin 2048) :
    refOut X (refMix A (refRow (refLn (refCen Y)) G B lg lb) W) M p (ix2 R l)
      = Outproj.out A Y G B lg lb W X M p ⟨R.val / 4096, by omega⟩ ⟨R.val % 4096, by omega⟩ l := by
  pointwise [refOut, Outproj.out, Mlp.rms, refMix_at]

theorem res_eq (m : (ℓ : Loc nD τ sig) → Buf (Elt Ideal) ℓ) (c : Dev nD) :
    Value.res_out0 m c = refOut (m ((c.tc : Thread nD τ).loc main_arg7))
      (refMix (m ((c.tc : Thread nD τ).loc main_arg0)) (refRow (refLn (refCen (m ((c.tc : Thread nD τ).loc main_arg1)))) (m ((c.tc : Thread nD τ).loc main_arg2)) (m ((c.tc : Thread nD τ).loc main_arg3))
        (m ((c.tc : Thread nD τ).loc main_arg4)) (m ((c.tc : Thread nD τ).loc main_arg5))) (m ((c.tc : Thread nD τ).loc main_arg6)))
      (m ((c.tc : Thread nD τ).loc main_arg8)) (m ((c.tc : Thread nD τ).loc main_arg9)) := rfl

end Cert.Reference4Ideal.Hand

end
-- ==== Proof.OutprojBlocks.lean ====
/- The output projection's input blocks and its body, read at coordinates over the argument arrays. -/
module

public import proofs.«01_k».proof.Proof.Gen.Kernel4Ideal.Value
public import proofs.«01_k».proof.Proof.OutprojMath
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem

namespace Cert.Kernel4Ideal.Hand

open Cert.Kernel4Ideal Cert.Kernel4Ideal.Gen

variable (m : (ℓ : Loc nD τ sig) → Buf (Elt Ideal) ℓ)

abbrev argA (c : Dev nD) : FVec Ideal S2x4096x1024 .bf16 := m ((c : Thread nD τ).loc main_arg0)
abbrev argY (c : Dev nD) : FVec Ideal S2x4096x1024 .f32 := m ((c : Thread nD τ).loc main_arg1)
abbrev argG (c : Dev nD) : FVec Ideal S2x4096x1024 .f32 := m ((c : Thread nD τ).loc main_arg2)
abbrev argB (c : Dev nD) : FVec Ideal S2x4096x1024 .f32 := m ((c : Thread nD τ).loc main_arg3)
abbrev argLg (c : Dev nD) : FVec Ideal S1x1024 .f32 := m ((c : Thread nD τ).loc main_arg4)
abbrev argLb (c : Dev nD) : FVec Ideal S1x1024 .f32 := m ((c : Thread nD τ).loc main_arg5)
abbrev argW (c : Dev nD) : FVec Ideal S1x2048x2048 .f32 := m ((c : Thread nD τ).loc main_arg6)
abbrev argX (c : Dev nD) : FVec Ideal S2x4096x2048 .f32 := m ((c : Thread nD τ).loc main_arg7)
abbrev argM (c : Dev nD) : FVec Ideal S2x12288 .f32 := m ((c : Thread nD τ).loc main_arg8)
abbrev argP (c : Dev nD) : FVec Ideal S1x2048 .f32 := m ((c : Thread nD τ).loc main_arg9)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val / 16, 0, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)

theorem lt32 (t : Fin cfg0.N) : t.val < 32 := lt_of_lt_of_eq t.isLt N_0

/-- The sequence and the position of row `r` of the block of point `t`. -/
abbrev bOf (t : Fin cfg0.N) : Fin 2 := ⟨t.val / 16, by have := lt32 t; omega⟩
abbrev sOf (t : Fin cfg0.N) (r : Fin 256) : Fin 4096 := ⟨256 * (t.val % 16) + r.val, by omega⟩

/-- The head of every lane, as the host computes it. -/
def heads : IVec S1024 32 :=
  select (andi (cmpi CmpIPredicate.ne (signi (iotaInDim S1024 32 0)) (broadcastInDim S1024 ![] bcast_S_S1024 (signi (id (constantI S_ 32 64#32)))))
      (cmpi CmpIPredicate.ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- The block-diagonal matrix of ones, as the host computes it. -/
def ones : FVec Ideal S1024x1024 .bf16 :=
  uitofp FTy.bf16 (cmpi CmpIPredicate.eq
    (broadcastInDim S1024x1024 ![0, 1] bcast_S1024x1_S1024x1024_0_1 (broadcastInDim S1024x1 ![0] bcast_S1024_S1024x1_0 heads))
    (broadcastInDim S1024x1024 ![0, 1] bcast_S1x1024_S1024x1024_0_1 (broadcastInDim S1x1024 ![1] bcast_S1024_S1x1024_1 heads)))

/-- What the host operations leave in the arrays that the windows read. -/
theorem V_host (c : Dev nD) :
    V m c main_v8 = shapeCast S8192x1024 (argA m c) shapeCasts_S2x4096x1024_S8192x1024
    ∧ V m c main_v9 = shapeCast S8192x1024 (argY m c) shapeCasts_S2x4096x1024_S8192x1024
    ∧ V m c main_v10 = shapeCast S8192x1024 (argG m c) shapeCasts_S2x4096x1024_S8192x1024
    ∧ V m c main_v11 = shapeCast S8192x1024 (argB m c) shapeCasts_S2x4096x1024_S8192x1024
    ∧ V m c main_v13 = truncf .bf16 (shapeCast S2048x2048 (argW m c) shapeCasts_S1x2048x2048_S2048x2048) bitsLt_bf16_f32
    ∧ V m c main_v14 = shapeCast S8192x2048 (argX m c) shapeCasts_S2x4096x2048_S8192x2048
    ∧ V m c main_v15 = shapeCast S2x6x1x2048 (argM m c) shapeCasts_S2x12288_S2x6x1x2048
    ∧ V m c main_v7 = ones := by
  refine ⟨?_, ?_, ?_, ?_, ?_, ?_, ?_, ?_⟩ <;>
    simp only [V, hostOps0, hostOps0_1, hostOps0_2, List.flatten_cons, List.flatten_nil, List.append_nil, List.cons_append, List.nil_append, StableHlo.TRef.binary, StableHlo.TRef.unary,
      StableHlo.TRef.nullary, StableHlo.TRef.ternary, StableHlo.TRef.toBuf, StableHlo.TRef.ofBuf, cast_eq] <;>
    after_results_simp <;> rfl

theorem heads_at (e : Fin 1024) : heads (ix1 e) = BitVec.ofNat 32 (e.val / 64) := by
  pointwise [heads]
  revert e
  decide +kernel

theorem blkA (c : Dev nD) (t : Fin cfg0.N) (r : Fin 256) (l : Fin 1024) :
    (iblk m c 0 t : FVec Ideal S256x1024 .bf16) (ix2 r l) = argA m c (ix3 (bOf t) (sOf t r) l) := by
  blk_simp [iblk, idx0]
  refine (congrFun (V_host m c |>.1) _).trans ?_
  pointwise
  blk_ext [idx0 t]

theorem blkY (c : Dev nD) (t : Fin cfg0.N) (r : Fin 256) (l : Fin 1024) :
    (iblk m c 1 t : FVec Ideal S256x1024 .f32) (ix2 r l) = argY m c (ix3 (bOf t) (sOf t r) l) := by
  blk_simp [iblk, idx1]
  refine (congrFun (V_host m c |>.2.1) _).trans ?_
  pointwise
  blk_ext [idx1 t]

theorem blkGt (c : Dev nD) (t : Fin cfg0.N) (r : Fin 256) (l : Fin 1024) :
    (iblk m c 2 t : FVec Ideal S256x1024 .f32) (ix2 r l) = argG m c (ix3 (bOf t) (sOf t r) l) := by
  blk_simp [iblk, idx2]
  refine (congrFun (V_host m c |>.2.2.1) _).trans ?_
  pointwise
  blk_ext [idx2 t]

theorem blkB (c : Dev nD) (t : Fin cfg0.N) (r : Fin 256) (l : Fin 1024) :
    (iblk m c 3 t : FVec Ideal S256x1024 .f32) (ix2 r l) = argB m c (ix3 (bOf t) (sOf t r) l) := by
  blk_simp [iblk, idx3]
  refine (congrFun (V_host m c |>.2.2.2.1) _).trans ?_
  pointwise
  blk_ext [idx3 t]

theorem blkLg (c : Dev nD) (t : Fin cfg0.N) (l : Fin 1024) :
    (iblk m c 4 t : FVec Ideal S1x1024 .f32) (ix2 0 l) = argLg m c (ix2 0 l) := by
  blk_ext [iblk, V, idx4 t]

theorem blkLb (c : Dev nD) (t : Fin cfg0.N) (l : Fin 1024) :
    (iblk m c 5 t : FVec Ideal S1x1024 .f32) (ix2 0 l) = argLb m c (ix2 0 l) := by
  blk_ext [iblk, V, idx5 t]

theorem blkW (c : Dev nD) (t : Fin cfg0.N) (k : Fin 2048) (l : Fin 2048) :
    (iblk m c 7 t : FVec Ideal S2048x2048 .bf16) (ix2 k l) = argW m c (ix3 0 k l) := by
  blk_simp [iblk, idx7]
  refine (congrFun (V_host m c |>.2.2.2.2.1) _).trans ?_
  pointwise
  blk_ext [idx7 t]

theorem blkX (c : Dev nD) (t : Fin cfg0.N) (r : Fin 256) (l : Fin 2048) :
    (iblk m c 8 t : FVec Ideal S256x2048 .f32) (ix2 r l) = argX m c (ix3 (bOf t) (sOf t r) l) := by
  blk_simp [iblk, idx8]
  refine (congrFun (V_host m c |>.2.2.2.2.2.1) _).trans ?_
  pointwise
  blk_ext [idx8 t]

theorem blkM (c : Dev nD) (t : Fin cfg0.N) (k : Fin 6) (l : Fin 2048) :
    (iblk m c 9 t : FVec Ideal S1x6x1x2048 .f32) (ix4 0 k 0 l) = argM m c (ix2 (bOf t) ⟨2048 * k.val + l.val, by omega⟩) := by
  blk_simp [iblk, idx9]
  refine (congrFun (V_host m c |>.2.2.2.2.2.2.1) _).trans ?_
  pointwise
  blk_ext [idx9 t]

theorem blkP (c : Dev nD) (t : Fin cfg0.N) (l : Fin 2048) :
    (iblk m c 10 t : FVec Ideal S1x2048 .f32) (ix2 0 l) = argP m c (ix2 0 l) := by
  blk_ext [iblk, V, idx10 t]

theorem ones_at (e l : Fin 1024) : ones (ix2 e l) = (if e.val / 64 = l.val / 64 then 1 else 0 : EReal) := by
  pointwise [ones, heads_at]
  rw [WordCmp.cmpi_eq_ofNat (by omega) (by omega)]
  by_cases h : e.val / 64 = l.val / 64
  · rw [if_pos h, decide_eq_true h]
    show ((((1 : ℕ) : ℝ)) : EReal) = 1
    norm_num
  · rw [if_neg h, decide_eq_false h]
    show ((((0 : ℕ) : ℝ)) : EReal) = 0
    norm_num

theorem blkO (c : Dev nD) (t : Fin cfg0.N) (e l : Fin 1024) :
    (iblk m c 6 t : FVec Ideal S1024x1024 .bf16) (ix2 e l) = (if e.val / 64 = l.val / 64 then 1 else 0 : EReal) := by
  have he : (win0_6.blk t).view.emb (ix2 e l) = ix2 e l := by blk_ext [idx6 t]
  blk_simp [iblk, idx6]
  refine (congrFun (V_host m c |>.2.2.2.2.2.2.2) _).trans ?_
  exact (congrArg ones he).trans (ones_at e l)

end Cert.Kernel4Ideal.Hand

end
-- ==== Proof.OutprojValue.lean ====
/- The output projection's result array is the reference's. -/
module

public import proofs.«01_k».proof.Proof.OutprojBlocks

@[expose] public section

set_option maxRecDepth 16384

noncomputable section

open Idealize.ShloMosaic Idealize.ShloMosaic.TcCoe Idealize.SL.Sem

namespace Cert.Kernel4Ideal.Hand

open Cert.Kernel4Ideal Cert.Kernel4Ideal.Gen Cert.Outproj
open Cert.Mlp (rms)

theorem sixtyfourth : Ideal.ofBits FTy.f32 0x3C800000#32 = (((1 : ℝ) / 64 : ℝ) : EReal) := by
  simp [Ideal.ofBits, Ideal.ieee, -EReal.coe_mul]; norm_num

theorem sixtyfour : Ideal.ofBits FTy.f32 0x42800000#32 = ((64 : ℝ) : EReal) := by
  simp [Ideal.ofBits, Ideal.ieee, -EReal.coe_mul]; norm_num

/-- A row times the block-diagonal ones is the sum over the lane's head. -/
theorem sum_of_ones (f : Fin 1024 → EReal) (l : Fin 1024) :
    (∑ e : Fin 1024, f e * (if e.val / 64 = l.val / 64 then 1 else 0 : EReal)) = ∑ j : Fin 64, f ⟨64 * (l.val / 64) + j.val, by omega⟩ := by
  simp only [mul_ite, mul_one, mul_zero]
  rw [← Finset.sum_filter]
  refine Finset.sum_bij' (fun e _ => (⟨e.val % 64, by omega⟩ : Fin 64)) (fun j _ => (⟨64 * (l.val / 64) + j.val, by omega⟩ : Fin 1024))
    (fun _ _ => Finset.mem_univ _) (fun j _ => by simp only [Finset.mem_filter, Finset.mem_univ, true_and]; omega)
    (fun e he => ?_) (fun j _ => Fin.ext (by simp only; omega)) (fun e he => ?_)
  · have h := (Finset.mem_filter.mp he).2
    exact Fin.ext (by simp only; omega)
  · have h := (Finset.mem_filter.mp he).2
    exact congrArg f (Fin.ext (by simp only; omega))

/-- A row times the block-diagonal ones, over 64, is the mean over the lane's head. -/
theorem mean_of_ones (f : Fin 1024 → EReal) (l : Fin 1024) :
    (∑ e : Fin 1024, f e * (if e.val / 64 = l.val / 64 then 1 else 0 : EReal)) * Ideal.ofBits FTy.f32 0x3C800000#32 = mean f l := by
  rw [mean, sixtyfour, Ideal.div_coe (by norm_num), sixtyfourth, sum_of_ones]

theorem pay3_at (y : FVec Ideal S256x1024 .f32) (o : FVec Ideal S1024x1024 .bf16) (lg lb : FVec Ideal S1x1024 .f32) (b g : FVec Ideal S256x1024 .f32)
    (ho : ∀ e l, o (ix2 e l) = (if e.val / 64 = l.val / 64 then 1 else 0 : EReal)) (r : Fin 256) (l : Fin 1024) :
    k0_pay3 (F := Ideal) y o lg lb b g (ix2 r l)
      = row (fun e => y (ix2 r e)) (fun e => g (ix2 r e)) (fun e => b (ix2 r e)) (fun e => lg (ix2 0 e)) (fun e => lb (ix2 0 e)) l := by
  unfold row ln cen
  simp only [← mean_of_ones]
  pointwise [k0_pay3, ho]

theorem pay2_at (a : FVec Ideal S256x1024 .bf16) (w : FVec Ideal S1024x2048 .bf16) (r : Fin 256) (n : Fin 2048) :
    k0_pay2 (F := Ideal) a w (ix2 r n) = ∑ e : Fin 1024, a (ix2 r e) * w (ix2 e n) := by
  pointwise [k0_pay2]

theorem pay1_at (p : FVec Ideal S256x2048 .f32) (h : FVec Ideal S256x1024 .bf16) (w : FVec Ideal S1024x2048 .bf16) (x : FVec Ideal S256x2048 .f32)
    (q : FVec Ideal S1x1x1x2048 .f32) (g : FVec Ideal S1x2048 .f32) (r : Fin 256) (n : Fin 2048) :
    k0_pay1 (F := Ideal) p h w x q g (ix2 r n)
      = x (ix2 r n) + q (ix4 0 0 0 n) * rms (fun n => p (ix2 r n) + ∑ e : Fin 1024, h (ix2 r e) * w (ix2 e n)) (fun n => g (ix2 0 n)) n := by
  pointwise [k0_pay1, rms]

variable (m : (ℓ : Loc nD τ sig) → Buf (Elt Ideal) ℓ)

/-- The two halves of the weights, as the body loads them. -/
theorem ldW (c : Dev nD) (t : Fin cfg0.N) (e : Fin 1024) (n : Fin 2048) :
    (View.ld (iblk m c 7 t) r0_3 : FVec Ideal S1024x2048 .bf16) (ix2 e n) = argW m c (ix3 0 ⟨e.val, by omega⟩ n)
    ∧ (View.ld (iblk m c 7 t) r0_4 : FVec Ideal S1024x2048 .bf16) (ix2 e n) = argW m c (ix3 0 ⟨1024 + e.val, by omega⟩ n) := by
  refine ⟨?_, ?_⟩
  · refine Eq.trans ?_ (blkW m c t ⟨e.val, by omega⟩ n)
    pointwise
  · refine Eq.trans ?_ (blkW m c t ⟨1024 + e.val, by omega⟩ n)
    pointwise

/-- The load of the mixer's gate row. -/
theorem ldM (c : Dev nD) (t : Fin cfg0.N) (l : Fin 2048) :
    (View.ld (iblk m c 9 t) r0_6 : FVec Ideal S1x1x1x2048 .f32) (ix4 0 0 0 l) = argM m c (ix2 (bOf t) ⟨4096 + l.val, by omega⟩) := by
  refine Eq.trans ?_ (blkM m c t 2 l)
  pointwise

theorem block_at (c : Dev nD) (t : Fin cfg0.N) (r : Fin 256) (l : Fin 2048) :
    (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
      : FVec Ideal S256x2048 .f32) (ix2 r l)
      = out (argA m c) (argY m c) (argG m c) (argB m c) (argLg m c) (argLb m c) (argW m c) (argX m c) (argM m c) (argP m c) (bOf t) (sOf t r) l := by
  frame_out
  refine (pay1_at _ _ _ _ _ _ r l).trans ?_
  rw [ldM, out]
  simp only [mixed, mix, pay2_at, pay3_at _ _ _ _ _ _ (blkO m c t), (ldW m c t _ _).1, (ldW m c t _ _).2, blkA, blkY, blkGt, blkB, blkLg, blkLb, blkX, blkP]
  rfl

/-- The result array, by coordinates. -/
def res (c : Dev nD) : FVec Ideal S8192x2048 .f32 := fun y =>
  out (argA m c) (argY m c) (argG m c) (argB m c) (argLg m c) (argLb m c) (argW m c) (argX m c) (argM m c) (argP m c)
    ⟨(y 0).val / 4096, by have h : (y 0).val < 8192 := (y 0).isLt; omega⟩ ⟨(y 0).val % 4096, by omega⟩ (y 1)

theorem res_at (c : Dev nD) (t : Fin cfg0.N) (r : Fin 256) (l : Fin 2048) :
    res m c (ix2 ⟨256 * t.val + r.val, by have := lt32 t; omega⟩ l)
      = out (argA m c) (argY m c) (argG m c) (argB m c) (argLg m c) (argLb m c) (argW m c) (argX m c) (argM m c) (argP m c) (bOf t) (sOf t r) l := by
  have ht := lt32 t
  have hb : (⟨(256 * t.val + r.val) / 4096, by omega⟩ : Fin 2) = bOf t := Fin.ext (by simp only [bOf]; omega)
  have hs : (⟨(256 * t.val + r.val) % 4096, by omega⟩ : Fin 4096) = sOf t r := Fin.ext (by simp only [sOf]; omega)
  exact congrArg₂ (fun b s => out (argA m c) (argY m c) (argG m c) (argB m c) (argLg m c) (argLb m c) (argW m c) (argX m c) (argM m c) (argP m c) b s l) hb hs

/-- Row `r` of point `t`'s block is row `256 t + r` of the array. -/
theorem rowOf (t : Fin cfg0.N) (r : Fin 256) (l : Fin 2048) :
    ((win0_11.blk t).view.emb (ix2 r l) : S8192x2048.Idx) = ix2 ⟨256 * t.val + r.val, by have := lt32 t; omega⟩ l := by
  have ht := lt32 t
  blk_ext [idx11 t]

theorem final (c : Dev nD) : (dats m 0 c).arrAt 11 cfg0.N = res m c := by
  refine (dats m 0 c).arrAt_eq_of_covers 11 _ (by decide +kernel) fun t _ y => ?_
  rw [after0_11]
  idx_vars y
  have hb := (block_at m c t y0 y1).trans ((res_at m c t y0 y1).symm.trans (congrArg (res m c) (rowOf t y0 y1)).symm)
  generalize out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize res m c = R at hb ⊢
  exact hb

end Cert.Kernel4Ideal.Hand

end
-- ==== Proof.OutprojClaim.lean ====
/- The tiled output projection and its reference end with equal results. -/
module

public import proofs.«01_k».proof.Defs
public import proofs.«01_k».proof.Proof.OutprojValue
public import Idealize.ShloMosaic.Lib.Claim

@[expose] public section

set_option maxRecDepth 16384

noncomputable section

open Idealize.ShloMosaic Idealize.ShloMosaic.TcCoe Idealize.SL.Sem

namespace Cert.Proof

theorem outproj_equal : Cert.algebraic_Kernel4Ideal_Reference4Ideal (hKernel4Ideal := Cert.Kernel4Ideal.Gen.facts) (hReference4Ideal := Cert.Reference4Ideal.Gen.facts) := by
  intro m g m' g' _ hagree
  refine ⟨Cert.Kernel4Ideal.Hand.res m, ?_, ?_⟩
  · exact θ_run_mono (Cert.Kernel4Ideal.Value.run_blocks m g) fun r h c => ⟨(h c).1.trans (Cert.Kernel4Ideal.Hand.final m c), (h c).2⟩
  · refine θ_run_mono (Cert.Reference4Ideal.Value.run m' g') fun r h c => ⟨(h c).1.trans ?_, (h c).2⟩
    obtain ⟨h0, h1, h2, h3, h4, h5, h6, h7, h8, h9⟩ := hagree c
    refine (Cert.Reference4Ideal.Hand.res_eq m' c).trans ?_
    rw [h0, h1, h2, h3, h4, h5, h6, h7, h8, h9]
    funext y
    idx_vars y
    exact Cert.Reference4Ideal.Hand.refOut_at _ _ _ _ _ _ _ _ _ _ y0 y1

end Cert.Proof

end
-- ==== Proof.SampleFfnBlocks.lean ====
/- The sample group's MLP: input blocks and grid points, read at coordinates over the argument arrays. -/
module

public import proofs.«01_k».proof.Proof.Gen.Kernel5Ideal.Value
public import Idealize.ShloMosaic.Lib.Pointwise
public import Idealize.ShloMosaic.Lib.Tactic
public import Idealize.ShloMosaic.Lib.Claim
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.Kernel5Ideal.Hand

open Cert.Kernel5Ideal Cert.Kernel5Ideal.Gen

variable (m : (ℓ : Loc nD τ sig) → Buf (Elt Ideal) ℓ)

abbrev argX (c : Dev nD) : FVec Ideal S32x4x2048 .f32 := m ((c : Thread nD τ).loc main_arg0)
abbrev argM (c : Dev nD) : FVec Ideal S32x12288 .f32 := m ((c : Thread nD τ).loc main_arg1)
abbrev argG (c : Dev nD) : FVec Ideal S1x2048 .f32 := m ((c : Thread nD τ).loc main_arg2)
abbrev argP (c : Dev nD) : FVec Ideal S1x2048 .f32 := m ((c : Thread nD τ).loc main_arg3)
abbrev argU (c : Dev nD) : FVec Ideal S1x2048x8192 .f32 := m ((c : Thread nD τ).loc main_arg4)
abbrev argD (c : Dev nD) : FVec Ideal S1x8192x2048 .f32 := m ((c : Thread nD τ).loc main_arg5)

theorem idx0 : ∀ t : Fin cfg0.N, win0_0.index t = ![0, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

theorem lt8 (t : Fin cfg0.N) : t.val < 8 := lt_of_lt_of_eq t.isLt N_0

/-- The sequence and the position of row `r`. -/
abbrev bOf (r : Fin 128) : Fin 32 := ⟨r.val / 4, by omega⟩
abbrev sOf (r : Fin 128) : Fin 4 := ⟨r.val % 4, by omega⟩

theorem blkX (c : Dev nD) (t : Fin cfg0.N) (r : Fin 128) (l : Fin 2048) :
    (iblk m c 0 t : FVec Ideal S128x2048 .f32) (ix2 r l)
      = argX m c (ix3 (bOf r) (sOf r) l) := by
  blk_simp [iblk, idx0]
  entry_read
  pointwise
  blk_ext [idx0 t]

theorem blkM (c : Dev nD) (t : Fin cfg0.N) (k : Fin 6) (r : Fin 128) (l : Fin 2048) :
    (iblk m c 1 t : FVec Ideal S1x6x128x2048 .f32) (ix4 0 k r l)
      = argM m c (ix2 (bOf r) ⟨2048 * k.val + l.val, by omega⟩) := by
  blk_simp [iblk, idx1]
  entry_read
  pointwise
  blk_ext [idx1 t]

theorem blkG (c : Dev nD) (t : Fin cfg0.N) (l : Fin 2048) :
    (iblk m c 2 t : FVec Ideal S1x2048 .f32) (ix2 0 l) = argG m c (ix2 0 l) := by
  blk_ext [iblk, V, idx2 t]

theorem blkU (c : Dev nD) (t : Fin cfg0.N) (d : Fin 2048) (k : Fin 1024) :
    (iblk m c 4 t : FVec Ideal S2048x1024 .bf16) (ix2 d k)
      = argU m c (ix3 0 d ⟨1024 * t.val + k.val, by have := lt8 t; omega⟩) := by
  blk_simp [iblk, idx4]
  entry_read
  pointwise
  blk_ext [idx4 t]

theorem blkP (c : Dev nD) (t : Fin cfg0.N) (l : Fin 2048) :
    (iblk m c 3 t : FVec Ideal S1x2048 .f32) (ix2 0 l) = argP m c (ix2 0 l) := by
  blk_ext [iblk, V, idx3 t]

theorem blkD (c : Dev nD) (t : Fin cfg0.N) (k : Fin 1024) (l : Fin 2048) :
    (iblk m c 5 t : FVec Ideal S1024x2048 .bf16) (ix2 k l)
      = argD m c (ix3 0 ⟨1024 * t.val + k.val, by have := lt8 t; omega⟩ l) := by
  blk_simp [iblk, idx5]
  entry_read
  pointwise
  blk_ext [idx5 t]

end Cert.Kernel5Ideal.Hand

end
-- ==== Proof.SampleFfnMath.lean ====
/- The MLP branch over the sample group's rows: what one row of the residual stream becomes, and that the reference computes it. -/
module

public import proofs.«01_k».proof.Proof.Gen.Reference5Ideal.Run
public import proofs.«01_k».proof.Proof.FfnMath

@[expose] public section

set_option maxRecDepth 16384

noncomputable section

open Idealize.ShloMosaic Idealize.ShloMosaic.TcCoe Idealize.SL.Sem

namespace Cert.SampleMlp

open Cert.Mlp (Gain Up Down rms)

abbrev Rows := FVec Ideal (⟨3, ![32, 4, 2048]⟩ : Shape) .f32
abbrev Mods := FVec Ideal (⟨2, ![32, 12288]⟩ : Shape) .f32

/-- The normalised row, modulated by its sequence's shift and scale. -/
def hid (X : Rows) (M : Mods) (g : Gain) (b : Fin 32) (s : Fin 4) (l : Fin 2048) : EReal :=
  rms (fun e => X (ix3 b s e)) (fun e => g (ix2 0 e)) l * (1 + M (ix2 b ⟨8192 + l.val, by omega⟩)) + M (ix2 b ⟨6144 + l.val, by omega⟩)

/-- The squared rectified hidden unit. -/
def mid (X : Rows) (M : Mods) (g : Gain) (U : Up) (b : Fin 32) (s : Fin 4) (k : Fin 8192) : EReal :=
  max (∑ d, hid X M g b s d * U (ix3 0 d k)) 0 * max (∑ d, hid X M g b s d * U (ix3 0 d k)) 0

def ff (X : Rows) (M : Mods) (g : Gain) (U : Up) (D : Down) (b : Fin 32) (s : Fin 4) (l : Fin 2048) : EReal :=
  ∑ k : Fin 8192, mid X M g U b s k * D (ix3 0 k l)

/-- The row after the branch: the residual plus the gated, normalised MLP. -/
def out (X : Rows) (M : Mods) (g p : Gain) (U : Up) (D : Down) (b : Fin 32) (s : Fin 4) (l : Fin 2048) : EReal :=
  X (ix3 b s l) + M (ix2 b ⟨10240 + l.val, by omega⟩) * rms (ff X M g U D b s) (fun e => p (ix2 0 e)) l

end Cert.SampleMlp

namespace Cert.Reference5Ideal.Hand

open Cert.Reference5Ideal Cert.Reference5Ideal.Gen

/-- The normalised, modulated rows, as the reference computes them. -/
def refH (X : FVec Ideal S32x4x2048 .f32) (M : FVec Ideal S32x12288 .f32) (g : FVec Ideal S1x2048 .f32) : FVec Ideal S32x4x2048 .f32 :=
  addf (mulf (mulf (mulf X (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf X X) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32))))))
    (broadcastInDim S32x4x2048 ![0, 1, 2] bcast_S1x1x2048_S32x4x2048_0_1_2 (broadcastInDim S1x1x2048 ![2] bcast_S2048_S1x1x2048_2 (shapeCast _ g shapeCasts_S1x2048_S2048))))
    (broadcastInDim S32x4x2048 ![0, 1, 2] bcast_S32x1x2048_S32x4x2048_0_1_2 (addf (broadcastInDim S32x1x2048 ![] bcast_S_S32x1x2048 (constant S_ .f32 0x3F800000#32)) (extractStridedSlice S32x1x2048 ![0, 0, 8192] (broadcastInDim S32x1x12288 ![0, 2] bcast_S32x12288_S32x1x12288_0_2 M) slices_S32x1x12288_S32x1x2048_0_0_8192))))
    (broadcastInDim S32x4x2048 ![0, 1, 2] bcast_S32x1x2048_S32x4x2048_0_1_2 (extractStridedSlice S32x1x2048 ![0, 0, 6144] (broadcastInDim S32x1x12288 ![0, 2] bcast_S32x12288_S32x1x12288_0_2 M) slices_S32x1x12288_S32x1x2048_0_0_6144))

/-- The MLP of rows `H`, as the reference computes it. -/
def refF (H : FVec Ideal S32x4x2048 .f32) (U : FVec Ideal S1x2048x8192 .f32) (D : FVec Ideal S1x8192x2048 .f32) : FVec Ideal S32x4x2048 .f32 :=
  Host.dotGeneral dot_S32x4x8192_S8192x2048_S32x4x2048_2_0_01_1_n_n none
    (mulf (maximumf (Host.dotGeneral dot_S32x4x2048_S2048x8192_S32x4x8192_2_0_01_1_n_n none H (shapeCast _ U shapeCasts_S1x2048x8192_S2048x8192)) (broadcastInDim S32x4x8192 ![] bcast_S_S32x4x8192 (constant S_ .f32 0x00000000#32)))
      (maximumf (Host.dotGeneral dot_S32x4x2048_S2048x8192_S32x4x8192_2_0_01_1_n_n none H (shapeCast _ U shapeCasts_S1x2048x8192_S2048x8192)) (broadcastInDim S32x4x8192 ![] bcast_S_S32x4x8192 (constant S_ .f32 0x00000000#32))))
    (shapeCast _ D shapeCasts_S1x8192x2048_S8192x2048)

/-- The residual plus the gated, normalised rows `f`, as the reference computes it. -/
def refOut (X f : FVec Ideal S32x4x2048 .f32) (M : FVec Ideal S32x12288 .f32) (p : FVec Ideal S1x2048 .f32) : FVec Ideal S128x2048 .f32 :=
  shapeCast _ (addf X (mulf (broadcastInDim S32x4x2048 ![0, 1, 2] bcast_S32x1x2048_S32x4x2048_0_1_2 (extractStridedSlice S32x1x2048 ![0, 0, 10240] (broadcastInDim S32x1x12288 ![0, 2] bcast_S32x12288_S32x1x12288_0_2 M) slices_S32x1x12288_S32x1x2048_0_0_10240))
    (mulf (mulf f (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf f f) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32))))))
      (broadcastInDim S32x4x2048 ![0, 1, 2] bcast_S1x1x2048_S32x4x2048_0_1_2 (broadcastInDim S1x1x2048 ![2] bcast_S2048_S1x1x2048_2 (shapeCast _ p shapeCasts_S1x2048_S2048)))))) shapeCasts_S32x4x2048_S128x2048

variable (X : FVec Ideal S32x4x2048 .f32) (M : FVec Ideal S32x12288 .f32) (g p : FVec Ideal S1x2048 .f32) (U : FVec Ideal S1x2048x8192 .f32) (D : FVec Ideal S1x8192x2048 .f32)

theorem refH_at (b : Fin 32) (s : Fin 4) (l : Fin 2048) : refH X M g (ix3 b s l) = SampleMlp.hid X M g b s l := by
  pointwise [refH, SampleMlp.hid, Mlp.rms]

theorem refF_at (b : Fin 32) (s : Fin 4) (l : Fin 2048) : refF (refH X M g) U D (ix3 b s l) = SampleMlp.ff X M g U D b s l := by
  pointwise [refF, SampleMlp.ff, SampleMlp.mid, refH_at]

theorem refOut_at (R : Fin 128) (l : Fin 2048) :
    refOut X (refF (refH X M g) U D) M p (ix2 R l) = SampleMlp.out X M g p U D ⟨R.val / 4, by omega⟩ ⟨R.val % 4, by omega⟩ l := by
  pointwise [refOut, SampleMlp.out, Mlp.rms, refF_at]

theorem res_eq (m : (ℓ : Loc nD τ sig) → Buf (Elt Ideal) ℓ) (c : Dev nD) :
    Value.res_main_v50 m c = refOut (m ((c.tc : Thread nD τ).loc main_arg0)) (refF (refH (m ((c.tc : Thread nD τ).loc main_arg0)) (m ((c.tc : Thread nD τ).loc main_arg1)) (m ((c.tc : Thread nD τ).loc main_arg2)))
      (m ((c.tc : Thread nD τ).loc main_arg4)) (m ((c.tc : Thread nD τ).loc main_arg5))) (m ((c.tc : Thread nD τ).loc main_arg1)) (m ((c.tc : Thread nD τ).loc main_arg3)) := rfl

end Cert.Reference5Ideal.Hand

end
-- ==== Proof.SampleFfnCases.lean ====
/- What the sample group's MLP leaves at each grid point: the normalised rows, the running sum over tiles, the output block. -/
module

public import proofs.«01_k».proof.Proof.SampleFfnBlocks
public import proofs.«01_k».proof.Proof.SampleFfnMath
public import Idealize.ShloMosaic.Lib.Pipeline.ReadBack

@[expose] public section

set_option maxRecDepth 16384

noncomputable section

open Idealize.ShloMosaic Idealize.ShloMosaic.TcCoe Idealize.SL.Sem

namespace Cert.Kernel5Ideal.Hand

open Cert.Kernel5Ideal Cert.Kernel5Ideal.Gen Cert.SampleMlp
open Cert.Mlp (rms)

theorem pay1_at (x : FVec Ideal S128x2048 .f32) (g : FVec Ideal S1x2048 .f32) (a b : FVec Ideal S1x1x128x2048 .f32)
    (r : Fin 128) (l : Fin 2048) : k0_pay1 (F := Ideal) x g a b (ix2 r l)
      = rms (fun e => x (ix2 r e)) (fun e => g (ix2 0 e)) l * (1 + a (ix4 0 0 r l)) + b (ix4 0 0 r l) := by
  pointwise [k0_pay1, rms]

theorem pay2_at (r : Fin 128) (l : Fin 2048) : k0_pay2 (F := Ideal) (ix2 r l) = 0 := by
  pointwise [k0_pay2]

theorem pay3_at (h : FVec Ideal S128x2048 .bf16) (u : FVec Ideal S2048x1024 .bf16) (acc : FVec Ideal S128x2048 .f32) (d : FVec Ideal S1024x2048 .bf16)
    (r : Fin 128) (l : Fin 2048) : k0_pay3 (F := Ideal) h u acc d (ix2 r l)
      = acc (ix2 r l) + ∑ x : Fin 1024, max (∑ e : Fin 2048, h (ix2 r e) * u (ix2 e x)) 0 * max (∑ e : Fin 2048, h (ix2 r e) * u (ix2 e x)) 0 * d (ix2 x l) := by
  pointwise [k0_pay3]

theorem pay4_at (x : FVec Ideal S128x2048 .f32) (a : FVec Ideal S1x1x128x2048 .f32) (acc : FVec Ideal S128x2048 .f32) (g : FVec Ideal S1x2048 .f32)
    (r : Fin 128) (l : Fin 2048) : k0_pay4 (F := Ideal) x a acc g (ix2 r l)
      = x (ix2 r l) + a (ix4 0 0 r l) * rms (fun e => acc (ix2 r e)) (fun e => g (ix2 0 e)) l := by
  pointwise [k0_pay4, rms]

variable (m : (ℓ : Loc nD τ sig) → Buf (Elt Ideal) ℓ)

abbrev rowsAt (c : Dev nD) (n : ℕ) (hn : n < cfg0.N) : FVec Ideal S128x2048 .bf16 := (outsAt0 m c n hn).2.1
abbrev accsAt (c : Dev nD) (n : ℕ) (hn : n < cfg0.N) : FVec Ideal S128x2048 .f32 := (outsAt0 m c n hn).2.2

/-- The loads of one of the six modulation rows. -/
theorem ldM (c : Dev nD) (t : Fin cfg0.N) (r : Fin 128) (l : Fin 2048) :
    (View.ld (iblk m c 1 t) (Rect.unit ![0, 3, 0, 0] ![1, 1, 128, 2048] inb_S1x6x128x2048_S1x1x128x2048_0_3_0_0) : FVec Ideal S1x1x128x2048 .f32) (ix4 0 0 r l)
      = argM m c (ix2 (bOf r) ⟨6144 + l.val, by omega⟩)
    ∧ (View.ld (iblk m c 1 t) (Rect.unit ![0, 4, 0, 0] ![1, 1, 128, 2048] inb_S1x6x128x2048_S1x1x128x2048_0_4_0_0) : FVec Ideal S1x1x128x2048 .f32) (ix4 0 0 r l)
      = argM m c (ix2 (bOf r) ⟨8192 + l.val, by omega⟩)
    ∧ (View.ld (iblk m c 1 t) (Rect.unit ![0, 5, 0, 0] ![1, 1, 128, 2048] inb_S1x6x128x2048_S1x1x128x2048_0_5_0_0) : FVec Ideal S1x1x128x2048 .f32) (ix4 0 0 r l)
      = argM m c (ix2 (bOf r) ⟨10240 + l.val, by omega⟩) := by
  refine ⟨?_, ?_, ?_⟩
  · refine Eq.trans ?_ (blkM m c t 3 r l)
    pointwise
  · refine Eq.trans ?_ (blkM m c t 4 r l)
    pointwise
  · refine Eq.trans ?_ (blkM m c t 5 r l)
    pointwise

theorem rows_A (c : Dev nD) (t : Fin cfg0.N) (h0 : t.val % 8 = 0) (r : Fin 128) (l : Fin 2048) :
    rowsAt m c t.val t.isLt (ix2 r l) = hid (argX m c) (argM m c) (argG m c) (bOf r) (sOf r) l := by
  unfold rowsAt
  rw [outsAt0_A m c t h0 (by omega)]; dsimp only
  frame_out
  refine (pay1_at _ _ _ _ r l).trans ?_
  rw [(ldM m c t r l).1, (ldM m c t r l).2.1, hid]
  simp only [blkX, blkG]

theorem rows_S (c : Dev nD) (t : Fin cfg0.N) (h0 : t.val % 8 ≠ 0) (r : Fin 128) (l : Fin 2048) :
    rowsAt m c t.val t.isLt (ix2 r l) = rowsAt m c (t.val - 1) (by omega) (ix2 r l) := by
  by_cases h1 : t.val % 8 = 7
  · unfold rowsAt
    rw [outsAt0_C m c t h0 h1]; simp only [sout0_C_0]
  · unfold rowsAt
    rw [outsAt0_B m c t h0 h1]; simp only [sout0_B_0]

theorem acc_A (c : Dev nD) (t : Fin cfg0.N) (h0 : t.val % 8 = 0) :
    accsAt m c t.val t.isLt = k0_pay3 (rowsAt m c t.val t.isLt) (iblk m c 4 t) (k0_pay2 (F := Ideal)) (iblk m c 5 t) := by
  unfold accsAt rowsAt
  rw [outsAt0_A m c t h0 (by omega)]; dsimp only
  frame_out

theorem acc_S (c : Dev nD) (t : Fin cfg0.N) (h0 : t.val % 8 ≠ 0) :
    accsAt m c t.val t.isLt = k0_pay3 (rowsAt m c (t.val - 1) (by omega)) (iblk m c 4 t) (accsAt m c (t.val - 1) (by omega)) (iblk m c 5 t) := by
  by_cases h1 : t.val % 8 = 7
  · unfold accsAt rowsAt
    rw [outsAt0_C m c t h0 h1]; dsimp only
    frame_out
    rw [read_unread_whole, read_unread_whole]
  · unfold accsAt rowsAt
    rw [outsAt0_B m c t h0 h1]; dsimp only
    frame_out
    rw [read_unread_whole, read_unread_whole]

theorem out_C (c : Dev nD) (t : Fin cfg0.N) (h1 : t.val % 8 = 7) (r : Fin 128) (l : Fin 2048) :
    ((outsAt0 m c t.val t.isLt).1 : FVec Ideal S128x2048 .f32) (ix2 r l)
      = argX m c (ix3 (bOf r) (sOf r) l) + argM m c (ix2 (bOf r) ⟨10240 + l.val, by omega⟩)
        * rms (fun e => accsAt m c t.val t.isLt (ix2 r e)) (fun e => argP m c (ix2 0 e)) l := by
  unfold accsAt
  rw [outsAt0_C m c t (by omega) h1]; dsimp only
  frame_out
  refine (pay4_at _ _ _ _ r l).trans ?_
  rw [(ldM m c t r l).2.2, blkX]
  simp only [blkP]

end Cert.Kernel5Ideal.Hand

end
-- ==== Proof.SampleFfnValue.lean ====
/- The sample group's MLP: its result array is the reference's. -/
module

public import proofs.«01_k».proof.Proof.SampleFfnCases

@[expose] public section

set_option maxRecDepth 16384

noncomputable section

open Idealize.ShloMosaic Idealize.ShloMosaic.TcCoe Idealize.SL.Sem

namespace Cert.Kernel5Ideal.Hand

open Cert.Kernel5Ideal Cert.Kernel5Ideal.Gen Cert.SampleMlp

variable (m : (ℓ : Loc nD τ sig) → Buf (Elt Ideal) ℓ)

/-- The rows kept from point to point are the normalised rows. -/
theorem rows_at (c : Dev nD) (r : Fin 128) (l : Fin 2048) : ∀ (n : ℕ) (hn : n < cfg0.N),
    rowsAt m c n hn (ix2 r l) = hid (argX m c) (argM m c) (argG m c) (bOf r) (sOf r) l
  | 0, hn => rows_A m c ⟨0, hn⟩ rfl r l
  | n + 1, hn => by
    have h8 : n + 1 < 8 := lt8 ⟨n + 1, hn⟩
    exact (rows_S m c ⟨n + 1, hn⟩ (by simp only; omega) r l).trans (rows_at c r l n (by omega))

/-- The hidden units that point `n` adds. -/
def tile (c : Dev nD) (n : ℕ) (r : Fin 128) (l : Fin 2048) : EReal :=
  ∑ x : Fin 1024, mid (argX m c) (argM m c) (argG m c) (argU m c) (bOf r) (sOf r) ⟨1024 * (n % 8) + x.val, by omega⟩
    * argD m c (ix3 0 ⟨1024 * (n % 8) + x.val, by omega⟩ l)

/-- One accumulation adds the point's units. -/
theorem step_at (c : Dev nD) (t : Fin cfg0.N) (h acc : FVec Ideal S128x2048 .f32) (r : Fin 128) (l : Fin 2048)
    (hh : ∀ e, h (ix2 r e) = hid (argX m c) (argM m c) (argG m c) (bOf r) (sOf r) e) :
    k0_pay3 (F := Ideal) h (iblk m c 4 t) acc (iblk m c 5 t) (ix2 r l) = acc (ix2 r l) + tile m c t.val r l := by
  refine (pay3_at _ _ _ _ r l).trans ?_
  simp only [tile, mid, hh, blkU, blkD, Nat.mod_eq_of_lt (lt8 t)]

theorem accs_at (c : Dev nD) (t : Fin cfg0.N) (r : Fin 128) (l : Fin 2048) :
    accsAt m c t.val t.isLt (ix2 r l) = 0 + ∑ k ∈ Finset.range (t.val % 8 + 1), tile m c (8 * (t.val / 8) + k) r l := by
  refine Pipeline.eq_sum_of_reset_step_apply (fun n h (_ : Unit) => accsAt m c n h (ix2 r l)) 8 (fun _ => (0 : EReal)) (fun n _ => tile m c n r l)
    (fun t h0 _ => ?_) (fun t h0 _ => ?_) t ()
  · refine (congrFun (acc_A m c t h0) (ix2 r l)).trans ((step_at m c t _ _ r l fun e => rows_at m c r e t.val t.isLt).trans ?_)
    rw [pay2_at]
  · exact (congrFun (acc_S m c t h0) (ix2 r l)).trans (step_at m c t _ _ r l fun e => rows_at m c r e (t.val - 1) _)

/-- After the last point the accumulator is the whole MLP of the row. -/
theorem accs_last (c : Dev nD) (t : Fin cfg0.N) (h1 : t.val % 8 = 7) (r : Fin 128) (l : Fin 2048) :
    accsAt m c t.val t.isLt (ix2 r l) = ff (argX m c) (argM m c) (argG m c) (argU m c) (argD m c) (bOf r) (sOf r) l := by
  rw [accs_at, h1, zero_add, Finset.sum_range, ff]
  refine Fin.sum_mul_add_congr fun s k hl => ?_
  have hk : (⟨1024 * ((8 * (t.val / 8) + s.val) % 8) + k.val, by omega⟩ : Fin 8192) = ⟨s.val * 1024 + k.val, hl⟩ := Fin.ext (by simp only; omega)
  rw [hk]

/-- The result array, by coordinates. -/
def res (c : Dev nD) : FVec Ideal S128x2048 .f32 :=
  Cert.Reference5Ideal.Hand.refOut (argX m c) (Cert.Reference5Ideal.Hand.refF (Cert.Reference5Ideal.Hand.refH (argX m c) (argM m c) (argG m c)) (argU m c) (argD m c)) (argM m c) (argP m c)

theorem final (c : Dev nD) : Value.G6 m c = res m c := by
  refine (Value.final6 m c).symm.trans ((dats m 0 c).arrAt_eq_of_covers 6 _ (by decide +kernel) fun t hf y => ?_)
  have h1 := (flush0_6 t).mp hf
  blk_simp
  rw [after0_6]
  idx_vars y
  have hi : ((win0_6.blk t).view.emb (ix2 y0 y1) : S128x2048.Idx) = ix2 y0 y1 := by
    blk_ext [idx6 t]
  refine (out_C m c t h1 y0 y1).trans (Eq.trans ?_ (congrArg (res m c) hi).symm)
  refine Eq.trans ?_ (Cert.Reference5Ideal.Hand.refOut_at _ _ _ _ _ _ _ y1).symm
  simp only [accs_last m c t h1, out]

end Cert.Kernel5Ideal.Hand

end
-- ==== Proof.SampleFfnClaim.lean ====
/- The MLP of the sample group and its reference end with equal results. -/
module

public import proofs.«01_k».proof.Defs
public import proofs.«01_k».proof.Proof.SampleFfnValue

@[expose] public section

set_option maxRecDepth 16384

noncomputable section

open Idealize.ShloMosaic Idealize.ShloMosaic.TcCoe Idealize.SL.Sem

namespace Cert.Proof

theorem sample_mlp_equal : Cert.algebraic_Kernel5Ideal_Reference5Ideal (hKernel5Ideal := Cert.Kernel5Ideal.Gen.facts) (hReference5Ideal := Cert.Reference5Ideal.Gen.facts) := by
  pair_intro
  · run_from Cert.Kernel5Ideal.Value.run m g
  · run_from Cert.Reference5Ideal.Value.run m' g'
    refine (Cert.Reference5Ideal.Hand.res_eq m' c).trans (Eq.trans ?_ (Cert.Kernel5Ideal.Hand.final m c).symm)
    obtain ⟨h0, h1, h2, h3, h4, h5⟩ := hagree c
    rw [h0, h1, h2, h3, h4, h5]
    rfl

end Cert.Proof

end
-- ==== Proof.SampleInprojBody.lean ====
/- One step of the sample group's input projection, on any staging buffers: which buffers it stores and what it leaves in them. -/
module

public import proofs.«01_k».proof.Proof.Gen.Kernel6Ideal.Frame
public import proofs.«01_k».proof.Proof.Gen.Kernel6Ideal.Skeleton
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-- The first column tile of a row of blocks: where the rows are normalised. -/
abbrev first (i : grid0.Coords) : Prop := (Scalar.cmpi .ne (Scalar.extui (Scalar.cmpi .eq (BitVec.ofNat 32 (i 1).val) 0#32)) 0#32) = 1#1

/-- The normalised and modulated rows of a block of the input. -/
abbrev rowsOf (x : Vec F S128x2048 .f32) (md : Vec F S1x6x128x2048 .f32) (g : Vec F S1x2048 .f32) : Vec F S128x2048 .bf16 :=
  k0_pay1 x g (View.ld md (Rect.unit (s := S1x6x128x2048) ![0, 1, 0, 0] S1x1x128x2048.size inb_S1x6x128x2048_S1x1x128x2048_0_1_0_0))
    (View.ld md (Rect.unit (s := S1x6x128x2048) ![0, 0, 0, 0] S1x1x128x2048.size inb_S1x6x128x2048_S1x1x128x2048_0_0_0_0))

/-- A buffer stored whole holds what was stored last. -/
theorem read_last {sp : Space} {S : Shape} {e : EltTy} (v : View sig .tc sp S e) (f : v.ty.Contents (Elt F)) {off : Fin S.rank → ℕ}
    (inb : ∀ a, off a + S.size a ≤ S.size a) (w : S.Idx → Elt F e) (L : List (View.Piece (Elt F) S e)) (h : ∀ a, off a = 0) :
    v.read (Elt F) (v.writes (Elt F) f ((⟨Rect.unit off S.size inb, w⟩ : View.Piece (Elt F) S e) :: L)) = w := by
  have h' := View.eq_zero_of_forall h
  refine (View.read_writes_of_cover_last v f v v.junk _ L L fun y => ?_).trans ?_
  · subst h'; show y ∈ (Rect.whole S).set; rw [Rect.set_whole]; exact Finset.mem_univ y
  · rw [View.read_writes_junk_eq_canon, View.canon_cons_unit_lit inb w L h]

variable (c : Dev nD) (i : grid0.Coords)
  (arg2 : Memref sig .tc .vmem S128x2048 .f32) (h2 : arg2.IsWhole) (arg3 : Memref sig .tc .vmem S1x6x128x2048 .f32) (h3 : arg3.IsWhole)
  (arg4 : Memref sig .tc .vmem S1x2048 .f32) (h4 : arg4.IsWhole) (arg5 : Memref sig .tc .vmem S2048x512 .bf16) (h5 : arg5.IsWhole)
  (arg6 : Memref sig .tc .vmem S128x512 .f32) (h6 : arg6.IsWhole) (arg7 : Memref sig .tc .vmem S128x512 .bf16) (h7 : arg7.IsWhole)
  (arg8 : Memref sig .tc .vmem S128x2048 .bf16) (h8 : arg8.IsWhole)
  (x : Vec F S128x2048 .f32) (md : Vec F S1x6x128x2048 .f32) (g : Vec F S1x2048 .f32) (w : Vec F S2048x512 .bf16)
  (h : Vec F S128x2048 .bf16) (o : Vec F S128x512 .bf16)

set_option maxHeartbeats 1000000 in
/-- The first column tile: the rows are normalised into the scratch, and both results are stored. -/
theorem body_first (hc0 : first i) (hc1 : k0_cond2 i = 1#1) (E : Set ℕ) (K : PUnit → sProp 𝕄) :
    iprop(owns (c : Thread nD τ) arg2 fullShare x ∗ owns (c : Thread nD τ) arg3 fullShare md ∗ owns (c : Thread nD τ) arg4 fullShare g ∗ owns (c : Thread nD τ) arg5 fullShare w
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare md ∗ owns (c : Thread nD τ) arg4 fullShare g ∗ owns (c : Thread nD τ) arg5 fullShare w
            ∗ owns (c : Thread nD τ) arg6 fullShare (k0_pay2 (rowsOf x md g) w) ∗ owns (c : Thread nD τ) arg7 fullShare (k0_pay3 i (k0_pay2 (rowsOf x md g) w)) ∗ owns (c : Thread nD τ) arg8 fullShare (rowsOf x md g)) -∗ K ⟨⟩))
      ⊢ wp frame (wpE (defs₀ (F := F)) Variants.none c none) E (cc0_in_proj i arg2 h2 arg3 h3 arg4 h4 arg5 h5 arg6 h6 arg7 h7 arg8 h8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := h2.eq_unread hf0; obtain rfl := h3.eq_unread hf1; obtain rfl := h4.eq_unread hf2; obtain rfl := h5.eq_unread hf3
  sl_exec (disch := first | sl_exact hc0 | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    refine (read_last _ _ _ _ _ (by decide)).trans ?_
    frame_out
  isplitl [H5]
  · iexists _; isplitr
    swap; · iexact H5
    ipureintro
    refine (read_last _ _ _ _ _ (by decide)).trans ?_
    frame_out
  iexists _; isplitr
  swap; · iexact HS
  ipureintro
  refine (read_last _ _ _ _ _ (by decide)).trans ?_
  frame_out

set_option maxHeartbeats 1000000 in
/-- A later column tile of the first six: the rows are in the scratch; both results are stored. -/
theorem body_mid (hc0 : ¬first i) (hc1 : k0_cond2 i = 1#1) (E : Set ℕ) (K : PUnit → sProp 𝕄) :
    iprop(owns (c : Thread nD τ) arg2 fullShare x ∗ owns (c : Thread nD τ) arg3 fullShare md ∗ owns (c : Thread nD τ) arg4 fullShare g ∗ owns (c : Thread nD τ) arg5 fullShare w
        ∗ (∃ d, owns (c : Thread nD τ) arg6 fullShare d) ∗ (∃ d, owns (c : Thread nD τ) arg7 fullShare d) ∗ owns (c : Thread nD τ) arg8 fullShare h
        ∗ (iprop(owns (c : Thread nD τ) arg2 fullShare x ∗ owns (c : Thread nD τ) arg3 fullShare md ∗ owns (c : Thread nD τ) arg4 fullShare g ∗ owns (c : Thread nD τ) arg5 fullShare w
            ∗ owns (c : Thread nD τ) arg6 fullShare (k0_pay2 h w) ∗ owns (c : Thread nD τ) arg7 fullShare (k0_pay3 i (k0_pay2 h w)) ∗ owns (c : Thread nD τ) arg8 fullShare h) -∗ K ⟨⟩))
      ⊢ wp frame (wpE (defs₀ (F := F)) Variants.none c none) E (cc0_in_proj i arg2 h2 arg3 h3 arg4 h4 arg5 h5 arg6 h6 arg7 h7 arg8 h8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  obtain rfl := h2.eq_unread hf0; obtain rfl := h3.eq_unread hf1; obtain rfl := h4.eq_unread hf2; obtain rfl := h5.eq_unread hf3; obtain rfl := h8.eq_unread hfs
  sl_exec (disch := first | sl_exact hc0 | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    refine (read_last _ _ _ _ _ (by decide)).trans ?_
    frame_out
  isplitl [H5]
  · iexists _; isplitr
    swap; · iexact H5
    ipureintro
    refine (read_last _ _ _ _ _ (by decide)).trans ?_
    frame_out
  iexists _; isplitr; · ipureintro; exact h8.read_unread _
  iexact HS

set_option maxHeartbeats 1000000 in
/-- A column tile past the sixth: only the first result is stored, the second result's buffer is as it was. -/
theorem body_rest (hc0 : ¬first i) (hc1 : ¬k0_cond2 i = 1#1) (E : Set ℕ) (K : PUnit → sProp 𝕄) :
    iprop(owns (c : Thread nD τ) arg2 fullShare x ∗ owns (c : Thread nD τ) arg3 fullShare md ∗ owns (c : Thread nD τ) arg4 fullShare g ∗ owns (c : Thread nD τ) arg5 fullShare w
        ∗ (∃ d, owns (c : Thread nD τ) arg6 fullShare d) ∗ owns (c : Thread nD τ) arg7 fullShare o ∗ owns (c : Thread nD τ) arg8 fullShare h
        ∗ (iprop(owns (c : Thread nD τ) arg2 fullShare x ∗ owns (c : Thread nD τ) arg3 fullShare md ∗ owns (c : Thread nD τ) arg4 fullShare g ∗ owns (c : Thread nD τ) arg5 fullShare w
            ∗ owns (c : Thread nD τ) arg6 fullShare (k0_pay2 h w) ∗ owns (c : Thread nD τ) arg7 fullShare o ∗ owns (c : Thread nD τ) arg8 fullShare h) -∗ K ⟨⟩))
      ⊢ wp frame (wpE (defs₀ (F := F)) Variants.none c none) E (cc0_in_proj i arg2 h2 arg3 h3 arg4 h4 arg5 h5 arg6 h6 arg7 h7 arg8 h8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := h2.eq_unread hf0; obtain rfl := h3.eq_unread hf1; obtain rfl := h4.eq_unread hf2; obtain rfl := h5.eq_unread hf3; obtain rfl := h7.eq_unread hf5; obtain rfl := h8.eq_unread hfs
  sl_exec (disch := first | sl_exact hc0 | sl_exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    refine (read_last _ _ _ _ _ (by decide)).trans ?_
    frame_out
  isplitl [H5]
  · iexists _; isplitr; · ipureintro; exact h7.read_unread _
    iexact H5
  iexists _; isplitr; · ipureintro; exact h8.read_unread _
  iexact HS

end Cert.Kernel6Ideal.Hand

end
-- ==== Proof.SampleInprojRun.lean ====
/- The sample group's input projection over its whole grid: what each point leaves in every buffer, and the run of the program. -/
module

public import proofs.«01_k».proof.Proof.SampleInprojBody

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points do what -/

theorem first_iff : ∀ t : Fin cfg0.N, first (grid0.coords t) ↔ t.val % 13 = 0 :=
  (fun t => by
    have ht : t.val < 13 := Nat.lt_of_lt_of_eq t.isLt N_0
    have e1 : (grid0.coords t 1).val = t.val / 1 % 13 := Pipeline.Grid.coords_val t 1 (by decide) rfl
    simp only [first, e1]
    word_cmp
   : ∀ t : Fin grid0.N, first (grid0.coords t) ↔ t.val % 13 = 0)

theorem six_iff : ∀ t : Fin cfg0.N, k0_cond2 (grid0.coords t) = 1#1 ↔ t.val % 13 < 6 :=
  (fun t => by
    have ht : t.val < 13 := Nat.lt_of_lt_of_eq t.isLt N_0
    have e1 : (grid0.coords t 1).val = t.val / 1 % 13 := Pipeline.Grid.coords_val t 1 (by decide) rfl
    simp only [k0_cond2, e1]
    word_cmp
   : ∀ t : Fin grid0.N, k0_cond2 (grid0.coords t) = 1#1 ↔ t.val % 13 < 6)

theorem idle5 (t : Fin cfg0.N) (h : ¬t.val % 13 < 6) : cfg0.idle 5 (grid0.coords t) = true := by
  show (!(k0_cond2 (grid0.coords t) == 1#1)) = true
  have := mt (six_iff t).mp h
  simp [this]

theorem live5 (t : Fin cfg0.N) (h : t.val % 13 < 6) : cfg0.idle 5 (grid0.coords t) = false := by
  show (!(k0_cond2 (grid0.coords t) == 1#1)) = false
  simp [(six_iff t).mpr h]

theorem flush5 : ∀ t : Fin cfg0.N, (cfg0.win 5).flush t = true ↔ (t.val % 13 < 5 ∨ t.val % 13 = 12) := by decide +kernel

theorem fetch5 : ∀ t : Fin cfg0.N, (cfg0.win 5).fetch t = false := by decide +kernel

/-! ## What each point leaves -/

/-- The first point of the row of blocks of point `t`, and the last point up to `t` that stores the second result. -/
abbrev rowStart (t : Fin cfg0.N) : Fin cfg0.N := ⟨t.val - t.val % 13, Nat.lt_of_le_of_lt (Nat.sub_le _ _) t.isLt⟩
abbrev lastSix (t : Fin cfg0.N) : Fin cfg0.N := ⟨t.val - (t.val % 13 - 5), Nat.lt_of_le_of_lt (Nat.sub_le _ _) t.isLt⟩

/-- The scratch after point `t`: the normalised rows of the row's block. -/
def rowsAt (c : Dev nD) (t : Fin cfg0.N) : Vec F S128x2048 .bf16 :=
  rowsOf (iblk m c 0 (rowStart t)) (iblk m c 1 (rowStart t)) (iblk m c 2 (rowStart t))

/-- The first result's block at point `t`, and the second's. -/
def projAt (c : Dev nD) (t : Fin cfg0.N) : Vec F S128x512 .f32 := k0_pay2 (rowsAt m c t) (iblk m c 3 t)
def narrowAt (c : Dev nD) (t : Fin cfg0.N) : Vec F S128x512 .bf16 := k0_pay3 (grid0.coords t) (projAt m c t)

theorem rowsAt_first (c : Dev nD) (t : Fin cfg0.N) (h : t.val % 13 = 0) :
    rowsAt m c t = rowsOf (iblk m c 0 t) (iblk m c 1 t) (iblk m c 2 t) := by
  have : rowStart t = t := Fin.ext (by simp [h])
  rw [rowsAt, this]

theorem rowsAt_next (c : Dev nD) (t : Fin cfg0.N) (h : t.val % 13 ≠ 0) :
    rowsAt m c ⟨t.val - 1, Nat.lt_of_le_of_lt (Nat.sub_le _ _) t.isLt⟩ = rowsAt m c t := by
  have : rowStart ⟨t.val - 1, Nat.lt_of_le_of_lt (Nat.sub_le _ _) t.isLt⟩ = rowStart t := Fin.ext (by simp only; omega)
  rw [rowsAt, this, rowsAt]

/-! ## The pipeline's data -/

abbrev ms0 (t : Fin cfg0.N) : Memref sig .tc .vmem S128x2048 .f32 := win0_0.stage (cfg0.slots t 0)
abbrev ms1 (t : Fin cfg0.N) : Memref sig .tc .vmem S1x6x128x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S2048x512 .bf16 := win0_3.stage (cfg0.slots t 3)
abbrev ms4 (t : Fin cfg0.N) : Memref sig .tc .vmem S128x512 .f32 := win0_4.stage (cfg0.slots t 4)
abbrev ms5 (t : Fin cfg0.N) : Memref sig .tc .vmem S128x512 .bf16 := win0_5.stage (cfg0.slots t 5)
abbrev scM : Memref sig .tc .vmem S128x2048 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything; after point `n` the rows of `n`'s block. -/
def Inv (c : Dev nD) : (n : ℕ) → n ≤ cfg0.N → sProp 𝕄
  | 0, _ => Pipeline.ΦA spec0 c
  | n + 1, hn => iprop(owns (c : Thread nD τ) scM fullShare (rowsAt m c ⟨n, hn⟩) ∗ (∃ r, prngReg c r))

theorem Inv_zero (c : Dev nD) (n : ℕ) (h : n ≤ cfg0.N) (hz : n = 0) : Inv m c n h = Pipeline.ΦA spec0 c := by subst hz; rfl

theorem Inv_succ (c : Dev nD) (n : ℕ) (hn : n < cfg0.N) :
    Inv m c (n + 1) hn = iprop(owns (c : Thread nD τ) scM fullShare (rowsAt m c ⟨n, hn⟩) ∗ (∃ r, prngReg c r)) := rfl

theorem Inv_pos (c : Dev nD) (n : ℕ) (h : n ≤ cfg0.N) (hz : n ≠ 0) :
    Inv m c n h = iprop(owns (c : Thread nD τ) scM fullShare (rowsAt m c ⟨n - 1, by omega⟩) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => projAt m c t
    | ⟨5, _⟩ => narrowAt m c (lastSix t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = projAt m c t := by dsimp only [dats]
theorem after5 (c : Dev nD) (t : Fin cfg0.N) : (dats m 0 c).after 5 t = narrowAt m c (lastSix t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Past the sixth column tile the second result's buffer still holds the sixth tile's block. -/
theorem before5 (c : Dev nD) : ∀ (k : ℕ) (t : Fin cfg0.N), t.val % 13 = 6 + k → ∀ d,
    (dats m 0 c).before 5 t d = narrowAt m c (lastSix t)
  | k, t, hk, d => by
    have hlt : t.val - 1 < cfg0.N := Nat.lt_of_le_of_lt (Nat.sub_le _ _) t.isLt
    have hfl : (cfg0.win 5).flush ⟨t.val - 1, hlt⟩ = false := by
      rw [← Bool.not_eq_true, flush5]; simp only; omega
    have hs : lastSix ⟨t.val - 1, hlt⟩ = lastSix t := Fin.ext (by simp only; omega)
    rw [Dat.before_of_pos _ 5 t (by omega) (fetch5 t), hfl, if_neg Bool.false_ne_true]
    unfold Dat.left
    cases k with
    | zero =>
      rw [live5 ⟨t.val - 1, hlt⟩ (by simp only; omega)]
      show (dats m 0 c).after 5 ⟨t.val - 1, hlt⟩ = _
      rw [after5, hs]
    | succ k =>
      rw [idle5 ⟨t.val - 1, hlt⟩ (by simp only; omega)]
      show (dats m 0 c).before 5 ⟨t.val - 1, hlt⟩ d = _
      rw [before5 c k ⟨t.val - 1, hlt⟩ (by simp only; omega) d, hs]

theorem leaves5_rest (c : Dev nD) (t : Fin cfg0.N) (h : ¬t.val % 13 < 6) :
    (owns (c : Thread nD τ) (ms5 t) fullShare (narrowAt m c (lastSix t)) : sProp 𝕄) ⊢ (dats m 0 c).leavesExact 5 t := by
  have hb := before5 m c (t.val % 13 - 6) t (by omega)
  cases hf : (cfg0.win 5).flush t with
  | false =>
    rw [Dat.leavesExact_idle (dats m 0 c) 5 t (idle5 t h) hf]
    simp only [hb]
    iintro H
    iexists fun _ => default
    iexact H
  | true =>
    rw [show (dats m 0 c).leavesExact 5 t = owns (c : Thread nD τ) (ms5 t) fullShare ((dats m 0 c).after 5 t) from by
      unfold Dat.leavesExact; rw [idle5 t h, hf], after5]

theorem leaves5_six (c : Dev nD) (t : Fin cfg0.N) (h : t.val % 13 < 6) :
    (dats m 0 c).leavesExact 5 t = owns (c : Thread nD τ) (ms5 t) fullShare (narrowAt m c t) := by
  rw [show (dats m 0 c).leavesExact 5 t = owns (c : Thread nD τ) (ms5 t) fullShare ((dats m 0 c).after 5 t) from by
    unfold Dat.leavesExact; rw [live5 t h], after5]
  rw [show lastSix t = t from Fin.ext (by simp only; omega)]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Inv m c (t.val + 1) t.isLt from rfl, Inv_succ]
  rw [show (dats m 0 c).leavesExact 0 t = owns (c : Thread nD τ) (ms0 t) fullShare ((dats m 0 c).after 0 t) from rfl, after0,
    show (dats m 0 c).leavesExact 1 t = owns (c : Thread nD τ) (ms1 t) fullShare ((dats m 0 c).after 1 t) from rfl, after1,
    show (dats m 0 c).leavesExact 2 t = owns (c : Thread nD τ) (ms2 t) fullShare ((dats m 0 c).after 2 t) from rfl, after2,
    show (dats m 0 c).leavesExact 3 t = owns (c : Thread nD τ) (ms3 t) fullShare ((dats m 0 c).after 3 t) from rfl, after3,
    show (dats m 0 c).leavesExact 4 t = owns (c : Thread nD τ) (ms4 t) fullShare ((dats m 0 c).after 4 t) from rfl, after4]
  have hin : Inv m c t.val (Nat.le_of_lt t.isLt) ⊢ Pipeline.ΦA spec0 c := by
    by_cases hz : t.val = 0
    · rw [Inv_zero m c _ _ hz]
    · rw [Inv_pos m c _ _ hz, PhiA_eq]
      iintro ⟨HS, Hg⟩
      isplitl [HS]; · iexists _; iexact HS
      iexact Hg
  rw [Inv_castSucc m c t]
  by_cases h0 : t.val % 13 = 0
  · rw [leaves5_six m c t (by omega)]
    unfold narrowAt projAt
    rw [show (⟨t.val, t.isLt⟩ : Fin cfg0.N) = t from rfl, rowsAt_first m c t h0]
    rw [PhiA_eq] at hin
    refine BIBase.Entails.trans (sep_mono_left hin) ?_
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ (iblk m c 0 t) (iblk m c 1 t) (iblk m c 2 t) (iblk m c 3 t) ((first_iff t).mpr h0) ((six_iff t).mpr (by omega)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Inv_pos m c _ _ (by omega), rowsAt_next m c t h0]
    rw [show (⟨t.val, t.isLt⟩ : Fin cfg0.N) = t from rfl]
    by_cases h1 : t.val % 13 < 6
    · rw [leaves5_six m c t h1]
      unfold narrowAt projAt
      iintro ⟨⟨HS, Hg⟩, Ho, ⟨%d0, H0⟩, ⟨%d1, H1⟩, ⟨%d2, H2⟩, ⟨%d3, H3⟩, ⟨%d4, H4⟩, ⟨%d5, H5⟩⟩
      iapply (body_mid c (grid0.coords t) _ _ _ _ _ _ _ _ _ _ _ _ _ _ (iblk m c 0 t) (iblk m c 1 t) (iblk m c 2 t) (iblk m c 3 t) (rowsAt m c t) (fun h => h0 ((first_iff t).mp h)) ((six_iff t).mpr h1) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hb := before5 m c (t.val % 13 - 6) t (by omega)
      simp only [hb]
      unfold projAt
      iintro ⟨⟨HS, Hg⟩, Ho, ⟨%d0, H0⟩, ⟨%d1, H1⟩, ⟨%d2, H2⟩, ⟨%d3, H3⟩, ⟨%d4, H4⟩, ⟨%d5, H5⟩⟩
      iapply (body_rest c (grid0.coords t) _ _ _ _ _ _ _ _ _ _ _ _ _ _ (iblk m c 0 t) (iblk m c 1 t) (iblk m c 2 t) (iblk m c 3 t) (rowsAt m c t) (narrowAt m c (lastSix t)) (fun h => h0 ((first_iff t).mp h)) (fun h => h1 ((six_iff t).mp h)) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iapply (leaves5_rest m c t h1)
      iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  have hN : cfg0.N = 13 := N_0
  rw [show (dats m 0 c).Φ (Fin.last cfg0.N) = Inv m c cfg0.N (Nat.le_refl _) from rfl, Inv_pos m c _ _ (by omega), PhiA_eq]
  iintro ⟨HS, Hg⟩
  isplitl [HS]; · iexists _; iexact HS
  iexact Hg

set_option backward.isDefEq.respectTransparency.types false in
/-- Every fair run ends, with the arrays at what the points wrote back and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every fair run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel6Ideal.Hand

end
-- ==== Proof.SampleInprojFrame.lean ====
/- The frame of the sample group's compiled projection: its program is the same text, so the run serves it too. -/
module

public import proofs.«01_k».proof.Proof.SampleInprojRun
public import proofs.«01_k».proof.Proof.Gen.Kernel6.Launch

@[expose] public section

noncomputable section

open Idealize.ShloMosaic Idealize.ShloMosaic.TcCoe Idealize.SL.Sem

namespace Cert.Kernel6.Hand

open Cert.Kernel6 Cert.Kernel6.Gen

variable {F : FTy → Type} [FloatOps F]

/-- The two programs' kernels and calls are the same. -/
theorem same_kernels : defs₀ (F := F) = Cert.Kernel6Ideal.defs₀ := by
  unfold defs₀ Cert.Kernel6Ideal.defs₀
  refine congrArg Defs.onTc ?_
  funext l a
  match l, a with
  | 0, (t, s) => rfl

theorem same_calls : defs (F := F) = Cert.Kernel6Ideal.defs := by
  show Pipeline.defs pcfgs defs₀ = _
  rw [same_kernels]; rfl

variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [same_calls]
  exact Cert.Kernel6Ideal.Hand.frame (F := F) m ρ

end Cert.Kernel6.Hand

end
-- ==== Proof.SampleInprojMath.lean ====
/- The sample group's input projection in the reference, entry by entry: the normalised, modulated rows and their products with the weight columns. -/
module

public import proofs.«01_k».proof.Proof.Gen.Reference6Ideal.Run
public import proofs.«01_k».proof.Proof.SampleFfnMath
public import proofs.«01_k».proof.Proof.InprojMath

@[expose] public section

set_option maxRecDepth 16384

noncomputable section

open Idealize.ShloMosaic Idealize.ShloMosaic.TcCoe Idealize.SL.Sem

namespace Cert.SampleInproj

open Cert.SampleMlp (Rows Mods)
open Cert.Mlp (Gain rms)
open Cert.Inproj (Weight)

/-- The normalised, modulated row that enters the projection. -/
def hid (X : Rows) (M : Mods) (g : Gain) (b : Fin 32) (s : Fin 4) (l : Fin 2048) : EReal :=
  rms (fun e => X (ix3 b s e)) (fun e => g (ix2 0 e)) l * (1 + M (ix2 b ⟨2048 + l.val, by omega⟩)) + M (ix2 b ⟨l.val, by omega⟩)

/-- A projected entry. -/
def proj (X : Rows) (M : Mods) (g : Gain) (W : Weight) (R : Fin 128) (n : Fin 6432) : EReal :=
  ∑ e : Fin 2048, hid X M g ⟨R.val / 4, by omega⟩ ⟨R.val % 4, by omega⟩ e * W (ix3 0 e n)

/-- The projected entry with its columns continued by zeros. -/
def padded (X : Rows) (M : Mods) (g : Gain) (W : Weight) (R : Fin 128) (n : Fin 6656) : EReal :=
  if h : n.val < 6432 then proj X M g W R ⟨n.val, h⟩ else 0

/-- The first 3072 columns, the queries' third scaled. -/
def scaled (X : Rows) (M : Mods) (g : Gain) (W : Weight) (R : Fin 128) (n : Fin 3072) : EReal :=
  if n.val < 1024 then proj X M g W R ⟨n.val, by omega⟩ * Ideal.ofBits FTy.f32 0x3E38AA3B#32 else proj X M g W R ⟨n.val, by omega⟩

end Cert.SampleInproj

namespace Cert.Reference6Ideal.Hand

open Cert.Reference6Ideal Cert.Reference6Ideal.Gen

/-- The normalised, modulated rows, as the reference computes them. -/
def refH (X : FVec Ideal S32x4x2048 .f32) (M : FVec Ideal S32x12288 .f32) (g : FVec Ideal S1x2048 .f32) : FVec Ideal S32x4x2048 .f32 :=
  addf (mulf (mulf (mulf X (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf X X) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32))))))
    (broadcastInDim S32x4x2048 ![0, 1, 2] bcast_S1x1x2048_S32x4x2048_0_1_2 (broadcastInDim S1x1x2048 ![2] bcast_S2048_S1x1x2048_2 (shapeCast _ g shapeCasts_S1x2048_S2048))))
    (broadcastInDim S32x4x2048 ![0, 1, 2] bcast_S32x1x2048_S32x4x2048_0_1_2 (addf (broadcastInDim S32x1x2048 ![] bcast_S_S32x1x2048 (constant S_ .f32 0x3F800000#32)) (extractStridedSlice S32x1x2048 ![0, 0, 2048] (broadcastInDim S32x1x12288 ![0, 2] bcast_S32x12288_S32x1x12288_0_2 M) slices_S32x1x12288_S32x1x2048_0_0_2048))))
    (broadcastInDim S32x4x2048 ![0, 1, 2] bcast_S32x1x2048_S32x4x2048_0_1_2 (extractStridedSlice S32x1x2048 ![0, 0, 0] (broadcastInDim S32x1x12288 ![0, 2] bcast_S32x12288_S32x1x12288_0_2 M) slices_S32x1x12288_S32x1x2048_0_0_0))

/-- The projected rows, the first result and the second, as the reference computes them. -/
def refP (H : FVec Ideal S32x4x2048 .f32) (W : FVec Ideal S1x2048x6432 .f32) : FVec Ideal S128x6432 .f32 :=
  shapeCast _ (Host.dotGeneral dot_S32x4x2048_S2048x6432_S32x4x6432_2_0_01_1_n_n none H (shapeCast _ W shapeCasts_S1x2048x6432_S2048x6432)) shapeCasts_S32x4x6432_S128x6432

def refPad (P : FVec Ideal S128x6432 .f32) : FVec Ideal S128x6656 .f32 :=
  pad S128x6656 ![0, 0] ![0, 224] ![0, 0] P (sitofp .f32 (constantI S_ 32 0#32)) pads_S128x6432_S128x6656_000_02240 h_S_

def refN (P : FVec Ideal S128x6432 .f32) : FVec Ideal S128x3072 .bf16 :=
  truncf .bf16 (concatenate S128x3072 1 [⟨S128x1024, (mulf (extractStridedSlice S128x1024 ![0, 0] P slices_S128x6432_S128x1024_0_0) (broadcastInDim S128x1024 ![] bcast_S_S128x1024 (constant S_ .f32 0x3E38AA3B#32)))⟩, ⟨S128x2048, (extractStridedSlice S128x2048 ![0, 1024] P slices_S128x6432_S128x2048_0_1024)⟩] concatenates_S128x1024_S128x2048_S128x3072_d1) bitsLt_bf16_f32

variable (X : FVec Ideal S32x4x2048 .f32) (M : FVec Ideal S32x12288 .f32) (g : FVec Ideal S1x2048 .f32) (W : FVec Ideal S1x2048x6432 .f32)

theorem refH_at (b : Fin 32) (s : Fin 4) (l : Fin 2048) : refH X M g (ix3 b s l) = SampleInproj.hid X M g b s l := by
  pointwise [refH, SampleInproj.hid, Mlp.rms]

theorem refP_at (R : Fin 128) (n : Fin 6432) : refP (refH X M g) W (ix2 R n) = SampleInproj.proj X M g W R n := by
  pointwise [refP, SampleInproj.proj, refH_at]

theorem refPad_at (R : Fin 128) (n : Fin 6656) : refPad (refP (refH X M g) W) (ix2 R n) = SampleInproj.padded X M g W R n := by
  pointwise [refPad, SampleInproj.padded, refP_at]
  have h0 : (FloatOps.sitofp FTy.f32 0#32 : Ideal FTy.f32) = (0 : EReal) := by
    show (((BitVec.toInt 0#32 : ℤ) : ℝ) : EReal) = 0
    simp
  rw [h0]

theorem refN_at (R : Fin 128) (n : Fin 3072) : refN (refP (refH X M g) W) (ix2 R n) = SampleInproj.scaled X M g W R n := by
  pointwise [refN, SampleInproj.scaled, refP_at]
  by_cases h : n.val < 1024
  · rw [dif_pos h, if_pos h]
  · rw [dif_neg h, if_neg h]
    exact congrArg _ (Fin.ext (by simp only; omega))

end Cert.Reference6Ideal.Hand

end
-- ==== Proof.SampleInprojValue.lean ====
/- What the sample group's input projection leaves in its two results, read at coordinates over the argument arrays. -/
module

public import proofs.«01_k».proof.Proof.SampleInprojRun
public import proofs.«01_k».proof.Proof.SampleInprojMath
public import Idealize.ShloMosaic.Lib.Pipeline.Value
public import Idealize.ShloMosaic.Lib.StableHlo.RunRead

@[expose] public section

set_option maxRecDepth 16384

noncomputable section

open Idealize.ShloMosaic Idealize.ShloMosaic.TcCoe Idealize.SL.Sem

namespace Cert.Kernel6Ideal.Hand

open Cert.Kernel6Ideal Cert.Kernel6Ideal.Gen Cert.SampleInproj
open Cert.Mlp (rms)

variable (m : (ℓ : Loc nD τ sig) → Buf (Elt Ideal) ℓ)

abbrev argX (c : Dev nD) : FVec Ideal S32x4x2048 .f32 := m ((c : Thread nD τ).loc main_arg0)
abbrev argM (c : Dev nD) : FVec Ideal S32x12288 .f32 := m ((c : Thread nD τ).loc main_arg1)
abbrev argG (c : Dev nD) : FVec Ideal S1x2048 .f32 := m ((c : Thread nD τ).loc main_arg2)
abbrev argW (c : Dev nD) : FVec Ideal S1x2048x6432 .f32 := m ((c : Thread nD τ).loc main_arg3)

theorem idx0 : ∀ t : Fin cfg0.N, win0_0.index t = ![0, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 13] := (by decide +kernel : ∀ t : Fin grid0.N, _)
theorem idx4 : ∀ t : Fin cfg0.N, win0_4.index t = ![0, t.val % 13] := (by decide +kernel : ∀ t : Fin grid0.N, _)
theorem idx5 : ∀ t : Fin cfg0.N, win0_5.index t = ![0, (lastSix t).val % 13] := (by decide +kernel : ∀ t : Fin grid0.N, _)

theorem lt13 (t : Fin cfg0.N) : t.val < 13 := lt_of_lt_of_eq t.isLt N_0

/-- The sequence and the position of row `r`. -/
abbrev bOf (r : Fin 128) : Fin 32 := ⟨r.val / 4, by omega⟩
abbrev sOf (r : Fin 128) : Fin 4 := ⟨r.val % 4, by omega⟩

theorem blkX (c : Dev nD) (t : Fin cfg0.N) (r : Fin 128) (l : Fin 2048) :
    (iblk m c 0 t : FVec Ideal S128x2048 .f32) (ix2 r l) = argX m c (ix3 (bOf r) (sOf r) l) := by
  blk_simp [iblk, idx0]
  entry_read
  pointwise
  blk_ext [idx0 t]

theorem blkM (c : Dev nD) (t : Fin cfg0.N) (k : Fin 6) (r : Fin 128) (l : Fin 2048) :
    (iblk m c 1 t : FVec Ideal S1x6x128x2048 .f32) (ix4 0 k r l) = argM m c (ix2 (bOf r) ⟨2048 * k.val + l.val, by omega⟩) := by
  blk_simp [iblk, idx1]
  entry_read
  pointwise
  blk_ext [idx1 t]

theorem blkG (c : Dev nD) (t : Fin cfg0.N) (l : Fin 2048) :
    (iblk m c 2 t : FVec Ideal S1x2048 .f32) (ix2 0 l) = argG m c (ix2 0 l) := by
  blk_ext [iblk, V, idx2 t]

/-- A tile of the weights, its columns past the last continued by zeros. -/
theorem blkW (c : Dev nD) (t : Fin cfg0.N) (d : Fin 2048) (k : Fin 512) :
    (iblk m c 3 t : FVec Ideal S2048x512 .bf16) (ix2 d k)
      = if h : 512 * (t.val % 13) + k.val < 6432 then argW m c (ix3 0 d ⟨512 * (t.val % 13) + k.val, h⟩) else 0 := by
  blk_simp [iblk, idx3]
  entry_read
  pointwise
  have he : ((View.whole main_v3).slice (win0_3.rect t)).emb (ix2 d k) = ix2 d ⟨512 * (t.val % 13) + k.val, by omega⟩ := by
    blk_ext [idx3 t]
  rw [he]
  rfl

theorem pay1_at (x : FVec Ideal S128x2048 .f32) (g : FVec Ideal S1x2048 .f32) (a b : FVec Ideal S1x1x128x2048 .f32)
    (r : Fin 128) (l : Fin 2048) : k0_pay1 (F := Ideal) x g a b (ix2 r l)
      = rms (fun e => x (ix2 r e)) (fun e => g (ix2 0 e)) l * (1 + a (ix4 0 0 r l)) + b (ix4 0 0 r l) := by
  pointwise [k0_pay1, rms]

theorem pay2_at (h : FVec Ideal S128x2048 .bf16) (w : FVec Ideal S2048x512 .bf16) (r : Fin 128) (k : Fin 512) :
    k0_pay2 (F := Ideal) h w (ix2 r k) = ∑ e : Fin 2048, h (ix2 r e) * w (ix2 e k) := by
  pointwise [k0_pay2]

theorem pay3_at (t : Fin cfg0.N) (p : FVec Ideal S128x512 .f32) (r : Fin 128) (k : Fin 512) :
    k0_pay3 (F := Ideal) (grid0.coords t) p (ix2 r k)
      = if t.val % 13 < 2 then p (ix2 r k) * Ideal.ofBits FTy.f32 0x3E38AA3B#32 else p (ix2 r k) := by
  have ht := lt13 t
  have e1 : (grid0.coords t 1).val = t.val / 1 % 13 := Pipeline.Grid.coords_val t 1 (by decide) rfl
  pointwise [k0_pay3, e1]
  by_cases h : t.val % 13 < 2
  · rw [if_pos h, show Scalar.cmpi CmpIPredicate.slt (BitVec.ofNat 32 (t.val % 13)) 2#32 = 1#1 by word_cmp]
    rfl
  · rw [if_neg h, show Scalar.cmpi CmpIPredicate.slt (BitVec.ofNat 32 (t.val % 13)) 2#32 = 0#1 by word_cmp]
    exact mul_one _

/-- The loads of one of the six modulation rows. -/
theorem ldM (c : Dev nD) (t : Fin cfg0.N) (r : Fin 128) (l : Fin 2048) :
    (View.ld (iblk m c 1 t) (Rect.unit ![0, 1, 0, 0] ![1, 1, 128, 2048] inb_S1x6x128x2048_S1x1x128x2048_0_1_0_0) : FVec Ideal S1x1x128x2048 .f32) (ix4 0 0 r l)
      = argM m c (ix2 (bOf r) ⟨2048 + l.val, by omega⟩)
    ∧ (View.ld (iblk m c 1 t) (Rect.unit ![0, 0, 0, 0] ![1, 1, 128, 2048] inb_S1x6x128x2048_S1x1x128x2048_0_0_0_0) : FVec Ideal S1x1x128x2048 .f32) (ix4 0 0 r l)
      = argM m c (ix2 (bOf r) ⟨l.val, by omega⟩) := by
  refine ⟨?_, ?_⟩
  · refine Eq.trans ?_ (blkM m c t 1 r l)
    pointwise
  · refine Eq.trans ?_ ((blkM m c t 0 r l).trans ?_)
    · pointwise
    · exact congrArg (fun e => argM m c (ix2 (bOf r) e)) (Fin.ext (by simp))

theorem rows_at (c : Dev nD) (t : Fin cfg0.N) (r : Fin 128) (l : Fin 2048) :
    (rowsAt m c t : FVec Ideal S128x2048 .bf16) (ix2 r l) = hid (argX m c) (argM m c) (argG m c) (bOf r) (sOf r) l := by
  unfold rowsAt
  refine (pay1_at _ _ _ _ r l).trans ?_
  rw [(ldM m c (rowStart t) r l).1, (ldM m c (rowStart t) r l).2, hid]
  simp only [blkX, blkG]

theorem proj_at (c : Dev nD) (t : Fin cfg0.N) (r : Fin 128) (k : Fin 512) :
    (projAt m c t : FVec Ideal S128x512 .f32) (ix2 r k)
      = padded (argX m c) (argM m c) (argG m c) (argW m c) r ⟨512 * (t.val % 13) + k.val, by omega⟩ := by
  have ht := lt13 t
  unfold projAt
  refine (pay2_at _ _ r k).trans ?_
  unfold padded
  by_cases h : 512 * (t.val % 13) + k.val < 6432
  · rw [dif_pos h, proj]
    exact Finset.sum_congr rfl fun e _ => by rw [rows_at, blkW, dif_pos h]
  · rw [dif_neg h]
    exact Finset.sum_eq_zero fun e _ => by rw [blkW, dif_neg h, mul_zero]

theorem narrow_at (c : Dev nD) (t : Fin cfg0.N) (h : t.val % 13 < 6) (r : Fin 128) (k : Fin 512) :
    (narrowAt m c t : FVec Ideal S128x512 .bf16) (ix2 r k)
      = scaled (argX m c) (argM m c) (argG m c) (argW m c) r ⟨512 * (t.val % 13) + k.val, by omega⟩ := by
  unfold narrowAt
  refine (pay3_at t _ r k).trans ?_
  rw [proj_at, padded, dif_pos (by simp only; omega), scaled]
  refine if_congr ?_ rfl rfl
  simp only; omega

/-- The first result's array, at coordinates. -/
abbrev projArr (c : Dev nD) : FVec Ideal S128x6656 .f32 := fun y => padded (argX m c) (argM m c) (argG m c) (argW m c) (y 0) (y 1)

/-- The second result's array, at coordinates. -/
abbrev narrowArr (c : Dev nD) : FVec Ideal S128x3072 .bf16 := fun y => scaled (argX m c) (argM m c) (argG m c) (argW m c) (y 0) (y 1)

theorem final4 (c : Dev nD) : (dats m 0 c).arrAt 4 cfg0.N = projArr m c := by
  refine (dats m 0 c).arrAt_eq_of_covers 4 _ (by decide +kernel) fun t _ y => ?_
  rw [after4]
  idx_vars y
  have he : ((win0_4.blk t).view.emb (ix2 y0 y1) : S128x6656.Idx) = ix2 y0 ⟨512 * (t.val % 13) + y1.val, by omega⟩ := by
    blk_ext [idx4 t]
  exact (proj_at m c t y0 y1).trans (congrArg (projArr m c) he).symm

theorem final5 (c : Dev nD) : (dats m 0 c).arrAt 5 cfg0.N = narrowArr m c := by
  refine (dats m 0 c).arrAt_eq_of_covers 5 _ (by decide +kernel) fun t _ y => ?_
  rw [after5]
  idx_vars y
  have he : ((win0_5.blk t).view.emb (ix2 y0 y1) : S128x3072.Idx)
      = ix2 y0 ⟨512 * ((lastSix t).val % 13) + y1.val, by simp only; omega⟩ := by
    blk_ext [idx5 t]
  exact (narrow_at m c (lastSix t) (by simp only; omega) y0 y1).trans (congrArg (narrowArr m c) he).symm

end Cert.Kernel6Ideal.Hand

end
-- ==== Proof.SampleInprojClaim.lean ====
/- The sample group's input projection and its reference end with equal results. -/
module

public import proofs.«01_k».proof.Defs
public import proofs.«01_k».proof.Proof.SampleInprojValue
public import proofs.«01_k».proof.Proof.Gen.Reference6Ideal.Run
public import Idealize.ShloMosaic.Lib.Claim

@[expose] public section

set_option maxRecDepth 16384

noncomputable section

open Idealize.ShloMosaic Idealize.ShloMosaic.TcCoe Idealize.SL.Sem

namespace Cert.Proof

open Cert.Reference6Ideal.Hand

theorem sample_inproj_equal : Cert.algebraic_Kernel6Ideal_Reference6Ideal (hKernel6Ideal := Cert.Kernel6Ideal.Gen.facts) (hReference6Ideal := Cert.Reference6Ideal.Gen.facts) := by
  intro m g m' g' _ hagree
  refine ⟨Cert.Kernel6Ideal.Hand.projArr m, Cert.Kernel6Ideal.Hand.narrowArr m, ?_, ?_⟩
  · refine θ_run_mono (θ_run_and (Cert.Kernel6Ideal.Hand.run_main m g) (Cert.Kernel6Ideal.Hand.frame m g)) fun r h c => ⟨?_, ?_, h.2.1 c⟩
    · exact ((h.1 c).1 4).trans (Cert.Kernel6Ideal.Hand.final4 m c)
    · exact ((h.1 c).1 5).trans (Cert.Kernel6Ideal.Hand.final5 m c)
  · refine θ_run_mono (Cert.Reference6Ideal.Value.run m' g') fun r h c => ⟨(h c).1.trans ?_, (h c).2.1.trans ?_, (h c).2.2⟩
    all_goals
      obtain ⟨h0, h1, h2, h3⟩ := hagree c
      rw [h0, h1, h2, h3]
      funext y
      idx_vars y
    · exact refPad_at _ _ _ _ y0 y1
    · exact refN_at _ _ _ _ y0 y1

end Cert.Proof

end
-- ==== Proof.SampleOutprojMath.lean ====
/- The output projection over the sample group's rows: the residual stream after the mixer, and that the reference computes it. -/
module

public import proofs.«01_k».proof.Proof.Gen.Reference7Ideal.Run
public import proofs.«01_k».proof.Proof.SampleFfnMath
public import proofs.«01_k».proof.Proof.OutprojMath

@[expose] public section

set_option maxRecDepth 16384

noncomputable section

open Idealize.ShloMosaic Idealize.ShloMosaic.TcCoe Idealize.SL.Sem

namespace Cert.SampleOutproj

open Cert.Outproj (row mix Lanes Square)

abbrev Half (φ : FTy) := FVec Ideal (⟨3, ![32, 4, 1024]⟩ : Shape) φ

/-- The mixed row of sequence `b` at position `s`. -/
def mixed (A : Half .bf16) (Y G B : Half .f32) (lg lb : Lanes) (W : Square) (b : Fin 32) (s : Fin 4) : Fin 2048 → EReal :=
  mix (fun e => A (ix3 b s e)) (row (fun e => Y (ix3 b s e)) (fun e => G (ix3 b s e)) (fun e => B (ix3 b s e)) (fun e => lg (ix2 0 e)) (fun e => lb (ix2 0 e)))
    (fun e n => W (ix3 0 e n))

/-- The residual stream after the mixer. -/
def out (A : Half .bf16) (Y G B : Half .f32) (lg lb : Lanes) (W : Square) (X : SampleMlp.Rows) (M : SampleMlp.Mods) (p : Mlp.Gain) (b : Fin 32) (s : Fin 4) (l : Fin 2048) : EReal :=
  X (ix3 b s l) + M (ix2 b ⟨4096 + l.val, by omega⟩) * Mlp.rms (mixed A Y G B lg lb W b s) (fun e => p (ix2 0 e)) l

end Cert.SampleOutproj

namespace Cert.Reference7Ideal.Hand

open Cert.Reference7Ideal Cert.Reference7Ideal.Gen

/-- The mean over each head, as the reference computes it. -/
def refMean (y : FVec Ideal S32x4x16x64 .f32) : FVec Ideal S32x4x16x1 .f32 :=
  Host.divf (broadcastInDim S32x4x16x1 ![0, 1, 2] bcast_S32x4x16_S32x4x16x1_0_1_2 (Host.reduceAdd y (constant S_ .f32 0x00000000#32) reducesTo_S32x4x16x64_S32x4x16_d3 h_S_)) (broadcastInDim S32x4x16x1 ![] bcast_S_S32x4x16x1 (constant S_ .f32 0x42800000#32))

def refCen (Y : FVec Ideal S32x4x1024 .f32) : FVec Ideal S32x4x16x64 .f32 :=
  subf (shapeCast _ Y shapeCasts_S32x4x1024_S32x4x16x64) (broadcastInDim S32x4x16x64 ![0, 1, 2, 3] bcast_S32x4x16x1_S32x4x16x64_0_1_2_3 (refMean (shapeCast _ Y shapeCasts_S32x4x1024_S32x4x16x64)))

def refLn (c : FVec Ideal S32x4x16x64 .f32) : FVec Ideal S32x4x1024 .f32 :=
  shapeCast _ (mulf c (broadcastInDim S32x4x16x64 ![0, 1, 2, 3] bcast_S32x4x16x1_S32x4x16x64_0_1_2_3 (Host.rsqrt (addf (refMean (mulf c c)) (broadcastInDim S32x4x16x1 ![] bcast_S_S32x4x16x1 (constant S_ .f32 0x3A27C5AC#32)))))) shapeCasts_S32x4x16x64_S32x4x1024

def refRow (n G B : FVec Ideal S32x4x1024 .f32) (lg lb : FVec Ideal S1x1024 .f32) : FVec Ideal S32x4x1024 .f32 :=
  mulf (addf (addf (mulf n (broadcastInDim S32x4x1024 ![0, 1, 2] bcast_S1x1x1024_S32x4x1024_0_1_2 (broadcastInDim S1x1x1024 ![2] bcast_S1024_S1x1x1024_2 (shapeCast _ lg shapeCasts_S1x1024_S1024))))
    (broadcastInDim S32x4x1024 ![0, 1, 2] bcast_S1x1x1024_S32x4x1024_0_1_2 (broadcastInDim S1x1x1024 ![2] bcast_S1024_S1x1x1024_2 (shapeCast _ lb shapeCasts_S1x1024_S1024)))) B) G

def refMix (A : FVec Ideal S32x4x1024 .bf16) (r : FVec Ideal S32x4x1024 .f32) (W : FVec Ideal S1x2048x2048 .f32) : FVec Ideal S32x4x2048 .f32 :=
  Host.dotGeneral dot_S32x4x2048_S2048x2048_S32x4x2048_2_0_01_1_n_n none
    (concatenate S32x4x2048 2 [⟨S32x4x1024, (extf .f32 A bitsLt_bf16_f32)⟩, ⟨S32x4x1024, r⟩] concatenates_S32x4x1024_S32x4x1024_S32x4x2048_d2)
    (shapeCast _ W shapeCasts_S1x2048x2048_S2048x2048)

/-- The residual plus the gated, normalised rows `f`, as the reference computes it. -/
def refOut (X f : FVec Ideal S32x4x2048 .f32) (M : FVec Ideal S32x12288 .f32) (p : FVec Ideal S1x2048 .f32) : FVec Ideal S128x2048 .f32 :=
  shapeCast _ (addf X (mulf (broadcastInDim S32x4x2048 ![0, 1, 2] bcast_S32x1x2048_S32x4x2048_0_1_2 (extractStridedSlice S32x1x2048 ![0, 0, 4096] (broadcastInDim S32x1x12288 ![0, 2] bcast_S32x12288_S32x1x12288_0_2 M) slices_S32x1x12288_S32x1x2048_0_0_4096))
    (mulf (mulf f (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf f f) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32))))))
      (broadcastInDim S32x4x2048 ![0, 1, 2] bcast_S1x1x2048_S32x4x2048_0_1_2 (broadcastInDim S1x1x2048 ![2] bcast_S2048_S1x1x2048_2 (shapeCast _ p shapeCasts_S1x2048_S2048)))))) shapeCasts_S32x4x2048_S128x2048

variable (A : FVec Ideal S32x4x1024 .bf16) (Y G B : FVec Ideal S32x4x1024 .f32) (lg lb : FVec Ideal S1x1024 .f32) (W : FVec Ideal S1x2048x2048 .f32)
  (X : FVec Ideal S32x4x2048 .f32) (M : FVec Ideal S32x12288 .f32) (p : FVec Ideal S1x2048 .f32)

theorem refCen_at (b : Fin 32) (s : Fin 4) (h : Fin 16) (j : Fin 64) :
    refCen Y (ix4 b s h j) = Outproj.cen (fun e => Y (ix3 b s e)) ⟨64 * h.val + j.val, by omega⟩ := by
  pointwise [refCen, refMean, Outproj.cen, Outproj.mean]
  have e (x : Fin 64) : (⟨h.val * 64 + x.val, by omega⟩ : Fin 1024) = ⟨64 * h.val + x.val, by omega⟩ := Fin.ext (by simp only; omega)
  have q : (64 * h.val + j.val) / 64 = h.val := by omega
  simp only [e, q]

theorem refLn_at (b : Fin 32) (s : Fin 4) (l : Fin 1024) :
    refLn (refCen Y) (ix3 b s l) = Outproj.ln (fun e => Y (ix3 b s e)) l := by
  pointwise [refLn, refMean, Outproj.ln, Outproj.mean, refCen_at]
  have e : (⟨64 * (l.val / 64) + l.val % 64, by omega⟩ : Fin 1024) = l := Fin.ext (by simp only; omega)
  rw [e]

theorem refRow_at (b : Fin 32) (s : Fin 4) (l : Fin 1024) :
    refRow (refLn (refCen Y)) G B lg lb (ix3 b s l)
      = Outproj.row (fun e => Y (ix3 b s e)) (fun e => G (ix3 b s e)) (fun e => B (ix3 b s e)) (fun e => lg (ix2 0 e)) (fun e => lb (ix2 0 e)) l := by
  pointwise [refRow, Outproj.row, refLn_at]

theorem refMix_at (b : Fin 32) (s : Fin 4) (n : Fin 2048) :
    refMix A (refRow (refLn (refCen Y)) G B lg lb) W (ix3 b s n) = SampleOutproj.mixed A Y G B lg lb W b s n := by
  pointwise [refMix, SampleOutproj.mixed, Outproj.mix, refRow_at]

theorem refOut_at (R : Fin 128) (l : Fin 2048) :
    refOut X (refMix A (refRow (refLn (refCen Y)) G B lg lb) W) M p (ix2 R l)
      = SampleOutproj.out A Y G B lg lb W X M p ⟨R.val / 4, by omega⟩ ⟨R.val % 4, by omega⟩ l := by
  pointwise [refOut, SampleOutproj.out, Mlp.rms, refMix_at]

theorem res_eq (m : (ℓ : Loc nD τ sig) → Buf (Elt Ideal) ℓ) (c : Dev nD) :
    Value.res_out0 m c = refOut (m ((c.tc : Thread nD τ).loc main_arg7))
      (refMix (m ((c.tc : Thread nD τ).loc main_arg0)) (refRow (refLn (refCen (m ((c.tc : Thread nD τ).loc main_arg1)))) (m ((c.tc : Thread nD τ).loc main_arg2)) (m ((c.tc : Thread nD τ).loc main_arg3))
        (m ((c.tc : Thread nD τ).loc main_arg4)) (m ((c.tc : Thread nD τ).loc main_arg5))) (m ((c.tc : Thread nD τ).loc main_arg6)))
      (m ((c.tc : Thread nD τ).loc main_arg8)) (m ((c.tc : Thread nD τ).loc main_arg9)) := rfl

end Cert.Reference7Ideal.Hand

end
-- ==== Proof.SampleOutprojBlocks.lean ====
/- The sample group's output projection: input blocks read at coordinates over the argument arrays. -/
module

public import proofs.«01_k».proof.Proof.Gen.Kernel7Ideal.Value
public import proofs.«01_k».proof.Proof.SampleOutprojMath
public import proofs.«01_k».proof.Proof.OutprojValue
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem

namespace Cert.Kernel7Ideal.Hand

open Cert.Kernel7Ideal Cert.Kernel7Ideal.Gen

variable (m : (ℓ : Loc nD τ sig) → Buf (Elt Ideal) ℓ)

abbrev argA (c : Dev nD) : FVec Ideal S32x4x1024 .bf16 := m ((c : Thread nD τ).loc main_arg0)
abbrev argY (c : Dev nD) : FVec Ideal S32x4x1024 .f32 := m ((c : Thread nD τ).loc main_arg1)
abbrev argG (c : Dev nD) : FVec Ideal S32x4x1024 .f32 := m ((c : Thread nD τ).loc main_arg2)
abbrev argB (c : Dev nD) : FVec Ideal S32x4x1024 .f32 := m ((c : Thread nD τ).loc main_arg3)
abbrev argLg (c : Dev nD) : FVec Ideal S1x1024 .f32 := m ((c : Thread nD τ).loc main_arg4)
abbrev argLb (c : Dev nD) : FVec Ideal S1x1024 .f32 := m ((c : Thread nD τ).loc main_arg5)
abbrev argW (c : Dev nD) : FVec Ideal S1x2048x2048 .f32 := m ((c : Thread nD τ).loc main_arg6)
abbrev argX (c : Dev nD) : FVec Ideal S32x4x2048 .f32 := m ((c : Thread nD τ).loc main_arg7)
abbrev argM (c : Dev nD) : FVec Ideal S32x12288 .f32 := m ((c : Thread nD τ).loc main_arg8)
abbrev argP (c : Dev nD) : FVec Ideal S1x2048 .f32 := m ((c : Thread nD τ).loc main_arg9)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

/-- The sequence and the position of row `r`. -/
abbrev bOf (r : Fin 128) : Fin 32 := ⟨r.val / 4, by omega⟩
abbrev sOf (r : Fin 128) : Fin 4 := ⟨r.val % 4, by omega⟩

/-- The modulation rows, one of each kind for every row of the block, as the host lays them out. -/
def modRows (M : FVec Ideal S32x12288 .f32) : FVec Ideal S1x6x128x2048 .f32 :=
  shapeCast S1x6x128x2048 (transpose S6x128x2048 [1, 0, 2] (shapeCast S128x6x2048 (broadcastInDim S32x4x6x2048 ![0, 2, 3] bcast_S32x6x2048_S32x4x6x2048_0_2_3
    (shapeCast S32x6x2048 M shapeCasts_S32x12288_S32x6x2048)) shapeCasts_S32x4x6x2048_S128x6x2048) transposes_S128x6x2048_S6x128x2048_1_0_2) shapeCasts_S6x128x2048_S1x6x128x2048

theorem modRows_at (M : FVec Ideal S32x12288 .f32) (k : Fin 6) (r : Fin 128) (l : Fin 2048) :
    modRows M (ix4 0 k r l) = M (ix2 (bOf r) ⟨2048 * k.val + l.val, by omega⟩) := by
  pointwise [modRows]
  exact congrArg (fun e => M (ix2 (bOf r) e)) (Fin.ext (by simp only; omega))

/-- What the host operations leave in the arrays that the windows read. -/
theorem V_host (c : Dev nD) :
    V m c main_v8 = shapeCast S128x1024 (argA m c) shapeCasts_S32x4x1024_S128x1024
    ∧ V m c main_v9 = shapeCast S128x1024 (argY m c) shapeCasts_S32x4x1024_S128x1024
    ∧ V m c main_v10 = shapeCast S128x1024 (argG m c) shapeCasts_S32x4x1024_S128x1024
    ∧ V m c main_v11 = shapeCast S128x1024 (argB m c) shapeCasts_S32x4x1024_S128x1024
    ∧ V m c main_v13 = truncf .bf16 (shapeCast S2048x2048 (argW m c) shapeCasts_S1x2048x2048_S2048x2048) bitsLt_bf16_f32
    ∧ V m c main_v14 = shapeCast S128x2048 (argX m c) shapeCasts_S32x4x2048_S128x2048
    ∧ V m c main_v19 = modRows (argM m c)
    ∧ V m c main_v7 = Kernel4Ideal.Hand.ones := by
  refine ⟨?_, ?_, ?_, ?_, ?_, ?_, ?_, ?_⟩ <;>
    simp only [V, hostOps0, hostOps0_1, hostOps0_2, List.flatten_cons, List.flatten_nil, List.append_nil, List.cons_append, List.nil_append, StableHlo.TRef.binary, StableHlo.TRef.unary,
      StableHlo.TRef.nullary, StableHlo.TRef.ternary, StableHlo.TRef.toBuf, StableHlo.TRef.ofBuf, cast_eq] <;>
    after_results_simp <;> rfl

theorem blkA (c : Dev nD) (t : Fin cfg0.N) (r : Fin 128) (l : Fin 1024) :
    (iblk m c 0 t : FVec Ideal S128x1024 .bf16) (ix2 r l) = argA m c (ix3 (bOf r) (sOf r) l) := by
  blk_simp [iblk, idx0]
  refine (congrFun (V_host m c |>.1) _).trans ?_
  pointwise
  blk_ext [idx0 t]

theorem blkY (c : Dev nD) (t : Fin cfg0.N) (r : Fin 128) (l : Fin 1024) :
    (iblk m c 1 t : FVec Ideal S128x1024 .f32) (ix2 r l) = argY m c (ix3 (bOf r) (sOf r) l) := by
  blk_simp [iblk, idx1]
  refine (congrFun (V_host m c |>.2.1) _).trans ?_
  pointwise
  blk_ext [idx1 t]

theorem blkGt (c : Dev nD) (t : Fin cfg0.N) (r : Fin 128) (l : Fin 1024) :
    (iblk m c 2 t : FVec Ideal S128x1024 .f32) (ix2 r l) = argG m c (ix3 (bOf r) (sOf r) l) := by
  blk_simp [iblk, idx2]
  refine (congrFun (V_host m c |>.2.2.1) _).trans ?_
  pointwise
  blk_ext [idx2 t]

theorem blkB (c : Dev nD) (t : Fin cfg0.N) (r : Fin 128) (l : Fin 1024) :
    (iblk m c 3 t : FVec Ideal S128x1024 .f32) (ix2 r l) = argB m c (ix3 (bOf r) (sOf r) l) := by
  blk_simp [iblk, idx3]
  refine (congrFun (V_host m c |>.2.2.2.1) _).trans ?_
  pointwise
  blk_ext [idx3 t]

theorem blkLg (c : Dev nD) (t : Fin cfg0.N) (l : Fin 1024) :
    (iblk m c 4 t : FVec Ideal S1x1024 .f32) (ix2 0 l) = argLg m c (ix2 0 l) := by
  blk_ext [iblk, V, idx4 t]

theorem blkLb (c : Dev nD) (t : Fin cfg0.N) (l : Fin 1024) :
    (iblk m c 5 t : FVec Ideal S1x1024 .f32) (ix2 0 l) = argLb m c (ix2 0 l) := by
  blk_ext [iblk, V, idx5 t]

theorem blkW (c : Dev nD) (t : Fin cfg0.N) (k : Fin 2048) (l : Fin 2048) :
    (iblk m c 7 t : FVec Ideal S2048x2048 .bf16) (ix2 k l) = argW m c (ix3 0 k l) := by
  blk_simp [iblk, idx7]
  refine (congrFun (V_host m c |>.2.2.2.2.1) _).trans ?_
  pointwise
  blk_ext [idx7 t]

theorem blkX (c : Dev nD) (t : Fin cfg0.N) (r : Fin 128) (l : Fin 2048) :
    (iblk m c 8 t : FVec Ideal S128x2048 .f32) (ix2 r l) = argX m c (ix3 (bOf r) (sOf r) l) := by
  blk_simp [iblk, idx8]
  refine (congrFun (V_host m c |>.2.2.2.2.2.1) _).trans ?_
  pointwise
  blk_ext [idx8 t]

theorem blkM (c : Dev nD) (t : Fin cfg0.N) (k : Fin 6) (r : Fin 128) (l : Fin 2048) :
    (iblk m c 9 t : FVec Ideal S1x6x128x2048 .f32) (ix4 0 k r l) = argM m c (ix2 (bOf r) ⟨2048 * k.val + l.val, by omega⟩) := by
  blk_simp [iblk, idx9]
  refine (congrFun (V_host m c |>.2.2.2.2.2.2.1) _).trans ?_
  have he : (win0_9.blk t).view.emb (ix4 0 k r l) = ix4 0 k r l := by blk_ext [idx9 t]
  exact (congrArg (modRows (argM m c)) he).trans (modRows_at _ k r l)

theorem blkP (c : Dev nD) (t : Fin cfg0.N) (l : Fin 2048) :
    (iblk m c 10 t : FVec Ideal S1x2048 .f32) (ix2 0 l) = argP m c (ix2 0 l) := by
  blk_ext [iblk, V, idx10 t]

theorem blkO (c : Dev nD) (t : Fin cfg0.N) (e l : Fin 1024) :
    (iblk m c 6 t : FVec Ideal S1024x1024 .bf16) (ix2 e l) = (if e.val / 64 = l.val / 64 then 1 else 0 : EReal) := by
  have he : (win0_6.blk t).view.emb (ix2 e l) = ix2 e l := by blk_ext [idx6 t]
  blk_simp [iblk, idx6]
  refine (congrFun (V_host m c |>.2.2.2.2.2.2.2) _).trans ?_
  exact (congrArg Kernel4Ideal.Hand.ones he).trans (Kernel4Ideal.Hand.ones_at e l)

end Cert.Kernel7Ideal.Hand

end
-- ==== Proof.SampleOutprojValue.lean ====
/- The sample group's output projection: its result array is the reference's. -/
module

public import proofs.«01_k».proof.Proof.SampleOutprojBlocks

@[expose] public section

set_option maxRecDepth 16384

noncomputable section

open Idealize.ShloMosaic Idealize.ShloMosaic.TcCoe Idealize.SL.Sem

namespace Cert.Kernel7Ideal.Hand

open Cert.Kernel7Ideal Cert.Kernel7Ideal.Gen Cert.SampleOutproj
open Cert.Outproj (row ln cen mix)
open Cert.Mlp (rms)

theorem pay3_at (y : FVec Ideal S128x1024 .f32) (o : FVec Ideal S1024x1024 .bf16) (lg lb : FVec Ideal S1x1024 .f32) (b g : FVec Ideal S128x1024 .f32)
    (ho : ∀ e l, o (ix2 e l) = (if e.val / 64 = l.val / 64 then 1 else 0 : EReal)) (r : Fin 128) (l : Fin 1024) :
    k0_pay3 (F := Ideal) y o lg lb b g (ix2 r l)
      = row (fun e => y (ix2 r e)) (fun e => g (ix2 r e)) (fun e => b (ix2 r e)) (fun e => lg (ix2 0 e)) (fun e => lb (ix2 0 e)) l := by
  unfold row ln cen
  simp only [← Kernel4Ideal.Hand.mean_of_ones]
  pointwise [k0_pay3, ho]

theorem pay2_at (a : FVec Ideal S128x1024 .bf16) (w : FVec Ideal S1024x2048 .bf16) (r : Fin 128) (n : Fin 2048) :
    k0_pay2 (F := Ideal) a w (ix2 r n) = ∑ e : Fin 1024, a (ix2 r e) * w (ix2 e n) := by
  pointwise [k0_pay2]

theorem pay1_at (p : FVec Ideal S128x2048 .f32) (h : FVec Ideal S128x1024 .bf16) (w : FVec Ideal S1024x2048 .bf16) (x : FVec Ideal S128x2048 .f32)
    (q : FVec Ideal S1x1x128x2048 .f32) (g : FVec Ideal S1x2048 .f32) (r : Fin 128) (n : Fin 2048) :
    k0_pay1 (F := Ideal) p h w x q g (ix2 r n)
      = x (ix2 r n) + q (ix4 0 0 r n) * rms (fun n => p (ix2 r n) + ∑ e : Fin 1024, h (ix2 r e) * w (ix2 e n)) (fun n => g (ix2 0 n)) n := by
  pointwise [k0_pay1, rms]

variable (m : (ℓ : Loc nD τ sig) → Buf (Elt Ideal) ℓ)

/-- The two halves of the weights, as the body loads them. -/
theorem ldW (c : Dev nD) (t : Fin cfg0.N) (e : Fin 1024) (n : Fin 2048) :
    (View.ld (iblk m c 7 t) r0_3 : FVec Ideal S1024x2048 .bf16) (ix2 e n) = argW m c (ix3 0 ⟨e.val, by omega⟩ n)
    ∧ (View.ld (iblk m c 7 t) r0_4 : FVec Ideal S1024x2048 .bf16) (ix2 e n) = argW m c (ix3 0 ⟨1024 + e.val, by omega⟩ n) := by
  refine ⟨?_, ?_⟩
  · refine Eq.trans ?_ (blkW m c t ⟨e.val, by omega⟩ n)
    pointwise
  · refine Eq.trans ?_ (blkW m c t ⟨1024 + e.val, by omega⟩ n)
    pointwise

/-- The load of the mixer's gate row. -/
theorem ldM (c : Dev nD) (t : Fin cfg0.N) (r : Fin 128) (l : Fin 2048) :
    (View.ld (iblk m c 9 t) r0_6 : FVec Ideal S1x1x128x2048 .f32) (ix4 0 0 r l) = argM m c (ix2 (bOf r) ⟨4096 + l.val, by omega⟩) := by
  refine Eq.trans ?_ (blkM m c t 2 r l)
  pointwise

theorem block_at (c : Dev nD) (t : Fin cfg0.N) (r : Fin 128) (l : Fin 2048) :
    (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
      : FVec Ideal S128x2048 .f32) (ix2 r l)
      = out (argA m c) (argY m c) (argG m c) (argB m c) (argLg m c) (argLb m c) (argW m c) (argX m c) (argM m c) (argP m c) (bOf r) (sOf r) l := by
  frame_out
  refine (pay1_at _ _ _ _ _ _ r l).trans ?_
  rw [ldM, out]
  simp only [mixed, mix, pay2_at, pay3_at _ _ _ _ _ _ (blkO m c t), (ldW m c t _ _).1, (ldW m c t _ _).2, blkA, blkY, blkGt, blkB, blkLg, blkLb, blkX, blkP]
  rfl

/-- The result array, by coordinates. -/
def res (c : Dev nD) : FVec Ideal S128x2048 .f32 :=
  Cert.Reference7Ideal.Hand.refOut (argX m c) (Cert.Reference7Ideal.Hand.refMix (argA m c) (Cert.Reference7Ideal.Hand.refRow (Cert.Reference7Ideal.Hand.refLn (Cert.Reference7Ideal.Hand.refCen (argY m c)))
    (argG m c) (argB m c) (argLg m c) (argLb m c)) (argW m c)) (argM m c) (argP m c)

theorem res_at (c : Dev nD) (r : Fin 128) (l : Fin 2048) : res m c (ix2 r l)
    = out (argA m c) (argY m c) (argG m c) (argB m c) (argLg m c) (argLb m c) (argW m c) (argX m c) (argM m c) (argP m c) (bOf r) (sOf r) l :=
  Cert.Reference7Ideal.Hand.refOut_at _ _ _ _ _ _ _ _ _ _ r l

/-- The one block is the array. -/
theorem rowOf (t : Fin cfg0.N) (r : Fin 128) (l : Fin 2048) : ((win0_11.blk t).view.emb (ix2 r l) : S128x2048.Idx) = ix2 r l := by
  blk_ext [idx11 t]

theorem final (c : Dev nD) : (dats m 0 c).arrAt 11 cfg0.N = res m c := by
  refine (dats m 0 c).arrAt_eq_of_covers 11 _ (by decide +kernel) fun t _ y => ?_
  rw [after0_11]
  idx_vars y
  have hb := (block_at m c t y0 y1).trans ((res_at m c y0 y1).symm.trans (congrArg (res m c) (rowOf t y0 y1)).symm)
  generalize out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize res m c = R at hb ⊢
  exact hb

end Cert.Kernel7Ideal.Hand

end
-- ==== Proof.SampleOutprojClaim.lean ====
/- The output projection of the sample group and its reference end with equal results. -/
module

public import proofs.«01_k».proof.Defs
public import proofs.«01_k».proof.Proof.SampleOutprojValue
public import Idealize.ShloMosaic.Lib.Claim

@[expose] public section

set_option maxRecDepth 16384

noncomputable section

open Idealize.ShloMosaic Idealize.ShloMosaic.TcCoe Idealize.SL.Sem

namespace Cert.Proof

theorem sample_outproj_equal : Cert.algebraic_Kernel7Ideal_Reference7Ideal (hKernel7Ideal := Cert.Kernel7Ideal.Gen.facts) (hReference7Ideal := Cert.Reference7Ideal.Gen.facts) := by
  intro m g m' g' _ hagree
  refine ⟨Cert.Kernel7Ideal.Hand.res m, ?_, ?_⟩
  · exact θ_run_mono (Cert.Kernel7Ideal.Value.run_blocks m g) fun r h c => ⟨(h c).1.trans (Cert.Kernel7Ideal.Hand.final m c), (h c).2⟩
  · refine θ_run_mono (Cert.Reference7Ideal.Value.run m' g') fun r h c => ⟨(h c).1.trans ?_, (h c).2⟩
    obtain ⟨h0, h1, h2, h3, h4, h5, h6, h7, h8, h9⟩ := hagree c
    refine (Cert.Reference7Ideal.Hand.res_eq m' c).trans ?_
    rw [h0, h1, h2, h3, h4, h5, h6, h7, h8, h9]
    rfl

end Cert.Proof

end
-- ==== Proof.SampleWkvCases.lean ====
/- A sample sequence's block: eight rows and 56 rows of zeros make one chunk of the recurrence. -/
module

public import proofs.«01_k».proof.Proof.Gen.Kernel8Ideal.Value
public import proofs.«01_k».proof.Proof.WkvScale

@[expose] public section

set_option maxRecDepth 16384

noncomputable section

open Idealize.ShloMosaic Idealize.ShloMosaic.TcCoe Idealize.SL.Sem

namespace Cert.Kernel8Ideal.Hand

open Cert.Kernel8Ideal Cert.Kernel8Ideal.Gen Cert.Kernel8Ideal.Value
open Cert.KernelIdeal.Hand (cutV cutV1 oldV nextV rowsV outV pairOut pairNext nextS outS nextS_at outS_at over_fill row_at)

/-- Eight rows, then 56 rows of zeros. -/
abbrev rows (x : Vec Ideal S1x8x1024 .f32) : FVec Ideal S64x1024 .f32 := k0_pay3 x

/-- The same rows as one chunk's block. -/
def padB (x : Vec Ideal S1x8x1024 .f32) : Vec Ideal Cert.KernelIdeal.S1x64x1024 .f32 := fun y => rows x (ix2 (y 1) (y 2))

theorem pad_rows (x : Vec Ideal S1x8x1024 .f32) : Cert.KernelIdeal.Gen.k0_pay4 (padB x) = rows x := by
  funext y
  obtain ⟨t, l, rfl⟩ : ∃ (t : Fin 64) (l : Fin 1024), y = ix2 t l := ⟨y 0, y 1, (ix2_eta y).symm⟩
  exact row_at _ t l

section
variable (r w k v a b : FVec Ideal S64x1024 .f32) (s : Vec Ideal S8x128x128 .f32) (p : Fin 8)

abbrev one : Ideal .f32 := Scalar.ofBits .f32 0x3F800000#32

/-- A pair's next state and readouts, from a chunk's rows. -/
def nextR : FVec Ideal S1x128x128 .f32 :=
  nextV (cutV p (k0_pay14 w a k0_pay9 one)) (cutV p (k0_pay15 r w k0_pay9 one)) (cutV p (k0_pay16 w b k0_pay9 one)) (cutV p (k0_pay17 w k k0_pay9 one)) (cutV p v)
    (cutV p (k0_pay18 w b k0_pay9 one)) (cutV p (k0_pay19 w k k0_pay9 one)) (cutV1 p (k0_pay20 w k0_pay9 one)) (oldV p s)

def outR : FVec Ideal Cert.KernelIdeal.S1x64x128 .f32 :=
  outV (cutV p (k0_pay14 w a k0_pay9 one)) (cutV p (k0_pay15 r w k0_pay9 one)) (cutV p (k0_pay16 w b k0_pay9 one)) (cutV p (k0_pay17 w k k0_pay9 one)) (cutV p v) (oldV p s)

/-- The readouts of the first eight rows. -/
def outR8 : FVec Ideal S1x8x128 .f32 :=
  k0_pay258 (rowsV (cutV p (k0_pay14 w a k0_pay9 one)) (cutV p (k0_pay15 r w k0_pay9 one)) (cutV p (k0_pay16 w b k0_pay9 one)) (cutV p (k0_pay17 w k k0_pay9 one)) (cutV p v) (oldV p s))

theorem outR8_at (i : Fin 8) (l : Fin 128) : outR8 r w k v a b s p (ix3 0 i l) = outR r w k v a b s p (ix3 0 ⟨i.val, by omega⟩ l) := by
  unfold outR8 outR outV
  generalize rowsV _ _ _ _ _ _ = z
  pointwise [k0_pay258]

end

section
variable (x0 x1 x2 x3 x4 x5 : Vec Ideal S1x8x1024 .f32) (s : Vec Ideal S8x128x128 .f32) (p : Fin 8)

theorem next_pad : pairNext (padB x0) (padB x1) (padB x2) (padB x3) (padB x4) (padB x5) s p = nextR (rows x0) (rows x1) (rows x2) (rows x3) (rows x4) (rows x5) s p := by
  rw [← pad_rows x0, ← pad_rows x1, ← pad_rows x2, ← pad_rows x3, ← pad_rows x4, ← pad_rows x5]
  rfl

theorem out_pad : pairOut (padB x0) (padB x1) (padB x2) (padB x3) (padB x4) (padB x5) s p = outR (rows x0) (rows x1) (rows x2) (rows x3) (rows x4) (rows x5) s p := by
  rw [← pad_rows x0, ← pad_rows x1, ← pad_rows x2, ← pad_rows x3, ← pad_rows x4, ← pad_rows x5]
  rfl

/-- The block of states after a chunk, and of its first eight readouts. -/
abbrev nextP : Vec Ideal S8x128x128 .f32 := nextS (padB x0) (padB x1) (padB x2) (padB x3) (padB x4) (padB x5) s

def outP : Vec Ideal S1x8x1024 .f32 := fun y =>
  outS (padB x0) (padB x1) (padB x2) (padB x3) (padB x4) (padB x5) s (ix3 0 ⟨(y 1).val, by have h : (y 1).val < 8 := (y 1).isLt; omega⟩ (y 2))

theorem nextP_at (y : S8x128x128.Idx) (x : S1x128x128.Idx) (h0 : (y 0).val = p.val) (h1 : (y 1).val = (x 1).val) (h2 : (y 2).val = (x 2).val) :
    nextP x0 x1 x2 x3 x4 x5 s y = nextR (rows x0) (rows x1) (rows x2) (rows x3) (rows x4) (rows x5) s p x :=
  (nextS_at _ _ _ _ _ _ _ p y x h0 h1 h2).trans (congrFun (next_pad x0 x1 x2 x3 x4 x5 s p) x)

theorem outP_at (y : S1x8x1024.Idx) (x : S1x8x128.Idx) (h1 : (y 1).val = (x 1).val) (h2 : (y 2).val = 128 * p.val + (x 2).val) :
    outP x0 x1 x2 x3 x4 x5 s y = outR8 (rows x0) (rows x1) (rows x2) (rows x3) (rows x4) (rows x5) s p x := by
  obtain ⟨q, i, l, rfl⟩ : ∃ (q : Fin 1) (i : Fin 8) (l : Fin 128), x = ix3 q i l := ⟨x 0, x 1, x 2, (ix3_eta x).symm⟩
  obtain rfl : q = 0 := Fin.ext (by omega)
  rw [outR8_at]
  exact (outS_at _ _ _ _ _ _ _ p _ (ix3 0 ⟨i.val, by omega⟩ l) h1 h2).trans (congrFun (out_pad x0 x1 x2 x3 x4 x5 s p) _)

end

variable (m : (ℓ : Loc nD τ sig) → Buf (Elt Ideal) ℓ)

theorem fill_read (z : Vec Ideal S8x128x128 .f32) (r : Rect S8x128x128) :
    (View.whole cc0_scratch0).readCov [⟨Rect.unit ![0, 0, 0] ![8, 128, 128] inb_S8x128x128_S8x128x128_0_0_0, z⟩] r.toLoadRect = View.ld z r :=
  View.readCov_fill (View.whole cc0_scratch0) (s := S8x128x128) (off := ![0, 0, 0]) inb_S8x128x128_S8x128x128_0_0_0 z [] r (by intro a; fin_cases a <;> rfl)

theorem y_A (c) (t : Fin cfg0.N) :
    (outsAt0 m c t).1 = outP (iblk m c 0 t) (iblk m c 1 t) (iblk m c 2 t) (iblk m c 3 t) (iblk m c 4 t) (iblk m c 5 t) (k0_pay2 (iblk m c 6 t)) := by
  unfold outsAt0; dsimp only; frame_out; funext y; canon_tiles x h
  case piece0 => rw [fill_read]; exact ((outP_at _ _ _ _ _ _ _ 7 y x (by simp; omega) (by simp; omega)).trans rfl).symm
  case piece1 => rw [fill_read]; exact ((outP_at _ _ _ _ _ _ _ 6 y x (by simp; omega) (by simp; omega)).trans rfl).symm
  case piece2 => rw [fill_read]; exact ((outP_at _ _ _ _ _ _ _ 5 y x (by simp; omega) (by simp; omega)).trans rfl).symm
  case piece3 => rw [fill_read]; exact ((outP_at _ _ _ _ _ _ _ 4 y x (by simp; omega) (by simp; omega)).trans rfl).symm
  case piece4 => rw [fill_read]; exact ((outP_at _ _ _ _ _ _ _ 3 y x (by simp; omega) (by simp; omega)).trans rfl).symm
  case piece5 => rw [fill_read]; exact ((outP_at _ _ _ _ _ _ _ 2 y x (by simp; omega) (by simp; omega)).trans rfl).symm
  case piece6 => rw [fill_read]; exact ((outP_at _ _ _ _ _ _ _ 1 y x (by simp; omega) (by simp; omega)).trans rfl).symm
  case piece7 => rw [fill_read]; exact ((outP_at _ _ _ _ _ _ _ 0 y x (by simp; omega) (by simp; omega)).trans rfl).symm

theorem whole_read (L : List (View.Piece (Elt Ideal) S8x128x128 .f32)) :
    (View.whole cc0_scratch0).readCov L (Rect.unit (s := S8x128x128) ![0, 0, 0] S8x128x128.size inb_S8x128x128_S8x128x128_0_0_0).toLoadRect = View.canon L := by
  rw [View.readCov_eq_canon']
  funext j
  refine congrArg (View.canon L) ?_
  funext a
  fin_cases a <;> exact Fin.ext (by show 0 + 1 * _ = _; omega)

theorem s_A (c) (t : Fin cfg0.N) :
    (outsAt0 m c t).2 = k0_pay1 (nextP (iblk m c 0 t) (iblk m c 1 t) (iblk m c 2 t) (iblk m c 3 t) (iblk m c 4 t) (iblk m c 5 t) (k0_pay2 (iblk m c 6 t))) := by
  unfold outsAt0; dsimp only; frame_out
  refine congrArg k0_pay1 ?_
  refine (whole_read _).trans ?_
  refine over_fill _ _ _ _ _ _ _ _ _ _ ?_ ?_ ?_ ?_ ?_ ?_ ?_ ?_
  · intro x y e0 e1 e2; rw [fill_read]; exact ((nextP_at _ _ _ _ _ _ _ 0 y x e0 e1 e2).trans rfl).symm
  · intro x y e0 e1 e2; rw [fill_read]; exact ((nextP_at _ _ _ _ _ _ _ 1 y x e0 e1 e2).trans rfl).symm
  · intro x y e0 e1 e2; rw [fill_read]; exact ((nextP_at _ _ _ _ _ _ _ 2 y x e0 e1 e2).trans rfl).symm
  · intro x y e0 e1 e2; rw [fill_read]; exact ((nextP_at _ _ _ _ _ _ _ 3 y x e0 e1 e2).trans rfl).symm
  · intro x y e0 e1 e2; rw [fill_read]; exact ((nextP_at _ _ _ _ _ _ _ 4 y x e0 e1 e2).trans rfl).symm
  · intro x y e0 e1 e2; rw [fill_read]; exact ((nextP_at _ _ _ _ _ _ _ 5 y x e0 e1 e2).trans rfl).symm
  · intro x y e0 e1 e2; rw [fill_read]; exact ((nextP_at _ _ _ _ _ _ _ 6 y x e0 e1 e2).trans rfl).symm
  · intro x y e0 e1 e2; rw [fill_read]; exact ((nextP_at _ _ _ _ _ _ _ 7 y x e0 e1 e2).trans rfl).symm

end Cert.Kernel8Ideal.Hand

end
-- ==== Proof.SampleWkvRun.lean ====
/- The sample group's recurrence at arguments of real entries: one block of padded rows from the given states. -/
module

public import proofs.«01_k».proof.Proof.SampleWkvCases

@[expose] public section

set_option maxRecDepth 16384

noncomputable section

open Idealize.ShloMosaic Idealize.ShloMosaic.TcCoe Idealize.SL.Sem

namespace Cert.Kernel8Ideal.Hand

open Cert.Kernel8Ideal Cert.Kernel8Ideal.Gen Cert.Wkv
open Cert.KernelIdeal.Hand (IsB IsC lane pairOf nextS_is outS_is)

/-! The arrays the host lays out: rows padded to eight steps, states on block diagonals. -/

abbrev padOf (x : FVec Ideal S32x4x1024 .f32) : FVec Ideal S32x8x1024 .f32 :=
  pad S32x8x1024 ![0, 0, 0] ![0, 4, 0] ![0, 0, 0] x (sitofp .f32 (constantI S_ 32 0#32)) pads_S32x4x1024_S32x8x1024_000_040_000 h_S_

theorem padOf_at (x : FVec Ideal S32x4x1024 .f32) (q : Fin 32) (s : Fin 8) (l : Fin 1024) :
    padOf x (ix3 q s l) = if h : s.val < 4 then x (ix3 q ⟨s.val, h⟩ l) else 0 := by
  split_ifs with h
  · pointwise []
    rw [dif_pos h]
  · pointwise []
    rw [dif_neg h]
    exact (congrArg ((↑) : ℝ → EReal) Int.cast_zero)

abbrev zeroB : FVec Ideal S32x8x64x64 .f32 := broadcastInDim S32x8x64x64 ![] bcast_S_S32x8x64x64 (constant S_ .f32 0#32)

abbrev halves (x : FVec Ideal S32x16x64x64 .f32) : FVec Ideal S32x8x2x64x64 .f32 := shapeCast _ x shapeCasts_S32x16x64x64_S32x8x2x64x64
abbrev half0 (x : FVec Ideal S32x16x64x64 .f32) : FVec Ideal S32x8x64x64 .f32 := shapeCast _ (extractStridedSlice S32x8x1x64x64 ![0, 0, 0, 0, 0] (halves x) slices_S32x8x2x64x64_S32x8x1x64x64_0_0_0_0_0) shapeCasts_S32x8x1x64x64_S32x8x64x64
abbrev half1 (x : FVec Ideal S32x16x64x64 .f32) : FVec Ideal S32x8x64x64 .f32 := shapeCast _ (extractStridedSlice S32x8x1x64x64 ![0, 0, 1, 0, 0] (halves x) slices_S32x8x2x64x64_S32x8x1x64x64_0_0_1_0_0) shapeCasts_S32x8x1x64x64_S32x8x64x64

def blockDiag (x : FVec Ideal S32x16x64x64 .f32) : FVec Ideal S32x8x128x128 .f32 :=
  concatenate S32x8x128x128 2
    [⟨S32x8x64x128, concatenate S32x8x64x128 3 [⟨S32x8x64x64, half0 x⟩, ⟨S32x8x64x64, zeroB⟩] concatenates_S32x8x64x64_S32x8x64x64_S32x8x64x128_d3⟩,
     ⟨S32x8x64x128, concatenate S32x8x64x128 3 [⟨S32x8x64x64, zeroB⟩, ⟨S32x8x64x64, half1 x⟩] concatenates_S32x8x64x64_S32x8x64x64_S32x8x64x128_d3⟩]
    concatenates_S32x8x64x128_S32x8x64x128_S32x8x128x128_d2

theorem blockDiag_at (x : FVec Ideal S32x16x64x64 .f32) (q : Fin 32) (p : Fin 8) (d l : Fin 128) :
    blockDiag x (ix4 q p d l) = if d.val / 64 = l.val / 64 then x (ix4 q ⟨p.val * 2 + d.val / 64, by omega⟩ ⟨d.val % 64, by omega⟩ ⟨l.val % 64, by omega⟩) else 0 := by
  by_cases h1 : d.val < 64
  · by_cases h2 : l.val < 64
    · rw [if_pos (by omega)]
      pointwise [blockDiag, halves]
      rw [dif_pos h1, dif_pos h2]
      congr 2 <;> exact Fin.ext (by simp only; omega)
    · rw [if_neg (by omega)]
      pointwise [blockDiag, halves]
      rw [dif_pos h1, dif_neg h2]
  · by_cases h2 : l.val < 64
    · rw [if_neg (by omega)]
      pointwise [blockDiag, halves]
      rw [dif_neg h1, dif_pos h2]
    · rw [if_pos (by omega)]
      pointwise [blockDiag, halves]
      rw [dif_neg h1, dif_neg h2]
      congr 2 <;> exact Fin.ext (by simp only; omega)

variable (m : (ℓ : Loc nD τ sig) → Buf (Elt Ideal) ℓ) (c : Dev nD)

theorem V0 : Gen.V m c main_v0 = padOf (m ((c : Thread nD τ).loc main_arg0)) := by
  simp only [Gen.V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V1 : Gen.V m c main_v1 = padOf (m ((c : Thread nD τ).loc main_arg1)) := by
  simp only [Gen.V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V2 : Gen.V m c main_v2 = padOf (m ((c : Thread nD τ).loc main_arg2)) := by
  simp only [Gen.V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V3 : Gen.V m c main_v3 = padOf (m ((c : Thread nD τ).loc main_arg3)) := by
  simp only [Gen.V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V4 : Gen.V m c main_v4 = padOf (m ((c : Thread nD τ).loc main_arg4)) := by
  simp only [Gen.V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V5 : Gen.V m c main_v5 = padOf (m ((c : Thread nD τ).loc main_arg5)) := by
  simp only [Gen.V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V6 : Gen.V m c main_v14 = blockDiag (m ((c : Thread nD τ).loc main_arg6)) := by
  simp only [Gen.V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem lt32 (t : Fin cfg0.N) : t.val < 32 := t.isLt

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx7 : ∀ t : Fin cfg0.N, win0_7.index t = ![t.val, 0, 0] := (by decide +kernel : ∀ t : Fin grid0.N, _)
theorem idx6 : ∀ t : Fin cfg0.N, win0_6.index t = ![t.val, 0, 0, 0] := (by decide +kernel : ∀ t : Fin grid0.N, _)
theorem idx8 : ∀ t : Fin cfg0.N, win0_8.index t = ![t.val, 0, 0, 0] := (by decide +kernel : ∀ t : Fin grid0.N, _)

/-- An argument of real entries, by reals that are zero from the fifth step on. -/
abbrev IsA (x : FVec Ideal S32x4x1024 .f32) (X : ℕ → ℕ → Fin 1024 → ℝ) : Prop :=
  (∀ (q : Fin 32) (t : Fin 4) (l : Fin 1024), x (ix3 q t l) = ((X q.val t.val l : ℝ) : EReal)) ∧ ∀ q t l, 4 ≤ t → X q t l = 0

abbrev IsS (x : FVec Ideal S32x16x64x64 .f32) (T : ℕ → ℕ → ℕ → ℕ → ℝ) : Prop :=
  ∀ (q : Fin 32) (h : Fin 16) (i j : Fin 64), x (ix4 q h i j) = ((T q.val h.val i.val j.val : ℝ) : EReal)

/-- The state of a pair of heads, on its block diagonal. -/
def bd (T : ℕ → ℕ → ℕ → ℕ → ℝ) (q : ℕ) (p : Fin 8) : Sq := fun d l => if d.val / 64 = l.val / 64 then T q (p.val * 2 + d.val / 64) (d.val % 64) (l.val % 64) else 0

theorem bd_off (T : ℕ → ℕ → ℕ → ℕ → ℝ) (q : ℕ) (p : Fin 8) (d l : Fin 128) (h : ¬Same d l) : bd T q p d l = 0 := if_neg h

theorem rows_at (x : Vec Ideal S1x8x1024 .f32) (s : Fin 64) (l : Fin 1024) : rows x (ix2 s l) = if h : s.val < 8 then x (ix3 0 ⟨s.val, h⟩ l) else 0 := by
  split_ifs with h
  · pointwise [rows, k0_pay3]
    rw [dif_pos h]
  · pointwise [rows, k0_pay3]
    rw [dif_neg h]

theorem padB_is (x : Vec Ideal S1x8x1024 .f32) (a : FVec Ideal S32x4x1024 .f32) (X : ℕ → ℕ → Fin 1024 → ℝ) (hA : IsA a X) (q : Fin 32)
    (e : ∀ (s : Fin 8) (l : Fin 1024), x (ix3 0 s l) = padOf a (ix3 q s l)) : IsB (padB x) (X q.val) := by
  intro s l
  refine Eq.trans (rows_at x s l) ?_
  split_ifs with h
  · rw [e, padOf_at]
    split_ifs with h4
    · exact hA.1 q ⟨s.val, h4⟩ l
    · rw [hA.2 q.val s.val l (by have h5 : ¬s.val < 4 := h4; omega)]
      rfl
  · rw [hA.2 q.val s.val l (by omega)]
    rfl

variable {R W K V A B : ℕ → ℕ → Fin 1024 → ℝ} {T : ℕ → ℕ → ℕ → ℕ → ℝ}
  (h0 : IsA (m ((c : Thread nD τ).loc main_arg0)) R) (h1 : IsA (m ((c : Thread nD τ).loc main_arg1)) W) (h2 : IsA (m ((c : Thread nD τ).loc main_arg2)) K)
  (h3 : IsA (m ((c : Thread nD τ).loc main_arg3)) V) (h4 : IsA (m ((c : Thread nD τ).loc main_arg4)) A) (h5 : IsA (m ((c : Thread nD τ).loc main_arg5)) B)
  (h6 : IsS (m ((c : Thread nD τ).loc main_arg6)) T)

include h0 in
theorem blk0 (t : Fin cfg0.N) : IsB (padB (iblk m c 0 t)) (R t.val) := by
  refine padB_is _ _ _ h0 ⟨t.val, lt32 t⟩ fun s l => ?_
  refine Eq.trans ?_ (congrFun (V0 m c) (ix3 ⟨t.val, lt32 t⟩ s l))
  blk_ext [iblk, idx0 t]

include h1 in
theorem blk1 (t : Fin cfg0.N) : IsB (padB (iblk m c 1 t)) (W t.val) := by
  refine padB_is _ _ _ h1 ⟨t.val, lt32 t⟩ fun s l => ?_
  refine Eq.trans ?_ (congrFun (V1 m c) (ix3 ⟨t.val, lt32 t⟩ s l))
  blk_ext [iblk, idx1 t]

include h2 in
theorem blk2 (t : Fin cfg0.N) : IsB (padB (iblk m c 2 t)) (K t.val) := by
  refine padB_is _ _ _ h2 ⟨t.val, lt32 t⟩ fun s l => ?_
  refine Eq.trans ?_ (congrFun (V2 m c) (ix3 ⟨t.val, lt32 t⟩ s l))
  blk_ext [iblk, idx2 t]

include h3 in
theorem blk3 (t : Fin cfg0.N) : IsB (padB (iblk m c 3 t)) (V t.val) := by
  refine padB_is _ _ _ h3 ⟨t.val, lt32 t⟩ fun s l => ?_
  refine Eq.trans ?_ (congrFun (V3 m c) (ix3 ⟨t.val, lt32 t⟩ s l))
  blk_ext [iblk, idx3 t]

include h4 in
theorem blk4 (t : Fin cfg0.N) : IsB (padB (iblk m c 4 t)) (A t.val) := by
  refine padB_is _ _ _ h4 ⟨t.val, lt32 t⟩ fun s l => ?_
  refine Eq.trans ?_ (congrFun (V4 m c) (ix3 ⟨t.val, lt32 t⟩ s l))
  blk_ext [iblk, idx4 t]

include h5 in
theorem blk5 (t : Fin cfg0.N) : IsB (padB (iblk m c 5 t)) (B t.val) := by
  refine padB_is _ _ _ h5 ⟨t.val, lt32 t⟩ fun s l => ?_
  refine Eq.trans ?_ (congrFun (V5 m c) (ix3 ⟨t.val, lt32 t⟩ s l))
  blk_ext [iblk, idx5 t]

include h6 in
/-- The states a sequence starts from. -/
theorem start (t : Fin cfg0.N) : IsC (k0_pay2 (iblk m c 6 t)) (bd T t.val) := by
  intro p d l
  have e : ∀ z : Vec Ideal S1x8x128x128 .f32, k0_pay2 z (ix3 p d l) = z (ix4 0 p d l) := by
    intro z
    pointwise [k0_pay2]
  have b : iblk m c 6 t (ix4 0 p d l) = Gen.V m c main_v14 (ix4 ⟨t.val, lt32 t⟩ p d l) := by
    blk_ext [iblk, idx6 t]
  refine (e _).trans (b.trans ((congrFun (V6 m c) _).trans ((blockDiag_at _ _ _ _ _).trans ?_)))
  unfold bd
  split_ifs with h
  · exact h6 _ _ _ _
  · rfl

/-- The states of sequence `q` after `n` steps, and its readouts. -/
abbrev st (W K V A B : ℕ → ℕ → Fin 1024 → ℝ) (T : ℕ → ℕ → ℕ → ℕ → ℝ) (q n : ℕ) (p : Fin 8) : Sq :=
  state (pairOf p (W q)) (pairOf p (K q)) (pairOf p (V q)) (pairOf p (A q)) (pairOf p (B q)) (bd T q p) n
abbrev ro (R W K V A B : ℕ → ℕ → Fin 1024 → ℝ) (T : ℕ → ℕ → ℕ → ℕ → ℝ) (q n : ℕ) (p : Fin 8) (d : Fin 128) : ℝ :=
  readout (pairOf p (W q)) (pairOf p (R q)) (pairOf p (K q)) (pairOf p (V q)) (pairOf p (A q)) (pairOf p (B q)) (bd T q p) n d

theorem st_off (q n : ℕ) (p : Fin 8) (d l : Fin 128) (h : ¬Same d l) : st W K V A B T q n p d l = 0 :=
  state_off _ _ _ _ _ _ (bd_off T q p) n d l h

/-- The padded steps leave the states as they are. -/
theorem st_rest (hW : ∀ q t l, 4 ≤ t → W q t l = 0) (hK : ∀ q t l, 4 ≤ t → K q t l = 0) (hB : ∀ q t l, 4 ≤ t → B q t l = 0) (q : ℕ) (p : Fin 8) :
    ∀ n, st W K V A B T q (4 + n) p = st W K V A B T q 4 p
  | 0 => rfl
  | n + 1 => by
    refine Eq.trans ?_ (st_rest hW hK hB q p n)
    funext d l
    show st W K V A B T q (4 + n) p d l * Real.exp (W q (4 + n) (lane p l)) + (if Same d l then _ * B q (4 + n) (lane p l) + _ * K q (4 + n) (lane p l) else 0) = _
    rw [hW _ _ _ (by omega), hK _ _ _ (by omega), hB _ _ _ (by omega), Real.exp_zero, mul_one, mul_zero, mul_zero, add_zero, ite_self, add_zero]

/-- The padded steps read out nothing. -/
theorem ro_rest (hR : ∀ q t l, 4 ≤ t → R q t l = 0) (q n : ℕ) (h : 4 ≤ n) (p : Fin 8) (d : Fin 128) : ro R W K V A B T q n p d = 0 :=
  Finset.sum_eq_zero fun e _ => (congrArg (_ * ·) (hR q n (lane p e) h)).trans (mul_zero _)

/-- The two result arrays, by coordinates. -/
def resY (R W K V A B : ℕ → ℕ → Fin 1024 → ℝ) (T : ℕ → ℕ → ℕ → ℕ → ℝ) : FVec Ideal S32x8x1024 .f32 := fun y =>
  ((ro R W K V A B T (y 0).val (y 1).val ⟨(y 2).val / 128, by have h : (y 2).val < 1024 := (y 2).isLt; omega⟩ ⟨(y 2).val % 128, by omega⟩ : ℝ) : EReal)
def resS (W K V A B : ℕ → ℕ → Fin 1024 → ℝ) (T : ℕ → ℕ → ℕ → ℕ → ℝ) : FVec Ideal S32x8x128x128 .f32 := fun y => ((st W K V A B T (y 0).val 4 (y 1) (y 2) (y 3) : ℝ) : EReal)

include h0 h1 h2 h3 h4 h5 h6

theorem finalY : (dats m 0 c).arrAt 7 cfg0.N = resY R W K V A B T := by
  refine (dats m 0 c).arrAt_eq_of_covers 7 _ (by decide +kernel) fun t hf y => ?_
  blk_simp
  rw [after0_7]
  idx_vars y
  have ht := lt32 t
  have hi : ((win0_7.blk t).view.emb (ix3 y0 y1 y2) : S32x8x1024.Idx) = ix3 ⟨t.val, ht⟩ y1 y2 := by
    blk_ext [idx7 t]
  refine Eq.trans ?_ (congrArg (resY R W K V A B T) hi).symm
  refine Eq.trans (congrFun (y_A m c t) _) ?_
  have hy : (ix3 0 ⟨y1.val, by omega⟩ y2 : Cert.KernelIdeal.S1x64x1024.Idx) = ix3 0 ⟨y1.val, by omega⟩ (lane ⟨y2.val / 128, by omega⟩ ⟨y2.val % 128, by omega⟩) := by
    congr 1
    exact Fin.ext (by show y2.val = 128 * (y2.val / 128) + y2.val % 128; omega)
  refine Eq.trans (congrArg (Cert.KernelIdeal.Hand.outS _ _ _ _ _ _ _) hy) ?_
  exact outS_is (blk0 m c h0 t) (blk1 m c h1 t) (blk2 m c h2 t) (blk3 m c h3 t) (blk4 m c h4 t) (blk5 m c h5 t) (start m c h6 t) (bd_off T t.val) _ ⟨y1.val, by omega⟩ _

theorem finalS : (dats m 0 c).arrAt 8 cfg0.N = resS W K V A B T := by
  refine (dats m 0 c).arrAt_eq_of_covers 8 _ (by decide +kernel) fun t hf y => ?_
  blk_simp
  rw [after0_8]
  idx_vars y
  have ht := lt32 t
  have hi : ((win0_8.blk t).view.emb (ix4 y0 y1 y2 y3) : S32x8x128x128.Idx) = ix4 ⟨t.val, ht⟩ y1 y2 y3 := by
    blk_ext [idx8 t]
  have hp : ∀ z : Vec Ideal S8x128x128 .f32, k0_pay1 z (ix4 y0 y1 y2 y3) = z (ix3 y1 y2 y3) := by
    intro z
    pointwise [k0_pay1]
  refine Eq.trans ?_ (congrArg (resS W K V A B T) hi).symm
  refine (congrFun (s_A m c t) _).trans ((hp _).trans ((nextS_is (blk0 m c h0 t) (blk1 m c h1 t) (blk2 m c h2 t) (blk3 m c h3 t) (blk4 m c h4 t) (blk5 m c h5 t) (start m c h6 t) (bd_off T t.val) y1 y2 y3).trans ?_))
  exact congrArg (fun z : Sq => ((z y2 y3 : ℝ) : EReal)) (st_rest h1.2 h2.2 h5.2 t.val y1 60)

end Cert.Kernel8Ideal.Hand

end
-- ==== Proof.SampleWkvRef.lean ====
/- The sample group's reference recurrence at arguments of real entries: four steps from the given states. -/
module

public import proofs.«01_k».proof.Proof.Gen.Reference8Ideal.Run
public import proofs.«01_k».proof.Proof.SampleWkvRun
public import proofs.«01_k».proof.Proof.WkvRef
public import Idealize.ShloMosaic.Lib.DynamicIndex
public import Idealize.ShloMosaic.Lib.WordCmp
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.ShloMosaic.StableHlo Idealize.SL.Sem

namespace Cert.Reference8Ideal.Hand

open Cert.Reference8Ideal Cert.Reference8Ideal.Gen Cert.Reference8Ideal.Value Cert.Wkv

open Cert.KernelIdeal.Hand (coe_sum dot_is lane pairOf)
open Cert.Kernel8Ideal.Hand (st ro st_off ro_rest bd IsA IsS resY resS)
open Cert.ReferenceIdeal.Hand (hd row same_row sum_row)

/-- Where step `n` reads and writes the step-major arrays. -/
def startAt (n : (⟨S_, .i32⟩ : BufTy).Contents (Elt Ideal)) : Fin 4 → Int := (fun j => (((![n, constantI S_ 32 0#32, constantI S_ 32 0#32, constantI S_ 32 0#32] : Fin 4 → (⟨S_, .i32⟩ : BufTy).Contents (Elt Ideal))) j (Shape.Idx.first h_S_)).toInt)

def rowOf (x : FVec Ideal S4x32x16x64 .f32) (n : (⟨S_, .i32⟩ : BufTy).Contents (Elt Ideal)) : FVec Ideal S32x16x64 .f32 :=
  shapeCast S32x16x64 (Host.dynamicSlice S1x32x16x64 x (startAt n) sliceFits_S4x32x16x64_S1x32x16x64) shapeCasts_S1x32x16x64_S32x16x64

/-- The delta-rule step on all heads. -/
def nextOf (s : FVec Ideal S32x16x64x64 .f32) (w k v a b : FVec Ideal S32x16x64 .f32) : FVec Ideal S32x16x64x64 .f32 :=
  addf (addf (mulf s (broadcastInDim S32x16x64x64 ![0, 1, 2, 3] bcast_S32x16x1x64_S32x16x64x64_0_1_2_3 (broadcastInDim S32x16x1x64 ![0, 1, 3] bcast_S32x16x64_S32x16x1x64_0_1_3 w))) (mulf (broadcastInDim S32x16x64x64 ![0, 1, 2, 3] bcast_S32x16x64x1_S32x16x64x64_0_1_2_3 (broadcastInDim S32x16x64x1 ![0, 1, 2] bcast_S32x16x64_S32x16x64x1_0_1_2 (Host.dotGeneral dot_S32x16x64x64_S32x16x64_S32x16x64_3_2_2_n_01_01 none s a))) (broadcastInDim S32x16x64x64 ![0, 1, 2, 3] bcast_S32x16x1x64_S32x16x64x64_0_1_2_3 (broadcastInDim S32x16x1x64 ![0, 1, 3] bcast_S32x16x64_S32x16x1x64_0_1_3 b)))) (mulf (broadcastInDim S32x16x64x64 ![0, 1, 2, 3] bcast_S32x16x64x1_S32x16x64x64_0_1_2_3 (broadcastInDim S32x16x64x1 ![0, 1, 2] bcast_S32x16x64_S32x16x64x1_0_1_2 v)) (broadcastInDim S32x16x64x64 ![0, 1, 2, 3] bcast_S32x16x1x64_S32x16x64x64_0_1_2_3 (broadcastInDim S32x16x1x64 ![0, 1, 3] bcast_S32x16x64_S32x16x1x64_0_1_3 k)))

/-- A step's readout, put in its place. -/
def putOf (y : FVec Ideal S4x32x16x64 .f32) (n : (⟨S_, .i32⟩ : BufTy).Contents (Elt Ideal)) (s : FVec Ideal S32x16x64x64 .f32) (r : FVec Ideal S32x16x64 .f32) : FVec Ideal S4x32x16x64 .f32 :=
  Host.dynamicUpdateSlice y (broadcastInDim S1x32x16x64 ![1, 2, 3] bcast_S32x16x64_S1x32x16x64_1_2_3 (Host.dotGeneral dot_S32x16x64x64_S32x16x64_S32x16x64_3_2_2_n_01_01 none s r)) (startAt n) updateFits_S4x32x16x64_S1x32x16x64

theorem startAt_eq (n : ℕ) (hn : n < 4) (a : Fin 4) : startAt (fun _ => BitVec.ofNat 32 n) a = (((![n, 0, 0, 0] : Fin 4 → ℕ) a : ℕ) : Int) := by
  fin_cases a
  · exact toInt_ofNat_of_lt (by omega)
  · rfl
  · rfl
  · rfl

theorem fits (n : ℕ) (hn : n < 4) : S4x32x16x64.Slices ![n, 0, 0, 0] S1x32x16x64 :=
  ⟨rfl, by
    intro a
    fin_cases a
    · show n + 1 ≤ 4; omega
    · exact le_refl _
    · exact le_refl _
    · exact le_refl _⟩

theorem rowOf_at (x : FVec Ideal S4x32x16x64 .f32) (n : ℕ) (hn : n < 4) (q : Fin 32) (h : Fin 16) (i : Fin 64) :
    rowOf x (fun _ => BitVec.ofNat 32 n) (ix3 q h i) = x (ix4 ⟨n, hn⟩ q h i) := by
  unfold rowOf
  rw [Host.dynamicSlice_eq_extractStridedSlice S1x32x16x64 x _ ![n, 0, 0, 0] _ (fits n hn) (startAt_eq n hn)]
  pointwise []

theorem nextOf_at (s : FVec Ideal S32x16x64x64 .f32) (w k v a b : FVec Ideal S32x16x64 .f32) (q : Fin 32) (h : Fin 16) (i j : Fin 64) :
    nextOf s w k v a b (ix4 q h i j) = s (ix4 q h i j) * w (ix3 q h j) + (∑ e : Fin 64, s (ix4 q h i e) * a (ix3 q h e)) * b (ix3 q h j) + v (ix3 q h i) * k (ix3 q h j) := by
  pointwise [nextOf]

theorem putOf_at (y : FVec Ideal S4x32x16x64 .f32) (n : ℕ) (hn : n < 4) (s : FVec Ideal S32x16x64x64 .f32) (r : FVec Ideal S32x16x64 .f32) (t : Fin 4) (q : Fin 32) (h : Fin 16) (i : Fin 64) :
    putOf y (fun _ => BitVec.ofNat 32 n) s r (ix4 t q h i) = if t.val = n then ∑ e : Fin 64, s (ix4 q h i e) * r (ix3 q h e) else y (ix4 t q h i) := by
  have e : ∀ a, Host.clampedStart S4x32x16x64 S1x32x16x64 updateFits_S4x32x16x64_S1x32x16x64.1 (startAt (fun _ => BitVec.ofNat 32 n)) a = (![n, 0, 0, 0] : Fin 4 → ℕ) a :=
    fun a => Host.clampedStart_of_le _ _ a _ (startAt_eq n hn a) ((fits n hn).2 a)
  unfold putOf
  rw [Host.dynamicUpdateSlice_eq_updateSlice _ _ _ _ ![n, 0, 0, 0] e (fits n hn)]
  pointwise []
  exact if_congr (by omega) rfl rfl

section
variable (V : Valuation τ sig (Elt Ideal))

abbrev stateB : FVec Ideal S32x16x64x64 .f32 := V (Proc.devRef .tc main_v14_7)
abbrev ysB : FVec Ideal S4x32x16x64 .f32 := V (Proc.devRef .tc main_v14_8)
abbrev ctrB : (⟨S_, .i32⟩ : BufTy).Contents (Elt Ideal) := V (Proc.devRef .tc main_v14_6)
abbrev rB : FVec Ideal S4x32x16x64 .f32 := V (Proc.devRef .tc main_v14_0)
abbrev wB : FVec Ideal S4x32x16x64 .f32 := V (Proc.devRef .tc main_v14_1)
abbrev kB : FVec Ideal S4x32x16x64 .f32 := V (Proc.devRef .tc main_v14_2)
abbrev vB : FVec Ideal S4x32x16x64 .f32 := V (Proc.devRef .tc main_v14_3)
abbrev aB : FVec Ideal S4x32x16x64 .f32 := V (Proc.devRef .tc main_v14_4)
abbrev bB : FVec Ideal S4x32x16x64 .f32 := V (Proc.devRef .tc main_v14_5)

theorem step_state : stateB (STEP V) = nextOf (stateB V) (rowOf (wB V) (ctrB V)) (rowOf (kB V) (ctrB V)) (rowOf (vB V) (ctrB V)) (rowOf (aB V) (ctrB V)) (rowOf (bB V) (ctrB V)) :=
  (STEP_main_v14_7 V).trans rfl

theorem step_ys : ysB (STEP V) = putOf (ysB V) (ctrB V) (stateB (STEP V)) (rowOf (rB V) (ctrB V)) := by
  rw [step_state]
  exact (STEP_main_v14_8 V).trans rfl

theorem step_ctr (n : ℕ) (h : ctrB V = fun _ => BitVec.ofNat 32 n) : ctrB (STEP V) = fun _ => BitVec.ofNat 32 (n + 1) := by
  refine (STEP_main_v14_6 V).trans ?_
  show addi (ctrB V) _ = _
  rw [h]
  funext j
  exact (BitVec.ofNat_add n 1).symm

end

/-- A step-major array holds these reals. -/
abbrev IsT (x : FVec Ideal S4x32x16x64 .f32) (X : ℕ → ℕ → Fin 1024 → ℝ) : Prop :=
  ∀ (t : Fin 4) (q : Fin 32) (h : Fin 16) (i : Fin 64), x (ix4 t q h i) = ((X q.val t.val (lane (hd h) (row h i)) : ℝ) : EReal)

/-- What holds before step `n`. -/
structure Holds (R W K V A B : ℕ → ℕ → Fin 1024 → ℝ) (T : ℕ → ℕ → ℕ → ℕ → ℝ) (n : ℕ) (U : Valuation τ sig (Elt Ideal)) : Prop where
  r : IsT (rB U) R
  w : IsT (wB U) fun q t l => Real.exp (W q t l)
  k : IsT (kB U) K
  v : IsT (vB U) V
  a : IsT (aB U) A
  b : IsT (bB U) B
  ctr : ctrB U = fun _ => BitVec.ofNat 32 n
  s : ∀ (q : Fin 32) (h : Fin 16) (i j : Fin 64), stateB U (ix4 q h i j) = ((st W K V A B T q.val n (hd h) (row h i) (row h j) : ℝ) : EReal)
  y : ∀ (t : Fin 4) (q : Fin 32) (h : Fin 16) (i : Fin 64), t.val < n → ysB U (ix4 t q h i) = ((ro R W K V A B T q.val t.val (hd h) (row h i) : ℝ) : EReal)

variable {R W K V A B : ℕ → ℕ → Fin 1024 → ℝ} {T : ℕ → ℕ → ℕ → ℕ → ℝ}

theorem holds_step (n : ℕ) (hn : n < 4) (U : Valuation τ sig (Elt Ideal)) (H : Holds R W K V A B T n U) : Holds R W K V A B T (n + 1) (STEP U) := by
  have hs : ∀ (q : Fin 32) (h : Fin 16) (i j : Fin 64), stateB (STEP U) (ix4 q h i j) = ((st W K V A B T q.val (n + 1) (hd h) (row h i) (row h j) : ℝ) : EReal) := by
    intro q h i j
    rw [step_state, H.ctr, nextOf_at, rowOf_at _ n hn, rowOf_at _ n hn, rowOf_at _ n hn, rowOf_at _ n hn, H.w, H.b, H.v, H.k, H.s,
      dot_is 64 _ _ _ _ (fun e => H.s q h i e) (fun e => (rowOf_at _ n hn q h e).trans (H.a ⟨n, hn⟩ q h e)),
      ← EReal.coe_mul, ← EReal.coe_mul, ← EReal.coe_mul, ← EReal.coe_add, ← EReal.coe_add]
    congr 1
    show _ = st W K V A B T q.val n (hd h) (row h i) (row h j) * Real.exp _ + if Same (row h i) (row h j) then _ else 0
    rw [if_pos (same_row h i j), ← sum_row h i _ fun e he => (congrArg (· * _) (st_off q.val n (hd h) _ e he)).trans (zero_mul _), add_assoc]
  refine ⟨?_, ?_, ?_, ?_, ?_, ?_, step_ctr U n H.ctr, hs, ?_⟩
  · exact fun t q h i => (congrFun (STEP_main_v14_0 U) _).trans (H.r t q h i)
  · exact fun t q h i => (congrFun (STEP_main_v14_1 U) _).trans (H.w t q h i)
  · exact fun t q h i => (congrFun (STEP_main_v14_2 U) _).trans (H.k t q h i)
  · exact fun t q h i => (congrFun (STEP_main_v14_3 U) _).trans (H.v t q h i)
  · exact fun t q h i => (congrFun (STEP_main_v14_4 U) _).trans (H.a t q h i)
  · exact fun t q h i => (congrFun (STEP_main_v14_5 U) _).trans (H.b t q h i)
  · intro t q h i ht
    rw [step_ys, H.ctr, putOf_at _ n hn]
    split_ifs with e
    · rw [dot_is 64 _ _ _ _ (fun e => hs q h i e) (fun e => (rowOf_at _ n hn q h e).trans (H.r ⟨n, hn⟩ q h e)),
        sum_row h i (fun e => st W K V A B T q.val (n + 1) (hd h) (row h i) e * R q.val n (lane (hd h) e)) fun e he => (congrArg (· * _) (st_off q.val (n + 1) (hd h) _ e he)).trans (zero_mul _), e]
      rfl
    · exact H.y t q h i (by omega)

theorem holds_iterate (U : Valuation τ sig (Elt Ideal)) (H : Holds R W K V A B T 0 U) : ∀ n, n ≤ 4 → Holds R W K V A B T n (STEP^[n] U)
  | 0, _ => H
  | n + 1, h => by
    rw [Function.iterate_succ_apply']
    exact holds_step n (by omega) _ (holds_iterate U H n (by omega))

/-! What leaves the loop. -/

theorem outY_at (U : Valuation τ sig (Elt Ideal)) (q : Fin 32) (t : Fin 8) (l : Fin 1024) :
    out_main_v24 U (ix3 q t l) = if h : t.val < 4 then ysB U (ix4 ⟨t.val, h⟩ q ⟨l.val / 64, by omega⟩ ⟨l.val % 64, by omega⟩) else 0 := by
  show _ = if h : _ then U (Proc.devRef .tc main_v14_8) _ else _
  split_ifs with h
  · pointwise [out_main_v24]
    rw [dif_pos h]
  · pointwise [out_main_v24]
    rw [dif_neg h]
    exact congrArg ((↑) : ℝ → EReal) Int.cast_zero

theorem outS_at (U : Valuation τ sig (Elt Ideal)) (q : Fin 32) (p : Fin 8) (d l : Fin 128) :
    out_main_v28 U (ix4 q p d l) = if d.val / 64 = l.val / 64 then stateB U (ix4 q ⟨p.val * 2 + d.val / 64, by omega⟩ ⟨d.val % 64, by omega⟩ ⟨l.val % 64, by omega⟩) else 0 := by
  show _ = if _ then U (Proc.devRef .tc main_v14_7) _ else _
  pointwise [out_main_v28]
  rw [WordCmp.cmpi_eq_ofNat (by have := d.isLt; omega) (by have := l.isLt; omega)]
  by_cases h : d.val / 64 = l.val / 64
  · rw [if_pos h, decide_eq_true h]; rfl
  · rw [if_neg h, decide_eq_false h]; exact Ideal.ofBits_zero_f32

/-! The loop's entry. -/

def stepMajor (x : FVec Ideal S32x4x1024 .f32) : FVec Ideal S4x32x16x64 .f32 :=
  transpose S4x32x16x64 [1, 0, 2, 3] (shapeCast S32x4x16x64 x shapeCasts_S32x4x1024_S32x4x16x64) transposes_S32x4x16x64_S4x32x16x64_1_0_2_3

theorem stepMajor_at (x : FVec Ideal S32x4x1024 .f32) (t : Fin 4) (q : Fin 32) (h : Fin 16) (i : Fin 64) :
    stepMajor x (ix4 t q h i) = x (ix3 q t (lane (hd h) (row h i))) := by
  have e : lane (hd h) (row h i) = ⟨h.val * 64 + i.val, by omega⟩ := Fin.ext (by show 128 * (h.val / 2) + (64 * (h.val % 2) + i.val) = h.val * 64 + i.val; omega)
  rw [e]
  pointwise [stepMajor]

section
variable (m : (ℓ : Loc nD τ sig) → Buf (Elt Ideal) ℓ) (c : Dev nD)

abbrev entry : Valuation τ sig (Elt Ideal) := entryContents preI m c

theorem entry_r : rB (entry m c) = stepMajor (m ((c.tc : Thread nD τ).loc main_arg0)) := by
  simp only [entryContents, afterL_cons, afterL_nil]
  after_reads_simp
  rfl

theorem entry_w : wB (entry m c) = stepMajor (Host.exp (m ((c.tc : Thread nD τ).loc main_arg1))) := by
  simp only [entryContents, afterL_cons, afterL_nil]
  after_reads_simp
  rfl

theorem entry_k : kB (entry m c) = stepMajor (m ((c.tc : Thread nD τ).loc main_arg2)) := by
  simp only [entryContents, afterL_cons, afterL_nil]
  after_reads_simp
  rfl

theorem entry_v : vB (entry m c) = stepMajor (m ((c.tc : Thread nD τ).loc main_arg3)) := by
  simp only [entryContents, afterL_cons, afterL_nil]
  after_reads_simp
  rfl

theorem entry_a : aB (entry m c) = stepMajor (m ((c.tc : Thread nD τ).loc main_arg4)) := by
  simp only [entryContents, afterL_cons, afterL_nil]
  after_reads_simp
  rfl

theorem entry_b : bB (entry m c) = stepMajor (m ((c.tc : Thread nD τ).loc main_arg5)) := by
  simp only [entryContents, afterL_cons, afterL_nil]
  after_reads_simp
  rfl

theorem entry_state : stateB (entry m c) = m ((c.tc : Thread nD τ).loc main_arg6) := by
  simp only [entryContents, afterL_cons, afterL_nil]
  after_reads_simp
  rfl

variable (h0 : IsA (m ((c.tc : Thread nD τ).loc main_arg0)) R) (h1 : IsA (m ((c.tc : Thread nD τ).loc main_arg1)) W) (h2 : IsA (m ((c.tc : Thread nD τ).loc main_arg2)) K)
  (h3 : IsA (m ((c.tc : Thread nD τ).loc main_arg3)) V) (h4 : IsA (m ((c.tc : Thread nD τ).loc main_arg4)) A) (h5 : IsA (m ((c.tc : Thread nD τ).loc main_arg5)) B)
  (h6 : IsS (m ((c.tc : Thread nD τ).loc main_arg6)) T)

include h0 h1 h2 h3 h4 h5 h6

theorem holds_entry : Holds R W K V A B T 0 (entry m c) := by
  refine ⟨?_, ?_, ?_, ?_, ?_, ?_, ctr_entry m c, ?_, fun t q h i ht => absurd ht (Nat.not_lt_zero _)⟩
  · exact fun t q h i => by rw [entry_r, stepMajor_at]; exact h0.1 q t _
  · exact fun t q h i => by
      rw [entry_w, stepMajor_at]
      show Ideal.exp (m ((c.tc : Thread nD τ).loc main_arg1) (ix3 q t _)) = _
      rw [h1.1 q t _, Ideal.exp_coe]
  · exact fun t q h i => by rw [entry_k, stepMajor_at]; exact h2.1 q t _
  · exact fun t q h i => by rw [entry_v, stepMajor_at]; exact h3.1 q t _
  · exact fun t q h i => by rw [entry_a, stepMajor_at]; exact h4.1 q t _
  · exact fun t q h i => by rw [entry_b, stepMajor_at]; exact h5.1 q t _
  · intro q h i j
    rw [entry_state]
    refine (h6 q h i j).trans ?_
    show _ = ((bd T q.val (hd h) (row h i) (row h j) : ℝ) : EReal)
    unfold bd
    rw [if_pos (same_row h i j)]
    have e1 : h.val / 2 * 2 + (64 * (h.val % 2) + i.val) / 64 = h.val := by omega
    have e2 : (64 * (h.val % 2) + i.val) % 64 = i.val := by omega
    have e3 : (64 * (h.val % 2) + j.val) % 64 = j.val := by omega
    show _ = ((T q.val (h.val / 2 * 2 + (64 * (h.val % 2) + i.val) / 64) ((64 * (h.val % 2) + i.val) % 64) ((64 * (h.val % 2) + j.val) % 64) : ℝ) : EReal)
    rw [e1, e2, e3]

theorem holds_end : Holds R W K V A B T 4 (STEP^[4] (entry m c)) :=
  holds_iterate _ (holds_entry m c h0 h1 h2 h3 h4 h5 h6) 4 (le_refl _)

theorem refY : out_main_v24 (STEP^[4] (entry m c)) = resY R W K V A B T := by
  funext y
  obtain ⟨q, t, l, rfl⟩ : ∃ (q : Fin 32) (t : Fin 8) (l : Fin 1024), y = ix3 q t l := ⟨y 0, y 1, y 2, (ix3_eta y).symm⟩
  rw [outY_at]
  show _ = ((ro R W K V A B T q.val t.val ⟨l.val / 128, _⟩ ⟨l.val % 128, _⟩ : ℝ) : EReal)
  split_ifs with h
  · rw [(holds_end m c h0 h1 h2 h3 h4 h5 h6).y _ _ _ _ h]
    congr 2
    · exact Fin.ext (by show l.val / 64 / 2 = l.val / 128; omega)
    · exact Fin.ext (by show 64 * (l.val / 64 % 2) + l.val % 64 = l.val % 128; omega)
  · rw [ro_rest h0.2 _ _ (by omega)]
    rfl

theorem refS : out_main_v28 (STEP^[4] (entry m c)) = resS W K V A B T := by
  funext y
  obtain ⟨q, p, d, l, rfl⟩ : ∃ (q : Fin 32) (p : Fin 8) (d l : Fin 128), y = ix4 q p d l := ⟨y 0, y 1, y 2, y 3, (ix4_eta y).symm⟩
  rw [outS_at]
  show _ = ((st W K V A B T q.val 4 p d l : ℝ) : EReal)
  split_ifs with hs
  · rw [(holds_end m c h0 h1 h2 h3 h4 h5 h6).s]
    have e1 : hd ⟨p.val * 2 + d.val / 64, by omega⟩ = p := Fin.ext (by show (p.val * 2 + d.val / 64) / 2 = p.val; omega)
    have e2 : row ⟨p.val * 2 + d.val / 64, by omega⟩ ⟨d.val % 64, by omega⟩ = d := Fin.ext (by show 64 * ((p.val * 2 + d.val / 64) % 2) + d.val % 64 = d.val; omega)
    have e3 : row ⟨p.val * 2 + d.val / 64, by omega⟩ ⟨l.val % 64, by omega⟩ = l := Fin.ext (by show 64 * ((p.val * 2 + d.val / 64) % 2) + l.val % 64 = l.val; omega)
    rw [e1, e2, e3]
  · rw [st_off q.val 4 p d l hs]
    rfl

end

end Cert.Reference8Ideal.Hand

end
-- ==== Proof.SampleWkvClaim.lean ====
/- At finite arguments the sample group's recurrence and its reference end with equal results. -/
module

public import proofs.«01_k».proof.Defs
public import proofs.«01_k».proof.Proof.Gen.Kernel8Ideal.Value
public import proofs.«01_k».proof.Proof.SampleWkvRef
public import proofs.«01_k».proof.Proof.WkvClaim

@[expose] public section

set_option maxRecDepth 16384

noncomputable section

open Idealize.ShloMosaic Idealize.ShloMosaic.TcCoe Idealize.SL.Sem

namespace Cert.Proof

open Cert.Kernel8Ideal.Hand (IsA IsS)

abbrev SampleArg := FVec Ideal Cert.Kernel8Ideal.S32x4x1024 .f32
abbrev SampleState := FVec Ideal Cert.Kernel8Ideal.S32x16x64x64 .f32

/-- The reals of the prepared rows, zero outside them. -/
def sampleReals (x : SampleArg) (q t : ℕ) (l : Fin 1024) : ℝ :=
  if h : q < 32 ∧ t < 4 then (x (ix3 ⟨q, h.1⟩ ⟨t, h.2⟩ l)).toReal else 0

/-- The reals of the given states, zero outside them. -/
def stateReals (x : SampleState) (q h i j : ℕ) : ℝ :=
  if b : (q < 32 ∧ h < 16) ∧ i < 64 ∧ j < 64 then (x (ix4 ⟨q, b.1.1⟩ ⟨h, b.1.2⟩ ⟨i, b.2.1⟩ ⟨j, b.2.2⟩)).toReal else 0

theorem sampleArg_of (x : SampleArg) (h : ∀ y, belowInf (x y) = 1#1) : IsA x (sampleReals x) := by
  refine ⟨fun q t l => ?_, fun q t l ht => dif_neg fun b => absurd b.2 (by omega)⟩
  rw [sampleReals, dif_pos ⟨q.isLt, t.isLt⟩]
  exact (real_of _ (h _)).symm

theorem sampleState_of (x : SampleState) (h : ∀ y, belowInf (x y) = 1#1) : IsS x (stateReals x) := by
  intro q p i j
  rw [stateReals, dif_pos ⟨⟨q.isLt, p.isLt⟩, i.isLt, j.isLt⟩]
  exact (real_of _ (h _)).symm

variable [Cert.Pre_finite8.Facts]

theorem sample_all (x0 x1 x2 x3 x4 x5 : SampleArg) (x6 : SampleState)
    (h : (Cert.Pre_finite8.fn (F := Ideal) x0 x1 x2 x3 x4 x5 x6).1 = (fun _ => 1#1) ∧ (Cert.Pre_finite8.fn (F := Ideal) x0 x1 x2 x3 x4 x5 x6).2 = fun _ => 1#1) :
    IsA x0 (sampleReals x0) ∧ IsA x1 (sampleReals x1) ∧ IsA x2 (sampleReals x2) ∧ IsA x3 (sampleReals x3) ∧ IsA x4 (sampleReals x4) ∧ IsA x5 (sampleReals x5) ∧ IsS x6 (stateReals x6) := by
  have hy : ∀ y, belowInf (x0 y) &&& belowInf (x1 y) &&& belowInf (x2 y) &&& belowInf (x3 y) &&& belowInf (x4 y) &&& belowInf (x5 y) = 1#1 := fun y => congrFun h.1 y
  have hs : ∀ y, belowInf (x6 y) = 1#1 := fun y => congrFun h.2 y
  have h5 := fun y => and_one _ _ (hy y)
  have h4 := fun y => and_one _ _ (h5 y).1
  have h3 := fun y => and_one _ _ (h4 y).1
  have h2 := fun y => and_one _ _ (h3 y).1
  have h1 := fun y => and_one _ _ (h2 y).1
  exact ⟨sampleArg_of x0 fun y => (h1 y).1, sampleArg_of x1 fun y => (h1 y).2, sampleArg_of x2 fun y => (h2 y).2, sampleArg_of x3 fun y => (h3 y).2,
    sampleArg_of x4 fun y => (h4 y).2, sampleArg_of x5 fun y => (h5 y).2, sampleState_of x6 hs⟩

theorem sample_wkv_equal : Cert.algebraic_Kernel8Ideal_Reference8Ideal_pre_finite8 (hKernel8Ideal := Cert.Kernel8Ideal.Gen.facts) (hReference8Ideal := Cert.Reference8Ideal.Gen.facts) := by
  pair_intro
  · run_from Cert.Kernel8Ideal.Value.run_blocks m g
  · refine θ_run_mono (Cert.Reference8Ideal.Value.run m' g') fun r h c => ?_
    obtain ⟨e0, e1, e2, e3, e4, e5, e6⟩ := hagree c
    obtain ⟨k0, k1, k2, k3, k4, k5, k6⟩ := sample_all _ _ _ _ _ _ _ (hpre c)
    refine ⟨(h c).1.trans ?_, (h c).2.1.trans ?_, (h c).2.2⟩
    · refine Eq.trans ?_ (Cert.Kernel8Ideal.Hand.finalY m c k0 k1 k2 k3 k4 k5 k6).symm
      exact Cert.Reference8Ideal.Hand.refY m' c (e0 ▸ k0) (e1 ▸ k1) (e2 ▸ k2) (e3 ▸ k3) (e4 ▸ k4) (e5 ▸ k5) (e6 ▸ k6)
    · refine Eq.trans ?_ (Cert.Kernel8Ideal.Hand.finalS m c k0 k1 k2 k3 k4 k5 k6).symm
      exact Cert.Reference8Ideal.Hand.refS m' c (e0 ▸ k0) (e1 ▸ k1) (e2 ▸ k2) (e3 ▸ k3) (e4 ▸ k4) (e5 ▸ k5) (e6 ▸ k6)

end Cert.Proof

end
-- ==== Proof.Modulation.lean ====
/- The modulation rows: what the tiled call and its reference compute at coordinates, and that they end with equal results. -/
module

public import proofs.«01_k».proof.Defs
public import proofs.«01_k».proof.Proof.Gen.Kernel9Ideal.Value
public import proofs.«01_k».proof.Proof.Gen.Reference9Ideal.Run
public import Idealize.ShloMosaic.Lib.StableHlo.RunRead
public import Idealize.ShloMosaic.Lib.IdealHost
public import Idealize.ShloMosaic.Lib.Claim
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem

namespace Cert.Kernel9Ideal.Hand

open Cert.Kernel9Ideal Cert.Kernel9Ideal.Gen

/-- The conditioning rows of both groups, padded with zero rows. -/
def rows (p : FVec Ideal S2x2048 .f32) (s : FVec Ideal S32x2048 .f32) : FVec Ideal S40x2048 .f32 :=
  pad S40x2048 ![0, 0] ![6, 0] ![0, 0] (concatenate S34x2048 0 [⟨S2x2048, p⟩, ⟨S32x2048, s⟩] concatenates_S2x2048_S32x2048_S34x2048_d0) (sitofp .f32 (constantI S_ 32 0#32)) pads_S34x2048_S40x2048_060_000 h_S_

/-- Row `r`, activated, times column `n` of the weights, with the offset. -/
def out (x : FVec Ideal S40x2048 .f32) (w : FVec Ideal S1x2048x12288 .f32) (b : FVec Ideal S1x12288 .f32) (r : Fin 40) (n : Fin 12288) : EReal :=
  ∑ k : Fin 2048, (x (ix2 r k) * Ideal.logistic (x (ix2 r k))) * w (ix3 0 k n) + b (ix2 0 n)

variable (m : (ℓ : Loc nD τ sig) → Buf (Elt Ideal) ℓ) (c : Dev nD)

abbrev argX : FVec Ideal S40x2048 .f32 := rows (m ((c : Thread nD τ).loc main_arg0)) (m ((c : Thread nD τ).loc main_arg1))
abbrev argW : FVec Ideal S1x2048x12288 .f32 := m ((c : Thread nD τ).loc main_arg2)
abbrev argB : FVec Ideal S1x12288 .f32 := m ((c : Thread nD τ).loc main_arg3)

/-- The result array. -/
def res : FVec Ideal S40x12288 .f32 := fun y => out (argX m c) (argW m c) (argB m c) (y 0) (y 1)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

theorem lt8 (t : Fin cfg0.N) : t.val < 8 := lt_of_lt_of_eq t.isLt N_0

/-- Column `n` of point `t`'s tile. -/
abbrev colOf (t : Fin cfg0.N) (n : Fin 1536) : Fin 12288 := ⟨1536 * t.val + n.val, by have := lt8 t; omega⟩

/-- What the host operations leave in the arrays that the windows read. -/
theorem V_host : V m c main_v1 = argX m c ∧ V m c main_v2 = shapeCast S2048x12288 (argW m c) shapeCasts_S1x2048x12288_S2048x12288 := by
  refine ⟨?_, ?_⟩ <;>
    simp only [V, hostOps0, hostOps0_1, hostOps0_2, List.flatten_cons, List.flatten_nil, List.append_nil, List.cons_append, List.nil_append] <;>
    entry_read <;> rfl

theorem blkX (t : Fin cfg0.N) (r : Fin 40) (k : Fin 2048) : (iblk m c 0 t : FVec Ideal S40x2048 .f32) (ix2 r k) = argX m c (ix2 r k) := by
  refine Eq.trans ?_ (congrFun (V_host m c).1 (ix2 r k))
  blk_ext [iblk, idx0 t]

theorem blkW (t : Fin cfg0.N) (k : Fin 2048) (n : Fin 1536) : (iblk m c 1 t : FVec Ideal S2048x1536 .f32) (ix2 k n) = argW m c (ix3 0 k (colOf t n)) := by
  have ht := lt8 t
  have e : shapeCast S2048x12288 (argW m c) shapeCasts_S1x2048x12288_S2048x12288 (ix2 k (colOf t n)) = argW m c (ix3 0 k (colOf t n)) := by
    pointwise
  refine Eq.trans ?_ ((congrFun (V_host m c).2 (ix2 k (colOf t n))).trans e)
  blk_ext [iblk, idx1 t]

theorem blkB (t : Fin cfg0.N) (n : Fin 1536) : (iblk m c 2 t : FVec Ideal S1x1536 .f32) (ix2 0 n) = argB m c (ix2 0 (colOf t n)) := by
  have ht := lt8 t
  blk_ext [iblk, V, idx2 t]

theorem pay1_at (x : FVec Ideal S40x2048 .f32) (w : FVec Ideal S2048x1536 .f32) (b : FVec Ideal S1x1536 .f32) (r : Fin 40) (n : Fin 1536) :
    k0_pay1 (F := Ideal) x w b (ix2 r n) = ∑ k : Fin 2048, (x (ix2 r k) * Ideal.logistic (x (ix2 r k))) * w (ix2 k n) + b (ix2 0 n) := by
  pointwise [k0_pay1]

theorem block_at (t : Fin cfg0.N) (r : Fin 40) (n : Fin 1536) :
    (out0_3 (iblk m c 0 t) (iblk m c 1 t) (iblk m c 2 t) : FVec Ideal S40x1536 .f32) (ix2 r n) = out (argX m c) (argW m c) (argB m c) r (colOf t n) := by
  frame_out
  refine (pay1_at _ _ _ r n).trans ?_
  simp only [out, blkX, blkW, blkB]

theorem final : (dats m 0 c).arrAt 3 cfg0.N = res m c := by
  refine (dats m 0 c).arrAt_eq_of_covers 3 _ (by decide +kernel) fun t _ y => ?_
  rw [after0_3]
  idx_vars y
  have ht := lt8 t
  have hi : ((win0_3.blk t).view.emb (ix2 y0 y1) : S40x12288.Idx) = ix2 y0 (colOf t y1) := by
    blk_ext [idx3 t]
  have hb := (block_at m c t y0 y1).trans (congrArg (res m c) hi).symm
  generalize out0_3 (iblk m c 0 t) (iblk m c 1 t) (iblk m c 2 t) = B at hb ⊢
  generalize res m c = R at hb ⊢
  exact hb

end Cert.Kernel9Ideal.Hand

namespace Cert.Reference9Ideal.Hand

open Cert.Reference9Ideal Cert.Reference9Ideal.Gen

/-- The reference's line over the padded rows `x`. -/
def refOut (x : FVec Ideal S40x2048 .f32) (w : FVec Ideal S1x2048x12288 .f32) (b : FVec Ideal S1x12288 .f32) : FVec Ideal S40x12288 .f32 :=
  addf (Host.dotGeneral dot_S40x2048_S2048x12288_S40x12288_1_0_0_1_n_n none
      (mulf x (Host.divf (broadcastInDim S40x2048 ![] bcast_S_S40x2048 (constant S_ .f32 0x3F800000#32)) (addf (broadcastInDim S40x2048 ![] bcast_S_S40x2048 (constant S_ .f32 0x3F800000#32)) (Host.exp (Host.negf x)))))
      (shapeCast _ w shapeCasts_S1x2048x12288_S2048x12288))
    (broadcastInDim S40x12288 ![0, 1] bcast_S1x12288_S40x12288_0_1 (broadcastInDim S1x12288 ![1] bcast_S12288_S1x12288_1 (shapeCast _ b shapeCasts_S1x12288_S12288)))

theorem one : Ideal.ofBits FTy.f32 0x3F800000#32 = (1 : EReal) := by
  simp [Ideal.ofBits, Ideal.ieee, -EReal.coe_mul]; norm_num

theorem refOut_at (x : FVec Ideal S40x2048 .f32) (w : FVec Ideal S1x2048x12288 .f32) (b : FVec Ideal S1x12288 .f32) (r : Fin 40) (n : Fin 12288) :
    refOut x w b (ix2 r n) = Kernel9Ideal.Hand.out x w b r n := by
  pointwise [refOut, Kernel9Ideal.Hand.out, Ideal.logistic, one]

end Cert.Reference9Ideal.Hand

namespace Cert.Proof

theorem mod_equal : Cert.algebraic_Kernel9Ideal_Reference9Ideal (hKernel9Ideal := Cert.Kernel9Ideal.Gen.facts) (hReference9Ideal := Cert.Reference9Ideal.Gen.facts) := by
  intro m g m' g' _ hagree
  refine ⟨Cert.Kernel9Ideal.Hand.res m, ?_, ?_⟩
  · exact θ_run_mono (Cert.Kernel9Ideal.Value.run_blocks m g) fun r h c => ⟨(h c).1.trans (Cert.Kernel9Ideal.Hand.final m c), (h c).2⟩
  · refine θ_run_mono (Cert.Reference9Ideal.Value.run m' g') fun r h c => ⟨(h c).1.trans ?_, (h c).2⟩
    obtain ⟨h0, h1, h2, h3⟩ := hagree c
    rw [h0, h1, h2, h3]
    funext y
    idx_vars y
    exact Cert.Reference9Ideal.Hand.refOut_at (Cert.Kernel9Ideal.Hand.argX m c) _ _ y0 y1

end Cert.Proof

end
-- ==== Proof.PrepMath.lean ====
/- The recurrence's preparation over plain coordinates: what one position's projected columns become, and that the reference computes it. -/
module

public import proofs.«01_k».proof.Proof.OutprojValue
public import proofs.«01_k».proof.Proof.Modulation
public import proofs.«01_k».proof.Proof.Gen.Reference10Ideal.Run

@[expose] public section

set_option maxRecDepth 16384

noncomputable section

open Idealize.ShloMosaic Idealize.ShloMosaic.TcCoe Idealize.SL.Sem

namespace Cert.Prep

abbrev Lanes := FVec Ideal (⟨2, ![1, 1024]⟩ : Shape) .f32
abbrev Lora := FVec Ideal (⟨3, ![1, 64, 1024]⟩ : Shape) .f32

/-- The sum over the 64 lanes of the head that lane `l` is of. -/
def headSum (f : Fin 1024 → EReal) (l : Fin 1024) : EReal := ∑ j : Fin 64, f ⟨64 * (l.val / 64) + j.val, by omega⟩

/-- The columns of sequence `b` one position earlier: the kept state's before the first position. -/
def prev (p : FVec Ideal (⟨3, ![32, 4, 3360]⟩ : Shape) .f32) (st : FVec Ideal (⟨3, ![1, 32, 3360]⟩ : Shape) .f32) (b : Fin 32) (s : Fin 4) (l : Fin 3360) : EReal :=
  if _ : s.val < 1 then st (ix3 0 b l) else p (ix3 b ⟨s.val - 1, by omega⟩ l)

/-- The columns moved towards the previous position's. -/
def shifted (p : FVec Ideal (⟨3, ![32, 4, 3360]⟩ : Shape) .f32) (st : FVec Ideal (⟨3, ![1, 32, 3360]⟩ : Shape) .f32) (mu : FVec Ideal (⟨2, ![1, 3360]⟩ : Shape) .f32)
    (b : Fin 32) (s : Fin 4) (l : Fin 3360) : EReal :=
  p (ix3 b s l) + mu (ix2 0 l) * (prev p st b s l - p (ix3 b s l))

/-- The logarithm of `1 + exp z`, in the form that does not overflow. -/
def softplus (z : EReal) : EReal := max z 0 + Ideal.log (1 + Ideal.exp (-(max z (-z))))

section
variable (x : Fin 3360 → EReal)

/-- The logarithm of the decay. -/
def decay (w0 : Lanes) (w : Lora) (n : Fin 1024) : EReal :=
  -(Ideal.exp (-(softplus (-(w0 (ix2 0 n) + ∑ e : Fin 64, Ideal.tanh (x ⟨3072 + e.val, by omega⟩) * w (ix3 0 e n)))) - Ideal.ofBits FTy.f32 0x3F000000#32))

/-- The in-context rate. -/
def rate (a0 : Lanes) (a : Lora) (n : Fin 1024) : EReal :=
  Ideal.logistic (a0 (ix2 0 n) + ∑ e : Fin 64, x ⟨3136 + e.val, by omega⟩ * a (ix3 0 e n))

/-- The output gate. -/
def gate (g : FVec Ideal (⟨3, ![1, 160, 1024]⟩ : Shape) .f32) (n : Fin 1024) : EReal :=
  ∑ e : Fin 160, Ideal.logistic (x ⟨3200 + e.val, by omega⟩) * g (ix3 0 e n)

/-- The key's direction before its length is divided out. -/
def raw (kk : Lanes) (n : Fin 1024) : EReal := x ⟨1024 + n.val, by omega⟩ * kk (ix2 0 n)

/-- The key's direction, of length one in each head. -/
def unit (kk : Lanes) (n : Fin 1024) : EReal :=
  Ideal.div (raw x kk n) (max (Ideal.sqrt (headSum (fun e => raw x kk e * raw x kk e) n)) (Ideal.ofBits FTy.f32 0x2B8CBCCC#32))

/-- The key that is written into the state. -/
def key (ka a0 : Lanes) (a : Lora) (n : Fin 1024) : EReal := x ⟨1024 + n.val, by omega⟩ * (1 + (rate x a0 a n - 1) * ka (ix2 0 n))

/-- The bonus of the current position. -/
def bonus (ka a0 : Lanes) (a : Lora) (rk : FVec Ideal (⟨3, ![1, 16, 64]⟩ : Shape) .f32) (n : Fin 1024) : EReal :=
  headSum (fun e => x ⟨e.val, by omega⟩ * key x ka a0 a e * rk (ix3 0 ⟨e.val / 64, by omega⟩ ⟨e.val % 64, by omega⟩)) n * x ⟨2048 + n.val, by omega⟩

end

/-- The sequence and the position of row `r`. -/
abbrev bOf (r : Fin 128) : Fin 32 := ⟨r.val / 4, by omega⟩
abbrev sOf (r : Fin 128) : Fin 4 := ⟨r.val % 4, by omega⟩

end Cert.Prep

namespace Cert.Reference10Ideal.Hand

open Cert.Reference10Ideal Cert.Reference10Ideal.Gen Cert.Prep
open Cert.Reference9Ideal.Hand (one)

/-- The moved columns, as the reference computes them. -/
def refPm (p : FVec Ideal S32x4x3360 .f32) (st : FVec Ideal S1x32x3360 .f32) (mu : FVec Ideal S1x3360 .f32) : FVec Ideal S32x4x3360 .f32 :=
  addf p (mulf (broadcastInDim S32x4x3360 ![0, 1, 2] bcast_S1x1x3360_S32x4x3360_0_1_2 (broadcastInDim S1x1x3360 ![2] bcast_S3360_S1x1x3360_2 (shapeCast _ mu shapeCasts_S1x3360_S3360)))
    (subf (concatenate S32x4x3360 1 [⟨S32x1x3360, (broadcastInDim S32x1x3360 ![0, 2] bcast_S32x3360_S32x1x3360_0_2 (shapeCast _ st shapeCasts_S1x32x3360_S32x3360))⟩,
      ⟨S32x3x3360, (extractStridedSlice S32x3x3360 ![0, 0, 0] p slices_S32x4x3360_S32x3x3360_0_0_0)⟩] concatenates_S32x1x3360_S32x3x3360_S32x4x3360_d1) p))

theorem refPm_at (p : FVec Ideal S32x4x3360 .f32) (st : FVec Ideal S1x32x3360 .f32) (mu : FVec Ideal S1x3360 .f32) (b : Fin 32) (s : Fin 4) (l : Fin 3360) :
    refPm p st mu (ix3 b s l) = shifted p st mu b s l := by
  pointwise [refPm, shifted, prev]

/-- A row of 1024 numbers over every position, and over the heads. -/
def refRow (w : FVec Ideal S1x1024 .f32) : FVec Ideal S32x4x1024 .f32 :=
  broadcastInDim S32x4x1024 ![0, 1, 2] bcast_S1x1x1024_S32x4x1024_0_1_2 (broadcastInDim S1x1x1024 ![2] bcast_S1024_S1x1x1024_2 (shapeCast _ w shapeCasts_S1x1024_S1024))

def refHeads (w : FVec Ideal S1x1024 .f32) : FVec Ideal S32x4x16x64 .f32 :=
  broadcastInDim S32x4x16x64 ![0, 1, 2, 3] bcast_S1x1x16x64_S32x4x16x64_0_1_2_3 (broadcastInDim S1x1x16x64 ![2, 3] bcast_S16x64_S1x1x16x64_2_3 (shapeCast _ (shapeCast _ w shapeCasts_S1x1024_S1024) shapeCasts_S1024_S16x64))

def refZ (x : FVec Ideal S32x4x3360 .f32) (w0 : FVec Ideal S1x1024 .f32) (w : FVec Ideal S1x64x1024 .f32) : FVec Ideal S32x4x1024 .f32 :=
  Host.negf (addf (refRow w0) (Host.dotGeneral dot_S32x4x64_S64x1024_S32x4x1024_2_0_01_1_n_n none (Host.tanh (extractStridedSlice S32x4x64 ![0, 0, 3072] x slices_S32x4x3360_S32x4x64_0_0_3072)) (shapeCast _ w shapeCasts_S1x64x1024_S64x1024)))

def refSoftplus (z : FVec Ideal S32x4x1024 .f32) : FVec Ideal S32x4x1024 .f32 :=
  select (cmpf .une (subf z (broadcastInDim S32x4x1024 ![] bcast_S_S32x4x1024 (constant S_ .f32 0x00000000#32))) (subf z (broadcastInDim S32x4x1024 ![] bcast_S_S32x4x1024 (constant S_ .f32 0x00000000#32))))
    (addf z (broadcastInDim S32x4x1024 ![] bcast_S_S32x4x1024 (constant S_ .f32 0x00000000#32)))
    (addf (maximumf z (broadcastInDim S32x4x1024 ![] bcast_S_S32x4x1024 (constant S_ .f32 0x00000000#32)))
      (Host.log1p (Host.exp (Host.negf (Host.absf (subf z (broadcastInDim S32x4x1024 ![] bcast_S_S32x4x1024 (constant S_ .f32 0x00000000#32))))))))

def refDecay (z : FVec Ideal S32x4x1024 .f32) : FVec Ideal S128x1024 .f32 :=
  shapeCast _ (Host.negf (Host.exp (subf (Host.negf (refSoftplus z)) (broadcastInDim S32x4x1024 ![] bcast_S_S32x4x1024 (constant S_ .f32 0x3F000000#32))))) shapeCasts_S32x4x1024_S128x1024

def refRate (x : FVec Ideal S32x4x3360 .f32) (a0 : FVec Ideal S1x1024 .f32) (a : FVec Ideal S1x64x1024 .f32) : FVec Ideal S32x4x16x64 .f32 :=
  shapeCast _ (Host.divf (broadcastInDim S32x4x1024 ![] bcast_S_S32x4x1024 (constant S_ .f32 0x3F800000#32)) (addf (broadcastInDim S32x4x1024 ![] bcast_S_S32x4x1024 (constant S_ .f32 0x3F800000#32))
    (Host.exp (Host.negf (addf (refRow a0) (Host.dotGeneral dot_S32x4x64_S64x1024_S32x4x1024_2_0_01_1_n_n none (extractStridedSlice S32x4x64 ![0, 0, 3136] x slices_S32x4x3360_S32x4x64_0_0_3136) (shapeCast _ a shapeCasts_S1x64x1024_S64x1024))))))) shapeCasts_S32x4x1024_S32x4x16x64

def refGate (x : FVec Ideal S32x4x3360 .f32) (g : FVec Ideal S1x160x1024 .f32) : FVec Ideal S128x1024 .f32 :=
  shapeCast _ (Host.dotGeneral dot_S32x4x160_S160x1024_S32x4x1024_2_0_01_1_n_n none (Host.divf (broadcastInDim S32x4x160 ![] bcast_S_S32x4x160 (constant S_ .f32 0x3F800000#32))
    (addf (broadcastInDim S32x4x160 ![] bcast_S_S32x4x160 (constant S_ .f32 0x3F800000#32)) (Host.exp (Host.negf (extractStridedSlice S32x4x160 ![0, 0, 3200] x slices_S32x4x3360_S32x4x160_0_0_3200)))))
    (shapeCast _ g shapeCasts_S1x160x1024_S160x1024)) shapeCasts_S32x4x1024_S128x1024

def refKr (x : FVec Ideal S32x4x3360 .f32) : FVec Ideal S32x4x16x64 .f32 :=
  shapeCast _ (extractStridedSlice S32x4x1024 ![0, 0, 1024] x slices_S32x4x3360_S32x4x1024_0_0_1024) shapeCasts_S32x4x1024_S32x4x16x64

def refSum (f : FVec Ideal S32x4x16x64 .f32) : FVec Ideal S32x4x16x1 .f32 :=
  broadcastInDim S32x4x16x1 ![0, 1, 2] bcast_S32x4x16_S32x4x16x1_0_1_2 (Host.reduceAdd f (constant S_ .f32 0x00000000#32) reducesTo_S32x4x16x64_S32x4x16_d3 h_S_)

def refUnit (u : FVec Ideal S32x4x16x64 .f32) : FVec Ideal S32x4x16x64 .f32 :=
  Host.divf u (broadcastInDim S32x4x16x64 ![0, 1, 2, 3] bcast_S32x4x16x1_S32x4x16x64_0_1_2_3 (maximumf (Host.sqrt (refSum (mulf u u))) (broadcastInDim S32x4x16x1 ![] bcast_S_S32x4x16x1 (constant S_ .f32 0x2B8CBCCC#32))))

def refKey (k a : FVec Ideal S32x4x16x64 .f32) (ka : FVec Ideal S1x1024 .f32) : FVec Ideal S32x4x16x64 .f32 :=
  mulf k (addf (broadcastInDim S32x4x16x64 ![] bcast_S_S32x4x16x64 (constant S_ .f32 0x3F800000#32)) (mulf (subf a (broadcastInDim S32x4x16x64 ![] bcast_S_S32x4x16x64 (constant S_ .f32 0x3F800000#32))) (refHeads ka)))

def refBonus (x : FVec Ideal S32x4x3360 .f32) (k : FVec Ideal S32x4x16x64 .f32) (rk : FVec Ideal S1x16x64 .f32) : FVec Ideal S32x4x16x64 .f32 :=
  mulf (broadcastInDim S32x4x16x64 ![0, 1, 2, 3] bcast_S32x4x16x1_S32x4x16x64_0_1_2_3 (refSum (mulf (mulf (shapeCast _ (extractStridedSlice S32x4x1024 ![0, 0, 0] x slices_S32x4x3360_S32x4x1024_0_0_0) shapeCasts_S32x4x1024_S32x4x16x64) k)
      (broadcastInDim S32x4x16x64 ![0, 1, 2, 3] bcast_S1x1x16x64_S32x4x16x64_0_1_2_3 (broadcastInDim S1x1x16x64 ![2, 3] bcast_S16x64_S1x1x16x64_2_3 (shapeCast _ rk shapeCasts_S1x16x64_S16x64))))))
    (shapeCast _ (extractStridedSlice S32x4x1024 ![0, 0, 2048] x slices_S32x4x3360_S32x4x1024_0_0_2048) shapeCasts_S32x4x1024_S32x4x16x64)

variable (x : FVec Ideal S32x4x3360 .f32) (w0 a0 kk ka : FVec Ideal S1x1024 .f32) (w a : FVec Ideal S1x64x1024 .f32) (b : Fin 32) (s : Fin 4) (h : Fin 16) (d : Fin 64)

/-- Lane `d` of head `h`. -/
abbrev lane (h : Fin 16) (d : Fin 64) : Fin 1024 := ⟨h.val * 64 + d.val, by omega⟩

theorem refRow_at (n : Fin 1024) : refRow w0 (ix3 b s n) = w0 (ix2 0 n) := by
  pointwise [refRow]

theorem refHeads_at : refHeads w0 (ix4 b s h d) = w0 (ix2 0 (lane h d)) := by
  pointwise [refHeads, lane]

theorem refZ_at (n : Fin 1024) : refZ x w0 w (ix3 b s n) = -(w0 (ix2 0 n) + ∑ e : Fin 64, Ideal.tanh (x (ix3 b s ⟨3072 + e.val, by omega⟩)) * w (ix3 0 e n)) := by
  pointwise [refZ, refRow_at]

theorem refSoftplus_at (z : FVec Ideal S32x4x1024 .f32) (n : Fin 1024) : refSoftplus z (ix3 b s n) = softplus (z (ix3 b s n)) := by
  pointwise [refSoftplus, softplus, Ideal.log1p]
  exact if_neg fun e => e rfl

theorem refRate_at : refRate x a0 a (ix4 b s h d) = rate (fun l => x (ix3 b s l)) a0 a (lane h d) := by
  pointwise [refRate, refRow_at, rate, Ideal.logistic, one, lane]

theorem refKr_at : refKr x (ix4 b s h d) = x (ix3 b s ⟨1024 + (lane h d).val, by omega⟩) := by
  pointwise [refKr]

theorem refSum_at (f : FVec Ideal S32x4x16x64 .f32) : refSum f (ix4 b s h 0) = ∑ j : Fin 64, f (ix4 b s h j) := by
  pointwise [refSum]

theorem refKey_at (k r : FVec Ideal S32x4x16x64 .f32) : refKey k r ka (ix4 b s h d) = k (ix4 b s h d) * (1 + (r (ix4 b s h d) - 1) * ka (ix2 0 (lane h d))) := by
  pointwise [refKey, refHeads_at, one]

theorem refUnit_at (u : FVec Ideal S32x4x16x64 .f32) :
    refUnit u (ix4 b s h d) = Ideal.div (u (ix4 b s h d)) (max (Ideal.sqrt (∑ j : Fin 64, u (ix4 b s h j) * u (ix4 b s h j))) (Ideal.ofBits FTy.f32 0x2B8CBCCC#32)) := by
  pointwise [refUnit, refSum_at]

theorem refBonus_at (k : FVec Ideal S32x4x16x64 .f32) (rk : FVec Ideal S1x16x64 .f32) :
    refBonus x k rk (ix4 b s h d)
      = (∑ j : Fin 64, x (ix3 b s ⟨(lane h j).val, by omega⟩) * k (ix4 b s h j) * rk (ix3 0 h j)) * x (ix3 b s ⟨2048 + (lane h d).val, by omega⟩) := by
  pointwise [refBonus, refSum_at]

/-- The head and the lane within it of lane `n`. -/
abbrev hOf (n : Fin 1024) : Fin 16 := ⟨n.val / 64, by omega⟩
abbrev dOf (n : Fin 1024) : Fin 64 := ⟨n.val % 64, by omega⟩

theorem lane_self (n : Fin 1024) : lane (hOf n) (dOf n) = n := Fin.ext (by simp only; omega)

theorem headSum_lane (f : Fin 1024 → EReal) (n : Fin 1024) : ∑ j : Fin 64, f (lane (hOf n) j) = headSum f n :=
  Finset.sum_congr rfl fun j _ => congrArg f (Fin.ext (by simp only; omega))

theorem flat_at (f : FVec Ideal S32x4x16x64 .f32) (r : Fin 128) (n : Fin 1024) :
    shapeCast S128x1024 f shapeCasts_S32x4x16x64_S128x1024 (ix2 r n) = f (ix4 (bOf r) (sOf r) (hOf n) (dOf n)) := by
  pointwise

variable (r : Fin 128) (n : Fin 1024)

theorem cols_at :
    shapeCast S128x1024 (extractStridedSlice S32x4x1024 ![0, 0, 0] x slices_S32x4x3360_S32x4x1024_0_0_0) shapeCasts_S32x4x1024_S128x1024 (ix2 r n) = x (ix3 (bOf r) (sOf r) ⟨n.val, by omega⟩)
    ∧ shapeCast S128x1024 (extractStridedSlice S32x4x1024 ![0, 0, 2048] x slices_S32x4x3360_S32x4x1024_0_0_2048) shapeCasts_S32x4x1024_S128x1024 (ix2 r n)
      = x (ix3 (bOf r) (sOf r) ⟨2048 + n.val, by omega⟩) := by
  refine ⟨?_, ?_⟩ <;> pointwise

theorem decay_at : refDecay (refZ x w0 w) (ix2 r n) = decay (fun l => x (ix3 (bOf r) (sOf r) l)) w0 w n := by
  pointwise [refDecay, decay, refSoftplus_at, refZ_at]

theorem gate_at (g : FVec Ideal S1x160x1024 .f32) : refGate x g (ix2 r n) = gate (fun l => x (ix3 (bOf r) (sOf r) l)) g n := by
  pointwise [refGate, gate, Ideal.logistic, one]

theorem key_at' : refKey (refKr x) (refRate x a0 a) ka (ix4 b s h d) = key (fun l => x (ix3 b s l)) ka a0 a (lane h d) := by
  rw [refKey_at, refKr_at, refRate_at, key]

theorem raw_at : mulf (refKr x) (refHeads kk) (ix4 b s h d) = raw (fun l => x (ix3 b s l)) kk (lane h d) := by
  show refKr x _ * refHeads kk _ = _
  rw [refHeads_at, refKr_at, raw]

theorem unit_at : refUnit (mulf (refKr x) (refHeads kk)) (ix4 (bOf r) (sOf r) (hOf n) (dOf n)) = unit (fun l => x (ix3 (bOf r) (sOf r) l)) kk n := by
  rw [refUnit_at]
  simp only [raw_at]
  rw [headSum_lane (fun e => raw (fun l => x (ix3 (bOf r) (sOf r) l)) kk e * raw (fun l => x (ix3 (bOf r) (sOf r) l)) kk e), lane_self, unit]

theorem bonus_at (rk : FVec Ideal S1x16x64 .f32) :
    shapeCast S128x1024 (refBonus x (refKey (refKr x) (refRate x a0 a) ka) rk) shapeCasts_S32x4x16x64_S128x1024 (ix2 r n)
      = bonus (fun l => x (ix3 (bOf r) (sOf r) l)) ka a0 a rk n := by
  rw [flat_at, refBonus_at, bonus, ← headSum_lane]
  simp only [key_at']
  refine congrArg₂ (· * ·) ?_ (congrArg (fun e => x (ix3 (bOf r) (sOf r) e)) (Fin.ext (by simp only; omega)))
  refine Finset.sum_congr rfl fun j _ => ?_
  congr 2
  exact congrArg₂ (ix3 0) (Fin.ext (by simp only; omega)) (Fin.ext (by simp only; omega))

end Cert.Reference10Ideal.Hand

end
-- ==== Proof.PrepBlocks.lean ====
/- The recurrence's preparation: input blocks read at coordinates over the argument arrays. -/
module

public import proofs.«01_k».proof.Proof.Gen.Kernel10Ideal.Value
public import proofs.«01_k».proof.Proof.PrepMath
public import Idealize.ShloMosaic.Lib.StableHlo.RunRead
public import Idealize.ShloMosaic.Lib.IdealHost
public import Idealize.ShloMosaic.Lib.Routing.OpsOne
public import Idealize.ShloMosaic.Lib.Routing.OpsSet

@[expose] public section

set_option maxRecDepth 16384

noncomputable section

open Idealize.ShloMosaic Idealize.ShloMosaic.TcCoe Idealize.SL.Sem

namespace Cert.Prep

open Idealize.ShloMosaic.Routing

/-- Update `(a, b)` of a block that is written into a matrix at one pair of index words lands at `(r, c)` exactly when the words plus `a` and `b` are `r` and `c`. -/
theorem lands_block {R C A B w : Nat} (d : ScatterDims (shape2 R C) (shape1 2) (shape2 A B)) (huw : d.updateWindowDims = [0, 1]) (hiw : d.insertedWindowDims = [])
    (hsd : d.scatterDimsToOperandDims = [0, 1]) (hivd : d.indexVectorDim = 0) (idx : IVec (shape1 2) w) (a : Fin A) (b : Fin B) (r : Fin R) (c : Fin C) :
    d.resultIdx? (ix2 a b) idx = some (ix2 r c)
      ↔ (idx (ix1 (0 : Fin 2))).toInt + (a.val : Int) = r.val ∧ (idx (ix1 (1 : Fin 2))).toInt + (b.val : Int) = c.val := by
  have hk : d.sKept = [0, 1] := by
    show (shape2 R C).kept d.insertedWindowDims = _
    rw [hiw]
    rfl
  have e : ∀ (l : List (Fin 2)) (n : ℕ) (h : n < l.length) (q : Fin 2), l = [0, 1] → n = q.val → l[n]'h = q := by
    intro l n h q hl hn
    subst hl
    subst hn
    fin_cases q <;> rfl
  have hwin : ∀ q : Fin 2, d.window (ix2 a b) q = ((ix2 a b : (shape2 A B).Idx) q).val := fun q => by
    unfold ScatterDims.window
    rw [dif_pos (by rw [hk]; fin_cases q <;> simp)]
    refine congrArg (fun t => ((ix2 a b : (shape2 A B).Idx) t).val) (e _ _ _ q huw ?_)
    rw [hk]
    fin_cases q <;> rfl
  refine (resultIdx?_ix2 d (ix2 a b) idx r c).trans ?_
  rw [start_pair d hsd hivd, start_pair d hsd hivd, hwin, hwin]
  exact Iff.rfl

end Cert.Prep

namespace Cert.Kernel10Ideal.Hand

open Cert.Kernel10Ideal Cert.Kernel10Ideal.Gen Cert.Prep

/-- A pair of index words. -/
def at2 (i j : BitVec 32) : IVec S2 32 :=
  concatenate S2 0 [⟨S1, broadcastInDim S1 ![] bcast_S_S1 (constantI S_ 32 i)⟩, ⟨S1, broadcastInDim S1 ![] bcast_S_S1 (constantI S_ 32 j)⟩] concatenates_S1_S1_S2_d0

theorem at2_at (i j : BitVec 32) : at2 i j (ix1 (0 : Fin 2)) = i ∧ at2 i j (ix1 (1 : Fin 2)) = j := by
  refine ⟨?_, ?_⟩ <;> pointwise [at2]

/-- The two small weights on the diagonal of one matrix. -/
def diag1 (w : FVec Ideal S1x64x1024 .f32) : FVec Ideal S128x2048 .f32 :=
  Host.scatter scatter_S128x2048_S2_S64x1024_01_n_01_0 (fun _ b => b) (broadcastInDim S128x2048 ![] bcast_S_S128x2048 (constant S_ .f32 0x00000000#32)) (at2 0#32 0#32)
    (shapeCast S64x1024 w shapeCasts_S1x64x1024_S64x1024)

def diag (w a : FVec Ideal S1x64x1024 .f32) : FVec Ideal S128x2048 .f32 :=
  Host.scatter scatter_S128x2048_S2_S64x1024_01_n_01_0 (fun _ b => b) (diag1 w) (at2 64#32 1024#32) (shapeCast S64x1024 a shapeCasts_S1x64x1024_S64x1024)

theorem hit (x : FVec Ideal S128x2048 .f32) (i j : BitVec 32) (u : FVec Ideal S64x1024 .f32) (e : Fin 64) (n : Fin 1024) (r : Fin 128) (l : Fin 2048)
    (hr : i.toInt + (e.val : Int) = r.val) (hl : j.toInt + (n.val : Int) = l.val) :
    Host.scatter scatter_S128x2048_S2_S64x1024_01_n_01_0 (fun _ b => b) x (at2 i j) u (ix2 r l) = u (ix2 e n) := by
  refine Routing.scatter_set_hit _ x (at2 i j) u (ix2 r l) _ (fun k hk => ?_) (ix2 e n) ((lands_block _ rfl rfl rfl rfl _ e n r l).2 ?_)
  · idx_vars k
    have h := (lands_block _ rfl rfl rfl rfl _ k0 k1 r l).1 hk
    rw [(at2_at i j).1, (at2_at i j).2] at h
    exact congrArg₂ (fun a b => u (ix2 a b)) (Fin.ext (by omega)) (Fin.ext (by omega))
  · rw [(at2_at i j).1, (at2_at i j).2]
    exact ⟨hr, hl⟩

theorem miss (x : FVec Ideal S128x2048 .f32) (i j : BitVec 32) (u : FVec Ideal S64x1024 .f32) (r : Fin 128) (l : Fin 2048)
    (h : ∀ (e : Fin 64) (n : Fin 1024), ¬(i.toInt + (e.val : Int) = r.val ∧ j.toInt + (n.val : Int) = l.val)) :
    Host.scatter scatter_S128x2048_S2_S64x1024_01_n_01_0 (fun _ b => b) x (at2 i j) u (ix2 r l) = x (ix2 r l) := by
  refine Routing.scatter_set_miss _ x (at2 i j) u (ix2 r l) fun k hk => ?_
  idx_vars k
  have q := (lands_block _ rfl rfl rfl rfl _ k0 k1 r l).1 hk
  rw [(at2_at i j).1, (at2_at i j).2] at q
  exact h k0 k1 q

section
variable (w a : FVec Ideal S1x64x1024 .f32) (e : Fin 64) (n : Fin 1024)

theorem word0 : (0#32 : BitVec 32).toInt = 0 := by decide
theorem word64 : (64#32 : BitVec 32).toInt = 64 := by decide
theorem word1024 : (1024#32 : BitVec 32).toInt = 1024 := by decide

theorem diag_w : diag w a (ix2 ⟨e.val, by omega⟩ ⟨n.val, by omega⟩) = w (ix3 0 e n) := by
  refine (miss _ _ _ _ _ _ fun e' n' h => ?_).trans ((hit _ _ _ _ e n _ _ ?_ ?_).trans ?_)
  · rw [word64] at h; have := h.1; simp only at this; omega
  · rw [word0]; simp
  · rw [word0]; simp
  · pointwise

theorem diag_a : diag w a (ix2 ⟨64 + e.val, by omega⟩ ⟨1024 + n.val, by omega⟩) = a (ix3 0 e n) := by
  refine (hit _ _ _ _ e n _ _ ?_ ?_).trans ?_
  · rw [word64]; simp
  · rw [word1024]; simp
  · pointwise

theorem diag_wa : diag w a (ix2 ⟨e.val, by omega⟩ ⟨1024 + n.val, by omega⟩) = 0 := by
  refine (miss _ _ _ _ _ _ fun e' n' h => ?_).trans ((miss _ _ _ _ _ _ fun e' n' h => ?_).trans ?_)
  · rw [word64] at h; have := h.1; simp only at this; omega
  · rw [word0] at h; have := h.2; simp only at this; omega
  · pointwise

theorem diag_aw : diag w a (ix2 ⟨64 + e.val, by omega⟩ ⟨n.val, by omega⟩) = 0 := by
  refine (miss _ _ _ _ _ _ fun e' n' h => ?_).trans ((miss _ _ _ _ _ _ fun e' n' h => ?_).trans ?_)
  · rw [word1024] at h; have := h.2; simp only at this; omega
  · rw [word0] at h; have := h.1; simp only at this; omega
  · pointwise

end

/-- The positions' columns, padded. -/
def padP (p : FVec Ideal S32x4x3360 .f32) : FVec Ideal S128x3584 .f32 :=
  pad S128x3584 ![0, 0] ![0, 224] ![0, 0] (shapeCast S128x3360 p shapeCasts_S32x4x3360_S128x3360) (sitofp .f32 (constantI S_ 32 0#32)) pads_S128x3360_S128x3584_000_02240 h_S_

/-- The previous positions' columns, padded. -/
def padS (p : FVec Ideal S32x4x3360 .f32) (st : FVec Ideal S1x32x3360 .f32) : FVec Ideal S128x3584 .f32 :=
  shapeCast S128x3584 (concatenate S32x4x3584 1 [⟨S32x1x3584, broadcastInDim S32x1x3584 ![0, 2] bcast_S32x3584_S32x1x3584_0_2
      (pad S32x3584 ![0, 0] ![0, 224] ![0, 0] (shapeCast S32x3360 st shapeCasts_S1x32x3360_S32x3360) (sitofp .f32 (constantI S_ 32 0#32)) pads_S32x3360_S32x3584_000_02240 h_S_)⟩,
    ⟨S32x3x3584, extractStridedSlice S32x3x3584 ![0, 0, 0] (shapeCast S32x4x3584 (padP p) shapeCasts_S128x3584_S32x4x3584) slices_S32x4x3584_S32x3x3584_0_0_0⟩]
    concatenates_S32x1x3584_S32x3x3584_S32x4x3584_d1) shapeCasts_S32x4x3584_S128x3584

def padMu (mu : FVec Ideal S1x3360 .f32) : FVec Ideal S1x3584 .f32 :=
  pad S1x3584 ![0, 0] ![0, 224] ![0, 0] mu (sitofp .f32 (constantI S_ 32 0#32)) pads_S1x3360_S1x3584_000_02240 h_S_

def padG (g : FVec Ideal S1x160x1024 .f32) : FVec Ideal S384x1024 .f32 :=
  pad S384x1024 ![0, 0] ![224, 0] ![0, 0] (shapeCast S160x1024 g shapeCasts_S1x160x1024_S160x1024) (sitofp .f32 (constantI S_ 32 0#32)) pads_S160x1024_S384x1024_02240_000 h_S_

theorem padP_at (p : FVec Ideal S32x4x3360 .f32) (r : Fin 128) (l : Fin 3360) : padP p (ix2 r ⟨l.val, by omega⟩) = p (ix3 (bOf r) (sOf r) l) := by
  pointwise [padP]

theorem padMu_at (mu : FVec Ideal S1x3360 .f32) (l : Fin 3360) : padMu mu (ix2 0 ⟨l.val, by omega⟩) = mu (ix2 0 l) := by
  pointwise [padMu]

theorem padG_at (g : FVec Ideal S1x160x1024 .f32) (n : Fin 1024) :
    (∀ e : Fin 160, padG g (ix2 ⟨e.val, by omega⟩ n) = g (ix3 0 e n)) ∧ ∀ e : Fin 224, padG g (ix2 ⟨160 + e.val, by omega⟩ n) = 0 := by
  refine ⟨fun e => ?_, fun e => ?_⟩
  · pointwise [padG]
  · pointwise [padG]
    exact congrArg ((↑) : ℝ → EReal) Int.cast_zero

theorem padS_at (p : FVec Ideal S32x4x3360 .f32) (st : FVec Ideal S1x32x3360 .f32) (r : Fin 128) (l : Fin 3360) :
    padS p st (ix2 r ⟨l.val, by omega⟩) = prev p st (bOf r) (sOf r) l := by
  have hr : r.val / 4 < 32 := by omega
  by_cases h : r.val % 4 < 1
  · pointwise [padS, prev]
    refine (dif_pos h).trans ((dif_pos hr).trans (Eq.trans ?_ (dif_pos h).symm))
    rfl
  · pointwise [padS, prev]
    refine (dif_neg h).trans (Eq.trans ?_ (dif_neg h).symm)
    refine (padP_at p ⟨r.val / 4 * 4 + (r.val % 4 - 1), by omega⟩ l).trans ?_
    exact congrArg₂ (fun b s => p (ix3 b s l)) (Fin.ext (by simp only; omega)) (Fin.ext (by simp only; omega))

variable (m : (ℓ : Loc nD τ sig) → Buf (Elt Ideal) ℓ) (c : Dev nD)

abbrev argP : FVec Ideal S32x4x3360 .f32 := m ((c : Thread nD τ).loc main_arg0)
abbrev argS : FVec Ideal S1x32x3360 .f32 := m ((c : Thread nD τ).loc main_arg1)
abbrev argMu : FVec Ideal S1x3360 .f32 := m ((c : Thread nD τ).loc main_arg2)
abbrev argW0 : FVec Ideal S1x1024 .f32 := m ((c : Thread nD τ).loc main_arg3)
abbrev argW : FVec Ideal S1x64x1024 .f32 := m ((c : Thread nD τ).loc main_arg4)
abbrev argA0 : FVec Ideal S1x1024 .f32 := m ((c : Thread nD τ).loc main_arg5)
abbrev argA : FVec Ideal S1x64x1024 .f32 := m ((c : Thread nD τ).loc main_arg6)
abbrev argG : FVec Ideal S1x160x1024 .f32 := m ((c : Thread nD τ).loc main_arg7)
abbrev argKk : FVec Ideal S1x1024 .f32 := m ((c : Thread nD τ).loc main_arg8)
abbrev argKa : FVec Ideal S1x1024 .f32 := m ((c : Thread nD τ).loc main_arg9)
abbrev argRk : FVec Ideal S1x16x64 .f32 := m ((c : Thread nD τ).loc main_arg10)

/-- What the host operations leave in the arrays that the windows of the columns read. -/
theorem V_cols : V m c main_v26 = padP (argP m c) ∧ V m c main_v33 = padS (argP m c) (argS m c) ∧ V m c main_v23 = padMu (argMu m c) := by
  refine ⟨?_, ?_, ?_⟩ <;>
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append, StableHlo.TRef.binary, StableHlo.TRef.unary,
      StableHlo.TRef.nullary, StableHlo.TRef.ternary, StableHlo.TRef.toBuf, StableHlo.TRef.ofBuf, cast_eq] <;>
    after_results_simp <;> rfl

/-- What the host operations leave in the arrays that the windows of the weights read. -/
theorem V_weights :
    V m c main_v24 = shapeCast S1x1024 (argRk m c) shapeCasts_S1x16x64_S1x1024
    ∧ V m c main_v11 = truncf .bf16 (diag (argW m c) (argA m c)) bitsLt_bf16_f32
    ∧ V m c main_v14 = truncf .bf16 (padG (argG m c)) bitsLt_bf16_f32 := by
  refine ⟨?_, ?_, ?_⟩ <;>
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append, StableHlo.TRef.binary, StableHlo.TRef.unary,
      StableHlo.TRef.nullary, StableHlo.TRef.ternary, StableHlo.TRef.toBuf, StableHlo.TRef.ofBuf, cast_eq] <;>
    after_results_simp <;> rfl

theorem V_ones : V m c main_v22 = Kernel4Ideal.Hand.ones := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.binary, StableHlo.TRef.unary,
    StableHlo.TRef.nullary, StableHlo.TRef.ternary, StableHlo.TRef.toBuf, StableHlo.TRef.ofBuf, cast_eq]
  after_results_simp
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

variable (t : Fin cfg0.N)

theorem blkP (r : Fin 128) (l : Fin 3360) : (iblk m c 0 t : FVec Ideal S128x3584 .f32) (ix2 r ⟨l.val, by omega⟩) = argP m c (ix3 (bOf r) (sOf r) l) := by
  refine Eq.trans ?_ ((congrFun (V_cols m c).1 (ix2 r ⟨l.val, by omega⟩)).trans (padP_at _ r l))
  blk_ext [iblk, idx0 t]

theorem blkS (r : Fin 128) (l : Fin 3360) : (iblk m c 1 t : FVec Ideal S128x3584 .f32) (ix2 r ⟨l.val, by omega⟩) = prev (argP m c) (argS m c) (bOf r) (sOf r) l := by
  refine Eq.trans ?_ ((congrFun (V_cols m c).2.1 (ix2 r ⟨l.val, by omega⟩)).trans (padS_at _ _ r l))
  blk_ext [iblk, idx1 t]

theorem blkMu (l : Fin 3360) : (iblk m c 2 t : FVec Ideal S1x3584 .f32) (ix2 0 ⟨l.val, by omega⟩) = argMu m c (ix2 0 l) := by
  refine Eq.trans ?_ ((congrFun (V_cols m c).2.2 (ix2 0 ⟨l.val, by omega⟩)).trans (padMu_at _ l))
  blk_ext [iblk, idx2 t]

theorem blkW0 (n : Fin 1024) : (iblk m c 3 t : FVec Ideal S1x1024 .f32) (ix2 0 n) = argW0 m c (ix2 0 n) := by
  blk_ext [iblk, V, idx3 t]

theorem blkA0 (n : Fin 1024) : (iblk m c 4 t : FVec Ideal S1x1024 .f32) (ix2 0 n) = argA0 m c (ix2 0 n) := by
  blk_ext [iblk, V, idx4 t]

theorem blkKk (n : Fin 1024) : (iblk m c 5 t : FVec Ideal S1x1024 .f32) (ix2 0 n) = argKk m c (ix2 0 n) := by
  blk_ext [iblk, V, idx5 t]

theorem blkKa (n : Fin 1024) : (iblk m c 6 t : FVec Ideal S1x1024 .f32) (ix2 0 n) = argKa m c (ix2 0 n) := by
  blk_ext [iblk, V, idx6 t]

theorem blkRk (n : Fin 1024) : (iblk m c 7 t : FVec Ideal S1x1024 .f32) (ix2 0 n) = argRk m c (ix3 0 ⟨n.val / 64, by omega⟩ ⟨n.val % 64, by omega⟩) := by
  have e : shapeCast S1x1024 (argRk m c) shapeCasts_S1x16x64_S1x1024 (ix2 0 n) = argRk m c (ix3 0 ⟨n.val / 64, by omega⟩ ⟨n.val % 64, by omega⟩) := by
    pointwise
  refine Eq.trans ?_ ((congrFun (V_weights m c).1 (ix2 0 n)).trans e)
  blk_ext [iblk, idx7 t]

theorem blkD (e : Fin 128) (l : Fin 2048) : (iblk m c 8 t : FVec Ideal S128x2048 .bf16) (ix2 e l) = diag (argW m c) (argA m c) (ix2 e l) := by
  have he : (win0_8.blk t).view.emb (ix2 e l) = ix2 e l := by blk_ext [idx8 t]
  blk_simp [iblk, idx8]
  refine (congrFun (V_weights m c).2.1 _).trans ?_
  generalize diag (argW m c) (argA m c) = D
  exact congrArg D he

theorem blkG (e : Fin 384) (n : Fin 1024) : (iblk m c 9 t : FVec Ideal S384x1024 .bf16) (ix2 e n) = padG (argG m c) (ix2 e n) := by
  refine Eq.trans ?_ (congrFun (V_weights m c).2.2 (ix2 e n))
  blk_ext [iblk, idx9 t]

theorem blkO (e l : Fin 1024) : (iblk m c 10 t : FVec Ideal S1024x1024 .bf16) (ix2 e l) = (if e.val / 64 = l.val / 64 then 1 else 0 : EReal) := by
  have he : (win0_10.blk t).view.emb (ix2 e l) = ix2 e l := by blk_ext [idx10 t]
  blk_simp [iblk, idx10]
  refine (congrFun (V_ones m c) _).trans ?_
  exact (congrArg Kernel4Ideal.Hand.ones he).trans (Kernel4Ideal.Hand.ones_at e l)

end Cert.Kernel10Ideal.Hand

end
-- ==== Proof.PrepValue.lean ====
/- The recurrence's preparation: the eight result arrays at coordinates. -/
module

public import proofs.«01_k».proof.Proof.PrepBlocks

@[expose] public section

set_option maxRecDepth 16384

noncomputable section

open Idealize.ShloMosaic Idealize.ShloMosaic.TcCoe Idealize.SL.Sem

namespace Cert.Kernel10Ideal.Hand

open Cert.Kernel10Ideal Cert.Kernel10Ideal.Gen Cert.Prep
open Cert.Reference9Ideal.Hand (one)

theorem split128 (f : Fin 128 → EReal) : ∑ e : Fin 128, f e = ∑ e : Fin 64, f ⟨e.val, by omega⟩ + ∑ e : Fin 64, f ⟨64 + e.val, by omega⟩ :=
  Fin.sum_univ_add (a := 64) (b := 64) f

theorem split384 (f : Fin 384 → EReal) : ∑ e : Fin 384, f e = ∑ e : Fin 160, f ⟨e.val, by omega⟩ + ∑ e : Fin 224, f ⟨160 + e.val, by omega⟩ :=
  Fin.sum_univ_add (a := 160) (b := 224) f

theorem pay7_at (x0 x1 : FVec Ideal S128x3584 .f32) (x2 : FVec Ideal S1x3584 .f32) (r : Fin 128) (l : Fin 3584) :
    k0_pay7 (F := Ideal) x0 x1 x2 (ix2 r l) = x0 (ix2 r l) + x2 (ix2 0 l) * (x1 (ix2 r l) - x0 (ix2 r l)) := by
  pointwise [k0_pay7]

theorem lane_lt (e : Fin 128) (x y : EReal) : Scalar.select (IntOp.cmpi CmpIPredicate.slt (BitVec.ofNat 32 e.val) 64#32) x y = if e.val < 64 then x else y := by
  rw [show (64#32 : BitVec 32) = BitVec.ofNat 32 64 from rfl, WordCmp.cmpi_slt_ofNat (by omega) (by omega), WordCmp.select_decide]

theorem pay11_sum (x0 x1 : FVec Ideal S128x3584 .f32) (x2 : FVec Ideal S1x3584 .f32) (D : FVec Ideal S128x2048 .bf16) (r : Fin 128) (l : Fin 2048) :
    k0_pay11 (F := Ideal) x0 x1 x2 D (ix2 r l)
      = ∑ e : Fin 128, (Scalar.select (IntOp.cmpi CmpIPredicate.slt (BitVec.ofNat 32 e.val) 64#32) (Ideal.tanh (k0_pay7 (F := Ideal) x0 x1 x2 (ix2 r ⟨3072 + e.val, by omega⟩))) (k0_pay7 (F := Ideal) x0 x1 x2 (ix2 r ⟨3072 + e.val, by omega⟩)) : EReal) * D (ix2 e l) := by
  pointwise [k0_pay11]

theorem pay12_at (x0 x1 : FVec Ideal S128x3584 .f32) (x2 : FVec Ideal S1x3584 .f32) (D : FVec Ideal S128x2048 .bf16) (r : Fin 128) (n : Fin 1024) :
    k0_pay12 (F := Ideal) x0 x1 x2 D (ix2 r n) = k0_pay11 x0 x1 x2 D (ix2 r ⟨n.val, by omega⟩) := by
  pointwise [k0_pay12]

theorem pay13_at (w : FVec Ideal S1x1024 .f32) (r : Fin 128) (n : Fin 1024) : k0_pay13 (F := Ideal) w (ix2 r n) = w (ix2 0 n) := by
  pointwise [k0_pay13]

theorem pay14_at (u v : FVec Ideal S128x1024 .f32) (r : Fin 128) (n : Fin 1024) :
    k0_pay14 (F := Ideal) u v (ix2 r n) = -(Ideal.exp (-(softplus (-(v (ix2 r n) + u (ix2 r n)))) - Ideal.ofBits FTy.f32 0x3F000000#32)) := by
  pointwise [k0_pay14, softplus, one, zero_sub]
  rfl

theorem pay15_at (a0 : FVec Ideal S1x1024 .f32) (u : FVec Ideal S128x2048 .f32) (r : Fin 128) (n : Fin 1024) :
    k0_pay15 (F := Ideal) a0 u (ix2 r n) = Ideal.logistic (a0 (ix2 0 n) + u (ix2 r ⟨1024 + n.val, by omega⟩)) := by
  pointwise [k0_pay15]

theorem pay16_sum (G : FVec Ideal S384x1024 .bf16) (x : FVec Ideal S128x3584 .f32) (r : Fin 128) (n : Fin 1024) :
    k0_pay16 (F := Ideal) (k0_pay5 G) x (ix2 r n) = ∑ e : Fin 384, Ideal.logistic (x (ix2 r ⟨3200 + e.val, by omega⟩)) * G (ix2 e n) := by
  pointwise [k0_pay16, k0_pay5]

theorem pay17_at (kk : FVec Ideal S1x1024 .f32) (O : FVec Ideal S1024x1024 .bf16) (x : FVec Ideal S128x1024 .f32)
    (hO : ∀ e l, O (ix2 e l) = (if e.val / 64 = l.val / 64 then 1 else 0 : EReal)) (r : Fin 128) (n : Fin 1024) :
    k0_pay17 (F := Ideal) kk (k0_pay6 O) x (ix2 r n)
      = Ideal.div (x (ix2 r n) * kk (ix2 0 n)) (max (Ideal.sqrt (headSum (fun e => (x (ix2 r e) * kk (ix2 0 e)) * (x (ix2 r e) * kk (ix2 0 e))) n)) (Ideal.ofBits FTy.f32 0x2B8CBCCC#32)) := by
  unfold headSum
  rw [← Kernel4Ideal.Hand.sum_of_ones (fun e => (x (ix2 r e) * kk (ix2 0 e)) * (x (ix2 r e) * kk (ix2 0 e)))]
  pointwise [k0_pay17, k0_pay6, hO]

theorem pay18_at (a0 ka : FVec Ideal S1x1024 .f32) (x : FVec Ideal S128x1024 .f32) (u : FVec Ideal S128x2048 .f32) (r : Fin 128) (n : Fin 1024) :
    k0_pay18 (F := Ideal) a0 ka x u (ix2 r n) = x (ix2 r n) * (1 + (k0_pay15 (F := Ideal) a0 u (ix2 r n) - 1) * ka (ix2 0 n)) := by
  pointwise [k0_pay18, one]

theorem pay19_at (a0 ka rk : FVec Ideal S1x1024 .f32) (y x : FVec Ideal S128x1024 .f32) (u : FVec Ideal S128x2048 .f32) (r : Fin 128) (n : Fin 1024) :
    k0_pay19 (F := Ideal) a0 ka (k0_pay4 rk) y x u (ix2 r n) = y (ix2 r n) * k0_pay18 (F := Ideal) a0 ka x u (ix2 r n) * rk (ix2 0 n) := by
  pointwise [k0_pay19, k0_pay4]

theorem pay1_at (O : FVec Ideal S1024x1024 .bf16) (v : FVec Ideal S128x1024 .f32) (f : FVec Ideal S128x1024 .bf16)
    (hO : ∀ e l, O (ix2 e l) = (if e.val / 64 = l.val / 64 then 1 else 0 : EReal)) (r : Fin 128) (n : Fin 1024) :
    k0_pay1 (F := Ideal) (k0_pay6 O) v f (ix2 r n) = headSum (fun e => f (ix2 r e)) n * v (ix2 r n) := by
  unfold headSum
  rw [← Kernel4Ideal.Hand.sum_of_ones (fun e => f (ix2 r e))]
  pointwise [k0_pay1, k0_pay6, hO]

theorem pay2_at (u : FVec Ideal S128x1024 .f32) (r : Fin 128) (n : Fin 1024) : k0_pay2 (F := Ideal) u (ix2 r n) = -u (ix2 r n) := by
  pointwise [k0_pay2, zero_sub]

theorem pay3_at (u v : FVec Ideal S128x1024 .f32) (r : Fin 128) (n : Fin 1024) : k0_pay3 (F := Ideal) u v (ix2 r n) = v (ix2 r n) * u (ix2 r n) := by
  pointwise [k0_pay3]

section
variable (x0 x1 : FVec Ideal S128x3584 .f32) (x2 : FVec Ideal S1x3584 .f32) (r : Fin 128)

/-- Row `r` of the moved columns, without the padding. -/
def cols (l : Fin 3360) : EReal := k0_pay7 (F := Ideal) x0 x1 x2 (ix2 r ⟨l.val, by omega⟩)

variable (n : Fin 1024)

theorem slices_at :
    k0_pay8 (F := Ideal) x0 x1 x2 (ix2 r n) = cols x0 x1 x2 r ⟨n.val, by omega⟩
    ∧ k0_pay9 (F := Ideal) x0 x1 x2 (ix2 r n) = cols x0 x1 x2 r ⟨1024 + n.val, by omega⟩
    ∧ k0_pay10 (F := Ideal) x0 x1 x2 (ix2 r n) = cols x0 x1 x2 r ⟨2048 + n.val, by omega⟩ := by
  refine ⟨?_, ?_, ?_⟩
  · pointwise [k0_pay8, cols]
  · pointwise [k0_pay9, cols]
  · pointwise [k0_pay10, cols]

variable (w a : FVec Ideal S1x64x1024 .f32) (D : FVec Ideal S128x2048 .bf16) (hD : ∀ e l, D (ix2 e l) = diag w a (ix2 e l))

include hD in
theorem pay11_w : k0_pay11 (F := Ideal) x0 x1 x2 D (ix2 r ⟨n.val, by omega⟩) = ∑ e : Fin 64, Ideal.tanh (cols x0 x1 x2 r ⟨3072 + e.val, by omega⟩) * w (ix3 0 e n) := by
  rw [pay11_sum, split128]
  refine (congrArg₂ (· + ·) (Finset.sum_congr rfl fun e _ => ?_) (Finset.sum_eq_zero fun e _ => ?_)).trans (add_zero _)
  · rw [lane_lt, if_pos (show e.val < 64 from e.isLt), hD]
    exact congrArg _ (diag_w w a e n)
  · rw [hD]
    exact (congrArg _ (diag_aw w a e n)).trans (mul_zero _)

include hD in
theorem pay11_a : k0_pay11 (F := Ideal) x0 x1 x2 D (ix2 r ⟨1024 + n.val, by omega⟩) = ∑ e : Fin 64, cols x0 x1 x2 r ⟨3136 + e.val, by omega⟩ * a (ix3 0 e n) := by
  rw [pay11_sum, split128]
  refine (congrArg₂ (· + ·) (Finset.sum_eq_zero fun e _ => ?_) (Finset.sum_congr rfl fun e _ => ?_)).trans (zero_add _)
  · rw [hD]
    exact (congrArg _ (diag_wa w a e n)).trans (mul_zero _)
  · rw [lane_lt, if_neg (show ¬64 + e.val < 64 by omega), hD]
    exact congrArg₂ (fun i y => k0_pay7 (F := Ideal) x0 x1 x2 (ix2 r i) * y) (Fin.ext (by simp only; omega)) (diag_a w a e n)

include hD in
theorem decay_at (w0 : FVec Ideal S1x1024 .f32) : k0_pay14 (F := Ideal) (k0_pay12 x0 x1 x2 D) (k0_pay13 w0) (ix2 r n) = decay (cols x0 x1 x2 r) w0 w n := by
  rw [pay14_at, pay12_at, pay13_at, pay11_w x0 x1 x2 r n w a D hD, decay]

include hD in
theorem rate_at (a0 : FVec Ideal S1x1024 .f32) : k0_pay15 (F := Ideal) a0 (k0_pay11 x0 x1 x2 D) (ix2 r n) = rate (cols x0 x1 x2 r) a0 a n := by
  rw [pay15_at, pay11_a x0 x1 x2 r n w a D hD, rate]

theorem gate_at (g : FVec Ideal S1x160x1024 .f32) (G : FVec Ideal S384x1024 .bf16) (hG : ∀ e l, G (ix2 e l) = padG g (ix2 e l)) :
    k0_pay16 (F := Ideal) (k0_pay5 G) (k0_pay7 x0 x1 x2) (ix2 r n) = gate (cols x0 x1 x2 r) g n := by
  rw [pay16_sum, split384]
  refine (congrArg₂ (· + ·) (Finset.sum_congr rfl fun e _ => ?_) (Finset.sum_eq_zero fun e _ => ?_)).trans (add_zero _)
  · rw [hG]
    exact congrArg _ ((padG_at g n).1 e)
  · rw [hG]
    exact (congrArg _ ((padG_at g n).2 e)).trans (mul_zero _)

include hD in
theorem key_at (a0 ka : FVec Ideal S1x1024 .f32) :
    k0_pay18 (F := Ideal) a0 ka (k0_pay9 x0 x1 x2) (k0_pay11 x0 x1 x2 D) (ix2 r n) = key (cols x0 x1 x2 r) ka a0 a n := by
  rw [pay18_at, (slices_at x0 x1 x2 r n).2.1, rate_at x0 x1 x2 r n w a D hD, key]

theorem unit_at (kk : FVec Ideal S1x1024 .f32) (O : FVec Ideal S1024x1024 .bf16) (hO : ∀ e l, O (ix2 e l) = (if e.val / 64 = l.val / 64 then 1 else 0 : EReal)) :
    k0_pay17 (F := Ideal) kk (k0_pay6 O) (k0_pay9 x0 x1 x2) (ix2 r n) = unit (cols x0 x1 x2 r) kk n := by
  rw [pay17_at kk O _ hO]
  simp only [(slices_at x0 x1 x2 r _).2.1]
  rfl

include hD in
theorem bonus_at (a0 ka rk : FVec Ideal S1x1024 .f32) (q : FVec Ideal S1x16x64 .f32) (O : FVec Ideal S1024x1024 .bf16)
    (hO : ∀ e l, O (ix2 e l) = (if e.val / 64 = l.val / 64 then 1 else 0 : EReal))
    (hq : ∀ e : Fin 1024, rk (ix2 0 e) = q (ix3 0 ⟨e.val / 64, by omega⟩ ⟨e.val % 64, by omega⟩)) :
    k0_pay1 (F := Ideal) (k0_pay6 O) (k0_pay10 x0 x1 x2) (k0_pay19 a0 ka (k0_pay4 rk) (k0_pay8 x0 x1 x2) (k0_pay9 x0 x1 x2) (k0_pay11 x0 x1 x2 D)) (ix2 r n)
      = bonus (cols x0 x1 x2 r) ka a0 a q n := by
  rw [pay1_at O _ _ hO, (slices_at x0 x1 x2 r n).2.2]
  simp only [pay19_at, (slices_at x0 x1 x2 r _).1, key_at x0 x1 x2 r _ w a D hD, hq]
  rfl

end

variable (m : (ℓ : Loc nD τ sig) → Buf (Elt Ideal) ℓ) (c : Dev nD)

/-- The moved columns of row `r`. -/
abbrev X (r : Fin 128) : Fin 3360 → EReal := shifted (argP m c) (argS m c) (argMu m c) (bOf r) (sOf r)

theorem lanes_ext (u v : FVec Ideal S1x1024 .f32) (h : ∀ n, u (ix2 0 n) = v (ix2 0 n)) : u = v := by
  funext y
  idx_vars y
  obtain rfl : y0 = 0 := Subsingleton.elim _ _
  exact h y1

theorem ld0 (x : Vec Ideal S128x3584 .f32) : View.ld x r0_0 = x := View.ld_unit_lit _ x (by decide)
theorem ld1 (x : Vec Ideal S1x3584 .f32) : View.ld x r0_1 = x := View.ld_unit_lit _ x (by decide)
theorem ld2 (x : Vec Ideal S1x1024 .f32) : View.ld x r0_2 = x := View.ld_unit_lit _ x (by decide)
theorem ld3 (x : Vec Ideal S128x2048 .bf16) : View.ld x r0_3 = x := View.ld_unit_lit _ x (by decide)
theorem ld5 (x : Vec Ideal S1024x1024 .bf16) : View.ld x r0_5 = x := View.ld_unit_lit _ x (by decide)

section
variable (t : Fin cfg0.N)

theorem cols_blk (r : Fin 128) : cols (iblk m c 0 t) (iblk m c 1 t) (iblk m c 2 t) r = X m c r := by
  funext l
  rw [cols, pay7_at, blkP, blkS, blkMu, X, shifted]

theorem rowW0 : (iblk m c 3 t : FVec Ideal S1x1024 .f32) = argW0 m c := lanes_ext _ _ (blkW0 m c t)
theorem rowA0 : (iblk m c 4 t : FVec Ideal S1x1024 .f32) = argA0 m c := lanes_ext _ _ (blkA0 m c t)
theorem rowKk : (iblk m c 5 t : FVec Ideal S1x1024 .f32) = argKk m c := lanes_ext _ _ (blkKk m c t)
theorem rowKa : (iblk m c 6 t : FVec Ideal S1x1024 .f32) = argKa m c := lanes_ext _ _ (blkKa m c t)

end

/-- The receptance columns. -/
def resR : FVec Ideal S128x1024 .f32 := fun y => X m c (y 0) ⟨(y 1).val, by have h : (y 1).val < 1024 := (y 1).isLt; omega⟩

/-- The logarithms of the decay. -/
def resD : FVec Ideal S128x1024 .f32 := fun y => decay (X m c (y 0)) (argW0 m c) (argW m c) (y 1)

/-- The keys. -/
def resK : FVec Ideal S128x1024 .f32 := fun y => key (X m c (y 0)) (argKa m c) (argA0 m c) (argA m c) (y 1)

/-- The value columns. -/
def resV : FVec Ideal S128x1024 .f32 := fun y => X m c (y 0) ⟨2048 + (y 1).val, by have h : (y 1).val < 1024 := (y 1).isLt; omega⟩

/-- The keys' directions, negated. -/
def resU : FVec Ideal S128x1024 .f32 := fun y => -unit (X m c (y 0)) (argKk m c) (y 1)

/-- The keys' directions times the rates. -/
def resA : FVec Ideal S128x1024 .f32 := fun y => unit (X m c (y 0)) (argKk m c) (y 1) * rate (X m c (y 0)) (argA0 m c) (argA m c) (y 1)

/-- The gates. -/
def resG : FVec Ideal S128x1024 .f32 := fun y => gate (X m c (y 0)) (argG m c) (y 1)

/-- The bonuses. -/
def resB : FVec Ideal S128x1024 .f32 := fun y => bonus (X m c (y 0)) (argKa m c) (argA0 m c) (argA m c) (argRk m c) (y 1)

theorem idx11 : ∀ t : Fin cfg0.N, win0_11.index t = ![0, 0] := (by decide +kernel : ∀ t : Fin grid0.N, _)

theorem block11 (t : Fin cfg0.N) (r : Fin 128) (n : Fin 1024) :
    (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S128x1024 .f32) (ix2 r n) = X m c r ⟨n.val, by omega⟩ := by
  frame_out
  simp only [k0_pay20, k0_pay21, k0_pay22, k0_pay23, k0_pay24, k0_pay25, ld0, ld1, ld2, ld3, ld5]
  refine (slices_at _ _ _ r n).1.trans ?_
  rw [cols_blk]

theorem final11 : (dats m 0 c).arrAt 11 cfg0.N = resR m c := by
  refine (dats m 0 c).arrAt_eq_of_covers 11 _ (by decide +kernel) fun t _ y => ?_
  rw [after0_11]
  idx_vars y
  have hi : ((win0_11.blk t).view.emb (ix2 y0 y1) : S128x1024.Idx) = ix2 y0 y1 := by
    blk_ext [idx11 t]
  have hb := (block11 m c t y0 y1).trans (congrArg (resR m c) hi).symm
  generalize out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize resR m c = R at hb ⊢
  exact hb

theorem idx12 : ∀ t : Fin cfg0.N, win0_12.index t = ![0, 0] := (by decide +kernel : ∀ t : Fin grid0.N, _)

theorem block12 (t : Fin cfg0.N) (r : Fin 128) (n : Fin 1024) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S128x1024 .f32) (ix2 r n) = decay (X m c r) (argW0 m c) (argW m c) n := by
  frame_out
  refine (decay_at _ _ _ r n _ _ _ (blkD m c t) _).trans ?_
  rw [cols_blk, rowW0]

theorem final12 : (dats m 0 c).arrAt 12 cfg0.N = resD m c := by
  refine (dats m 0 c).arrAt_eq_of_covers 12 _ (by decide +kernel) fun t _ y => ?_
  rw [after0_12]
  idx_vars y
  have hi : ((win0_12.blk t).view.emb (ix2 y0 y1) : S128x1024.Idx) = ix2 y0 y1 := by
    blk_ext [idx12 t]
  have hb := (block12 m c t y0 y1).trans (congrArg (resD m c) hi).symm
  generalize out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize resD m c = R at hb ⊢
  exact hb

theorem idx13 : ∀ t : Fin cfg0.N, win0_13.index t = ![0, 0] := (by decide +kernel : ∀ t : Fin grid0.N, _)

theorem block13 (t : Fin cfg0.N) (r : Fin 128) (n : Fin 1024) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S128x1024 .f32) (ix2 r n) = key (X m c r) (argKa m c) (argA0 m c) (argA m c) n := by
  frame_out
  simp only [k0_pay20, k0_pay21, k0_pay22, k0_pay23, k0_pay24, k0_pay25, ld0, ld1, ld2, ld3, ld5]
  refine (key_at _ _ _ r n _ _ _ (blkD m c t) _ _).trans ?_
  rw [cols_blk, rowA0, rowKa]

theorem final13 : (dats m 0 c).arrAt 13 cfg0.N = resK m c := by
  refine (dats m 0 c).arrAt_eq_of_covers 13 _ (by decide +kernel) fun t _ y => ?_
  rw [after0_13]
  idx_vars y
  have hi : ((win0_13.blk t).view.emb (ix2 y0 y1) : S128x1024.Idx) = ix2 y0 y1 := by
    blk_ext [idx13 t]
  have hb := (block13 m c t y0 y1).trans (congrArg (resK m c) hi).symm
  generalize out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize resK m c = R at hb ⊢
  exact hb

theorem idx14 : ∀ t : Fin cfg0.N, win0_14.index t = ![0, 0] := (by decide +kernel : ∀ t : Fin grid0.N, _)

theorem block14 (t : Fin cfg0.N) (r : Fin 128) (n : Fin 1024) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S128x1024 .f32) (ix2 r n) = X m c r ⟨2048 + n.val, by omega⟩ := by
  frame_out
  simp only [k0_pay20, k0_pay21, k0_pay22, k0_pay23, k0_pay24, k0_pay25, ld0, ld1, ld2, ld3, ld5]
  refine (slices_at _ _ _ r n).2.2.trans ?_
  rw [cols_blk]

theorem final14 : (dats m 0 c).arrAt 14 cfg0.N = resV m c := by
  refine (dats m 0 c).arrAt_eq_of_covers 14 _ (by decide +kernel) fun t _ y => ?_
  rw [after0_14]
  idx_vars y
  have hi : ((win0_14.blk t).view.emb (ix2 y0 y1) : S128x1024.Idx) = ix2 y0 y1 := by
    blk_ext [idx14 t]
  have hb := (block14 m c t y0 y1).trans (congrArg (resV m c) hi).symm
  generalize out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize resV m c = R at hb ⊢
  exact hb

theorem idx15 : ∀ t : Fin cfg0.N, win0_15.index t = ![0, 0] := (by decide +kernel : ∀ t : Fin grid0.N, _)

theorem block15 (t : Fin cfg0.N) (r : Fin 128) (n : Fin 1024) :
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S128x1024 .f32) (ix2 r n) = -unit (X m c r) (argKk m c) n := by
  frame_out
  simp only [k0_pay20, k0_pay21, k0_pay22, k0_pay23, k0_pay24, k0_pay25, ld0, ld1, ld2, ld3, ld5]
  refine (pay2_at _ r n).trans ?_
  rw [unit_at _ _ _ r n _ _ (blkO m c t), cols_blk, rowKk]

theorem final15 : (dats m 0 c).arrAt 15 cfg0.N = resU m c := by
  refine (dats m 0 c).arrAt_eq_of_covers 15 _ (by decide +kernel) fun t _ y => ?_
  rw [after0_15]
  idx_vars y
  have hi : ((win0_15.blk t).view.emb (ix2 y0 y1) : S128x1024.Idx) = ix2 y0 y1 := by
    blk_ext [idx15 t]
  have hb := (block15 m c t y0 y1).trans (congrArg (resU m c) hi).symm
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize resU m c = R at hb ⊢
  exact hb

theorem idx16 : ∀ t : Fin cfg0.N, win0_16.index t = ![0, 0] := (by decide +kernel : ∀ t : Fin grid0.N, _)

theorem block16 (t : Fin cfg0.N) (r : Fin 128) (n : Fin 1024) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S128x1024 .f32) (ix2 r n) = unit (X m c r) (argKk m c) n * rate (X m c r) (argA0 m c) (argA m c) n := by
  frame_out
  simp only [k0_pay20, k0_pay21, k0_pay22, k0_pay23, k0_pay24, k0_pay25, ld0, ld1, ld2, ld3, ld5]
  refine (pay3_at _ _ r n).trans ?_
  rw [unit_at _ _ _ r n _ _ (blkO m c t), rate_at _ _ _ r n _ _ _ (blkD m c t), cols_blk, rowKk, rowA0]

theorem final16 : (dats m 0 c).arrAt 16 cfg0.N = resA m c := by
  refine (dats m 0 c).arrAt_eq_of_covers 16 _ (by decide +kernel) fun t _ y => ?_
  rw [after0_16]
  idx_vars y
  have hi : ((win0_16.blk t).view.emb (ix2 y0 y1) : S128x1024.Idx) = ix2 y0 y1 := by
    blk_ext [idx16 t]
  have hb := (block16 m c t y0 y1).trans (congrArg (resA m c) hi).symm
  generalize out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize resA m c = R at hb ⊢
  exact hb

theorem idx17 : ∀ t : Fin cfg0.N, win0_17.index t = ![0, 0] := (by decide +kernel : ∀ t : Fin grid0.N, _)

theorem block17 (t : Fin cfg0.N) (r : Fin 128) (n : Fin 1024) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S128x1024 .f32) (ix2 r n) = gate (X m c r) (argG m c) n := by
  frame_out
  refine (gate_at _ _ _ r n _ _ (blkG m c t)).trans ?_
  rw [cols_blk]

theorem final17 : (dats m 0 c).arrAt 17 cfg0.N = resG m c := by
  refine (dats m 0 c).arrAt_eq_of_covers 17 _ (by decide +kernel) fun t _ y => ?_
  rw [after0_17]
  idx_vars y
  have hi : ((win0_17.blk t).view.emb (ix2 y0 y1) : S128x1024.Idx) = ix2 y0 y1 := by
    blk_ext [idx17 t]
  have hb := (block17 m c t y0 y1).trans (congrArg (resG m c) hi).symm
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize resG m c = R at hb ⊢
  exact hb

theorem idx18 : ∀ t : Fin cfg0.N, win0_18.index t = ![0, 0] := (by decide +kernel : ∀ t : Fin grid0.N, _)

theorem block18 (t : Fin cfg0.N) (r : Fin 128) (n : Fin 1024) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S128x1024 .f32) (ix2 r n) = bonus (X m c r) (argKa m c) (argA0 m c) (argA m c) (argRk m c) n := by
  frame_out
  simp only [k0_pay20, k0_pay21, k0_pay22, k0_pay23, k0_pay24, k0_pay25, ld0, ld1, ld2, ld3, ld5]
  refine (bonus_at _ _ _ r n _ _ _ (blkD m c t) _ _ _ _ _ (blkO m c t) (blkRk m c t)).trans ?_
  rw [cols_blk, rowA0, rowKa]

theorem final18 : (dats m 0 c).arrAt 18 cfg0.N = resB m c := by
  refine (dats m 0 c).arrAt_eq_of_covers 18 _ (by decide +kernel) fun t _ y => ?_
  rw [after0_18]
  idx_vars y
  have hi : ((win0_18.blk t).view.emb (ix2 y0 y1) : S128x1024.Idx) = ix2 y0 y1 := by
    blk_ext [idx18 t]
  have hb := (block18 m c t y0 y1).trans (congrArg (resB m c) hi).symm
  generalize out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) = B at hb ⊢
  generalize resB m c = R at hb ⊢
  exact hb

end Cert.Kernel10Ideal.Hand

end
-- ==== Proof.PrepClaim.lean ====
/- The recurrence's preparation: the tiled call and its reference end with equal results. -/
module

public import proofs.«01_k».proof.Defs
public import proofs.«01_k».proof.Proof.PrepValue
public import Idealize.ShloMosaic.Lib.Claim

@[expose] public section

set_option maxRecDepth 16384

noncomputable section

open Idealize.ShloMosaic Idealize.ShloMosaic.TcCoe Idealize.SL.Sem

namespace Cert.Reference10Ideal.Hand

open Cert.Reference10Ideal Cert.Reference10Ideal.Gen Cert.Prep

variable (p : FVec Ideal S32x4x3360 .f32) (st : FVec Ideal S1x32x3360 .f32) (mu : FVec Ideal S1x3360 .f32) (kk a0 : FVec Ideal S1x1024 .f32) (a : FVec Ideal S1x64x1024 .f32)
  (r : Fin 128) (n : Fin 1024)

theorem row_eq : (fun l => refPm p st mu (ix3 (bOf r) (sOf r) l)) = shifted p st mu (bOf r) (sOf r) := funext fun l => refPm_at p st mu (bOf r) (sOf r) l

theorem neg_unit_at (x : FVec Ideal S32x4x3360 .f32) :
    shapeCast S128x1024 (Host.negf (refUnit (mulf (refKr x) (refHeads kk)))) shapeCasts_S32x4x16x64_S128x1024 (ix2 r n) = -unit (fun l => x (ix3 (bOf r) (sOf r) l)) kk n := by
  rw [flat_at, ← unit_at]
  generalize refUnit (mulf (refKr x) (refHeads kk)) = u
  pointwise

theorem unit_rate_at (x : FVec Ideal S32x4x3360 .f32) :
    shapeCast S128x1024 (mulf (refUnit (mulf (refKr x) (refHeads kk))) (refRate x a0 a)) shapeCasts_S32x4x16x64_S128x1024 (ix2 r n)
      = unit (fun l => x (ix3 (bOf r) (sOf r) l)) kk n * rate (fun l => x (ix3 (bOf r) (sOf r) l)) a0 a n := by
  rw [flat_at]
  show refUnit (mulf (refKr x) (refHeads kk)) _ * refRate x a0 a _ = _
  rw [unit_at, refRate_at, lane_self]

theorem key_at (x : FVec Ideal S32x4x3360 .f32) (ka : FVec Ideal S1x1024 .f32) :
    shapeCast S128x1024 (refKey (refKr x) (refRate x a0 a) ka) shapeCasts_S32x4x16x64_S128x1024 (ix2 r n) = key (fun l => x (ix3 (bOf r) (sOf r) l)) ka a0 a n := by
  rw [flat_at, key_at', lane_self]

section
variable (m : (ℓ : Loc nD τ sig) → Buf (Elt Ideal) ℓ) (c : Dev nD)

/-- The results of a run of the reference, by the lines above. -/
theorem run_decay : (Value.res_main_v89 m c : FVec Ideal S128x1024 .f32) (ix2 r n) = decay (shifted (m ((c.tc : Thread nD τ).loc main_arg0)) (m ((c.tc : Thread nD τ).loc main_arg1)) (m ((c.tc : Thread nD τ).loc main_arg2)) (bOf r) (sOf r)) (m ((c.tc : Thread nD τ).loc main_arg3)) (m ((c.tc : Thread nD τ).loc main_arg4)) n :=
  (decay_at (refPm (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) r n).trans (congrArg (fun x => decay x _ _ n) (row_eq _ _ _ r))

theorem run_unit_rate : (Value.res_main_v93 m c : FVec Ideal S128x1024 .f32) (ix2 r n) = unit (shifted (m ((c.tc : Thread nD τ).loc main_arg0)) (m ((c.tc : Thread nD τ).loc main_arg1)) (m ((c.tc : Thread nD τ).loc main_arg2)) (bOf r) (sOf r)) (m ((c.tc : Thread nD τ).loc main_arg8)) n * rate (shifted (m ((c.tc : Thread nD τ).loc main_arg0)) (m ((c.tc : Thread nD τ).loc main_arg1)) (m ((c.tc : Thread nD τ).loc main_arg2)) (bOf r) (sOf r)) (m ((c.tc : Thread nD τ).loc main_arg5)) (m ((c.tc : Thread nD τ).loc main_arg6)) n :=
  (unit_rate_at (m ((c.tc : Thread nD τ).loc main_arg8)) (m ((c.tc : Thread nD τ).loc main_arg5)) (m ((c.tc : Thread nD τ).loc main_arg6)) r n (refPm (m ((c.tc : Thread nD τ).loc main_arg0)) (m ((c.tc : Thread nD τ).loc main_arg1)) (m ((c.tc : Thread nD τ).loc main_arg2)))).trans (congrArg (fun x => unit x _ n * rate x _ _ n) (row_eq _ _ _ r))

theorem run_bonus : (Value.res_main_v95 m c : FVec Ideal S128x1024 .f32) (ix2 r n) = bonus (shifted (m ((c.tc : Thread nD τ).loc main_arg0)) (m ((c.tc : Thread nD τ).loc main_arg1)) (m ((c.tc : Thread nD τ).loc main_arg2)) (bOf r) (sOf r)) (m ((c.tc : Thread nD τ).loc main_arg9)) (m ((c.tc : Thread nD τ).loc main_arg5)) (m ((c.tc : Thread nD τ).loc main_arg6)) (m ((c.tc : Thread nD τ).loc main_arg10)) n :=
  (bonus_at (refPm (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg9)) (m ((c.tc : Thread nD τ).loc main_arg6)) r n (m ((c.tc : Thread nD τ).loc main_arg10))).trans (congrArg (fun x => bonus x _ _ _ _ n) (row_eq _ _ _ r))

end

end Cert.Reference10Ideal.Hand

namespace Cert.Proof

open Cert.Reference10Ideal.Hand

theorem prep_equal : Cert.algebraic_Kernel10Ideal_Reference10Ideal (hKernel10Ideal := Cert.Kernel10Ideal.Gen.facts) (hReference10Ideal := Cert.Reference10Ideal.Gen.facts) := by
  intro m g m' g' _ hagree
  refine ⟨Cert.Kernel10Ideal.Hand.resR m, Cert.Kernel10Ideal.Hand.resD m, Cert.Kernel10Ideal.Hand.resK m, Cert.Kernel10Ideal.Hand.resV m, Cert.Kernel10Ideal.Hand.resU m,
    Cert.Kernel10Ideal.Hand.resA m, Cert.Kernel10Ideal.Hand.resG m, Cert.Kernel10Ideal.Hand.resB m, ?_, ?_⟩
  · refine θ_run_mono (Cert.Kernel10Ideal.Value.run_blocks m g) fun r h c => ?_
    obtain ⟨q0, q1, q2, q3, q4, q5, q6, q7, q⟩ := h c
    exact ⟨q0.trans (Cert.Kernel10Ideal.Hand.final11 m c), q1.trans (Cert.Kernel10Ideal.Hand.final12 m c), q2.trans (Cert.Kernel10Ideal.Hand.final13 m c),
      q3.trans (Cert.Kernel10Ideal.Hand.final14 m c), q4.trans (Cert.Kernel10Ideal.Hand.final15 m c), q5.trans (Cert.Kernel10Ideal.Hand.final16 m c),
      q6.trans (Cert.Kernel10Ideal.Hand.final17 m c), q7.trans (Cert.Kernel10Ideal.Hand.final18 m c), q⟩
  · refine θ_run_mono (Cert.Reference10Ideal.Value.run m' g') fun r h c => ?_
    obtain ⟨q0, q1, q2, q3, q4, q5, q6, q7, q⟩ := h c
    obtain ⟨h0, h1, h2, h3, h4, h5, h6, h7, h8, h9, h10⟩ := hagree c
    have hx := row_eq (Cert.Kernel10Ideal.Hand.argP m c) (Cert.Kernel10Ideal.Hand.argS m c) (Cert.Kernel10Ideal.Hand.argMu m c)
    have hx' := fun b s l => refPm_at (Cert.Kernel10Ideal.Hand.argP m c) (Cert.Kernel10Ideal.Hand.argS m c) (Cert.Kernel10Ideal.Hand.argMu m c) b s l
    refine ⟨q0.trans ?_, q1.trans ?_, q2.trans ?_, q3.trans ?_, q4.trans ?_, q5.trans ?_, q6.trans ?_, q7.trans ?_, q⟩
    · rw [h0, h1, h2]
      funext y
      idx_vars y
      exact (cols_at (refPm _ _ _) y0 y1).1.trans (hx' _ _ _)
    · funext y
      idx_vars y
      refine (run_decay y0 y1 m' c).trans ?_
      rw [h0, h1, h2, h3, h4]
      rfl
    · rw [h0, h1, h2, h5, h6, h9]
      funext y
      idx_vars y
      exact (key_at _ _ y0 y1 (refPm _ _ _) _).trans (congrArg (fun x => Cert.Prep.key x _ _ _ y1) (hx y0))
    · rw [h0, h1, h2]
      funext y
      idx_vars y
      exact (cols_at (refPm _ _ _) y0 y1).2.trans (hx' _ _ _)
    · rw [h0, h1, h2, h8]
      funext y
      idx_vars y
      exact (neg_unit_at _ y0 y1 (refPm _ _ _)).trans (congrArg (fun x => -Cert.Prep.unit x _ y1) (hx y0))
    · funext y
      idx_vars y
      refine (run_unit_rate y0 y1 m' c).trans ?_
      rw [h0, h1, h2, h5, h6, h8]
      rfl
    · rw [h0, h1, h2, h7]
      funext y
      idx_vars y
      exact (gate_at (refPm _ _ _) y0 y1 _).trans (congrArg (fun x => Cert.Prep.gate x _ y1) (hx y0))
    · funext y
      idx_vars y
      refine (run_bonus y0 y1 m' c).trans ?_
      rw [h0, h1, h2, h5, h6, h9, h10]
      rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.FfnClaim
public import proofs.«01_k».proof.Proof.WkvClaim
public import proofs.«01_k».proof.Proof.InprojFrame
public import proofs.«01_k».proof.Proof.InprojClaim
public import proofs.«01_k».proof.Proof.OutprojClaim
public import proofs.«01_k».proof.Proof.SampleFfnClaim
public import proofs.«01_k».proof.Proof.SampleInprojFrame
public import proofs.«01_k».proof.Proof.SampleInprojClaim
public import proofs.«01_k».proof.Proof.SampleOutprojClaim
public import proofs.«01_k».proof.Proof.SampleWkvClaim
public import proofs.«01_k».proof.Proof.Modulation
public import proofs.«01_k».proof.Proof.PrepClaim
public import Idealize.ShloMosaic.Adequacy
public import Idealize.ShloMosaic.Init
public import Idealize.ShloMosaic.Lib.Claim

@[expose] public section

noncomputable section

namespace Cert.Proof

open Idealize.ShloMosaic Idealize.SL.Sem Cert.Kernel

theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, ⟨by decide⟩, ⟨by decide, by decide⟩, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial, @wkv_equal ⟨by decide⟩, trivial, mlp_equal, trivial, inproj_equal, trivial, outproj_equal, trivial, sample_mlp_equal, trivial, sample_inproj_equal, trivial, sample_outproj_equal, trivial, @sample_wkv_equal ⟨by decide, by decide⟩, trivial, mod_equal, trivial, prep_equal⟩
  · exact fun m ρ _ => Cert.Kernel.Gen.frame m ρ
  · exact fun m ρ _ => Cert.KernelIdeal.Gen.frame m ρ
  · exact fun m ρ _ => Cert.KernelIdeal.Gen.frame m ρ
  · exact fun m ρ _ => θ_run_mono (Cert.ReferenceIdeal.Value.run m ρ) fun r h => ⟨fun c => (h c).2.2, sem_eq_zero_of_no_sems (by decide) r.2⟩
  · exact fun m ρ _ => θ_run_mono (Cert.ReferenceIdeal.Value.run m ρ) fun r h => ⟨fun c => (h c).2.2, sem_eq_zero_of_no_sems (by decide) r.2⟩
  · exact fun m ρ _ => Cert.Kernel2.Gen.frame m ρ
  · exact fun m ρ _ => Cert.Kernel2Ideal.Gen.frame m ρ
  · exact fun m ρ _ => θ_run_mono (Cert.Reference2Ideal.Value.run m ρ) fun r h => ⟨fun c => (h c).2, sem_eq_zero_of_no_sems (by decide) r.2⟩
  · exact fun m ρ _ => Cert.Kernel3.Hand.frame m ρ
  · exact fun m ρ _ => Cert.Kernel3Ideal.Hand.frame m ρ
  · exact fun m ρ _ => θ_run_mono (Cert.Reference3Ideal.Value.run m ρ) fun r h => ⟨fun c => (h c).2.2, sem_eq_zero_of_no_sems (by decide) r.2⟩
  · exact fun m ρ _ => Cert.Kernel4.Gen.frame m ρ
  · exact fun m ρ _ => Cert.Kernel4Ideal.Gen.frame m ρ
  · exact fun m ρ _ => θ_run_mono (Cert.Reference4Ideal.Value.run m ρ) fun r h => ⟨fun c => (h c).2, sem_eq_zero_of_no_sems (by decide) r.2⟩
  · exact fun m ρ _ => Cert.Kernel5.Gen.frame m ρ
  · exact fun m ρ _ => Cert.Kernel5Ideal.Gen.frame m ρ
  · exact fun m ρ _ => θ_run_mono (Cert.Reference5Ideal.Value.run m ρ) fun r h => ⟨fun c => (h c).2, sem_eq_zero_of_no_sems (by decide) r.2⟩
  · exact fun m ρ _ => Cert.Kernel6.Hand.frame m ρ
  · exact fun m ρ _ => Cert.Kernel6Ideal.Hand.frame m ρ
  · exact fun m ρ _ => θ_run_mono (Cert.Reference6Ideal.Value.run m ρ) fun r h => ⟨fun c => (h c).2.2, sem_eq_zero_of_no_sems (by decide) r.2⟩
  · exact fun m ρ _ => Cert.Kernel7.Gen.frame m ρ
  · exact fun m ρ _ => Cert.Kernel7Ideal.Gen.frame m ρ
  · exact fun m ρ _ => θ_run_mono (Cert.Reference7Ideal.Value.run m ρ) fun r h => ⟨fun c => (h c).2, sem_eq_zero_of_no_sems (by decide) r.2⟩
  · exact fun m ρ _ => Cert.Kernel8.Gen.frame m ρ
  · exact fun m ρ _ => Cert.Kernel8Ideal.Gen.frame m ρ
  · exact fun m ρ _ => Cert.Kernel8Ideal.Gen.frame m ρ
  · exact fun m ρ _ => θ_run_mono (Cert.Reference8Ideal.Value.run m ρ) fun r h => ⟨fun c => (h c).2.2, sem_eq_zero_of_no_sems (by decide) r.2⟩
  · exact fun m ρ _ => θ_run_mono (Cert.Reference8Ideal.Value.run m ρ) fun r h => ⟨fun c => (h c).2.2, sem_eq_zero_of_no_sems (by decide) r.2⟩
  · exact fun m ρ _ => Cert.Kernel9.Gen.frame m ρ
  · exact fun m ρ _ => Cert.Kernel9Ideal.Gen.frame m ρ
  · exact fun m ρ _ => θ_run_mono (Cert.Reference9Ideal.Value.run m ρ) fun r h => ⟨fun c => (h c).2, sem_eq_zero_of_no_sems (by decide) r.2⟩
  · exact fun m ρ _ => Cert.Kernel10.Gen.frame m ρ
  · exact fun m ρ _ => Cert.Kernel10Ideal.Gen.frame m ρ
  · exact fun m ρ _ => θ_run_mono (Cert.Reference10Ideal.Value.run m ρ) fun r h => ⟨fun c => (h c).2.2.2.2.2.2.2.2, sem_eq_zero_of_no_sems (by decide) r.2⟩

end Cert.Proof

end
